-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v10) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v28) = v0 c
          ∧ r.2.mem ((c.tc : Thread Cert.Reference23Ideal.nD Cert.Reference23Ideal.τ).loc Cert.Reference23Ideal.main_v33) = v1 c
          ∧ r.2.mem ((c.tc : Thread Cert.Reference23Ideal.nD Cert.Reference23Ideal.τ).loc Cert.Reference23Ideal.main_v32) = v2 c
          ∧ r.2.mem ((c.tc : Thread Cert.Reference23Ideal.nD Cert.Reference23Ideal.τ).loc Cert.Reference23Ideal.main_v18) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_v14) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  slices_S2048x6144_S2048x2048_0_0 : S2048x6144.Slices ![0, 0] S2048x2048
  bcast_S_S2048x2048 : S_.BroadcastsInDim S2048x2048 (![] : Fin 0 → Fin S2048x2048.rank)
  slices_S2048x6144_S2048x2048_0_2048 : S2048x6144.Slices ![0, 2048] S2048x2048
  slices_S2048x6144_S2048x2048_0_4096 : S2048x6144.Slices ![0, 4096] S2048x2048

variable [Facts]

def fn {F : FTy → Type} [FloatOps F] (main_arg0 : FVec F S2048x6144 .bf16) (main_arg1 : FVec F S2048x2048 .f32) : IVec S2048x2048 1 :=
  let main_v0 : FVec F S2048x6144 .f32 := (extf .f32 · bitsLt_bf16_f32) main_arg0
  let main_v1 : FVec F S2048x2048 .f32 := (extractStridedSlice S2048x2048 ![0, 0] · slices_S2048x6144_S2048x2048_0_0) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S2048x2048 .f32 := (extractStridedSlice S2048x2048 ![0, 2048] · slices_S2048x6144_S2048x2048_0_2048) main_v0
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_v9 : IVec S2048x2048 1 := andi main_v4 main_v8
  let main_v10 : FVec F S2048x2048 .f32 := (extractStridedSlice S2048x2048 ![0, 4096] · slices_S2048x6144_S2048x2048_0_4096) main_v0
  let main_v11 : FVec F S2048x2048 .f32 := Host.absf main_v10
  let main_cst_1 : FVec F S_ .f32 := constant S_ .f32 0x7F800000#32
  let main_v12 : FVec F S2048x2048 .f32 := broadcastInDim S2048x2048 ![] bcast_S_S2048x2048 main_cst_1
  let main_v13 : IVec S2048x2048 1 := cmpf .olt main_v11 main_v12
  let main_v14 : IVec S2048x2048 1 := andi main_v9 main_v13
  let main_v15 : FVec F S2048x2048 .f32 := Host.absf main_arg1
  let main_cst_2 : FVec F S_ .f32 := constant S_ .f32 0x7F800000#32
  let main_v16 : FVec F S2048x2048 .f32 := broadcastInDim S2048x2048 ![] bcast_S_S2048x2048 main_cst_2
  let main_v17 : IVec S2048x2048 1 := cmpf .olt main_v15 main_v16
  let main_v18 : IVec S2048x2048 1 := andi main_v14 main_v17
  main_v18
-- ==== Pre_finite14.lean ====
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  slices_S2048x6144_S2048x2048_0_0 : S2048x6144.Slices ![0, 0] S2048x2048
  bcast_S_S2048x2048 : S_.BroadcastsInDim S2048x2048 (![] : Fin 0 → Fin S2048x2048.rank)
  slices_S2048x6144_S2048x2048_0_2048 : S2048x6144.Slices ![0, 2048] S2048x2048

variable [Facts]

def fn {F : FTy → Type} [FloatOps F] (main_arg0 : FVec F S2048x6144 .bf16) : IVec S2048x2048 1 :=
  let main_v0 : FVec F S2048x6144 .f32 := (extf .f32 · bitsLt_bf16_f32) main_arg0
  let main_v1 : FVec F S2048x2048 .f32 := (extractStridedSlice S2048x2048 ![0, 0] · slices_S2048x6144_S2048x2048_0_0) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S2048x2048 .f32 := (extractStridedSlice S2048x2048 ![0, 2048] · slices_S2048x6144_S2048x2048_0_2048) main_v0
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_v9 : IVec S2048x2048 1 := andi main_v4 main_v8
  main_v9
-- ==== Kernel.lean ====
abbrev S2048x6144 : Shape := ⟨2, ![2048, 6144]⟩
abbrev S2048x2048 : Shape := ⟨2, ![2048, 2048]⟩
abbrev S512x256 : Shape := ⟨2, ![512, 256]⟩
abbrev S2048x256 : Shape := ⟨2, ![2048, 256]⟩
abbrev S2x4x512x512 : Shape := ⟨4, ![2, 4, 512, 512]⟩
abbrev S512x512 : Shape := ⟨2, ![512, 512]⟩
abbrev S512x128 : Shape := ⟨2, ![512, 128]⟩
abbrev S512x1 : Shape := ⟨2, ![512, 1]⟩
abbrev S1x1x512x512 : Shape := ⟨4, ![1, 1, 512, 512]⟩
abbrev S512 : Shape := ⟨1, ![512]⟩

abbrev nBuf : Space → Nat
  | .hbm => 5
  | .vmem => 17
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2x4x512x512, .f32⟩
  | .local _ .vmem, ⟨15, _⟩ => ⟨S2048x256, .f32⟩
  | .local _ .vmem, ⟨16, _⟩ => ⟨S2048x256, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_8 : BitVec 32 := 0#32
  let arg1 : BitVec 32 := BitVec.ofNat 32 (i 1).val
  let c1_i32 : BitVec 32 := 1#32
  let v22 : BitVec 32 := Scalar.addi arg1 c1_i32
  let v25 : BitVec 32 := Scalar.subi v22 c0_i32_8
  let c1_i32_9 : BitVec 32 := 1#32
  let v27 : BitVec 32 := Scalar.divsi v25 c1_i32_9
  let v28 : BitVec 32 := Scalar.muli v27 c1_i32_9
  let v29 : BitVec 32 := Scalar.addi c0_i32_8 v28
  let c1_i32_10 : BitVec 32 := 1#32
  ⟨c0_i32_8, v29, c1_i32_10⟩
def k0_mult1 (i : grid0.Coords) (k0_t1 : Fin (k0_t1_loop i).trips) : BitVec 32 :=
  let arg1 : BitVec 32 := BitVec.ofNat 32 (i 1).val
  let c0_i32_8 : BitVec 32 := 0#32
  let c1_i32_10 : BitVec 32 := 1#32
  let arg12 : BitVec 32 := Scf.iv c0_i32_8 c1_i32_10 k0_t1
  let v51 : BitVec 32 := Scalar.subi arg1 arg12
  let c512_i32_26 : BitVec 32 := 512#32
  let v52 : BitVec 32 := Scalar.muli v51 c512_i32_26
  v52
def k0_off1 (i : grid0.Coords) (k0_t1 : Fin (k0_t1_loop i).trips) : Fin 2 → Nat :=
  let arg1 : BitVec 32 := BitVec.ofNat 32 (i 1).val
  let c0_i32_8 : BitVec 32 := 0#32
  let c1_i32_10 : BitVec 32 := 1#32
  let arg12 : BitVec 32 := Scf.iv c0_i32_8 c1_i32_10 k0_t1
  let v51 : BitVec 32 := Scalar.subi arg1 arg12
  let c512_i32_26 : BitVec 32 := 512#32
  let v52 : BitVec 32 := Scalar.muli v51 c512_i32_26
  let v53 : BitVec 32 := v52
  let v57 : Index := Scalar.indexCast v53
  let c0_27 : Index := 0#32
  ![v57.toNat, 0]
def k0_off2 (i : grid0.Coords) (k0_t1 : Fin (k0_t1_loop i).trips) : Fin 4 → Nat :=
  let c0_40 : Index := 0#32
  let arg1 : BitVec 32 := BitVec.ofNat 32 (i 1).val
  let c0_i32_8 : BitVec 32 := 0#32
  let c1_i32_10 : BitVec 32 := 1#32
  let arg12 : BitVec 32 := Scf.iv c0_i32_8 c1_i32_10 k0_t1
  let v51 : BitVec 32 := Scalar.subi arg1 arg12
  let v97 : Index := Scalar.indexCast v51
  let c0_41 : Index := 0#32
  let c0_42 : Index := 0#32
  ![0, v97.toNat, 0, 0]
def k0_off3 (i : grid0.Coords) (k0_t1 : Fin (k0_t1_loop i).trips) : Fin 2 → Nat :=
  let arg1 : BitVec 32 := BitVec.ofNat 32 (i 1).val
  let c0_i32_8 : BitVec 32 := 0#32
  let c1_i32_10 : BitVec 32 := 1#32
  let arg12 : BitVec 32 := Scf.iv c0_i32_8 c1_i32_10 k0_t1
  let v51 : BitVec 32 := Scalar.subi arg1 arg12
  let c512_i32_26 : BitVec 32 := 512#32
  let v52 : BitVec 32 := Scalar.muli v51 c512_i32_26
  let v53 : BitVec 32 := v52
  let v113 : Index := Scalar.indexCast v53
  let c128_47 : Index := 128#32
  ![v113.toNat, 128]
def k0_off4 (i : grid0.Coords) (k0_t1 : Fin (k0_t1_loop i).trips) : Fin 4 → Nat :=
  let c1 : Index := 1#32
  let arg1 : BitVec 32 := BitVec.ofNat 32 (i 1).val
  let c0_i32_8 : BitVec 32 := 0#32
  let c1_i32_10 : BitVec 32 := 1#32
  let arg12 : BitVec 32 := Scf.iv c0_i32_8 c1_i32_10 k0_t1
  let v51 : BitVec 32 := Scalar.subi arg1 arg12
  let v153 : Index := Scalar.indexCast v51
  let c0_60 : Index := 0#32
  let c0_61 : Index := 0#32
  ![1, v153.toNat, 0, 0]
@[reducible] def k0_t2_loop (i : grid0.Coords) : Scf.Loop 32 :=
  let c0_i32_8 : BitVec 32 := 0#32
  let arg1 : BitVec 32 := BitVec.ofNat 32 (i 1).val
  let c1_i32 : BitVec 32 := 1#32
  let v22 : BitVec 32 := Scalar.addi arg1 c1_i32
  let v25 : BitVec 32 := Scalar.subi v22 c0_i32_8
  let c1_i32_9 : BitVec 32 := 1#32
  let v27 : BitVec 32 := Scalar.divsi v25 c1_i32_9
  let v28 : BitVec 32 := Scalar.muli v27 c1_i32_9
  let v29 : BitVec 32 := Scalar.addi c0_i32_8 v28
  let v26 : BitVec 32 := Scalar.addi c0_i32_8 v25
  let c1_i32_11 : BitVec 32 := 1#32
  ⟨v29, v26, c1_i32_11⟩
def k0_mult2 (i : grid0.Coords) (k0_t2 : Fin (k0_t2_loop i).trips) : BitVec 32 :=
  let arg1 : BitVec 32 := BitVec.ofNat 32 (i 1).val
  let c0_i32_8 : BitVec 32 := 0#32
  let c1_i32 : BitVec 32 := 1#32
  let v22 : BitVec 32 := Scalar.addi arg1 c1_i32
  let v25 : BitVec 32 := Scalar.subi v22 c0_i32_8
  let c1_i32_9 : BitVec 32 := 1#32
  let v27 : BitVec 32 := Scalar.divsi v25 c1_i32_9
  let v28 : BitVec 32 := Scalar.muli v27 c1_i32_9
  let v29 : BitVec 32 := Scalar.addi c0_i32_8 v28
  let c1_i32_11 : BitVec 32 := 1#32
  let arg12 : BitVec 32 := Scf.iv v29 c1_i32_11 k0_t2
  let v51 : BitVec 32 := Scalar.subi arg1 arg12
  let c512_i32_26 : BitVec 32 := 512#32
  let v52 : BitVec 32 := Scalar.muli v51 c512_i32_26
  v52
def k0_off5 (i : grid0.Coords) (k0_t2 : Fin (k0_t2_loop i).trips) : Fin 2 → Nat :=
  let arg1 : BitVec 32 := BitVec.ofNat 32 (i 1).val
  let c0_i32_8 : BitVec 32 := 0#32
  let c1_i32 : BitVec 32 := 1#32
  let v22 : BitVec 32 := Scalar.addi arg1 c1_i32
  let v25 : BitVec 32 := Scalar.subi v22 c0_i32_8
  let c1_i32_9 : BitVec 32 := 1#32
  let v27 : BitVec 32 := Scalar.divsi v25 c1_i32_9
  let v28 : BitVec 32 := Scalar.muli v27 c1_i32_9
  let v29 : BitVec 32 := Scalar.addi c0_i32_8 v28
  let c1_i32_11 : BitVec 32 := 1#32
  let arg12 : BitVec 32 := Scf.iv v29 c1_i32_11 k0_t2
  let v51 : BitVec 32 := Scalar.subi arg1 arg12
  let c512_i32_26 : BitVec 32 := 512#32
  let v52 : BitVec 32 := Scalar.muli v51 c512_i32_26
  let v53 : BitVec 32 := v52
  let v57 : Index := Scalar.indexCast v53
  let c0_27 : Index := 0#32
  ![v57.toNat, 0]
def k0_off6 (i : grid0.Coords) (k0_t2 : Fin (k0_t2_loop i).trips) : Fin 4 → Nat :=
  let c0_40 : Index := 0#32
  let arg1 : BitVec 32 := BitVec.ofNat 32 (i 1).val
  let c0_i32_8 : BitVec 32 := 0#32
  let c1_i32 : BitVec 32 := 1#32
  let v22 : BitVec 32 := Scalar.addi arg1 c1_i32
  let v25 : BitVec 32 := Scalar.subi v22 c0_i32_8
  let c1_i32_9 : BitVec 32 := 1#32
  let v27 : BitVec 32 := Scalar.divsi v25 c1_i32_9
  let v28 : BitVec 32 := Scalar.muli v27 c1_i32_9
  let v29 : BitVec 32 := Scalar.addi c0_i32_8 v28
  let c1_i32_11 : BitVec 32 := 1#32
  let arg12 : BitVec 32 := Scf.iv v29 c1_i32_11 k0_t2
  let v51 : BitVec 32 := Scalar.subi arg1 arg12
  let v97 : Index := Scalar.indexCast v51
  let c0_41 : Index := 0#32
  let c0_42 : Index := 0#32
  ![0, v97.toNat, 0, 0]
def k0_off7 (i : grid0.Coords) (k0_t2 : Fin (k0_t2_loop i).trips) : Fin 2 → Nat :=
  let arg1 : BitVec 32 := BitVec.ofNat 32 (i 1).val
  let c0_i32_8 : BitVec 32 := 0#32
  let c1_i32 : BitVec 32 := 1#32
  let v22 : BitVec 32 := Scalar.addi arg1 c1_i32
  let v25 : BitVec 32 := Scalar.subi v22 c0_i32_8
  let c1_i32_9 : BitVec 32 := 1#32
  let v27 : BitVec 32 := Scalar.divsi v25 c1_i32_9
  let v28 : BitVec 32 := Scalar.muli v27 c1_i32_9
  let v29 : BitVec 32 := Scalar.addi c0_i32_8 v28
  let c1_i32_11 : BitVec 32 := 1#32
  let arg12 : BitVec 32 := Scf.iv v29 c1_i32_11 k0_t2
  let v51 : BitVec 32 := Scalar.subi arg1 arg12
  let c512_i32_26 : BitVec 32 := 512#32
  let v52 : BitVec 32 := Scalar.muli v51 c512_i32_26
  let v53 : BitVec 32 := v52
  let v113 : Index := Scalar.indexCast v53
  let c128_47 : Index := 128#32
  ![v113.toNat, 128]
def k0_off8 (i : grid0.Coords) (k0_t2 : Fin (k0_t2_loop i).trips) : Fin 4 → Nat :=
  let c1 : Index := 1#32
  let arg1 : BitVec 32 := BitVec.ofNat 32 (i 1).val
  let c0_i32_8 : BitVec 32 := 0#32
  let c1_i32 : BitVec 32 := 1#32
  let v22 : BitVec 32 := Scalar.addi arg1 c1_i32
  let v25 : BitVec 32 := Scalar.subi v22 c0_i32_8
  let c1_i32_9 : BitVec 32 := 1#32
  let v27 : BitVec 32 := Scalar.divsi v25 c1_i32_9
  let v28 : BitVec 32 := Scalar.muli v27 c1_i32_9
  let v29 : BitVec 32 := Scalar.addi c0_i32_8 v28
  let c1_i32_11 : BitVec 32 := 1#32
  let arg12 : BitVec 32 := Scf.iv v29 c1_i32_11 k0_t2
  let v51 : BitVec 32 := Scalar.subi arg1 arg12
  let v153 : Index := Scalar.indexCast v51
  let c0_60 : Index := 0#32
  let c0_61 : Index := 0#32
  ![1, v153.toNat, 0, 0]
@[reducible] def k0_t3_loop (i : grid0.Coords) : Scf.Loop 32 :=
  let c0_i32_17 : BitVec 32 := 0#32
  let arg1 : BitVec 32 := BitVec.ofNat 32 (i 1).val
  let c1_i32_12 : BitVec 32 := 1#32
  let v32 : BitVec 32 := Scalar.addi arg1 c1_i32_12
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_19 : BitVec 32 := 1#32
  ⟨c0_i32_17, v41, c1_i32_19⟩
def k0_mult3 (i : grid0.Coords) (k0_t3 : Fin (k0_t3_loop i).trips) : BitVec 32 :=
  let c0_i32_17 : BitVec 32 := 0#32
  let c1_i32_19 : BitVec 32 := 1#32
  let arg12 : BitVec 32 := Scf.iv c0_i32_17 c1_i32_19 k0_t3
  let c512_i32_26 : BitVec 32 := 512#32
  let v51 : BitVec 32 := Scalar.muli arg12 c512_i32_26
  v51
def k0_off9 (i : grid0.Coords) (k0_t3 : Fin (k0_t3_loop i).trips) : Fin 2 → Nat :=
  let c0_i32_17 : BitVec 32 := 0#32
  let c1_i32_19 : BitVec 32 := 1#32
  let arg12 : BitVec 32 := Scf.iv c0_i32_17 c1_i32_19 k0_t3
  let c512_i32_26 : BitVec 32 := 512#32
  let v51 : BitVec 32 := Scalar.muli arg12 c512_i32_26
  let v52 : BitVec 32 := v51
  let v56 : Index := Scalar.indexCast v52
  let c0_27 : Index := 0#32
  ![v56.toNat, 0]
def k0_off10 (i : grid0.Coords) (k0_t3 : Fin (k0_t3_loop i).trips) : Fin 4 → Nat :=
  let c0_36 : Index := 0#32
  let c0_i32_17 : BitVec 32 := 0#32
  let c1_i32_19 : BitVec 32 := 1#32
  let arg12 : BitVec 32 := Scf.iv c0_i32_17 c1_i32_19 k0_t3
  let v75 : Index := Scalar.indexCast arg12
  let c0_37 : Index := 0#32
  let c0_38 : Index := 0#32
  ![0, v75.toNat, 0, 0]
def k0_off11 (i : grid0.Coords) (k0_t3 : Fin (k0_t3_loop i).trips) : Fin 2 → Nat :=
  let c0_i32_17 : BitVec 32 := 0#32
  let c1_i32_19 : BitVec 32 := 1#32
  let arg12 : BitVec 32 := Scf.iv c0_i32_17 c1_i32_19 k0_t3
  let c512_i32_26 : BitVec 32 := 512#32
  let v51 : BitVec 32 := Scalar.muli arg12 c512_i32_26
  let v52 : BitVec 32 := v51
  let v116 : Index := Scalar.indexCast v52
  let c128_50 : Index := 128#32
  ![v116.toNat, 128]
def k0_off12 (i : grid0.Coords) (k0_t3 : Fin (k0_t3_loop i).trips) : Fin 4 → Nat :=
  let c1 : Index := 1#32
  let c0_i32_17 : BitVec 32 := 0#32
  let c1_i32_19 : BitVec 32 := 1#32
  let arg12 : BitVec 32 := Scf.iv c0_i32_17 c1_i32_19 k0_t3
  let v135 : Index := Scalar.indexCast arg12
  let c0_59 : Index := 0#32
  let c0_60 : Index := 0#32
  ![1, v135.toNat, 0, 0]
@[reducible] def k0_t4_loop (i : grid0.Coords) : Scf.Loop 32 :=
  let c0_i32_17 : BitVec 32 := 0#32
  let arg1 : BitVec 32 := BitVec.ofNat 32 (i 1).val
  let c1_i32_12 : BitVec 32 := 1#32
  let v32 : BitVec 32 := Scalar.addi arg1 c1_i32_12
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let v38 : BitVec 32 := Scalar.addi c0_i32_17 v37
  let c1_i32_20 : BitVec 32 := 1#32
  ⟨v41, v38, c1_i32_20⟩
def k0_mult4 (i : grid0.Coords) (k0_t4 : Fin (k0_t4_loop i).trips) : BitVec 32 :=
  let c0_i32_17 : BitVec 32 := 0#32
  let arg1 : BitVec 32 := BitVec.ofNat 32 (i 1).val
  let c1_i32_12 : BitVec 32 := 1#32
  let v32 : BitVec 32 := Scalar.addi arg1 c1_i32_12
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_20 : BitVec 32 := 1#32
  let arg12 : BitVec 32 := Scf.iv v41 c1_i32_20 k0_t4
  let c512_i32_26 : BitVec 32 := 512#32
  let v51 : BitVec 32 := Scalar.muli arg12 c512_i32_26
  v51
def k0_off13 (i : grid0.Coords) (k0_t4 : Fin (k0_t4_loop i).trips) : Fin 2 → Nat :=
  let c0_i32_17 : BitVec 32 := 0#32
  let arg1 : BitVec 32 := BitVec.ofNat 32 (i 1).val
  let c1_i32_12 : BitVec 32 := 1#32
  let v32 : BitVec 32 := Scalar.addi arg1 c1_i32_12
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_20 : BitVec 32 := 1#32
  let arg12 : BitVec 32 := Scf.iv v41 c1_i32_20 k0_t4
  let c512_i32_26 : BitVec 32 := 512#32
  let v51 : BitVec 32 := Scalar.muli arg12 c512_i32_26
  let v52 : BitVec 32 := v51
  let v56 : Index := Scalar.indexCast v52
  let c0_27 : Index := 0#32
  ![v56.toNat, 0]
def k0_off14 (i : grid0.Coords) (k0_t4 : Fin (k0_t4_loop i).trips) : Fin 4 → Nat :=
  let c0_36 : Index := 0#32
  let c0_i32_17 : BitVec 32 := 0#32
  let arg1 : BitVec 32 := BitVec.ofNat 32 (i 1).val
  let c1_i32_12 : BitVec 32 := 1#32
  let v32 : BitVec 32 := Scalar.addi arg1 c1_i32_12
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_20 : BitVec 32 := 1#32
  let arg12 : BitVec 32 := Scf.iv v41 c1_i32_20 k0_t4
  let v75 : Index := Scalar.indexCast arg12
  let c0_37 : Index := 0#32
  let c0_38 : Index := 0#32
  ![0, v75.toNat, 0, 0]
def k0_off15 (i : grid0.Coords) (k0_t4 : Fin (k0_t4_loop i).trips) : Fin 2 → Nat :=
  let c0_i32_17 : BitVec 32 := 0#32
  let arg1 : BitVec 32 := BitVec.ofNat 32 (i 1).val
  let c1_i32_12 : BitVec 32 := 1#32
  let v32 : BitVec 32 := Scalar.addi arg1 c1_i32_12
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_20 : BitVec 32 := 1#32
  let arg12 : BitVec 32 := Scf.iv v41 c1_i32_20 k0_t4
  let c512_i32_26 : BitVec 32 := 512#32
  let v51 : BitVec 32 := Scalar.muli arg12 c512_i32_26
  let v52 : BitVec 32 := v51
  let v116 : Index := Scalar.indexCast v52
  let c128_50 : Index := 128#32
  ![v116.toNat, 128]
def k0_off16 (i : grid0.Coords) (k0_t4 : Fin (k0_t4_loop i).trips) : Fin 4 → Nat :=
  let c1 : Index := 1#32
  let c0_i32_17 : BitVec 32 := 0#32
  let arg1 : BitVec 32 := BitVec.ofNat 32 (i 1).val
  let c1_i32_12 : BitVec 32 := 1#32
  let v32 : BitVec 32 := Scalar.addi arg1 c1_i32_12
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_20 : BitVec 32 := 1#32
  let arg12 : BitVec 32 := Scf.iv v41 c1_i32_20 k0_t4
  let v135 : Index := Scalar.indexCast arg12
  let c0_59 : Index := 0#32
  let c0_60 : Index := 0#32
  ![1, v135.toNat, 0, 0]
def k0_cond2 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_25 : BitVec 32 := 0#32
  let v50 : BitVec 1 := Scalar.cmpi .ne v49 c0_i32_25
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x6144 : Shape := ⟨2, ![2048, 6144]⟩
abbrev S2048x2048 : Shape := ⟨2, ![2048, 2048]⟩
abbrev S2048x16x128 : Shape := ⟨3, ![2048, 16, 128]⟩
abbrev S2048 : Shape := ⟨1, ![2048]⟩
abbrev S16x2048x2048 : Shape := ⟨3, ![16, 2048, 2048]⟩
abbrev S_ : Shape := ⟨0, ![]⟩
abbrev S1x2048 : Shape := ⟨2, ![1, 2048]⟩
abbrev S2048x1 : Shape := ⟨2, ![2048, 1]⟩
abbrev S16x128x2048 : Shape := ⟨3, ![16, 128, 2048]⟩
abbrev S16x2048x128 : Shape := ⟨3, ![16, 2048, 128]⟩

abbrev nBuf : Space → Nat
  | .hbm => 177
  | .vmem => 0
  | .smem => 0
  | _ => 0

abbrev hbmTy0_0 (i : Nat) : BufTy := match i % 128 with
  | 0 => ⟨S2048x6144, .bf16⟩
  | 1 => ⟨S2048x2048, .f32⟩
  | 2 => ⟨S2048x6144, .f32⟩
  | 3 => ⟨S2048x2048, .f32⟩
  | 4 => ⟨S2048x2048, .f32⟩
  | 5 => ⟨S2048x2048, .f32⟩
  | 6 => ⟨S2048x16x128, .f32⟩
  | 7 => ⟨S2048x16x128, .f32⟩
  | 8 => ⟨S2048x16x128, .f32⟩
  | 9 => ⟨S2048, .i32⟩
  | 10 => ⟨S16x2048x2048, .f32⟩
  | 11 => ⟨S_, .f32⟩
  | 12 => ⟨S16x2048x2048, .f32⟩
  | 13 => ⟨S16x2048x2048, .f32⟩
  | 14 => ⟨S1x2048, .i32⟩
  | 15 => ⟨S2048x1, .i32⟩
  | 16 => ⟨S2048x2048, .i32⟩
  | 17 => ⟨S2048x2048, .i32⟩
  | 18 => ⟨S2048x2048, .i1⟩
  | 19 => ⟨S16x2048x2048, .f32⟩
  | 20 => ⟨S_, .f32⟩
  | 21 => ⟨S16x2048x2048, .f32⟩
  | 22 => ⟨S16x2048x2048, .f32⟩
  | 23 => ⟨S16x2048x2048, .f32⟩
  | 24 => ⟨S16x2048x2048, .f32⟩
  | 25 => ⟨S16x2048x2048, .i1⟩
  | 26 => ⟨S16x2048x2048, .f32⟩
  | 27 => ⟨S16x2048x2048, .f32⟩
  | 28 => ⟨S16x2048x2048, .f32⟩
  | 29 => ⟨S16x2048x2048, .f32⟩
  | 30 => ⟨S16x2048x2048, .f32⟩
  | 31 => ⟨S16x2048x2048, .f32⟩
  | 32 => ⟨S16x2048x2048, .f32⟩
  | 33 => ⟨S16x2048x2048, .f32⟩
  | 34 => ⟨S_, .f32⟩
  | 35 => ⟨S16x2048x2048, .f32⟩
  | 36 => ⟨S16x2048x2048, .i1⟩
  | 37 => ⟨S_, .f32⟩
  | 38 => ⟨S16x2048x2048, .f32⟩
  | 39 => ⟨S16x2048x2048, .f32⟩
  | 40 => ⟨S_, .f32⟩
  | 41 => ⟨S16x2048x2048, .f32⟩
  | 42 => ⟨S16x2048x2048, .i1⟩
  | 43 => ⟨S_, .f32⟩
  | 44 => ⟨S16x2048x2048, .f32⟩
  | 45 => ⟨S16x2048x2048, .f32⟩
  | 46 => ⟨S16x2048x2048, .f32⟩
  | 47 => ⟨S16x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S16x2048x2048, .f32⟩
  | 56 => ⟨S16x2048x2048, .i1⟩
  | 57 => ⟨S_, .f32⟩
  | 58 => ⟨S16x2048x2048, .f32⟩
  | 59 => ⟨S16x2048x2048, .f32⟩
  | 60 => ⟨S16x2048x2048, .f32⟩
  | 61 => ⟨S16x2048x2048, .f32⟩
  | 62 => ⟨S16x2048x2048, .f32⟩
  | 63 => ⟨S_, .f32⟩
  | 64 => ⟨S16x2048x2048, .f32⟩
  | 65 => ⟨S16x2048x2048, .f32⟩
  | 66 => ⟨S16x2048x2048, .f32⟩
  | 67 => ⟨S16x2048x2048, .f32⟩
  | 68 => ⟨S16x2048x2048, .f32⟩
  | 69 => ⟨S_, .f32⟩
  | 70 => ⟨S16x2048x2048, .f32⟩
  | 71 => ⟨S16x2048x2048, .f32⟩
  | 72 => ⟨S16x2048x2048, .f32⟩
  | 73 => ⟨S16x2048x2048, .f32⟩
  | 74 => ⟨S16x2048x2048, .i1⟩
  | 75 => ⟨S16x2048x2048, .f32⟩
  | 76 => ⟨S16x2048x2048, .f32⟩
  | 77 => ⟨S16x2048x2048, .f32⟩
  | 78 => ⟨S16x2048x2048, .f32⟩
  | 79 => ⟨S16x2048x2048, .f32⟩
  | 80 => ⟨S16x2048x2048, .f32⟩
  | 81 => ⟨S16x2048x2048, .f32⟩
  | 82 => ⟨S16x2048x2048, .f32⟩
  | 83 => ⟨S_, .f32⟩
  | 84 => ⟨S16x2048x2048, .f32⟩
  | 85 => ⟨S16x2048x2048, .i1⟩
  | 86 => ⟨S_, .f32⟩
  | 87 => ⟨S16x2048x2048, .f32⟩
  | 88 => ⟨S16x2048x2048, .f32⟩
  | 89 => ⟨S_, .f32⟩
  | 90 => ⟨S16x2048x2048, .f32⟩
  | 91 => ⟨S16x2048x2048, .i1⟩
  | 92 => ⟨S_, .f32⟩
  | 93 => ⟨S16x2048x2048, .f32⟩
  | 94 => ⟨S16x2048x2048, .f32⟩
  | 95 => ⟨S16x2048x2048, .f32⟩
  | 96 => ⟨S16x2048x2048, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S16x2048x2048, .f32⟩
  | 105 => ⟨S16x2048x2048, .i1⟩
  | 106 => ⟨S_, .f32⟩
  | 107 => ⟨S16x2048x2048, .f32⟩
  | 108 => ⟨S16x2048x2048, .f32⟩
  | 109 => ⟨S16x2048x2048, .f32⟩
  | 110 => ⟨S16x2048x2048, .f32⟩
  | 111 => ⟨S16x2048x2048, .f32⟩
  | 112 => ⟨S_, .f32⟩
  | 113 => ⟨S16x2048x2048, .f32⟩
  | 114 => ⟨S16x2048x2048, .f32⟩
  | 115 => ⟨S16x2048x2048, .f32⟩
  | 116 => ⟨S_, .f32⟩
  | 117 => ⟨S_, .f32⟩
  | 118 => ⟨S16x2048x2048, .i1⟩
  | 119 => ⟨S16x2048x2048, .f32⟩
  | 120 => ⟨S16x2048x2048, .f32⟩
  | 121 => ⟨S_, .f32⟩
  | 122 => ⟨S16x2048x2048, .f32⟩
  | 123 => ⟨S_, .f32⟩
  | 124 => ⟨S_, .f32⟩
  | 125 => ⟨S16x2048x2048, .f32⟩
  | 126 => ⟨S16x2048x2048, .f32⟩
  | 127 => ⟨S16x2048x2048, .f32⟩
  | _ => ⟨S2048x6144, .bf16⟩

abbrev hbmTy0_1 (i : Nat) : BufTy := match i % 128 with
  | 0 => ⟨S16x2048x2048, .f32⟩
  | 1 => ⟨S_, .f32⟩
  | 2 => ⟨S_, .f32⟩
  | 3 => ⟨S16x2048x2048, .i1⟩
  | 4 => ⟨S16x2048x2048, .f32⟩
  | 5 => ⟨S16x2048x2048, .f32⟩
  | 6 => ⟨S_, .f32⟩
  | 7 => ⟨S16x2048x2048, .f32⟩
  | 8 => ⟨S16x128x2048, .f32⟩
  | 9 => ⟨S2048x16x128, .f32⟩
  | 10 => ⟨S2048x2048, .f32⟩
  | 11 => ⟨S2048x16x128, .f32⟩
  | 12 => ⟨S16x128x2048, .f32⟩
  | 13 => ⟨S16x2048x2048, .f32⟩
  | 14 => ⟨S16x128x2048, .f32⟩
  | 15 => ⟨S2048x16x128, .f32⟩
  | 16 => ⟨S_, .f32⟩
  | 17 => ⟨S16x2048x2048, .f32⟩
  | 18 => ⟨S16x2048x2048, .f32⟩
  | 19 => ⟨S16x2048x2048, .f32⟩
  | 20 => ⟨S16x2048x2048, .f32⟩
  | 21 => ⟨S_, .f32⟩
  | 22 => ⟨S_, .f32⟩
  | 23 => ⟨S16x2048x2048, .f32⟩
  | 24 => ⟨S16x2048x2048, .f32⟩
  | 25 => ⟨S_, .f32⟩
  | 26 => ⟨S16x2048x2048, .f32⟩
  | 27 => ⟨S16x2048x2048, .f32⟩
  | 28 => ⟨S16x2048x2048, .f32⟩
  | 29 => ⟨S16x2048x2048, .f32⟩
  | 30 => ⟨S16x2048x2048, .f32⟩
  | 31 => ⟨S16x2048x2048, .f32⟩
  | 32 => ⟨S16x2048x2048, .f32⟩
  | 33 => ⟨S16x2048x2048, .f32⟩
  | 34 => ⟨S16x2048x2048, .f32⟩
  | 35 => ⟨S16x2048x2048, .f32⟩
  | 36 => ⟨S_, .f32⟩
  | 37 => ⟨S16x2048x2048, .f32⟩
  | 38 => ⟨S16x2048x2048, .f32⟩
  | 39 => ⟨S16x2048x128, .f32⟩
  | 40 => ⟨S2048x16x128, .f32⟩
  | 41 => ⟨S16x2048x128, .f32⟩
  | 42 => ⟨S2048x16x128, .f32⟩
  | 43 => ⟨S2048x2048, .f32⟩
  | 44 => ⟨S2048x2048, .f32⟩
  | 45 => ⟨S2048x2048, .f32⟩
  | 46 => ⟨S2048x2048, .bf16⟩
  | 47 => ⟨S2048x2048, .bf16⟩
  | 48 => ⟨S2048x2048, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_v17 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v18_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v18_2 : Ref sig .tc := ⟨.hbm, 114, rfl⟩
abbrev main_v18_0 : Ref sig .tc := ⟨.hbm, 115, rfl⟩
abbrev main_cst_0 : Ref sig .tc := ⟨.hbm, 116, rfl⟩
abbrev main_call2_v0 : Ref sig .tc := ⟨.hbm, 117, rfl⟩
abbrev main_v19_1 : Ref sig .tc := ⟨.hbm, 118, rfl⟩
abbrev main_call2_v2 : Ref sig .tc := ⟨.hbm, 119, rfl⟩
abbrev main_v19_0 : Ref sig .tc := ⟨.hbm, 120, rfl⟩
abbrev main_call2_cst : Ref sig .tc := ⟨.hbm, 121, rfl⟩
abbrev main_v19_2 : Ref sig .tc := ⟨.hbm, 122, rfl⟩
abbrev main_call3_cst : Ref sig .tc := ⟨.hbm, 123, rfl⟩
abbrev main_call3_v0 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call6_cst : Ref sig .tc := ⟨.hbm, 149, rfl⟩
abbrev main_call6_v0 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_call8_v0 : Ref sig .tc := ⟨.hbm, 156, rfl⟩
abbrev main_call8_v1 : Ref sig .tc := ⟨.hbm, 157, rfl⟩
abbrev main_v39 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_cst_2 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩

abbrev nD : Nat := 1
abbrev τ : Topo := Topo.v7x

variable {F : FTy → Type} [FloatOps F]
-- ==== Kernel2.lean ====
abbrev S2048x8192 : Shape := ⟨2, ![2048, 8192]⟩
abbrev S2048x2048 : Shape := ⟨2, ![2048, 2048]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x8192 : Shape := ⟨2, ![2048, 8192]⟩
abbrev S2048x2048 : Shape := ⟨2, ![2048, 2048]⟩
abbrev S_ : Shape := ⟨0, ![]⟩
abbrev S4x2048x2048 : Shape := ⟨3, ![4, 2048, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x8192, .f32⟩
  | .hbm, ⟨3, _⟩ => ⟨S_, .f32⟩
  | .hbm, ⟨4, _⟩ => ⟨S4x2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x8192, .f32⟩
  | .hbm, ⟨9, _⟩ => ⟨S8192x2048, .f32⟩
  | .hbm, ⟨10, _⟩ => ⟨S4x2048x2048, .f32⟩
  | .hbm, ⟨11, _⟩ => ⟨S4x2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x2048 : Shape := ⟨2, ![2048, 2048]⟩
abbrev S4x2048x2048 : Shape := ⟨3, ![4, 2048, 2048]⟩
abbrev S2048x8192 : Shape := ⟨2, ![2048, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x2048 : Shape := ⟨2, ![2048, 2048]⟩
abbrev S4x2048x2048 : Shape := ⟨3, ![4, 2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .f32⟩
  | .hbm, ⟨3, _⟩ => ⟨S4x2048x2048, .f32⟩
  | .hbm, ⟨4, _⟩ => ⟨S8192x2048, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x8192 : Shape := ⟨2, ![2048, 8192]⟩
abbrev S_ : Shape := ⟨0, ![]⟩
abbrev S4x2048x2048 : Shape := ⟨3, ![4, 2048, 2048]⟩
abbrev S2048x4x2048 : Shape := ⟨3, ![2048, 4, 2048]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S_, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2048x8192 : Shape := ⟨2, ![2048, 8192]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x8192 : Shape := ⟨2, ![2048, 8192]⟩
abbrev S4x2048x2048 : Shape := ⟨3, ![4, 2048, 2048]⟩
abbrev S2048x2048 : Shape := ⟨2, ![2048, 2048]⟩
abbrev S2048x4x2048 : Shape := ⟨3, ![2048, 4, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S2048x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S_, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x8192, .f32⟩
  | .hbm, ⟨12, _⟩ => ⟨S2048x8192, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel6.lean ====
abbrev S2048x2048 : Shape := ⟨2, ![2048, 2048]⟩
abbrev S4x2048x2048 : Shape := ⟨3, ![4, 2048, 2048]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S2048x8192 : Shape := ⟨2, ![2048, 8192]⟩
abbrev S4x2048x2048 : Shape := ⟨3, ![4, 2048, 2048]⟩
abbrev S2048x2048 : Shape := ⟨2, ![2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x8192 : Shape := ⟨2, ![2048, 8192]⟩
abbrev S4x2048x2048 : Shape := ⟨3, ![4, 2048, 2048]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S2048x8192, .f32⟩
  | .hbm, ⟨3, _⟩ => ⟨S4x2048x2048, .f32⟩
  | .hbm, ⟨4, _⟩ => ⟨S8192x2048, .f32⟩
  | .hbm, ⟨5, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S4x512x2048, .f32⟩
  | .hbm, ⟨11, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S4x512x2048 : Shape := ⟨3, ![4, 512, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S4x512x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x2048 : Shape := ⟨2, ![2048, 2048]⟩
abbrev S2048x6144 : Shape := ⟨2, ![2048, 6144]⟩
abbrev S4x2048x1536 : Shape := ⟨3, ![4, 2048, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x6144 : Shape := ⟨2, ![2048, 6144]⟩
abbrev S_ : Shape := ⟨0, ![]⟩
abbrev S4x2048x1536 : Shape := ⟨3, ![4, 2048, 1536]⟩
abbrev S2048x4x1536 : Shape := ⟨3, ![2048, 4, 1536]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S_, .f32⟩
  | .hbm, ⟨4, _⟩ => ⟨S4x2048x1536, .f32⟩
  | .hbm, ⟨5, _⟩ => ⟨S2048x4x1536, .f32⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S6144x2048, .f32⟩
  | .hbm, ⟨10, _⟩ => ⟨S2048x6144, .f32⟩
  | .hbm, ⟨11, _⟩ => ⟨S2048x4x1536, .f32⟩
  | .hbm, ⟨12, _⟩ => ⟨S4x2048x1536, .f32⟩
  | .hbm, ⟨13, _⟩ => ⟨S4x2048x1536, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S2048x6144 : Shape := ⟨2, ![2048, 6144]⟩
abbrev S4x2048x1536 : Shape := ⟨3, ![4, 2048, 1536]⟩
abbrev S2048x2048 : Shape := ⟨2, ![2048, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S2048x2048, .f32⟩
  | .hbm, ⟨3, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x6144 : Shape := ⟨2, ![2048, 6144]⟩
abbrev S4x2048x1536 : Shape := ⟨3, ![4, 2048, 1536]⟩
abbrev S2048x2048 : Shape := ⟨2, ![2048, 2048]⟩
abbrev S2048x4x1536 : Shape := ⟨3, ![2048, 4, 1536]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S2048x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S_, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x6144, .f32⟩
  | .hbm, ⟨12, _⟩ => ⟨S2048x6144, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel12.lean ====
abbrev S2048x2048 : Shape := ⟨2, ![2048, 2048]⟩
abbrev S4x2048x1536 : Shape := ⟨3, ![4, 2048, 1536]⟩
abbrev S2048x6144 : Shape := ⟨2, ![2048, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S2048x6144, .f32⟩
  | .hbm, ⟨7, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S2048x2048 : Shape := ⟨2, ![2048, 2048]⟩
abbrev S4x512x2048 : Shape := ⟨3, ![4, 512, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S4x512x2048 : Shape := ⟨3, ![4, 512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2048x6144 : Shape := ⟨2, ![2048, 6144]⟩
abbrev S2048x2048 : Shape := ⟨2, ![2048, 2048]⟩
abbrev S512x256 : Shape := ⟨2, ![512, 256]⟩
abbrev S2048x256 : Shape := ⟨2, ![2048, 256]⟩
abbrev S512x512 : Shape := ⟨2, ![512, 512]⟩
abbrev S512x128 : Shape := ⟨2, ![512, 128]⟩
abbrev S512x1 : Shape := ⟨2, ![512, 1]⟩
abbrev S512 : Shape := ⟨1, ![512]⟩

abbrev nBuf : Space → Nat
  | .hbm => 2
  | .vmem => 8
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v11 : BitVec 32 := Scalar.addi arg1 c1_i32
  let v16 : BitVec 32 := Scalar.subi v11 c0_i32
  let c1_i32_5 : BitVec 32 := 1#32
  let v18 : BitVec 32 := Scalar.divsi v16 c1_i32_5
  let v19 : BitVec 32 := Scalar.muli v18 c1_i32_5
  let v20 : BitVec 32 := Scalar.addi c0_i32 v19
  let c1_i32_6 : BitVec 32 := 1#32
  ⟨c0_i32, v20, c1_i32_6⟩
def k0_mult1 (i : grid0.Coords) (k0_t1 : Fin (k0_t1_loop i).trips) : BitVec 32 :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v27 : BitVec 32 := Scalar.subi arg1 arg6
  let c512_i32_12 : BitVec 32 := 512#32
  let v28 : BitVec 32 := Scalar.muli v27 c512_i32_12
  v28
def k0_off1 (i : grid0.Coords) (k0_t1 : Fin (k0_t1_loop i).trips) : Fin 2 → Nat :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v27 : BitVec 32 := Scalar.subi arg1 arg6
  let c512_i32_12 : BitVec 32 := 512#32
  let v28 : BitVec 32 := Scalar.muli v27 c512_i32_12
  let v29 : BitVec 32 := v28
  let v33 : Index := Scalar.indexCast v29
  let c0_13 : Index := 0#32
  ![v33.toNat, 0]
def k0_off2 (i : grid0.Coords) (k0_t1 : Fin (k0_t1_loop i).trips) : Fin 2 → Nat :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v27 : BitVec 32 := Scalar.subi arg1 arg6
  let c512_i32_12 : BitVec 32 := 512#32
  let v28 : BitVec 32 := Scalar.muli v27 c512_i32_12
  let v29 : BitVec 32 := v28
  let v81 : Index := Scalar.indexCast v29
  let c128_29 : Index := 128#32
  ![v81.toNat, 128]
@[reducible] def k0_t2_loop (i : grid0.Coords) : Scf.Loop 32 :=
  let c0_i32 : BitVec 32 := 0#32
  let arg1 : BitVec 32 := BitVec.ofNat 32 (i 1).val
  let c1_i32 : BitVec 32 := 1#32
  let v11 : BitVec 32 := Scalar.addi arg1 c1_i32
  let v16 : BitVec 32 := Scalar.subi v11 c0_i32
  let c1_i32_5 : BitVec 32 := 1#32
  let v18 : BitVec 32 := Scalar.divsi v16 c1_i32_5
  let v19 : BitVec 32 := Scalar.muli v18 c1_i32_5
  let v20 : BitVec 32 := Scalar.addi c0_i32 v19
  let v17 : BitVec 32 := Scalar.addi c0_i32 v16
  let c1_i32_7 : BitVec 32 := 1#32
  ⟨v20, v17, c1_i32_7⟩
def k0_mult2 (i : grid0.Coords) (k0_t2 : Fin (k0_t2_loop i).trips) : BitVec 32 :=
  let arg1 : BitVec 32 := BitVec.ofNat 32 (i 1).val
  let c0_i32 : BitVec 32 := 0#32
  let c1_i32 : BitVec 32 := 1#32
  let v11 : BitVec 32 := Scalar.addi arg1 c1_i32
  let v16 : BitVec 32 := Scalar.subi v11 c0_i32
  let c1_i32_5 : BitVec 32 := 1#32
  let v18 : BitVec 32 := Scalar.divsi v16 c1_i32_5
  let v19 : BitVec 32 := Scalar.muli v18 c1_i32_5
  let v20 : BitVec 32 := Scalar.addi c0_i32 v19
  let c1_i32_7 : BitVec 32 := 1#32
  let arg6 : BitVec 32 := Scf.iv v20 c1_i32_7 k0_t2
  let v27 : BitVec 32 := Scalar.subi arg1 arg6
  let c512_i32_12 : BitVec 32 := 512#32
  let v28 : BitVec 32 := Scalar.muli v27 c512_i32_12
  v28
def k0_off3 (i : grid0.Coords) (k0_t2 : Fin (k0_t2_loop i).trips) : Fin 2 → Nat :=
  let arg1 : BitVec 32 := BitVec.ofNat 32 (i 1).val
  let c0_i32 : BitVec 32 := 0#32
  let c1_i32 : BitVec 32 := 1#32
  let v11 : BitVec 32 := Scalar.addi arg1 c1_i32
  let v16 : BitVec 32 := Scalar.subi v11 c0_i32
  let c1_i32_5 : BitVec 32 := 1#32
  let v18 : BitVec 32 := Scalar.divsi v16 c1_i32_5
  let v19 : BitVec 32 := Scalar.muli v18 c1_i32_5
  let v20 : BitVec 32 := Scalar.addi c0_i32 v19
  let c1_i32_7 : BitVec 32 := 1#32
  let arg6 : BitVec 32 := Scf.iv v20 c1_i32_7 k0_t2
  let v27 : BitVec 32 := Scalar.subi arg1 arg6
  let c512_i32_12 : BitVec 32 := 512#32
  let v28 : BitVec 32 := Scalar.muli v27 c512_i32_12
  let v29 : BitVec 32 := v28
  let v33 : Index := Scalar.indexCast v29
  let c0_13 : Index := 0#32
  ![v33.toNat, 0]
def k0_off4 (i : grid0.Coords) (k0_t2 : Fin (k0_t2_loop i).trips) : Fin 2 → Nat :=
  let arg1 : BitVec 32 := BitVec.ofNat 32 (i 1).val
  let c0_i32 : BitVec 32 := 0#32
  let c1_i32 : BitVec 32 := 1#32
  let v11 : BitVec 32 := Scalar.addi arg1 c1_i32
  let v16 : BitVec 32 := Scalar.subi v11 c0_i32
  let c1_i32_5 : BitVec 32 := 1#32
  let v18 : BitVec 32 := Scalar.divsi v16 c1_i32_5
  let v19 : BitVec 32 := Scalar.muli v18 c1_i32_5
  let v20 : BitVec 32 := Scalar.addi c0_i32 v19
  let c1_i32_7 : BitVec 32 := 1#32
  let arg6 : BitVec 32 := Scf.iv v20 c1_i32_7 k0_t2
  let v27 : BitVec 32 := Scalar.subi arg1 arg6
  let c512_i32_12 : BitVec 32 := 512#32
  let v28 : BitVec 32 := Scalar.muli v27 c512_i32_12
  let v29 : BitVec 32 := v28
  let v81 : Index := Scalar.indexCast v29
  let c128_29 : Index := 128#32
  ![v81.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S2048x6144 : Shape := ⟨2, ![2048, 6144]⟩
abbrev S2048x2048 : Shape := ⟨2, ![2048, 2048]⟩
abbrev S2048x16x128 : Shape := ⟨3, ![2048, 16, 128]⟩
abbrev S2048 : Shape := ⟨1, ![2048]⟩
abbrev S16x2048x2048 : Shape := ⟨3, ![16, 2048, 2048]⟩
abbrev S_ : Shape := ⟨0, ![]⟩
abbrev S1x2048 : Shape := ⟨2, ![1, 2048]⟩
abbrev S2048x1 : Shape := ⟨2, ![2048, 1]⟩
abbrev S16x128x2048 : Shape := ⟨3, ![16, 128, 2048]⟩

abbrev nBuf : Space → Nat
  | .hbm => 71
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x16x128, .f32⟩
  | .hbm, ⟨6, _⟩ => ⟨S2048x16x128, .f32⟩
  | .hbm, ⟨7, _⟩ => ⟨S2048x16x128, .f32⟩
  | .hbm, ⟨8, _⟩ => ⟨S2048, .i32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x2048x2048, .f32⟩
  | .hbm, ⟨19, _⟩ => ⟨S_, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .i1⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x2048, .i1⟩
  | .hbm, ⟨42, _⟩ => ⟨S16x2048x2048, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | .hbm, ⟨49, _⟩ => ⟨S16x2048x2048, .f32⟩
  | .hbm, ⟨50, _⟩ => ⟨S16x2048x2048, .f32⟩
  | .hbm, ⟨51, _⟩ => ⟨S_, .f32⟩
  | .hbm, ⟨52, _⟩ => ⟨S_, .f32⟩
  | .hbm, ⟨53, _⟩ => ⟨S16x2048x2048, .i1⟩
  | .hbm, ⟨54, _⟩ => ⟨S16x2048x2048, .f32⟩
  | .hbm, ⟨55, _⟩ => ⟨S16x2048x2048, .f32⟩
  | .hbm, ⟨56, _⟩ => ⟨S_, .f32⟩
  | .hbm, ⟨57, _⟩ => ⟨S_, .f32⟩
  | .hbm, ⟨58, _⟩ => ⟨S16x2048x2048, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S_, .f32⟩
  | .hbm, ⟨63, _⟩ => ⟨S_, .f32⟩
  | .hbm, ⟨64, _⟩ => ⟨S16x2048x2048, .i1⟩
  | .hbm, ⟨65, _⟩ => ⟨S16x2048x2048, .f32⟩
  | .hbm, ⟨66, _⟩ => ⟨S16x2048x2048, .f32⟩
  | .hbm, ⟨67, _⟩ => ⟨S16x128x2048, .f32⟩
  | .hbm, ⟨68, _⟩ => ⟨S2048x16x128, .f32⟩
  | .hbm, ⟨69, _⟩ => ⟨S2048x2048, .f32⟩
  | .hbm, ⟨70, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Kernel15.lean ====
abbrev S2048x512 : Shape := ⟨2, ![2048, 512]⟩
abbrev S4x512x1024 : Shape := ⟨3, ![4, 512, 1024]⟩
abbrev S2048x4096 : Shape := ⟨2, ![2048, 4096]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S4x512x1024, .bf16⟩
  | .hbm, ⟨2, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x512 : Shape := ⟨2, ![2048, 512]⟩
abbrev S4x512x1024 : Shape := ⟨3, ![4, 512, 1024]⟩
abbrev S512x4x1024 : Shape := ⟨3, ![512, 4, 1024]⟩
abbrev S512x4096 : Shape := ⟨2, ![512, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x1024, .bf16⟩
  | .hbm, ⟨2, _⟩ => ⟨S2048x512, .f32⟩
  | .hbm, ⟨3, _⟩ => ⟨S4x512x1024, .f32⟩
  | .hbm, ⟨4, _⟩ => ⟨S512x4x1024, .f32⟩
  | .hbm, ⟨5, _⟩ => ⟨S512x4096, .f32⟩
  | .hbm, ⟨6, _⟩ => ⟨S2048x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S2048x512 : Shape := ⟨2, ![2048, 512]⟩
abbrev S4x512x1024 : Shape := ⟨3, ![4, 512, 1024]⟩
abbrev S2048x4096 : Shape := ⟨2, ![2048, 4096]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S4x512x1024, .bf16⟩
  | .hbm, ⟨2, _⟩ => ⟨S2048x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x512 : Shape := ⟨2, ![2048, 512]⟩
abbrev S4x512x1024 : Shape := ⟨3, ![4, 512, 1024]⟩
abbrev S512x4x1024 : Shape := ⟨3, ![512, 4, 1024]⟩
abbrev S512x4096 : Shape := ⟨2, ![512, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x1024, .bf16⟩
  | .hbm, ⟨2, _⟩ => ⟨S2048x512, .f32⟩
  | .hbm, ⟨3, _⟩ => ⟨S4x512x1024, .f32⟩
  | .hbm, ⟨4, _⟩ => ⟨S512x4x1024, .f32⟩
  | .hbm, ⟨5, _⟩ => ⟨S512x4096, .f32⟩
  | .hbm, ⟨6, _⟩ => ⟨S2048x4096, .f32⟩
  | .hbm, ⟨7, _⟩ => ⟨S2048x4096, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S2048x512 : Shape := ⟨2, ![2048, 512]⟩
abbrev S2048x4096 : Shape := ⟨2, ![2048, 4096]⟩
abbrev S4x512x1024 : Shape := ⟨3, ![4, 512, 1024]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S4x512x1024, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x512 : Shape := ⟨2, ![2048, 512]⟩
abbrev S2048x4096 : Shape := ⟨2, ![2048, 4096]⟩
abbrev S_ : Shape := ⟨0, ![]⟩
abbrev S4x512x1024 : Shape := ⟨3, ![4, 512, 1024]⟩
abbrev S512x4x1024 : Shape := ⟨3, ![512, 4, 1024]⟩
abbrev S512x4096 : Shape := ⟨2, ![512, 4096]⟩
abbrev S4096x512 : Shape := ⟨2, ![4096, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S2048x512, .f32⟩
  | .hbm, ⟨3, _⟩ => ⟨S_, .f32⟩
  | .hbm, ⟨4, _⟩ => ⟨S4x512x1024, .f32⟩
  | .hbm, ⟨5, _⟩ => ⟨S512x4x1024, .f32⟩
  | .hbm, ⟨6, _⟩ => ⟨S512x4096, .f32⟩
  | .hbm, ⟨7, _⟩ => ⟨S2048x4096, .f32⟩
  | .hbm, ⟨8, _⟩ => ⟨S2048x4096, .f32⟩
  | .hbm, ⟨9, _⟩ => ⟨S4096x512, .f32⟩
  | .hbm, ⟨10, _⟩ => ⟨S512x4096, .f32⟩
  | .hbm, ⟨11, _⟩ => ⟨S512x4x1024, .f32⟩
  | .hbm, ⟨12, _⟩ => ⟨S4x512x1024, .f32⟩
  | .hbm, ⟨13, _⟩ => ⟨S4x512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel18.lean ====
abbrev S2048x4096 : Shape := ⟨2, ![2048, 4096]⟩
abbrev S4x512x1024 : Shape := ⟨3, ![4, 512, 1024]⟩
abbrev S2048x512 : Shape := ⟨2, ![2048, 512]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4x512x1024, .bf16⟩
  | .hbm, ⟨2, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x4096 : Shape := ⟨2, ![2048, 4096]⟩
abbrev S4x512x1024 : Shape := ⟨3, ![4, 512, 1024]⟩
abbrev S512x4x1024 : Shape := ⟨3, ![512, 4, 1024]⟩
abbrev S512x4096 : Shape := ⟨2, ![512, 4096]⟩
abbrev S_ : Shape := ⟨0, ![]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x512x1024, .bf16⟩
  | .hbm, ⟨2, _⟩ => ⟨S4x512x1024, .f32⟩
  | .hbm, ⟨3, _⟩ => ⟨S512x4x1024, .f32⟩
  | .hbm, ⟨4, _⟩ => ⟨S512x4096, .f32⟩
  | .hbm, ⟨5, _⟩ => ⟨S_, .f32⟩
  | .hbm, ⟨6, _⟩ => ⟨S2048x512, .f32⟩
  | .hbm, ⟨7, _⟩ => ⟨S2048x4096, .f32⟩
  | .hbm, ⟨8, _⟩ => ⟨S2048x4096, .f32⟩
  | .hbm, ⟨9, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S2048x2048 : Shape := ⟨2, ![2048, 2048]⟩
abbrev S4x512x1152 : Shape := ⟨3, ![4, 512, 1152]⟩
abbrev S2048x1152 : Shape := ⟨2, ![2048, 1152]⟩
abbrev S1024x512 : Shape := ⟨2, ![1024, 512]⟩
abbrev S1x512x384 : Shape := ⟨3, ![1, 512, 384]⟩
abbrev S1024x384 : Shape := ⟨2, ![1024, 384]⟩
abbrev S512x384 : Shape := ⟨2, ![512, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x512x1152, .bf16⟩
  | .hbm, ⟨2, _⟩ => ⟨S2048x1152, .f32⟩
  | .local _ .vmem, ⟨0, _⟩ => ⟨S1024x512, .bf16⟩
  | .local _ .vmem, ⟨1, _⟩ => ⟨S1024x512, .bf16⟩
  | .local _ .vmem, ⟨2, _⟩ => ⟨S1x512x384, .bf16⟩
  | .local _ .vmem, ⟨3, _⟩ => ⟨S1x512x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S4x512x1152 : Shape := ⟨3, ![4, 512, 1152]⟩
abbrev S2048x1152 : Shape := ⟨2, ![2048, 1152]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x1152, .bf16⟩
  | .hbm, ⟨2, _⟩ => ⟨S2048x2048, .f32⟩
  | .hbm, ⟨3, _⟩ => ⟨S4x512x1152, .f32⟩
  | .hbm, ⟨4, _⟩ => ⟨S2048x1152, .f32⟩
  | .hbm, ⟨5, _⟩ => ⟨S2048x1152, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S2048x2048 : Shape := ⟨2, ![2048, 2048]⟩
abbrev S2048x1152 : Shape := ⟨2, ![2048, 1152]⟩
abbrev S4x512x1152 : Shape := ⟨3, ![4, 512, 1152]⟩
abbrev S2048x512 : Shape := ⟨2, ![2048, 512]⟩
abbrev S2048x384 : Shape := ⟨2, ![2048, 384]⟩
abbrev S1x512x384 : Shape := ⟨3, ![1, 512, 384]⟩
abbrev S512x384 : Shape := ⟨2, ![512, 384]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S4x512x1152, .bf16⟩
  | .local _ .vmem, ⟨0, _⟩ => ⟨S2048x512, .bf16⟩
  | .local _ .vmem, ⟨1, _⟩ => ⟨S2048x512, .bf16⟩
  | .local _ .vmem, ⟨2, _⟩ => ⟨S2048x384, .bf16⟩
  | .local _ .vmem, ⟨3, _⟩ => ⟨S2048x384, .bf16⟩
  | .local _ .vmem, ⟨4, _⟩ => ⟨S1x512x384, .bf16⟩
  | .local _ .vmem, ⟨5, _⟩ => ⟨S1x512x384, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x2048 : Shape := ⟨2, ![2048, 2048]⟩
abbrev S2048x1152 : Shape := ⟨2, ![2048, 1152]⟩
abbrev S_ : Shape := ⟨0, ![]⟩
abbrev S4x512x1152 : Shape := ⟨3, ![4, 512, 1152]⟩
abbrev S1152x2048 : Shape := ⟨2, ![1152, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1152, .bf16⟩
  | .hbm, ⟨2, _⟩ => ⟨S2048x2048, .f32⟩
  | .hbm, ⟨3, _⟩ => ⟨S_, .f32⟩
  | .hbm, ⟨4, _⟩ => ⟨S4x512x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S1152x2048, .f32⟩
  | .hbm, ⟨9, _⟩ => ⟨S2048x1152, .f32⟩
  | .hbm, ⟨10, _⟩ => ⟨S4x512x1152, .f32⟩
  | .hbm, ⟨11, _⟩ => ⟨S4x512x1152, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel21.lean ====
abbrev S2048x1152 : Shape := ⟨2, ![2048, 1152]⟩
abbrev S4x512x1152 : Shape := ⟨3, ![4, 512, 1152]⟩
abbrev S2048x2048 : Shape := ⟨2, ![2048, 2048]⟩
abbrev S1024x1152 : Shape := ⟨2, ![1024, 1152]⟩
abbrev S1x512x1152 : Shape := ⟨3, ![1, 512, 1152]⟩
abbrev S1024x512 : Shape := ⟨2, ![1024, 512]⟩
abbrev S512x1152 : Shape := ⟨2, ![512, 1152]⟩

abbrev nBuf : Space → Nat
  | .hbm => 4
  | .vmem => 8
  | .smem => 0
  | _ => 0

abbrev bufTy : (tb : Table) → Fin (tcTables nBuf tb) → BufTy
  | .hbm, ⟨0, _⟩ => ⟨S2048x1152, .bf16⟩
  | .hbm, ⟨1, _⟩ => ⟨S4x512x1152, .bf16⟩
  | .hbm, ⟨2, _⟩ => ⟨S2048x2048, .f32⟩
  | .hbm, ⟨3, _⟩ => ⟨S2048x2048, .f32⟩
  | .local _ .vmem, ⟨0, _⟩ => ⟨S1024x1152, .bf16⟩
  | .local _ .vmem, ⟨1, _⟩ => ⟨S1024x1152, .bf16⟩
  | .local _ .vmem, ⟨2, _⟩ => ⟨S1x512x1152, .bf16⟩
  | .local _ .vmem, ⟨3, _⟩ => ⟨S1x512x1152, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S2048x1152 : Shape := ⟨2, ![2048, 1152]⟩
abbrev S4x512x1152 : Shape := ⟨3, ![4, 512, 1152]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x1152, .bf16⟩
  | .hbm, ⟨1, _⟩ => ⟨S4x512x1152, .bf16⟩
  | .hbm, ⟨2, _⟩ => ⟨S2048x2048, .f32⟩
  | .hbm, ⟨3, _⟩ => ⟨S4x512x1152, .f32⟩
  | .hbm, ⟨4, _⟩ => ⟨S2048x1152, .f32⟩
  | .hbm, ⟨5, _⟩ => ⟨S_, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x1152, .f32⟩
  | .hbm, ⟨11, _⟩ => ⟨S2048x1152, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel22.lean ====
abbrev S8192x2048 : Shape := ⟨2, ![8192, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel24.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S2048x2048 : Shape := ⟨2, ![2048, 2048]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel25.lean ====
abbrev S1024x1088 : Shape := ⟨2, ![1024, 1088]⟩
abbrev S128x1088 : Shape := ⟨2, ![128, 1088]⟩

abbrev nBuf : Space → Nat
  | .hbm => 7
  | .vmem => 14
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S1024x1088, .f32⟩
  | .hbm, ⟨5, _⟩ => ⟨S1024x1088, .f32⟩
  | .hbm, ⟨6, _⟩ => ⟨S1024x1088, .f32⟩
  | .local _ .vmem, ⟨0, _⟩ => ⟨S128x1088, .f32⟩
  | .local _ .vmem, ⟨1, _⟩ => ⟨S128x1088, .f32⟩
  | .local _ .vmem, ⟨2, _⟩ => ⟨S128x1088, .f32⟩
  | .local _ .vmem, ⟨3, _⟩ => ⟨S128x1088, .f32⟩
  | .local _ .vmem, ⟨4, _⟩ => ⟨S128x1088, .f32⟩
  | .local _ .vmem, ⟨5, _⟩ => ⟨S128x1088, .f32⟩
  | .local _ .vmem, ⟨6, _⟩ => ⟨S128x1088, .f32⟩
  | .local _ .vmem, ⟨7, _⟩ => ⟨S128x1088, .f32⟩
  | .local _ .vmem, ⟨8, _⟩ => ⟨S128x1088, .f32⟩
  | .local _ .vmem, ⟨9, _⟩ => ⟨S128x1088, .f32⟩
  | .local _ .vmem, ⟨10, _⟩ => ⟨S128x1088, .f32⟩
  | .local _ .vmem, ⟨11, _⟩ => ⟨S128x1088, .f32⟩
  | .local _ .vmem, ⟨12, _⟩ => ⟨S128x1088, .f32⟩
  | .local _ .vmem, ⟨13, _⟩ => ⟨S128x1088, .f32⟩
  | _, _ => ⟨S1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S1024x1088 : Shape := ⟨2, ![1024, 1088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S_, .f32⟩
  | .hbm, ⟨5, _⟩ => ⟨S1024x1088, .f32⟩
  | .hbm, ⟨6, _⟩ => ⟨S1024x1088, .f32⟩
  | .hbm, ⟨7, _⟩ => ⟨S_, .f32⟩
  | .hbm, ⟨8, _⟩ => ⟨S1024x1088, .f32⟩
  | .hbm, ⟨9, _⟩ => ⟨S1024x1088, .f32⟩
  | .hbm, ⟨10, _⟩ => ⟨S1024x1088, .f32⟩
  | .hbm, ⟨11, _⟩ => ⟨S_, .f32⟩
  | .hbm, ⟨12, _⟩ => ⟨S1024x1088, .f32⟩
  | .hbm, ⟨13, _⟩ => ⟨S1024x1088, .f32⟩
  | .hbm, ⟨14, _⟩ => ⟨S1024x1088, .f32⟩
  | .hbm, ⟨15, _⟩ => ⟨S_, .f32⟩
  | .hbm, ⟨16, _⟩ => ⟨S1024x1088, .f32⟩
  | .hbm, ⟨17, _⟩ => ⟨S1024x1088, .f32⟩
  | .hbm, ⟨18, _⟩ => ⟨S1024x1088, .f32⟩
  | .hbm, ⟨19, _⟩ => ⟨S_, .f32⟩
  | .hbm, ⟨20, _⟩ => ⟨S1024x1088, .f32⟩
  | .hbm, ⟨21, _⟩ => ⟨S1024x1088, .f32⟩
  | .hbm, ⟨22, _⟩ => ⟨S_, .f32⟩
  | .hbm, ⟨23, _⟩ => ⟨S1024x1088, .f32⟩
  | .hbm, ⟨24, _⟩ => ⟨S1024x1088, .f32⟩
  | .hbm, ⟨25, _⟩ => ⟨S1024x1088, .f32⟩
  | .hbm, ⟨26, _⟩ => ⟨S_, .f32⟩
  | .hbm, ⟨27, _⟩ => ⟨S1024x1088, .f32⟩
  | .hbm, ⟨28, _⟩ => ⟨S1024x1088, .f32⟩
  | .hbm, ⟨29, _⟩ => ⟨S1024x1088, .f32⟩
  | .hbm, ⟨30, _⟩ => ⟨S_, .f32⟩
  | .hbm, ⟨31, _⟩ => ⟨S1024x1088, .f32⟩
  | .hbm, ⟨32, _⟩ => ⟨S1024x1088, .f32⟩
  | .hbm, ⟨33, _⟩ => ⟨S1024x1088, .f32⟩
  | .hbm, ⟨34, _⟩ => ⟨S_, .f32⟩
  | .hbm, ⟨35, _⟩ => ⟨S1024x1088, .f32⟩
  | .hbm, ⟨36, _⟩ => ⟨S1024x1088, .f32⟩
  | _, _ => ⟨S1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x1536 : Shape := ⟨2, ![2048, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S192x16 : Shape := ⟨2, ![192, 16]⟩

abbrev nBuf : Space → Nat
  | .hbm => 7
  | .vmem => 7
  | .smem => 0
  | _ => 0

abbrev bufTy : (tb : Table) → Fin (tcTables nBuf tb) → BufTy
  | .hbm, ⟨0, _⟩ => ⟨S192x16, .f32⟩
  | .hbm, ⟨1, _⟩ => ⟨S192x16, .f32⟩
  | .hbm, ⟨2, _⟩ => ⟨S192x16, .f32⟩
  | .hbm, ⟨3, _⟩ => ⟨S192x16, .f32⟩
  | .hbm, ⟨4, _⟩ => ⟨S192x16, .f32⟩
  | .hbm, ⟨5, _⟩ => ⟨S192x16, .f32⟩
  | .hbm, ⟨6, _⟩ => ⟨S192x16, .f32⟩
  | .local _ .vmem, ⟨0, _⟩ => ⟨S192x16, .f32⟩
  | .local _ .vmem, ⟨1, _⟩ => ⟨S192x16, .f32⟩
  | .local _ .vmem, ⟨2, _⟩ => ⟨S192x16, .f32⟩
  | .local _ .vmem, ⟨3, _⟩ => ⟨S192x16, .f32⟩
  | .local _ .vmem, ⟨4, _⟩ => ⟨S192x16, .f32⟩
  | .local _ .vmem, ⟨5, _⟩ => ⟨S192x16, .f32⟩
  | .local _ .vmem, ⟨6, _⟩ => ⟨S192x16, .f32⟩
  | _, _ => ⟨S192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S192x16 : Shape := ⟨2, ![192, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x16, .f32⟩
  | .hbm, ⟨1, _⟩ => ⟨S192x16, .f32⟩
  | .hbm, ⟨2, _⟩ => ⟨S192x16, .f32⟩
  | .hbm, ⟨3, _⟩ => ⟨S192x16, .f32⟩
  | .hbm, ⟨4, _⟩ => ⟨S_, .f32⟩
  | .hbm, ⟨5, _⟩ => ⟨S192x16, .f32⟩
  | .hbm, ⟨6, _⟩ => ⟨S192x16, .f32⟩
  | .hbm, ⟨7, _⟩ => ⟨S_, .f32⟩
  | .hbm, ⟨8, _⟩ => ⟨S192x16, .f32⟩
  | .hbm, ⟨9, _⟩ => ⟨S192x16, .f32⟩
  | .hbm, ⟨10, _⟩ => ⟨S192x16, .f32⟩
  | .hbm, ⟨11, _⟩ => ⟨S_, .f32⟩
  | .hbm, ⟨12, _⟩ => ⟨S192x16, .f32⟩
  | .hbm, ⟨13, _⟩ => ⟨S192x16, .f32⟩
  | .hbm, ⟨14, _⟩ => ⟨S192x16, .f32⟩
  | .hbm, ⟨15, _⟩ => ⟨S_, .f32⟩
  | .hbm, ⟨16, _⟩ => ⟨S192x16, .f32⟩
  | .hbm, ⟨17, _⟩ => ⟨S192x16, .f32⟩
  | .hbm, ⟨18, _⟩ => ⟨S192x16, .f32⟩
  | .hbm, ⟨19, _⟩ => ⟨S_, .f32⟩
  | .hbm, ⟨20, _⟩ => ⟨S192x16, .f32⟩
  | .hbm, ⟨21, _⟩ => ⟨S192x16, .f32⟩
  | .hbm, ⟨22, _⟩ => ⟨S_, .f32⟩
  | .hbm, ⟨23, _⟩ => ⟨S192x16, .f32⟩
  | .hbm, ⟨24, _⟩ => ⟨S192x16, .f32⟩
  | .hbm, ⟨25, _⟩ => ⟨S192x16, .f32⟩
  | .hbm, ⟨26, _⟩ => ⟨S_, .f32⟩
  | .hbm, ⟨27, _⟩ => ⟨S192x16, .f32⟩
  | .hbm, ⟨28, _⟩ => ⟨S192x16, .f32⟩
  | .hbm, ⟨29, _⟩ => ⟨S192x16, .f32⟩
  | .hbm, ⟨30, _⟩ => ⟨S_, .f32⟩
  | .hbm, ⟨31, _⟩ => ⟨S192x16, .f32⟩
  | .hbm, ⟨32, _⟩ => ⟨S192x16, .f32⟩
  | .hbm, ⟨33, _⟩ => ⟨S192x16, .f32⟩
  | .hbm, ⟨34, _⟩ => ⟨S_, .f32⟩
  | .hbm, ⟨35, _⟩ => ⟨S192x16, .f32⟩
  | .hbm, ⟨36, _⟩ => ⟨S192x16, .f32⟩
  | _, _ => ⟨S192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Model.lean ====
/-
  What one grid step of the attention gradient computes, as plain functions of the blocks it reads, over any float
  operations. A step works on one pair of heads and one block of 512 query rows; its two loops go over blocks of 512
  keys, the first from the diagonal block down (the tails of the log survival), the second upwards (the heads of the
  weights' gradient). `kbOf` and `kbUp` are the key blocks the two loops visit.
-/
module

public import proofs.«01_k».proof.Proof.Gen.KernelIdeal.Skeleton
public import Idealize.ShloMosaic.Lib.Pipeline.ValueKit

@[expose] public section

noncomputable section

namespace Cert.Proof.Attn

open Cert.KernelIdeal Cert.KernelIdeal.Gen
open Idealize.ShloMosaic

variable {F : FTy → Type} [FloatOps F]

/-! ## Blocks of the buffers -/

section Blocks

variable {α : Type}

/-- Head `j`'s 128 columns of a 512-row block. -/
def hcol (X : S512x256.Idx → α) (j : Fin 2) : S512x128.Idx → α := fun y =>
  X (ix2 (y 0) (⟨128 * j.val + (y 1).val, by have h1 : (y 1).val < 128 := (y 1).isLt; have := j.isLt; omega⟩ : Fin 256))

/-- Head `j`'s columns of key block `kb`. -/
def blk (X : S2048x256.Idx → α) (kb : Fin 4) (j : Fin 2) : S512x128.Idx → α := fun y =>
  X (ix2 (⟨512 * kb.val + (y 0).val, by have h0 : (y 0).val < 512 := (y 0).isLt; have := kb.isLt; omega⟩ : Fin 2048)
    (⟨128 * j.val + (y 1).val, by have h1 : (y 1).val < 128 := (y 1).isLt; have := j.isLt; omega⟩ : Fin 256))

/-- The same block replaced by `w`. -/
def setBlk (X : S2048x256.Idx → α) (kb : Fin 4) (j : Fin 2) (w : S512x128.Idx → α) : S2048x256.Idx → α := fun y =>
  if (y 0).val / 512 = kb.val ∧ (y 1).val / 128 = j.val then
    w (ix2 (⟨(y 0).val % 512, Nat.mod_lt _ (by decide)⟩ : Fin 512) (⟨(y 1).val % 128, Nat.mod_lt _ (by decide)⟩ : Fin 128))
  else X y

/-- The attention block of head `j` and key block `kb` in the buffer that keeps them all. -/
def ablk (A : S2x4x512x512.Idx → α) (j : Fin 2) (kb : Fin 4) : S512x512.Idx → α := fun y => A (ix4 j kb (y 0) (y 1))

/-- The same block replaced by `w`. -/
def setA (A : S2x4x512x512.Idx → α) (j : Fin 2) (kb : Fin 4) (w : S512x512.Idx → α) : S2x4x512x512.Idx → α := fun y =>
  if (y 0).val = j.val ∧ (y 1).val = kb.val then w (ix2 (y 2) (y 3)) else A y

end Blocks

/-! ## One block against one block -/

/-- Which keys of key block `kb` lie strictly before the rows of the step. -/
def mask (i : grid0.Coords) (kb : Fin 4) : IVec S512x512 1 :=
  cmpi .slt (addi (broadcast S512x512 (BitVec.ofNat 32 (512 * kb.val))) (iota .tc S512x512 32 [1] iota_S512x512_d1_w32)) (k0_pay83 i)

/-- A constant over the block. -/
def cst (s : Shape) (b : BitVec 32) : FVec F s .f32 := broadcast s (Scalar.ofBits .f32 b)

/-- The scaled scores. -/
def score (q k : Vec F S512x128 .bf16) : FVec F S512x512 .f32 :=
  mulf (matmul dot_S512x128_S512x128_S512x512_1_1_0_0_n_n none q k (constant S512x512 .f32 0x00000000#32)) (cst S512x512 0x3DB504F3#32)

/-- `log (1 + exp (-|z|))`. -/
def logTerm (z : FVec F S512x512 .f32) : FVec F S512x512 .f32 :=
  log (addf (cst S512x512 0x3F800000#32) (exp (subf (cst S512x512 0x00000000#32) (absf z))))

/-- The log of the stick fraction. -/
def logBeta (z : FVec F S512x512 .f32) : FVec F S512x512 .f32 :=
  subf (minimumf z (cst S512x512 0x00000000#32)) (logTerm z)

/-- The log of the rest of the stick, zero off the mask. -/
def logRest (m : IVec S512x512 1) (z : FVec F S512x512 .f32) : FVec F S512x512 .f32 :=
  select m (subf (minimumf (subf (cst S512x512 0x00000000#32) z) (cst S512x512 0x00000000#32)) (logTerm z)) (cst S512x512 0x00000000#32)

/-- A product with a 0/1 matrix, the left factor split in three parts. -/
def split3 (x : FVec F S512x512 .f32) (t : FVec F S512x512 .bf16) : FVec F S512x512 .f32 :=
  let hi : FVec F S512x512 .bf16 := truncf .bf16 x bitsLt_bf16_f32
  let r : FVec F S512x512 .f32 := subf x (extf .f32 hi bitsLt_bf16_f32)
  let mid : FVec F S512x512 .bf16 := truncf .bf16 r bitsLt_bf16_f32
  let lo : FVec F S512x512 .bf16 := truncf .bf16 (subf r (extf .f32 mid bitsLt_bf16_f32)) bitsLt_bf16_f32
  addf (addf (matmul dot_S512x512_S512x512_S512x512_1_0_0_1_n_n none hi t (constant S512x512 .f32 0x00000000#32))
      (matmul dot_S512x512_S512x512_S512x512_1_0_0_1_n_n none mid t (constant S512x512 .f32 0x00000000#32)))
    (matmul dot_S512x512_S512x512_S512x512_1_0_0_1_n_n none lo t (constant S512x512 .f32 0x00000000#32))

/-- The attention block: `t` is the log survival beyond the block, per row. -/
def attn (m : IVec S512x512 1) (t : FVec F S512x1 .f32) (z : FVec F S512x512 .f32) : FVec F S512x512 .f32 :=
  select m (exp (addf (addf (logBeta z) (broadcastTo S512x512 t broadcasts_S512x1_S512x512)) (split3 (logRest m z) k0_pay77)))
    (cst S512x512 0x00000000#32)

/-- Row sums added to a column. -/
def rowAdd (t : FVec F S512x1 .f32) (x : FVec F S512x512 .f32) : FVec F S512x1 .f32 :=
  addf t (shapeCast S512x1 (multiReduction .add [1] S512 x 0x00000000#32 reduces_S512x512_S512 (.inl rfl) rfl) shapeCasts_S512_S512x1)

/-- A block of `v`'s gradient after one more block of rows. -/
def dvAdd (o : Vec F S512x128 .f32) (a : FVec F S512x512 .f32) (d : FVec F S512x128 .f32) : FVec F S512x128 .f32 :=
  shapeCast S512x128 (addf d (matmul dot_S512x512_S512x128_S512x128_0_0_1_1_n_n none (truncf .bf16 a bitsLt_bf16_f32 : FVec F S512x512 .bf16)
    (truncf .bf16 o bitsLt_bf16_f32 : FVec F S512x128 .bf16) (constant S512x128 .f32 0x00000000#32))) shapeCasts_S512x128_S512x128

/-- The stick fraction. -/
def beta (z : FVec F S512x512 .f32) : FVec F S512x512 .f32 :=
  divf (select (cmpf .oge z (cst S512x512 0x00000000#32)) (cst S512x512 0x3F800000#32) (exp (subf (cst S512x512 0x00000000#32) (absf z))))
    (addf (cst S512x512 0x3F800000#32) (exp (subf (cst S512x512 0x00000000#32) (absf z))))

/-- The gradient of the log weights. -/
def wgrad (o : Vec F S512x128 .f32) (v : Vec F S512x128 .bf16) (a : FVec F S512x512 .f32) : FVec F S512x512 .f32 :=
  mulf (matmul dot_S512x128_S512x128_S512x512_1_1_0_0_n_n none (truncf .bf16 o bitsLt_bf16_f32 : FVec F S512x128 .bf16) v
    (constant S512x512 .f32 0x00000000#32)) a

/-- The gradient of the scores. -/
def sgrad (m : IVec S512x512 1) (h : FVec F S512x1 .f32) (b w : FVec F S512x512 .f32) : FVec F S512x512 .bf16 :=
  truncf .bf16 (mulf (select m (subf (mulf w (subf (cst S512x512 0x3F800000#32) b))
    (mulf b (addf (broadcastTo S512x512 h broadcasts_S512x1_S512x512) (split3 w k0_pay78)))) (cst S512x512 0x00000000#32)) (cst S512x512 0x3DB504F3#32)) bitsLt_bf16_f32

/-- A block of `k`'s gradient after one more block of rows. -/
def dkAdd (s : FVec F S512x512 .bf16) (q : Vec F S512x128 .bf16) (d : FVec F S512x128 .f32) : FVec F S512x128 .f32 :=
  shapeCast S512x128 (addf d (matmul dot_S512x512_S512x128_S512x128_0_0_1_1_n_n none s q (constant S512x128 .f32 0x00000000#32))) shapeCasts_S512x128_S512x128

/-- A block of `q`'s gradient after one more block of keys. -/
def dqAdd (s : FVec F S512x512 .bf16) (k : Vec F S512x128 .bf16) (d : FVec F S512x128 .f32) : FVec F S512x128 .f32 :=
  addf d (matmul dot_S512x512_S512x128_S512x128_1_0_0_1_n_n none s k (constant S512x128 .f32 0x00000000#32))

/-! ## The two loops -/

/-- The key block the first loop visits in trip `n`. -/
def kbOf (i : grid0.Coords) (n : ℕ) : Fin 4 := ⟨(i 1).val - n, Nat.lt_of_le_of_lt (Nat.sub_le _ _) (i 1).isLt⟩

/-- The key block the second loop visits in trip `n`. -/
def kbUp (n : ℕ) : Fin 4 := ⟨n % 4, Nat.mod_lt _ (by decide)⟩

variable (i : grid0.Coords) (Q : Vec F S512x256 .bf16) (K V : Vec F S2048x256 .bf16) (O : Vec F S512x256 .f32)

/-- The scores of head `j` against key block `kb`. -/
def zB (j : Fin 2) (kb : Fin 4) : FVec F S512x512 .f32 := score (hcol Q j) (blk K kb j)

/-- The log survival beyond the key block of trip `n`. -/
def tail (j : Fin 2) : ℕ → FVec F S512x1 .f32
  | 0 => cst S512x1 0x00000000#32
  | n + 1 => rowAdd (tail j n) (logRest (mask i (kbOf i n)) (zB Q K j (kbOf i n)))

/-- The attention block of trip `n`. -/
def aB (j : Fin 2) (n : ℕ) : FVec F S512x512 .f32 := attn (mask i (kbOf i n)) (tail i Q K j n) (zB Q K j (kbOf i n))

/-- The buffer of attention blocks before trip `n`. -/
def aBuf (A : Vec F S2x4x512x512 .f32) : ℕ → Vec F S2x4x512x512 .f32
  | 0 => A
  | n + 1 => setA (setA (aBuf A n) 0 (kbOf i n) (aB i Q K 0 n)) 1 (kbOf i n) (aB i Q K 1 n)

/-- One head's part of a trip of the first loop on `v`'s gradient. -/
def dvHead (j : Fin 2) (n : ℕ) (D : Vec F S2048x256 .f32) : Vec F S2048x256 .f32 :=
  setBlk D (kbOf i n) j (dvAdd (hcol O j) (aB i Q K j n) (blk D (kbOf i n) j))

/-- `v`'s gradient before trip `n` of the first loop. -/
def dvBuf (D : Vec F S2048x256 .f32) : ℕ → Vec F S2048x256 .f32
  | 0 => D
  | n + 1 => dvHead i Q K O 1 n (dvHead i Q K O 0 n (dvBuf D n))

variable (ab : Fin 2 → Fin 4 → FVec F S512x512 .f32)

/-- The gradient of the log weights of head `j` and key block `kb`. -/
def wB (j : Fin 2) (kb : Fin 4) : FVec F S512x512 .f32 := wgrad (hcol O j) (blk V kb j) (ab j kb)

/-- The sums of the log weights' gradient below the key block of trip `n`. -/
def headSum (j : Fin 2) : ℕ → FVec F S512x1 .f32
  | 0 => cst S512x1 0x00000000#32
  | n + 1 => rowAdd (headSum j n) (wB V O ab j (kbUp n))

/-- The scores' gradient of trip `n`. -/
def sB (j : Fin 2) (n : ℕ) : FVec F S512x512 .bf16 :=
  sgrad (mask i (kbUp n)) (headSum V O ab j n) (beta (zB Q K j (kbUp n))) (wB V O ab j (kbUp n))

/-- `q`'s gradient before trip `n` of the second loop. -/
def dqB (j : Fin 2) : ℕ → FVec F S512x128 .f32
  | 0 => cst S512x128 0x00000000#32
  | n + 1 => dqAdd (sB i Q K V O ab j n) (blk K (kbUp n) j) (dqB j n)

/-- One head's part of a trip of the second loop on `k`'s gradient. -/
def dkHead (j : Fin 2) (n : ℕ) (D : Vec F S2048x256 .f32) : Vec F S2048x256 .f32 :=
  setBlk D (kbUp n) j (dkAdd (sB i Q K V O ab j n) (hcol Q j) (blk D (kbUp n) j))

/-- `k`'s gradient before trip `n` of the second loop. -/
def dkBuf (D : Vec F S2048x256 .f32) : ℕ → Vec F S2048x256 .f32
  | 0 => D
  | n + 1 => dkHead i Q K V O ab 1 n (dkHead i Q K V O ab 0 n (dkBuf D n))

end Cert.Proof.Attn

end
-- ==== Proof.Blocks.lean ====
/-
  Blocks of the step's buffers as the windows the loops load and store.
-/
module

public import proofs.«01_k».proof.Proof.Model
public import Idealize.ShloMosaic.Lib.VecWindow

@[expose] public section

noncomputable section

namespace Cert.Proof.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Windows

variable {α : Type}

theorem window_hcol0 (X : S512x256.Idx → α) (h) : VecWindow.window X ![0, 0] S512x128.size h = hcol X 0 := by
  funext y
  refine congrArg X (funext fun a => Fin.ext ?_)
  match a with
  | ⟨0, _⟩ => show 0 + 1 * (y 0).val = (y 0).val; omega
  | ⟨1, _⟩ => show 0 + 1 * (y 1).val = 128 * 0 + (y 1).val; omega

theorem window_hcol1 (X : S512x256.Idx → α) (h) : VecWindow.window X ![0, 128] S512x128.size h = hcol X 1 := by
  funext y
  refine congrArg X (funext fun a => Fin.ext ?_)
  match a with
  | ⟨0, _⟩ => show 0 + 1 * (y 0).val = (y 0).val; omega
  | ⟨1, _⟩ => show 128 + 1 * (y 1).val = 128 * 1 + (y 1).val; omega

theorem window_blk0 (X : S2048x256.Idx → α) (kb : Fin 4) (h) : VecWindow.window X ![512 * kb.val, 0] S512x128.size h = blk X kb 0 := by
  funext y
  refine congrArg X (funext fun a => Fin.ext ?_)
  match a with
  | ⟨0, _⟩ => show 512 * kb.val + 1 * (y 0).val = 512 * kb.val + (y 0).val; omega
  | ⟨1, _⟩ => show 0 + 1 * (y 1).val = 128 * 0 + (y 1).val; omega

theorem window_blk1 (X : S2048x256.Idx → α) (kb : Fin 4) (h) : VecWindow.window X ![512 * kb.val, 128] S512x128.size h = blk X kb 1 := by
  funext y
  refine congrArg X (funext fun a => Fin.ext ?_)
  match a with
  | ⟨0, _⟩ => show 512 * kb.val + 1 * (y 0).val = 512 * kb.val + (y 0).val; omega
  | ⟨1, _⟩ => show 128 + 1 * (y 1).val = 128 * 1 + (y 1).val; omega

theorem window_ablk0 (X : S2x4x512x512.Idx → α) (kb : Fin 4) (h) :
    shapeCast S512x512 (VecWindow.window X ![0, kb.val, 0, 0] S1x1x512x512.size h) shapeCasts_S1x1x512x512_S512x512 = ablk X 0 kb := by
  funext y
  rw [shapeCast_apply (s := S1x1x512x512) _ shapeCasts_S1x1x512x512_S512x512 y (ix4 (0 : Fin 1) (0 : Fin 1) (y 0) (y 1)) (by
    rw [Shape.rowMajor_val_two, Shape.rowMajor_val_four]
    show ((0 * 1 + 0) * 512 + (y 0).val) * 512 + (y 1).val = (y 0).val * 512 + (y 1).val
    omega)]
  refine congrArg X (funext fun a => Fin.ext ?_)
  match a with
  | ⟨0, _⟩ => rfl
  | ⟨1, _⟩ => show kb.val + 1 * 0 = kb.val; omega
  | ⟨2, _⟩ => show 0 + 1 * (y 0).val = (y 0).val; omega
  | ⟨3, _⟩ => show 0 + 1 * (y 1).val = (y 1).val; omega

theorem window_ablk1 (X : S2x4x512x512.Idx → α) (kb : Fin 4) (h) :
    shapeCast S512x512 (VecWindow.window X ![1, kb.val, 0, 0] S1x1x512x512.size h) shapeCasts_S1x1x512x512_S512x512 = ablk X 1 kb := by
  funext y
  rw [shapeCast_apply (s := S1x1x512x512) _ shapeCasts_S1x1x512x512_S512x512 y (ix4 (0 : Fin 1) (0 : Fin 1) (y 0) (y 1)) (by
    rw [Shape.rowMajor_val_two, Shape.rowMajor_val_four]
    show ((0 * 1 + 0) * 512 + (y 0).val) * 512 + (y 1).val = (y 0).val * 512 + (y 1).val
    omega)]
  refine congrArg X (funext fun a => Fin.ext ?_)
  match a with
  | ⟨0, _⟩ => rfl
  | ⟨1, _⟩ => show kb.val + 1 * 0 = kb.val; omega
  | ⟨2, _⟩ => show 0 + 1 * (y 0).val = (y 0).val; omega
  | ⟨3, _⟩ => show 0 + 1 * (y 1).val = (y 1).val; omega

/-- A block put at its offsets is the block replaced. -/
theorem put_setBlk (X : S2048x256.Idx → α) (kb : Fin 4) (j : Fin 2) (w : S512x128.Idx → α) :
    VecWindow.put X ![512 * kb.val, 128 * j.val] S512x128.size w = setBlk X kb j w := by
  funext y
  have h0 : (y 0).val < 2048 := (y 0).isLt
  have h1 : (y 1).val < 256 := (y 1).isLt
  by_cases hc : (y 0).val / 512 = kb.val ∧ (y 1).val / 128 = j.val
  · have hm : ∀ a : Fin S2048x256.rank, (![512 * kb.val, 128 * j.val] : Fin 2 → ℕ) a ≤ (y a).val ∧ (y a).val < (![512 * kb.val, 128 * j.val] : Fin 2 → ℕ) a + S512x128.size a := by
      intro a
      match a with
      | ⟨0, _⟩ => show 512 * kb.val ≤ (y 0).val ∧ (y 0).val < 512 * kb.val + 512; omega
      | ⟨1, _⟩ => show 128 * j.val ≤ (y 1).val ∧ (y 1).val < 128 * j.val + 128; omega
    unfold VecWindow.put setBlk
    rw [dif_pos hm, if_pos hc]
    refine congrArg w (funext fun a => Fin.ext ?_)
    match a with
    | ⟨0, _⟩ => show (y 0).val - 512 * kb.val = (y 0).val % 512; omega
    | ⟨1, _⟩ => show (y 1).val - 128 * j.val = (y 1).val % 128; omega
  · have hm : ¬ ∀ a : Fin S2048x256.rank, (![512 * kb.val, 128 * j.val] : Fin 2 → ℕ) a ≤ (y a).val ∧ (y a).val < (![512 * kb.val, 128 * j.val] : Fin 2 → ℕ) a + S512x128.size a := by
      intro hall
      have e0 : 512 * kb.val ≤ (y 0).val ∧ (y 0).val < 512 * kb.val + 512 := hall (0 : Fin 2)
      have e1 : 128 * j.val ≤ (y 1).val ∧ (y 1).val < 128 * j.val + 128 := hall (1 : Fin 2)
      exact hc ⟨by omega, by omega⟩
    unfold VecWindow.put setBlk
    rw [dif_neg hm, if_neg hc]

theorem put_blk0 (X : S2048x256.Idx → α) (kb : Fin 4) (w : S512x128.Idx → α) :
    VecWindow.put X ![512 * kb.val, 0] S512x128.size w = setBlk X kb 0 w := put_setBlk X kb 0 w

theorem put_blk1 (X : S2048x256.Idx → α) (kb : Fin 4) (w : S512x128.Idx → α) :
    VecWindow.put X ![512 * kb.val, 128] S512x128.size w = setBlk X kb 1 w := put_setBlk X kb 1 w

/-- An attention block put at its offsets is the block replaced. -/
theorem put_setA (X : S2x4x512x512.Idx → α) (j : Fin 2) (kb : Fin 4) (w : S512x512.Idx → α) :
    VecWindow.put X ![j.val, kb.val, 0, 0] S1x1x512x512.size (shapeCast S1x1x512x512 w shapeCasts_S512x512_S1x1x512x512) = setA X j kb w := by
  funext y
  have h2 : (y 2).val < 512 := (y 2).isLt
  have h3 : (y 3).val < 512 := (y 3).isLt
  by_cases hc : (y 0).val = j.val ∧ (y 1).val = kb.val
  · have hm : ∀ a : Fin S2x4x512x512.rank, (![j.val, kb.val, 0, 0] : Fin 4 → ℕ) a ≤ (y a).val ∧ (y a).val < (![j.val, kb.val, 0, 0] : Fin 4 → ℕ) a + S1x1x512x512.size a := by
      intro a
      match a with
      | ⟨0, _⟩ => show j.val ≤ (y 0).val ∧ (y 0).val < j.val + 1; omega
      | ⟨1, _⟩ => show kb.val ≤ (y 1).val ∧ (y 1).val < kb.val + 1; omega
      | ⟨2, _⟩ => show 0 ≤ (y 2).val ∧ (y 2).val < 0 + 512; omega
      | ⟨3, _⟩ => show 0 ≤ (y 3).val ∧ (y 3).val < 0 + 512; omega
    unfold VecWindow.put setA
    rw [dif_pos hm, if_pos hc]
    refine shapeCast_apply (s := S512x512) w shapeCasts_S512x512_S1x1x512x512 _ _ ?_
    rw [Shape.rowMajor_val_two, Shape.rowMajor_val_four]
    show (y 2).val * 512 + (y 3).val = ((((y 0).val - j.val) * 1 + ((y 1).val - kb.val)) * 512 + ((y 2).val - 0)) * 512 + ((y 3).val - 0)
    rw [hc.1, hc.2]; omega
  · have hm : ¬ ∀ a : Fin S2x4x512x512.rank, (![j.val, kb.val, 0, 0] : Fin 4 → ℕ) a ≤ (y a).val ∧ (y a).val < (![j.val, kb.val, 0, 0] : Fin 4 → ℕ) a + S1x1x512x512.size a := by
      intro hall
      have e0 : j.val ≤ (y 0).val ∧ (y 0).val < j.val + 1 := hall (0 : Fin 4)
      have e1 : kb.val ≤ (y 1).val ∧ (y 1).val < kb.val + 1 := hall (1 : Fin 4)
      exact hc ⟨by omega, by omega⟩
    unfold VecWindow.put setA
    rw [dif_neg hm, if_neg hc]

theorem put_ablk0 (X : S2x4x512x512.Idx → α) (kb : Fin 4) (w : S512x512.Idx → α) :
    VecWindow.put X ![0, kb.val, 0, 0] S1x1x512x512.size (shapeCast S1x1x512x512 w shapeCasts_S512x512_S1x1x512x512) = setA X 0 kb w := put_setA X 0 kb w

theorem put_ablk1 (X : S2x4x512x512.Idx → α) (kb : Fin 4) (w : S512x512.Idx → α) :
    VecWindow.put X ![1, kb.val, 0, 0] S1x1x512x512.size (shapeCast S1x1x512x512 w shapeCasts_S512x512_S1x1x512x512) = setA X 1 kb w := put_setA X 1 kb w

/-- The two heads' blocks are apart. -/
theorem blk_setBlk_of_ne (X : S2048x256.Idx → α) (kb kb' : Fin 4) (j j' : Fin 2) (w : S512x128.Idx → α) (h : kb ≠ kb' ∨ j ≠ j') :
    blk (setBlk X kb j w) kb' j' = blk X kb' j' := by
  funext y
  have h0 : (y 0).val < 512 := (y 0).isLt
  have h1 : (y 1).val < 128 := (y 1).isLt
  refine if_neg ?_
  show ¬ ((512 * kb'.val + (y 0).val) / 512 = kb.val ∧ (128 * j'.val + (y 1).val) / 128 = j.val)
  rintro ⟨e0, e1⟩
  rcases h with h | h
  · exact h (Fin.ext (by omega))
  · exact h (Fin.ext (by omega))

/-- The block just set is what was set. -/
theorem blk_setBlk_same (X : S2048x256.Idx → α) (kb : Fin 4) (j : Fin 2) (w : S512x128.Idx → α) : blk (setBlk X kb j w) kb j = w := by
  funext y
  have h0 : (y 0).val < 512 := (y 0).isLt
  have h1 : (y 1).val < 128 := (y 1).isLt
  have hc : (512 * kb.val + (y 0).val) / 512 = kb.val ∧ (128 * j.val + (y 1).val) / 128 = j.val := ⟨by omega, by omega⟩
  refine (if_pos hc).trans (congrArg w (funext fun a => Fin.ext ?_))
  match a with
  | ⟨0, _⟩ => show (512 * kb.val + (y 0).val) % 512 = (y 0).val; omega
  | ⟨1, _⟩ => show (128 * j.val + (y 1).val) % 128 = (y 1).val; omega

theorem ablk_setA_same (A : S2x4x512x512.Idx → α) (j : Fin 2) (kb : Fin 4) (w : S512x512.Idx → α) : ablk (setA A j kb w) j kb = w := by
  funext y
  refine (if_pos ⟨rfl, rfl⟩).trans (congrArg w (funext fun a => ?_))
  match a with
  | ⟨0, _⟩ => rfl
  | ⟨1, _⟩ => rfl

theorem ablk_setA_of_ne (A : S2x4x512x512.Idx → α) (j j' : Fin 2) (kb kb' : Fin 4) (w : S512x512.Idx → α) (h : j ≠ j' ∨ kb ≠ kb') :
    ablk (setA A j kb w) j' kb' = ablk A j' kb' := by
  funext y
  refine if_neg ?_
  show ¬ (j'.val = j.val ∧ kb'.val = kb.val)
  rintro ⟨e0, e1⟩
  rcases h with h | h
  · exact h (Fin.ext e0.symm)
  · exact h (Fin.ext e1.symm)

end Windows

/-- A buffer at contents that read `X` is owned at `X`. -/
theorem owns_of_read {F : FTy → Type} [FloatOps F] (c : Dev nD) {sh : Shape} {e : EltTy} (m : Memref sig .tc .vmem sh e) (X : sh.Idx → Elt F e)
    {f : BufTy.Contents (Elt F) m.view.ty} (hf : m.view.read (Elt F) f = X) :
    (m.view.loc (c : Thread nD τ) ↦[m.view.set]{fullShare} f) ⊢ (owns (c : Thread nD τ) m fullShare X : sProp (MT nD τ sig Unit (Elt F) ℕ (UR sig nD τ) ℕ)) := by
  unfold owns
  iintro H
  iexists f
  isplitr [H]
  · ipureintro; exact hf
  · iexact H

end Cert.Proof.Attn

end
-- ==== Proof.Trip1.lean ====
/-
  One trip of the first loop, run once over a symbolic trip.
-/
module

public import proofs.«01_k».proof.Proof.Blocks
public import proofs.«01_k».proof.Proof.Gen.KernelIdeal.Loops
public import Idealize.ShloMosaic.Lib.VecWindow
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Offsets of the first loop's accesses -/

theorem off1_eq : ∀ (i : grid0.Coords) (n : Fin (k0_t1_loop i).trips), k0_off1 i n = ![512 * (kbOf i n.val).val, 0] := by decide +kernel
theorem off2_eq : ∀ (i : grid0.Coords) (n : Fin (k0_t1_loop i).trips), k0_off2 i n = ![0, (kbOf i n.val).val, 0, 0] := by decide +kernel
theorem off3_eq : ∀ (i : grid0.Coords) (n : Fin (k0_t1_loop i).trips), k0_off3 i n = ![512 * (kbOf i n.val).val, 128] := by decide +kernel
theorem off4_eq : ∀ (i : grid0.Coords) (n : Fin (k0_t1_loop i).trips), k0_off4 i n = ![1, (kbOf i n.val).val, 0, 0] := by decide +kernel

instance closedOff1 (i : grid0.Coords) (n : Fin (k0_t1_loop i).trips) : ClosedOff (k0_off1 i n) := ⟨_, off1_eq i n⟩
instance closedOff2 (i : grid0.Coords) (n : Fin (k0_t1_loop i).trips) : ClosedOff (k0_off2 i n) := ⟨_, off2_eq i n⟩
instance closedOff3 (i : grid0.Coords) (n : Fin (k0_t1_loop i).trips) : ClosedOff (k0_off3 i n) := ⟨_, off3_eq i n⟩
instance closedOff4 (i : grid0.Coords) (n : Fin (k0_t1_loop i).trips) : ClosedOff (k0_off4 i n) := ⟨_, off4_eq i n⟩

/-- The first key position of the block the first loop visits, as the kernel computes it. -/
theorem word1 : ∀ (i : grid0.Coords) (n : Fin (k0_t1_loop i).trips),
    Scalar.muli (Scalar.subi (BitVec.ofNat 32 (i 1).val) (Scf.iv 0#32 1#32 n)) 512#32 = BitVec.ofNat 32 (512 * (kbOf i n.val).val) := by decide +kernel

/-! ## The values a trip computes -/

section Payloads

variable (i : grid0.Coords) (n : Fin (k0_t1_loop i).trips) (q k : Vec F S512x128 .bf16) (o d : Vec F S512x128 .f32) (t : FVec F S512x1 .f32) (m : IVec S512x512 1)

theorem pay_mask : k0_pay17 i (BitVec.ofNat 32 (i 1).val) (iota .tc S512x512 32 [1] iota_S512x512_d1_w32) (k0_pay83 i) 0#32 1#32 n
    = mask i (kbOf i n.val) := by
  unfold mask
  rw [← word1 i n]
  rfl

/-- The mask of a trip, as the trip computes it. -/
abbrev tripMask : IVec S512x512 1 :=
  k0_pay17 i (BitVec.ofNat 32 (i 1).val) (iota .tc S512x512 32 [1] iota_S512x512_d1_w32) (k0_pay83 i) 0#32 1#32 n

/-- Head 0's exponential of a trip, as the trip computes it. -/
abbrev tripExp : FVec F S512x512 .f32 :=
  k0_pay21 i (BitVec.ofNat 32 (i 1).val) (iota .tc S512x512 32 [1] iota_S512x512_d1_w32) k0_pay77 q (k0_pay83 i) 0#32 1#32 n t k

theorem pay_attn0 : k0_pay24 (tripMask i n) (tripExp i n q k t) k0_pay22
    = shapeCast S1x1x512x512 (attn (mask i (kbOf i n.val)) t (score q k)) shapeCasts_S512x512_S1x1x512x512 := by
  rw [← pay_mask i n]; rfl

theorem pay_dv0 : k0_pay25 (k0_pay81 o) (tripMask i n) (tripExp i n q k t) k0_pay22 d = dvAdd o (attn (mask i (kbOf i n.val)) t (score q k)) d := by
  rw [← pay_mask i n]; rfl

theorem pay_tail0 : k0_pay26 t (k0_pay20 i (BitVec.ofNat 32 (i 1).val) (iota .tc S512x512 32 [1] iota_S512x512_d1_w32) q (k0_pay83 i) 0#32 1#32 n k)
    = rowAdd t (logRest (mask i (kbOf i n.val)) (score q k)) := by
  rw [← pay_mask i n]; rfl

theorem pay_attn1 : k0_pay87 m (k0_pay29 q m k) (k0_pay30 q t k) (k0_pay31 q m k)
    = shapeCast S1x1x512x512 (attn m t (score q k)) shapeCasts_S512x512_S1x1x512x512 := rfl

theorem pay_dv1 : k0_pay88 o m (k0_pay29 q m k) (k0_pay30 q t k) (k0_pay31 q m k) d = dvAdd o (attn m t (score q k)) d := rfl

theorem pay_tail1 : k0_pay89 t (k0_pay29 q m k) = rowAdd t (logRest m (score q k)) := rfl

end Payloads

variable (c : Dev nD) (i : grid0.Coords)
  (arg2 : Memref sig .tc .vmem S512x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S2048x256 .bf16) (harg7 : arg7.IsWhole)
  (arg8 : Memref sig .tc .vmem S2048x256 .bf16) (harg8 : arg8.IsWhole) (arg9 : Memref sig .tc .vmem S2x4x512x512 .f32) (harg9 : arg9.IsWhole)
  (arg10 : Memref sig .tc .vmem S2048x256 .f32) (harg10 : arg10.IsWhole) (arg11 : Memref sig .tc .vmem S2048x256 .f32) (harg11 : arg11.IsWhole)

theorem trip1 (Q : Vec F S512x256 .bf16) (K : Vec F S2048x256 .bf16) (O : Vec F S512x256 .f32) (A : Vec F S2x4x512x512 .f32) (D : Vec F S2048x256 .f32)
    (n : Fin (k0_t1_loop i).trips) (E : Set ℕ) :
    (iprop((arg3.view.loc (c : Thread nD τ) ↦[arg3.view.set]{fullShare} arg3.view.rep K)
      ∗ (arg9.view.loc (c : Thread nD τ) ↦[arg9.view.set]{fullShare} arg9.view.rep A)
      ∗ (arg11.view.loc (c : Thread nD τ) ↦[arg11.view.set]{fullShare} arg11.view.rep D)) : sProp 𝕄)
    ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11
          (BitVec.ofNat 32 (i 1).val) (iota .tc S512x512 32 [1] iota_S512x512_d1_w32) (hcol Q 0) (hcol Q 1) (hcol O 0) (hcol O 1) n (tail i Q K 0 n.val, tail i Q K 1 n.val))
        (fun yld => iprop(⌜yld = (tail i Q K 0 (n.val + 1), tail i Q K 1 (n.val + 1))⌝
          ∗ (arg3.view.loc (c : Thread nD τ) ↦[arg3.view.set]{fullShare} arg3.view.rep K)
          ∗ owns (c : Thread nD τ) arg9 fullShare (setA (setA A 0 (kbOf i n.val) (aB i Q K 0 n.val)) 1 (kbOf i n.val) (aB i Q K 1 n.val))
          ∗ owns (c : Thread nD τ) arg11 fullShare (dvHead i Q K O 1 n.val (dvHead i Q K O 0 n.val D)))) := by
  unfold k0_t1_body
  iintro ⟨H3, H9, H11⟩
  sl_exec
  have hk0 : View.readAt (Elt F) arg3.view (Rect.unit (s := S2048x256) (k0_off1 i n) S512x128.size (k0_off1_inb i n)).toLoadRect (arg3.view.rep K) = blk K (kbOf i n.val) 0 :=
    (View.readAt_rep_unit arg3.view K (k0_off1_inb i n) (off1_eq i n) (off1_eq i n ▸ k0_off1_inb i n)).trans (window_blk0 K _ _)
  have hk1 : View.readAt (Elt F) arg3.view (Rect.unit (s := S2048x256) (k0_off3 i n) S512x128.size (k0_off3_inb i n)).toLoadRect (arg3.view.rep K) = blk K (kbOf i n.val) 1 :=
    (View.readAt_rep_unit arg3.view K (k0_off3_inb i n) (off3_eq i n) (off3_eq i n ▸ k0_off3_inb i n)).trans (window_blk1 K _ _)
  have hd0 : View.readAt (Elt F) arg11.view (Rect.unit (s := S2048x256) (k0_off1 i n) S512x128.size (k0_off1_inb i n)).toLoadRect (arg11.view.rep D) = blk D (kbOf i n.val) 0 :=
    (View.readAt_rep_unit arg11.view D (k0_off1_inb i n) (off1_eq i n) (off1_eq i n ▸ k0_off1_inb i n)).trans (window_blk0 D _ _)
  have hd1 : View.readAt (Elt F) arg11.view (Rect.unit (s := S2048x256) (k0_off3 i n) S512x128.size (k0_off3_inb i n)).toLoadRect (arg11.view.rep D) = blk D (kbOf i n.val) 1 :=
    (View.readAt_rep_unit arg11.view D (k0_off3_inb i n) (off3_eq i n) (off3_eq i n ▸ k0_off3_inb i n)).trans (window_blk1 D _ _)
  unfold trip1.sl.r_2 trip1.sl.r_3 trip1.sl.r_4 trip1.sl.r_5 trip1.sl.r_6 trip1.sl.v158 trip1.sl.r_1 trip1.sl.r
  rw [hk0, hk1, hd0, hd1, pay_tail0, pay_tail1, pay_attn1, pay_dv1, pay_attn0, pay_dv0, pay_mask]
  sl_step
  isplitr [H3 H9 H11]
  · ipureintro
    show _ = (rowAdd (tail i Q K 0 n.val) (logRest (mask i (kbOf i n.val)) (zB Q K 0 (kbOf i n.val))),
      rowAdd (tail i Q K 1 n.val) (logRest (mask i (kbOf i n.val)) (zB Q K 1 (kbOf i n.val))))
    unfold zB
    with_reducible rfl
  isplitl [H3]; · iexact H3
  isplitl [H9]
  · iapply (owns_of_read c arg9 _ ?_)
    rotate_left
    · iexact H9
    rw [View.read_writes_cons_put _ _ _ _ _ (off4_eq i n), View.read_writes_rep_unit _ _ _ _ (off2_eq i n)]
    rw [← put_ablk0, ← put_ablk1]
    unfold aB zB
    with_reducible rfl
  · iapply (owns_of_read c arg11 _ ?_)
    rotate_left
    · iexact H11
    rw [View.read_writes_cons_put _ _ _ _ _ (off3_eq i n), View.read_writes_rep_unit _ _ _ _ (off1_eq i n)]
    unfold dvHead
    rw [blk_setBlk_of_ne _ _ _ _ _ _ (.inr (by decide)), ← put_blk0, ← put_blk1]
    unfold aB zB
    with_reducible rfl

end Cert.Proof.Attn

end
-- ==== Proof.Part.lean ====
/-
  The first half of a grid step: the accumulators set to zero at the first block of rows, and the first loop.
-/
module

public import proofs.«01_k».proof.Proof.Trip1
public import Idealize.ShloMosaic.Lib.Pipeline.TableIdle

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What an accumulator holds when the loops begin: zeros at the first block of rows, else what it held. -/
def start (i : grid0.Coords) (D : Vec F S2048x256 .f32) : Vec F S2048x256 .f32 :=
  if (i 1).val = 0 then k0_pay79 else D

/-- The kernel's test for the first block of rows. -/
theorem first_iff : ∀ i : grid0.Coords,
    Scalar.cmpi .ne (Scalar.extui (Scalar.cmpi .eq (BitVec.ofNat 32 (i 1).val) 0#32) : BitVec 32) 0#32 = 1#1 ↔ (i 1).val = 0 := by decide +kernel

theorem trips1 : ∀ i : grid0.Coords, (k0_t1_loop i).trips = (i 1).val + 1 := by decide +kernel
theorem trips2 : ∀ i : grid0.Coords, (k0_t2_loop i).trips = 0 := by decide +kernel

variable (c : Dev nD) (i : grid0.Coords)
  (arg2 : Memref sig .tc .vmem S512x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S2048x256 .bf16) (harg7 : arg7.IsWhole)
  (arg8 : Memref sig .tc .vmem S2048x256 .bf16) (harg8 : arg8.IsWhole) (arg9 : Memref sig .tc .vmem S2x4x512x512 .f32) (harg9 : arg9.IsWhole)
  (arg10 : Memref sig .tc .vmem S2048x256 .f32) (harg10 : arg10.IsWhole) (arg11 : Memref sig .tc .vmem S2048x256 .f32) (harg11 : arg11.IsWhole)

/-- Before trip `k` of the first loop. -/
def inv1 (Q : Vec F S512x256 .bf16) (K : Vec F S2048x256 .bf16) (O : Vec F S512x256 .f32) (A : Vec F S2x4x512x512 .f32) (D : Vec F S2048x256 .f32)
    (k : ℕ) (acc : FVec F S512x1 .f32 × FVec F S512x1 .f32) : sProp 𝕄 :=
  iprop((arg3.view.loc (c : Thread nD τ) ↦[arg3.view.set]{fullShare} arg3.view.rep K)
    ∗ owns (c : Thread nD τ) arg9 fullShare (aBuf i Q K A k)
    ∗ owns (c : Thread nD τ) arg11 fullShare (dvBuf i Q K O D k)
    ∗ ⌜acc = (tail i Q K 0 k, tail i Q K 1 k)⌝)

theorem step1 (Q : Vec F S512x256 .bf16) (K : Vec F S2048x256 .bf16) (O : Vec F S512x256 .f32) (A : Vec F S2x4x512x512 .f32) (D : Vec F S2048x256 .f32)
    (E : Set ℕ) (n : Fin (k0_t1_loop i).trips) (acc : FVec F S512x1 .f32 × FVec F S512x1 .f32) :
    inv1 c i arg3 arg9 arg11 Q K O A D n.val acc
    ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11
          (BitVec.ofNat 32 (i 1).val) (iota .tc S512x512 32 [1] iota_S512x512_d1_w32) (hcol Q 0) (hcol Q 1) (hcol O 0) (hcol O 1) n acc)
        (fun yld => inv1 c i arg3 arg9 arg11 Q K O A D (n.val + 1) yld) := by
  unfold inv1
  rw [owns_eq_rep, owns_eq_rep]
  iintro ⟨H3, H9, H11, %h⟩
  subst h
  iapply (wp_wand_r Idealize.ShloMosaic.frame (wpE (defs₀ (F := F)) Variants.none (c : Thread nD τ) none) E)
  isplitl [H3 H9 H11]
  · iapply (trip1 c i arg2 harg2 arg3 harg3 arg4 harg4 arg5 harg5 arg6 harg6 arg7 harg7 arg8 harg8 arg9 harg9 arg10 harg10 arg11 harg11
      Q K O (aBuf i Q K A n.val) (dvBuf i Q K O D n.val) n E)
    isplitl [H3]; · iexact H3
    isplitl [H9]; · iexact H9
    iexact H11
  · iintro %yld ⟨%h, H3, H9, H11⟩
    isplitl [H3]; · iexact H3
    isplitl [H9]; · iexact H9
    isplitl [H11]; · iexact H11
    ipureintro; exact h

theorem part9_first (Q : Vec F S512x256 .bf16) (K : Vec F S2048x256 .bf16) (O : Vec F S512x256 .f32) (A : Vec F S2x4x512x512 .f32)
    (Dk Dv : Vec F S2048x256 .f32) (E : Set ℕ) (h0 : (i 1).val = 0) :
    (iprop((arg2.view.loc (c : Thread nD τ) ↦[arg2.view.set]{fullShare} arg2.view.rep Q)
      ∗ (arg3.view.loc (c : Thread nD τ) ↦[arg3.view.set]{fullShare} arg3.view.rep K)
      ∗ (arg5.view.loc (c : Thread nD τ) ↦[arg5.view.set]{fullShare} arg5.view.rep O)
      ∗ (arg9.view.loc (c : Thread nD τ) ↦[arg9.view.set]{fullShare} arg9.view.rep A)
      ∗ (arg10.view.loc (c : Thread nD τ) ↦[arg10.view.set]{fullShare} arg10.view.rep Dk)
      ∗ (arg11.view.loc (c : Thread nD τ) ↦[arg11.view.set]{fullShare} arg11.view.rep Dv)) : sProp 𝕄)
    ⊢ wp frame (wpE (defs₀ (F := F)) Variants.none (c : Thread nD τ) none) E
        (k0_part9 (F := F) i arg2 harg2 arg3 harg3 arg4 harg4 arg5 harg5 arg6 harg6 arg7 harg7 arg8 harg8 arg9 harg9 arg10 harg10 arg11 harg11)
        (fun r => iprop(⌜r = ⟨BitVec.ofNat 32 (i 1).val, iota .tc S512x512 32 [1] iota_S512x512_d1_w32, k0_pay78, hcol Q 0, hcol Q 1, k0_pay81 (hcol O 0), k0_pay82 (hcol O 1), k0_pay83 i,
              Scalar.addi (BitVec.ofNat 32 (i 1).val) 1#32, k0_pay94, k0_pay95, Scalar.ofBits .f32 0x00000000#32⟩⌝
          ∗ (arg2.view.loc (c : Thread nD τ) ↦[arg2.view.set]{fullShare} arg2.view.rep Q)
          ∗ (arg3.view.loc (c : Thread nD τ) ↦[arg3.view.set]{fullShare} arg3.view.rep K)
          ∗ (arg5.view.loc (c : Thread nD τ) ↦[arg5.view.set]{fullShare} arg5.view.rep O)
          ∗ owns (c : Thread nD τ) arg9 fullShare (aBuf i Q K A ((i 1).val + 1))
          ∗ owns (c : Thread nD τ) arg10 fullShare (start i Dk)
          ∗ owns (c : Thread nD τ) arg11 fullShare (dvBuf i Q K O (start i Dv) ((i 1).val + 1)))) := by
  have hc := (first_iff i).mpr h0
  rw [k0_part9_eq_skeleton]
  unfold k0_part9_skel
  iintro ⟨H2, H3, H5, H9, H10, H11⟩
  sl_exec (disch := sl_exact hc)
  have hq0 : View.readAt (Elt F) arg2.view (Rect.unit (s := S512x256) ![0, 0] S512x128.size inb_S512x256_S512x128_0_0).toLoadRect (arg2.view.rep Q) = hcol Q 0 :=
    (View.readAt_rep_unit arg2.view Q _ rfl _).trans (window_hcol0 Q _)
  have hq1 : View.readAt (Elt F) arg2.view (Rect.unit (s := S512x256) ![0, 128] S512x128.size inb_S512x256_S512x128_0_128).toLoadRect (arg2.view.rep Q) = hcol Q 1 :=
    (View.readAt_rep_unit arg2.view Q _ rfl _).trans (window_hcol1 Q _)
  have ho0 : View.readAt (Elt F) arg5.view (Rect.unit (s := S512x256) ![0, 0] S512x128.size inb_S512x256_S512x128_0_0).toLoadRect (arg5.view.rep O) = hcol O 0 :=
    (View.readAt_rep_unit arg5.view O _ rfl _).trans (window_hcol0 O _)
  have ho1 : View.readAt (Elt F) arg5.view (Rect.unit (s := S512x256) ![0, 128] S512x128.size inb_S512x256_S512x128_0_128).toLoadRect (arg5.view.rep O) = hcol O 1 :=
    (View.readAt_rep_unit arg5.view O _ rfl _).trans (window_hcol1 O _)
  rw [hq0, hq1, ho0, ho1]
  sl_for (inv1 c i arg3 arg9 arg11 Q K O A (start i Dv)) $$ [H3 H9 H11]
  case region =>
    intro n acc
    exact step1 c i arg2 harg2 arg3 harg3 arg4 harg4 arg5 harg5 arg6 harg6 arg7 harg7 arg8 harg8 arg9 harg9 arg10 harg10 arg11 harg11
      Q K O A (start i Dv) E n acc
  · unfold inv1
    isplitl [H3]; · iexact H3
    isplitl [H9]
    · rw [owns_eq_rep]; iexact H9
    isplitl [H11]
    · iapply (owns_of_read c arg11 _ ?_)
      rotate_left
      · iexact H11
      unfold part9_first.sl.H11_1
      rw [View.read_writes_full]
      exact (if_pos h0).symm
    · ipureintro; rfl
  iintro %acc HI
  obtain ⟨a0, a1⟩ := acc
  have htr := trips2 i
  unfold inv1
  rw [owns_eq_rep, owns_eq_rep]
  icases HI with ⟨H3, H9, H11, %h1⟩
  sl_exec
  rw [show Scf.trips (k0_t1_loop i).lb (k0_t1_loop i).ub (k0_t1_loop i).st = (i 1).val + 1 from trips1 i]
  sl_step
  isplitr [H2 H3 H5 H9 H10 H11]
  · ipureintro; rfl
  isplitl [H2]; · iexact H2
  isplitl [H3]; · iexact H3
  isplitl [H5]; · iexact H5
  isplitl [H9]
  · rw [owns_eq_rep]; iexact H9
  isplitl [H10]
  · iapply (owns_of_read c arg10 _ ?_)
    rotate_left
    · iexact H10
    unfold part9_first.sl.H10_1
    rw [View.read_writes_full]
    exact (if_pos h0).symm
  · rw [owns_eq_rep]; iexact H11

theorem part9_later (Q : Vec F S512x256 .bf16) (K : Vec F S2048x256 .bf16) (O : Vec F S512x256 .f32) (A : Vec F S2x4x512x512 .f32)
    (Dk Dv : Vec F S2048x256 .f32) (E : Set ℕ) (h0 : (i 1).val ≠ 0) :
    (iprop((arg2.view.loc (c : Thread nD τ) ↦[arg2.view.set]{fullShare} arg2.view.rep Q)
      ∗ (arg3.view.loc (c : Thread nD τ) ↦[arg3.view.set]{fullShare} arg3.view.rep K)
      ∗ (arg5.view.loc (c : Thread nD τ) ↦[arg5.view.set]{fullShare} arg5.view.rep O)
      ∗ (arg9.view.loc (c : Thread nD τ) ↦[arg9.view.set]{fullShare} arg9.view.rep A)
      ∗ (arg10.view.loc (c : Thread nD τ) ↦[arg10.view.set]{fullShare} arg10.view.rep Dk)
      ∗ (arg11.view.loc (c : Thread nD τ) ↦[arg11.view.set]{fullShare} arg11.view.rep Dv)) : sProp 𝕄)
    ⊢ wp frame (wpE (defs₀ (F := F)) Variants.none (c : Thread nD τ) none) E
        (k0_part9 (F := F) i arg2 harg2 arg3 harg3 arg4 harg4 arg5 harg5 arg6 harg6 arg7 harg7 arg8 harg8 arg9 harg9 arg10 harg10 arg11 harg11)
        (fun r => iprop(⌜r = ⟨BitVec.ofNat 32 (i 1).val, iota .tc S512x512 32 [1] iota_S512x512_d1_w32, k0_pay78, hcol Q 0, hcol Q 1, k0_pay81 (hcol O 0), k0_pay82 (hcol O 1), k0_pay83 i,
              Scalar.addi (BitVec.ofNat 32 (i 1).val) 1#32, k0_pay94, k0_pay95, Scalar.ofBits .f32 0x00000000#32⟩⌝
          ∗ (arg2.view.loc (c : Thread nD τ) ↦[arg2.view.set]{fullShare} arg2.view.rep Q)
          ∗ (arg3.view.loc (c : Thread nD τ) ↦[arg3.view.set]{fullShare} arg3.view.rep K)
          ∗ (arg5.view.loc (c : Thread nD τ) ↦[arg5.view.set]{fullShare} arg5.view.rep O)
          ∗ owns (c : Thread nD τ) arg9 fullShare (aBuf i Q K A ((i 1).val + 1))
          ∗ owns (c : Thread nD τ) arg10 fullShare (start i Dk)
          ∗ owns (c : Thread nD τ) arg11 fullShare (dvBuf i Q K O (start i Dv) ((i 1).val + 1)))) := by
  have hc := mt (first_iff i).mp h0
  rw [k0_part9_eq_skeleton]
  unfold k0_part9_skel
  iintro ⟨H2, H3, H5, H9, H10, H11⟩
  sl_exec (disch := sl_exact hc)
  have hq0 : View.readAt (Elt F) arg2.view (Rect.unit (s := S512x256) ![0, 0] S512x128.size inb_S512x256_S512x128_0_0).toLoadRect (arg2.view.rep Q) = hcol Q 0 :=
    (View.readAt_rep_unit arg2.view Q _ rfl _).trans (window_hcol0 Q _)
  have hq1 : View.readAt (Elt F) arg2.view (Rect.unit (s := S512x256) ![0, 128] S512x128.size inb_S512x256_S512x128_0_128).toLoadRect (arg2.view.rep Q) = hcol Q 1 :=
    (View.readAt_rep_unit arg2.view Q _ rfl _).trans (window_hcol1 Q _)
  have ho0 : View.readAt (Elt F) arg5.view (Rect.unit (s := S512x256) ![0, 0] S512x128.size inb_S512x256_S512x128_0_0).toLoadRect (arg5.view.rep O) = hcol O 0 :=
    (View.readAt_rep_unit arg5.view O _ rfl _).trans (window_hcol0 O _)
  have ho1 : View.readAt (Elt F) arg5.view (Rect.unit (s := S512x256) ![0, 128] S512x128.size inb_S512x256_S512x128_0_128).toLoadRect (arg5.view.rep O) = hcol O 1 :=
    (View.readAt_rep_unit arg5.view O _ rfl _).trans (window_hcol1 O _)
  rw [hq0, hq1, ho0, ho1]
  sl_for (inv1 c i arg3 arg9 arg11 Q K O A (start i Dv)) $$ [H3 H9 H11]
  case region =>
    intro n acc
    exact step1 c i arg2 harg2 arg3 harg3 arg4 harg4 arg5 harg5 arg6 harg6 arg7 harg7 arg8 harg8 arg9 harg9 arg10 harg10 arg11 harg11
      Q K O A (start i Dv) E n acc
  · unfold inv1
    isplitl [H3]; · iexact H3
    isplitl [H9]
    · rw [owns_eq_rep]; iexact H9
    isplitl [H11]
    · rw [owns_eq_rep, show start i Dv = Dv from if_neg h0]; iexact H11
    · ipureintro; rfl
  iintro %acc HI
  obtain ⟨a0, a1⟩ := acc
  have htr := trips2 i
  unfold inv1
  rw [owns_eq_rep, owns_eq_rep]
  icases HI with ⟨H3, H9, H11, %h1⟩
  sl_exec
  rw [show Scf.trips (k0_t1_loop i).lb (k0_t1_loop i).ub (k0_t1_loop i).st = (i 1).val + 1 from trips1 i]
  sl_step
  isplitr [H2 H3 H5 H9 H10 H11]
  · ipureintro; rfl
  isplitl [H2]; · iexact H2
  isplitl [H3]; · iexact H3
  isplitl [H5]; · iexact H5
  isplitl [H9]
  · rw [owns_eq_rep]; iexact H9
  isplitl [H10]
  · rw [owns_eq_rep, show start i Dk = Dk from if_neg h0]; iexact H10
  · rw [owns_eq_rep]; iexact H11

theorem part9 (Q : Vec F S512x256 .bf16) (K : Vec F S2048x256 .bf16) (O : Vec F S512x256 .f32) (A : Vec F S2x4x512x512 .f32)
    (Dk Dv : Vec F S2048x256 .f32) (E : Set ℕ) :
    (iprop((arg2.view.loc (c : Thread nD τ) ↦[arg2.view.set]{fullShare} arg2.view.rep Q)
      ∗ (arg3.view.loc (c : Thread nD τ) ↦[arg3.view.set]{fullShare} arg3.view.rep K)
      ∗ (arg5.view.loc (c : Thread nD τ) ↦[arg5.view.set]{fullShare} arg5.view.rep O)
      ∗ (arg9.view.loc (c : Thread nD τ) ↦[arg9.view.set]{fullShare} arg9.view.rep A)
      ∗ (arg10.view.loc (c : Thread nD τ) ↦[arg10.view.set]{fullShare} arg10.view.rep Dk)
      ∗ (arg11.view.loc (c : Thread nD τ) ↦[arg11.view.set]{fullShare} arg11.view.rep Dv)) : sProp 𝕄)
    ⊢ wp frame (wpE (defs₀ (F := F)) Variants.none (c : Thread nD τ) none) E
        (k0_part9 (F := F) i arg2 harg2 arg3 harg3 arg4 harg4 arg5 harg5 arg6 harg6 arg7 harg7 arg8 harg8 arg9 harg9 arg10 harg10 arg11 harg11)
        (fun r => iprop(⌜r = ⟨BitVec.ofNat 32 (i 1).val, iota .tc S512x512 32 [1] iota_S512x512_d1_w32, k0_pay78, hcol Q 0, hcol Q 1, k0_pay81 (hcol O 0), k0_pay82 (hcol O 1), k0_pay83 i,
              Scalar.addi (BitVec.ofNat 32 (i 1).val) 1#32, k0_pay94, k0_pay95, Scalar.ofBits .f32 0x00000000#32⟩⌝
          ∗ (arg2.view.loc (c : Thread nD τ) ↦[arg2.view.set]{fullShare} arg2.view.rep Q)
          ∗ (arg3.view.loc (c : Thread nD τ) ↦[arg3.view.set]{fullShare} arg3.view.rep K)
          ∗ (arg5.view.loc (c : Thread nD τ) ↦[arg5.view.set]{fullShare} arg5.view.rep O)
          ∗ owns (c : Thread nD τ) arg9 fullShare (aBuf i Q K A ((i 1).val + 1))
          ∗ owns (c : Thread nD τ) arg10 fullShare (start i Dk)
          ∗ owns (c : Thread nD τ) arg11 fullShare (dvBuf i Q K O (start i Dv) ((i 1).val + 1)))) := by
  by_cases h0 : (i 1).val = 0
  · exact part9_first c i arg2 harg2 arg3 harg3 arg4 harg4 arg5 harg5 arg6 harg6 arg7 harg7 arg8 harg8 arg9 harg9 arg10 harg10 arg11 harg11 Q K O A Dk Dv E h0
  · exact part9_later c i arg2 harg2 arg3 harg3 arg4 harg4 arg5 harg5 arg6 harg6 arg7 harg7 arg8 harg8 arg9 harg9 arg10 harg10 arg11 harg11 Q K O A Dk Dv E h0

end Cert.Proof.Attn

end
-- ==== Proof.Trip3.lean ====
/-
  One trip of the second loop, run once over a symbolic trip.
-/
module

public import proofs.«01_k».proof.Proof.Blocks
public import proofs.«01_k».proof.Proof.Gen.KernelIdeal.Loops
public import Idealize.ShloMosaic.Lib.VecWindow
public import Idealize.ShloMosaic.Lib.Tactic

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values a trip computes -/

/-- The first key position of the block the second loop visits, as the kernel computes it. -/
theorem word3 : ∀ (i : grid0.Coords) (n : Fin (k0_t3_loop i).trips),
    Scalar.muli (Scf.iv 0#32 1#32 n) 512#32 = BitVec.ofNat 32 (512 * (kbUp n.val).val) := by decide +kernel

theorem off9_eq : ∀ (i : grid0.Coords) (n : Fin (k0_t3_loop i).trips), k0_off9 i n = ![512 * (kbUp n.val).val, 0] := by decide +kernel
theorem off10_eq : ∀ (i : grid0.Coords) (n : Fin (k0_t3_loop i).trips), k0_off10 i n = ![0, (kbUp n.val).val, 0, 0] := by decide +kernel
theorem off11_eq : ∀ (i : grid0.Coords) (n : Fin (k0_t3_loop i).trips), k0_off11 i n = ![512 * (kbUp n.val).val, 128] := by decide +kernel
theorem off12_eq : ∀ (i : grid0.Coords) (n : Fin (k0_t3_loop i).trips), k0_off12 i n = ![1, (kbUp n.val).val, 0, 0] := by decide +kernel

section Payloads

variable (i : grid0.Coords) (n : Fin (k0_t3_loop i).trips) (q k v : Vec F S512x128 .bf16) (o : Vec F S512x128 .f32) (d e : FVec F S512x128 .f32)
  (t : FVec F S512x1 .f32) (m : IVec S512x512 1) (a : Vec F S1x1x512x512 .f32)

theorem pay_mask3 : k0_pay47 i (iota .tc S512x512 32 [1] iota_S512x512_d1_w32) (k0_pay83 i) 0#32 1#32 n = mask i (kbUp n.val) := by
  unfold mask
  rw [← word3 i n]
  rfl

/-- An attention block as loaded. -/
abbrev flat : FVec F S512x512 .f32 := shapeCast S512x512 a shapeCasts_S1x1x512x512_S512x512

theorem pay_dk0 : k0_pay57 q t m (k0_pay48 q k) (k0_pay50 q (k0_pay81 o) k v a) (k0_pay54 k0_pay78 (k0_pay81 o) v a) (k0_pay55 k0_pay78 (k0_pay81 o) v a) d
    = dkAdd (sgrad m t (beta (score q k)) (wgrad o v (flat a))) q d := rfl

theorem pay_head0 : k0_pay58 t (k0_pay49 (k0_pay81 o) v a) = rowAdd t (wgrad o v (flat a)) := rfl

theorem pay_dq0 : k0_pay59 t e m k (k0_pay48 q k) (k0_pay50 q (k0_pay81 o) k v a) (k0_pay54 k0_pay78 (k0_pay81 o) v a) (k0_pay55 k0_pay78 (k0_pay81 o) v a)
    = dqAdd (sgrad m t (beta (score q k)) (wgrad o v (flat a))) k e := rfl

theorem pay_dk1 : k0_pay5 k0_pay78 q t m (k0_pay60 q k) (k0_pay61 (k0_pay82 o) v) a d
    = dkAdd (sgrad m t (beta (score q k)) (wgrad o v (flat a))) q d := rfl

theorem pay_head1 : k0_pay6 t (k0_pay61 (k0_pay82 o) v) a = rowAdd t (wgrad o v (flat a)) := rfl

theorem pay_dq1 : k0_pay7 k0_pay78 t e m k (k0_pay60 q k) (k0_pay61 (k0_pay82 o) v) a
    = dqAdd (sgrad m t (beta (score q k)) (wgrad o v (flat a))) k e := rfl

end Payloads

variable (c : Dev nD) (i : grid0.Coords)
  (arg2 : Memref sig .tc .vmem S512x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S2048x256 .bf16) (harg7 : arg7.IsWhole)
  (arg8 : Memref sig .tc .vmem S2048x256 .bf16) (harg8 : arg8.IsWhole) (arg9 : Memref sig .tc .vmem S2x4x512x512 .f32) (harg9 : arg9.IsWhole)
  (arg10 : Memref sig .tc .vmem S2048x256 .f32) (harg10 : arg10.IsWhole) (arg11 : Memref sig .tc .vmem S2048x256 .f32) (harg11 : arg11.IsWhole)

theorem trip3 (Q : Vec F S512x256 .bf16) (K V : Vec F S2048x256 .bf16) (O : Vec F S512x256 .f32) (A : Vec F S2x4x512x512 .f32) (D : Vec F S2048x256 .f32)
    (n : Fin (k0_t3_loop i).trips) (E : Set ℕ) :
    (iprop((arg3.view.loc (c : Thread nD τ) ↦[arg3.view.set]{fullShare} arg3.view.rep K)
      ∗ (arg4.view.loc (c : Thread nD τ) ↦[arg4.view.set]{fullShare} arg4.view.rep V)
      ∗ (arg9.view.loc (c : Thread nD τ) ↦[arg9.view.set]{fullShare} arg9.view.rep A)
      ∗ (arg10.view.loc (c : Thread nD τ) ↦[arg10.view.set]{fullShare} arg10.view.rep D)) : sProp 𝕄)
    ⊢ wp frame (wpE (defs₀ (F := F)) Variants.none (c : Thread nD τ) none) E
        (k0_t3_body (F := F) i arg2 harg2 arg3 harg3 arg4 harg4 arg5 harg5 arg6 harg6 arg7 harg7 arg8 harg8 arg9 harg9 arg10 harg10 arg11 harg11
          (iota .tc S512x512 32 [1] iota_S512x512_d1_w32) k0_pay78 (hcol Q 0) (hcol Q 1) (k0_pay81 (hcol O 0)) (k0_pay82 (hcol O 1)) (k0_pay83 i) n
          (headSum V O (ablk A) 0 n.val, dqB i Q K V O (ablk A) 0 n.val, headSum V O (ablk A) 1 n.val, dqB i Q K V O (ablk A) 1 n.val))
        (fun yld => iprop(⌜yld = (headSum V O (ablk A) 0 (n.val + 1), dqB i Q K V O (ablk A) 0 (n.val + 1),
            headSum V O (ablk A) 1 (n.val + 1), dqB i Q K V O (ablk A) 1 (n.val + 1))⌝
          ∗ (arg3.view.loc (c : Thread nD τ) ↦[arg3.view.set]{fullShare} arg3.view.rep K)
          ∗ (arg4.view.loc (c : Thread nD τ) ↦[arg4.view.set]{fullShare} arg4.view.rep V)
          ∗ (arg9.view.loc (c : Thread nD τ) ↦[arg9.view.set]{fullShare} arg9.view.rep A)
          ∗ owns (c : Thread nD τ) arg10 fullShare (dkHead i Q K V O (ablk A) 1 n.val (dkHead i Q K V O (ablk A) 0 n.val D)))) := by
  unfold k0_t3_body
  iintro ⟨H3, H4, H9, H10⟩
  sl_exec
  have hk0 : View.readAt (Elt F) arg3.view (Rect.unit (s := S2048x256) (k0_off9 i n) S512x128.size (k0_off9_inb i n)).toLoadRect (arg3.view.rep K) = blk K (kbUp n.val) 0 :=
    (View.readAt_rep_unit arg3.view K (k0_off9_inb i n) (off9_eq i n) (off9_eq i n ▸ k0_off9_inb i n)).trans (window_blk0 K _ _)
  have hk1 : View.readAt (Elt F) arg3.view (Rect.unit (s := S2048x256) (k0_off11 i n) S512x128.size (k0_off11_inb i n)).toLoadRect (arg3.view.rep K) = blk K (kbUp n.val) 1 :=
    (View.readAt_rep_unit arg3.view K (k0_off11_inb i n) (off11_eq i n) (off11_eq i n ▸ k0_off11_inb i n)).trans (window_blk1 K _ _)
  have hv0 : View.readAt (Elt F) arg4.view (Rect.unit (s := S2048x256) (k0_off9 i n) S512x128.size (k0_off9_inb i n)).toLoadRect (arg4.view.rep V) = blk V (kbUp n.val) 0 :=
    (View.readAt_rep_unit arg4.view V (k0_off9_inb i n) (off9_eq i n) (off9_eq i n ▸ k0_off9_inb i n)).trans (window_blk0 V _ _)
  have hv1 : View.readAt (Elt F) arg4.view (Rect.unit (s := S2048x256) (k0_off11 i n) S512x128.size (k0_off11_inb i n)).toLoadRect (arg4.view.rep V) = blk V (kbUp n.val) 1 :=
    (View.readAt_rep_unit arg4.view V (k0_off11_inb i n) (off11_eq i n) (off11_eq i n ▸ k0_off11_inb i n)).trans (window_blk1 V _ _)
  have hd0 : View.readAt (Elt F) arg10.view (Rect.unit (s := S2048x256) (k0_off9 i n) S512x128.size (k0_off9_inb i n)).toLoadRect (arg10.view.rep D) = blk D (kbUp n.val) 0 :=
    (View.readAt_rep_unit arg10.view D (k0_off9_inb i n) (off9_eq i n) (off9_eq i n ▸ k0_off9_inb i n)).trans (window_blk0 D _ _)
  have hd1 : View.readAt (Elt F) arg10.view (Rect.unit (s := S2048x256) (k0_off11 i n) S512x128.size (k0_off11_inb i n)).toLoadRect (arg10.view.rep D) = blk D (kbUp n.val) 1 :=
    (View.readAt_rep_unit arg10.view D (k0_off11_inb i n) (off11_eq i n) (off11_eq i n ▸ k0_off11_inb i n)).trans (window_blk1 D _ _)
  have ha0 : flat (View.readAt (Elt F) arg9.view (Rect.unit (s := S2x4x512x512) (k0_off10 i n) S1x1x512x512.size (k0_off10_inb i n)).toLoadRect (arg9.view.rep A)) = ablk A 0 (kbUp n.val) := by
    rw [View.readAt_rep_unit arg9.view A (k0_off10_inb i n) (off10_eq i n) (off10_eq i n ▸ k0_off10_inb i n)]
    exact window_ablk0 A _ _
  have ha1 : flat (View.readAt (Elt F) arg9.view (Rect.unit (s := S2x4x512x512) (k0_off12 i n) S1x1x512x512.size (k0_off12_inb i n)).toLoadRect (arg9.view.rep A)) = ablk A 1 (kbUp n.val) := by
    rw [View.readAt_rep_unit arg9.view A (k0_off12_inb i n) (off12_eq i n) (off12_eq i n ▸ k0_off12_inb i n)]
    exact window_ablk1 A _ _
  unfold trip3.sl.r_7 trip3.sl.r_8 trip3.sl.r_2 trip3.sl.r_4 trip3.sl.r_5 trip3.sl.r_6 trip3.sl.r_9 trip3.sl.r_10 trip3.sl.r_11 trip3.sl.v164 trip3.sl.r_1 trip3.sl.r_3 trip3.sl.r
  rw [hk0, hk1, hv0, hv1, hd0, hd1, pay_dk0, pay_head0, pay_dq0, pay_dk1, pay_head1, pay_dq1, ha0, ha1, pay_mask3]
  sl_step
  isplitr [H3 H4 H9 H10]
  · ipureintro
    show _ = (rowAdd (headSum V O (ablk A) 0 n.val) (wB V O (ablk A) 0 (kbUp n.val)),
      dqAdd (sB i Q K V O (ablk A) 0 n.val) (blk K (kbUp n.val) 0) (dqB i Q K V O (ablk A) 0 n.val),
      rowAdd (headSum V O (ablk A) 1 n.val) (wB V O (ablk A) 1 (kbUp n.val)),
      dqAdd (sB i Q K V O (ablk A) 1 n.val) (blk K (kbUp n.val) 1) (dqB i Q K V O (ablk A) 1 n.val))
    unfold sB wB zB
    with_reducible rfl
  isplitl [H3]; · iexact H3
  isplitl [H4]; · iexact H4
  isplitl [H9]; · iexact H9
  · iapply (owns_of_read c arg10 _ ?_)
    rotate_left
    · iexact H10
    rw [View.read_writes_cons_put _ _ _ _ _ (off11_eq i n), View.read_writes_rep_unit _ _ _ _ (off9_eq i n)]
    unfold dkHead
    rw [blk_setBlk_of_ne _ _ _ _ _ _ (.inr (by decide)), ← put_blk0, ← put_blk1]
    unfold sB wB zB
    with_reducible rfl

end Cert.Proof.Attn

end
-- ==== Proof.Steps.lean ====
/-
  What a step computes does not depend on what the buffer of attention blocks held before it: the first loop writes
  every block the second loop reads.
-/
module

public import proofs.«01_k».proof.Proof.Blocks

@[expose] public section

noncomputable section

namespace Cert.Proof.Attn

open Cert.KernelIdeal Cert.KernelIdeal.Gen
open Idealize.ShloMosaic

variable {F : FTy → Type} [FloatOps F]

variable (i : grid0.Coords) (Q : Vec F S512x256 .bf16) (K V : Vec F S2048x256 .bf16) (O : Vec F S512x256 .f32)

/-- The attention block of head `j` and key block `kb`. -/
def abOf (j : Fin 2) (kb : Fin 4) : FVec F S512x512 .f32 := aB i Q K j ((i 1).val - kb.val)

theorem ablk_aBuf (A : Vec F S2x4x512x512 .f32) (j : Fin 2) (kb : Fin 4) :
    ∀ n : ℕ, n ≤ (i 1).val + 1 → kb.val ≤ (i 1).val → (i 1).val < kb.val + n → ablk (aBuf i Q K A n) j kb = abOf i Q K j kb
  | 0, _, h, h' => absurd h' (by omega)
  | n + 1, hn, h, h' => by
    by_cases hk : kb.val = (i 1).val - n
    · have hkb : kbOf i n = kb := Fin.ext hk.symm
      have hab : ∀ j : Fin 2, aB i Q K j n = abOf i Q K j kb := fun j => by
        unfold abOf; rw [show (i 1).val - kb.val = n by omega]
      show ablk (setA (setA (aBuf i Q K A n) 0 (kbOf i n) (aB i Q K 0 n)) 1 (kbOf i n) (aB i Q K 1 n)) j kb = _
      rw [hkb]
      match j with
      | 0 => rw [ablk_setA_of_ne _ _ _ _ _ _ (.inl (by decide)), ablk_setA_same, hab]
      | 1 => rw [ablk_setA_same, hab]
    · have hne : kbOf i n ≠ kb := fun h => hk (by rw [← h]; rfl)
      show ablk (setA (setA (aBuf i Q K A n) 0 (kbOf i n) (aB i Q K 0 n)) 1 (kbOf i n) (aB i Q K 1 n)) j kb = _
      rw [ablk_setA_of_ne _ _ _ _ _ _ (.inr hne), ablk_setA_of_ne _ _ _ _ _ _ (.inr hne)]
      exact ablk_aBuf A j kb n (by omega) h (by omega)

variable {ab ab' : Fin 2 → Fin 4 → FVec F S512x512 .f32}

theorem headSum_congr (j : Fin 2) : ∀ n : ℕ, (∀ m, m < n → ab j (kbUp m) = ab' j (kbUp m)) → headSum V O ab j n = headSum V O ab' j n
  | 0, _ => rfl
  | n + 1, h => by
    unfold headSum wB
    rw [headSum_congr j n (fun m hm => h m (by omega)), h n (by omega)]

theorem sB_congr (j : Fin 2) (n : ℕ) (h : ∀ m, m < n + 1 → ab j (kbUp m) = ab' j (kbUp m)) : sB i Q K V O ab j n = sB i Q K V O ab' j n := by
  unfold sB wB
  rw [headSum_congr V O j n (fun m hm => h m (by omega)), h n (by omega)]

theorem dqB_congr (j : Fin 2) : ∀ n : ℕ, (∀ m, m < n → ab j (kbUp m) = ab' j (kbUp m)) → dqB i Q K V O ab j n = dqB i Q K V O ab' j n
  | 0, _ => rfl
  | n + 1, h => by
    unfold dqB
    rw [dqB_congr j n (fun m hm => h m (by omega)), sB_congr i Q K V O j n h]

theorem dkBuf_congr (D : Vec F S2048x256 .f32) : ∀ n : ℕ, (∀ j m, m < n → ab j (kbUp m) = ab' j (kbUp m)) → dkBuf i Q K V O ab D n = dkBuf i Q K V O ab' D n
  | 0, _ => rfl
  | n + 1, h => by
    unfold dkBuf dkHead
    rw [dkBuf_congr D n (fun j m hm => h j m (by omega)), sB_congr i Q K V O 0 n (h 0), sB_congr i Q K V O 1 n (h 1)]

/-- Every block the second loop reads is the first loop's. -/
theorem ablk_up (A : Vec F S2x4x512x512 .f32) (j : Fin 2) (m : ℕ) (hm : m < (i 1).val + 1) :
    ablk (aBuf i Q K A ((i 1).val + 1)) j (kbUp m) = abOf i Q K j (kbUp m) := by
  have hi : (i 1).val < 4 := (i 1).isLt
  have hk : (kbUp m).val = m := Nat.mod_eq_of_lt (by omega)
  exact ablk_aBuf i Q K A j (kbUp m) _ (Nat.le_refl _) (by omega) (by omega)

/-! ## What a step leaves -/

/-- Two heads' columns side by side. -/
def ofCols {α : Type} (w : Fin 2 → S512x128.Idx → α) : S512x256.Idx → α := fun y =>
  w ⟨(y 1).val / 128, Nat.div_lt_of_lt_mul (y 1).isLt⟩ (ix2 (y 0) (⟨(y 1).val % 128, Nat.mod_lt _ (by decide)⟩ : Fin 128))

theorem put_ofCols {α : Type} (X : S512x256.Idx → α) (w : Fin 2 → S512x128.Idx → α) :
    VecWindow.put (VecWindow.put X ![0, 0] S512x128.size (w 0)) ![0, 128] S512x128.size (w 1) = ofCols w := by
  funext y
  have h0 : (y 0).val < 512 := (y 0).isLt
  have h1 : (y 1).val < 256 := (y 1).isLt
  unfold ofCols
  by_cases hc : 128 ≤ (y 1).val
  · have hm : ∀ a : Fin S512x256.rank, (![0, 128] : Fin 2 → ℕ) a ≤ (y a).val ∧ (y a).val < (![0, 128] : Fin 2 → ℕ) a + S512x128.size a := by
      intro a
      match a with
      | ⟨0, _⟩ => show 0 ≤ (y 0).val ∧ (y 0).val < 0 + 512; omega
      | ⟨1, _⟩ => show 128 ≤ (y 1).val ∧ (y 1).val < 128 + 128; omega
    rw [show (⟨(y 1).val / 128, Nat.div_lt_of_lt_mul (y 1).isLt⟩ : Fin 2) = 1 from Fin.ext (show (y 1).val / 128 = 1 by omega)]
    unfold VecWindow.put
    rw [dif_pos hm]
    refine congrArg (w 1) (funext fun a => Fin.ext ?_)
    match a with
    | ⟨0, _⟩ => show (y 0).val - 0 = (y 0).val; omega
    | ⟨1, _⟩ => show (y 1).val - 128 = (y 1).val % 128; omega
  · have hn : ¬ ∀ a : Fin S512x256.rank, (![0, 128] : Fin 2 → ℕ) a ≤ (y a).val ∧ (y a).val < (![0, 128] : Fin 2 → ℕ) a + S512x128.size a := by
      intro hall
      exact hc (hall (1 : Fin 2)).1
    have hm : ∀ a : Fin S512x256.rank, (![0, 0] : Fin 2 → ℕ) a ≤ (y a).val ∧ (y a).val < (![0, 0] : Fin 2 → ℕ) a + S512x128.size a := by
      intro a
      match a with
      | ⟨0, _⟩ => show 0 ≤ (y 0).val ∧ (y 0).val < 0 + 512; omega
      | ⟨1, _⟩ => show 0 ≤ (y 1).val ∧ (y 1).val < 0 + 128; omega
    rw [show (⟨(y 1).val / 128, Nat.div_lt_of_lt_mul (y 1).isLt⟩ : Fin 2) = 0 from Fin.ext (show (y 1).val / 128 = 0 by omega)]
    unfold VecWindow.put
    rw [dif_neg hn, dif_pos hm]
    refine congrArg (w 0) (funext fun a => Fin.ext ?_)
    match a with
    | ⟨0, _⟩ => show (y 0).val - 0 = (y 0).val; omega
    | ⟨1, _⟩ => show (y 1).val - 0 = (y 1).val % 128; omega

/-- `q`'s gradient at the rows of the step. -/
def dqOut : Vec F S512x256 .bf16 := ofCols fun j => truncf .bf16 (dqB i Q K V O (abOf i Q K) j ((i 1).val + 1)) bitsLt_bf16_f32

/-- `k`'s gradient after the step. -/
def dkStep (D : Vec F S2048x256 .f32) : Vec F S2048x256 .f32 := dkBuf i Q K V O (abOf i Q K) D ((i 1).val + 1)

/-- `v`'s gradient after the step. -/
def dvStep (D : Vec F S2048x256 .f32) : Vec F S2048x256 .f32 := dvBuf i Q K O D ((i 1).val + 1)

end Cert.Proof.Attn

end
-- ==== Proof.Body.lean ====
/-
  A whole grid step: the first half, the second loop, and the results written out.
-/
module

public import proofs.«01_k».proof.Proof.Part
public import proofs.«01_k».proof.Proof.Trip3
public import proofs.«01_k».proof.Proof.Steps
public import Idealize.ShloMosaic.Lib.Pipeline.TableIdle

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem trips3 : ∀ i : grid0.Coords, (k0_t3_loop i).trips = (i 1).val + 1 := by decide +kernel
theorem trips4 : ∀ i : grid0.Coords, (k0_t4_loop i).trips = 0 := by decide +kernel

/-- The kernel's test for the last block of rows. -/
theorem last_iff : ∀ i : grid0.Coords, k0_cond2 i = 1#1 ↔ (i 1).val = 3 := by decide +kernel

variable (c : Dev nD) (i : grid0.Coords)
  (arg2 : Memref sig .tc .vmem S512x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S2048x256 .bf16) (harg7 : arg7.IsWhole)
  (arg8 : Memref sig .tc .vmem S2048x256 .bf16) (harg8 : arg8.IsWhole) (arg9 : Memref sig .tc .vmem S2x4x512x512 .f32) (harg9 : arg9.IsWhole)
  (arg10 : Memref sig .tc .vmem S2048x256 .f32) (harg10 : arg10.IsWhole) (arg11 : Memref sig .tc .vmem S2048x256 .f32) (harg11 : arg11.IsWhole)

/-- Before trip `k` of the second loop. -/
def inv3 (Q : Vec F S512x256 .bf16) (K V : Vec F S2048x256 .bf16) (O : Vec F S512x256 .f32) (A : Vec F S2x4x512x512 .f32) (D : Vec F S2048x256 .f32)
    (k : ℕ) (acc : FVec F S512x1 .f32 × FVec F S512x128 .f32 × FVec F S512x1 .f32 × FVec F S512x128 .f32) : sProp 𝕄 :=
  iprop((arg3.view.loc (c : Thread nD τ) ↦[arg3.view.set]{fullShare} arg3.view.rep K)
    ∗ (arg4.view.loc (c : Thread nD τ) ↦[arg4.view.set]{fullShare} arg4.view.rep V)
    ∗ (arg9.view.loc (c : Thread nD τ) ↦[arg9.view.set]{fullShare} arg9.view.rep A)
    ∗ owns (c : Thread nD τ) arg10 fullShare (dkBuf i Q K V O (ablk A) D k)
    ∗ ⌜acc = (headSum V O (ablk A) 0 k, dqB i Q K V O (ablk A) 0 k, headSum V O (ablk A) 1 k, dqB i Q K V O (ablk A) 1 k)⌝)

theorem step3 (Q : Vec F S512x256 .bf16) (K V : Vec F S2048x256 .bf16) (O : Vec F S512x256 .f32) (A : Vec F S2x4x512x512 .f32) (D : Vec F S2048x256 .f32)
    (E : Set ℕ) (n : Fin (k0_t3_loop i).trips) (acc : FVec F S512x1 .f32 × FVec F S512x128 .f32 × FVec F S512x1 .f32 × FVec F S512x128 .f32) :
    inv3 c i arg3 arg4 arg9 arg10 Q K V O A D n.val acc
    ⊢ wp frame (wpE (defs₀ (F := F)) Variants.none (c : Thread nD τ) none) E
        (k0_t3_body (F := F) i arg2 harg2 arg3 harg3 arg4 harg4 arg5 harg5 arg6 harg6 arg7 harg7 arg8 harg8 arg9 harg9 arg10 harg10 arg11 harg11
          (iota .tc S512x512 32 [1] iota_S512x512_d1_w32) k0_pay78 (hcol Q 0) (hcol Q 1) (k0_pay81 (hcol O 0)) (k0_pay82 (hcol O 1)) (k0_pay83 i) n acc)
        (fun yld => inv3 c i arg3 arg4 arg9 arg10 Q K V O A D (n.val + 1) yld) := by
  unfold inv3
  rw [owns_eq_rep]
  iintro ⟨H3, H4, H9, H10, %h⟩
  subst h
  iapply (wp_wand_r Idealize.ShloMosaic.frame (wpE (defs₀ (F := F)) Variants.none (c : Thread nD τ) none) E)
  isplitl [H3 H4 H9 H10]
  · iapply (trip3 c i arg2 harg2 arg3 harg3 arg4 harg4 arg5 harg5 arg6 harg6 arg7 harg7 arg8 harg8 arg9 harg9 arg10 harg10 arg11 harg11
      Q K V O A (dkBuf i Q K V O (ablk A) D n.val) n E)
    isplitl [H3]; · iexact H3
    isplitl [H4]; · iexact H4
    isplitl [H9]; · iexact H9
    iexact H10
  · iintro %yld ⟨%h, H3, H4, H9, H10⟩
    isplitl [H3]; · iexact H3
    isplitl [H4]; · iexact H4
    isplitl [H9]; · iexact H9
    isplitl [H10]; · iexact H10
    ipureintro; exact h

/-- A gradient buffer after the step: written at the last block of rows, as it was before. -/
def lastOr (i : grid0.Coords) (D : Vec F S2048x256 .f32) (X : Vec F S2048x256 .bf16) : Vec F S2048x256 .bf16 :=
  if (i 1).val = 3 then truncf .bf16 D bitsLt_bf16_f32 else X

theorem sound_body (Q : Vec F S512x256 .bf16) (K V : Vec F S2048x256 .bf16) (O : Vec F S512x256 .f32) (X6 : Vec F S512x256 .bf16)
    (X7 X8 : Vec F S2048x256 .bf16) (A : Vec F S2x4x512x512 .f32) (Dk Dv : Vec F S2048x256 .f32) (E : Set ℕ) :
    (iprop((arg2.view.loc (c : Thread nD τ) ↦[arg2.view.set]{fullShare} arg2.view.rep Q)
      ∗ (arg3.view.loc (c : Thread nD τ) ↦[arg3.view.set]{fullShare} arg3.view.rep K)
      ∗ (arg4.view.loc (c : Thread nD τ) ↦[arg4.view.set]{fullShare} arg4.view.rep V)
      ∗ (arg5.view.loc (c : Thread nD τ) ↦[arg5.view.set]{fullShare} arg5.view.rep O)
      ∗ (arg6.view.loc (c : Thread nD τ) ↦[arg6.view.set]{fullShare} arg6.view.rep X6)
      ∗ (arg7.view.loc (c : Thread nD τ) ↦[arg7.view.set]{fullShare} arg7.view.rep X7)
      ∗ (arg8.view.loc (c : Thread nD τ) ↦[arg8.view.set]{fullShare} arg8.view.rep X8)
      ∗ (arg9.view.loc (c : Thread nD τ) ↦[arg9.view.set]{fullShare} arg9.view.rep A)
      ∗ (arg10.view.loc (c : Thread nD τ) ↦[arg10.view.set]{fullShare} arg10.view.rep Dk)
      ∗ (arg11.view.loc (c : Thread nD τ) ↦[arg11.view.set]{fullShare} arg11.view.rep Dv)) : sProp 𝕄)
    ⊢ wp frame (wpE (defs₀ (F := F)) Variants.none (c : Thread nD τ) none) E
        (cc0_sb_attn_bwd_1 (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} arg2.view.rep Q)
          ∗ (arg3.view.loc (c : Thread nD τ) ↦[arg3.view.set]{fullShare} arg3.view.rep K)
          ∗ (arg4.view.loc (c : Thread nD τ) ↦[arg4.view.set]{fullShare} arg4.view.rep V)
          ∗ (arg5.view.loc (c : Thread nD τ) ↦[arg5.view.set]{fullShare} arg5.view.rep O)
          ∗ owns (c : Thread nD τ) arg6 fullShare (dqOut i Q K V O)
          ∗ owns (c : Thread nD τ) arg7 fullShare (lastOr i (dkStep i Q K V O (start i Dk)) X7)
          ∗ owns (c : Thread nD τ) arg8 fullShare (lastOr i (dvStep i Q K O (start i Dv)) X8)
          ∗ (arg9.view.loc (c : Thread nD τ) ↦[arg9.view.set]{fullShare} arg9.view.rep (aBuf i Q K A ((i 1).val + 1)))
          ∗ (arg10.view.loc (c : Thread nD τ) ↦[arg10.view.set]{fullShare} arg10.view.rep (dkStep i Q K V O (start i Dk)))
          ∗ (arg11.view.loc (c : Thread nD τ) ↦[arg11.view.set]{fullShare} arg11.view.rep (dvStep i Q K O (start i Dv))))) := by
  rw [cc0_sb_attn_bwd_1_eq_skeleton]
  unfold cc0_sb_attn_bwd_1_skel
  rw [wp_bind]
  iintro ⟨H2, H3, H4, H5, H6, H7, H8, H9, H10, H11⟩
  iapply (wp_wand_r Idealize.ShloMosaic.frame (wpE (defs₀ (F := F)) Variants.none (c : Thread nD τ) none) E)
  isplitl [H2 H3 H5 H9 H10 H11]
  · iapply (part9 c i arg2 harg2 arg3 harg3 arg4 harg4 arg5 harg5 arg6 harg6 arg7 harg7 arg8 harg8 arg9 harg9 arg10 harg10 arg11 harg11 Q K O A Dk Dv E)
    isplitl [H2]; · iexact H2
    isplitl [H3]; · iexact H3
    isplitl [H5]; · iexact H5
    isplitl [H9]; · iexact H9
    isplitl [H10]; · iexact H10
    iexact H11
  rw [owns_eq_rep]
  iintro %r ⟨%hr, H2, H3, H5, H9, H10, H11⟩
  subst hr
  dsimp only
  sl_for (inv3 c i arg3 arg4 arg9 arg10 Q K V O (aBuf i Q K A ((i 1).val + 1)) (start i Dk)) $$ [H3 H4 H9 H10]
  case region =>
    intro n acc
    exact step3 c i arg2 harg2 arg3 harg3 arg4 harg4 arg5 harg5 arg6 harg6 arg7 harg7 arg8 harg8 arg9 harg9 arg10 harg10 arg11 harg11
      Q K V O (aBuf i Q K A ((i 1).val + 1)) (start i Dk) E n acc
  · unfold inv3
    isplitl [H3]; · iexact H3
    isplitl [H4]; · iexact H4
    isplitl [H9]; · iexact H9
    isplitl [H10]; · iexact H10
    ipureintro; rfl
  iintro %acc HI
  obtain ⟨a0, a1, a2, a3⟩ := acc
  sl_for (fun _ a => iprop(⌜a = (a0, a1, a2, a3)⌝)) $$ []
  case region =>
    intro n a
    exact absurd (Nat.lt_of_lt_of_eq n.isLt (trips4 i)) (Nat.not_lt_zero _)
  · ipureintro; rfl
  iintro %acc' %h2
  subst h2
  unfold inv3
  icases HI with ⟨H3, H4, H9, H10', %h1⟩
  rw [show Scf.trips (k0_t3_loop i).lb (k0_t3_loop i).ub (k0_t3_loop i).st = (i 1).val + 1 from trips3 i] at h1
  ihave H10 := (rep_of_owns (c : Thread nD τ) arg10 fullShare _) $$ H10'
  ihave H11' := (rep_of_owns (c : Thread nD τ) arg11 fullShare _) $$ H11
  have hup : ∀ j m, m < (i 1).val + 1 → ablk (aBuf i Q K A ((i 1).val + 1)) j (kbUp m) = abOf i Q K j (kbUp m) :=
    fun j m hm => ablk_up i Q K A j m hm
  rw [dqB_congr i Q K V O 0 _ (hup 0), dqB_congr i Q K V O 1 _ (hup 1)] at h1
  have h11 : a1 = dqB i Q K V O (abOf i Q K) 0 ((i 1).val + 1) := congrArg (fun p => p.2.1) h1
  have h13 : a3 = dqB i Q K V O (abOf i Q K) 1 ((i 1).val + 1) := congrArg (fun p => p.2.2.2) h1
  sl_exec
  rw [show Scf.trips (k0_t3_loop i).lb (k0_t3_loop i).ub (k0_t3_loop i).st = (i 1).val + 1 from trips3 i,
    dkBuf_congr i Q K V O (start i Dk) _ hup]
  have hdk : sound_body.sl.v51 c i arg10 Q K V O A Dk = dkStep i Q K V O (start i Dk) := by
    unfold sound_body.sl.v51
    rw [show Scf.trips (k0_t3_loop i).lb (k0_t3_loop i).ub (k0_t3_loop i).st = (i 1).val + 1 from trips3 i,
      dkBuf_congr i Q K V O (start i Dk) _ hup]
    exact View.readAt_rep_full _ _ _
  have hdv : sound_body.sl.v54 c i arg11 Q K O Dv = dvStep i Q K O (start i Dv) := by
    unfold sound_body.sl.v54
    exact View.readAt_rep_full _ _ _
  sl_step
  isplitl [H2]; · iexact H2
  isplitl [H3]; · iexact H3
  isplitl [H4]; · iexact H4
  isplitl [H5]; · iexact H5
  isplitl [H6]
  · iapply (owns_of_read c arg6 _ ?_)
    rotate_left
    · iexact H6
    unfold sound_body.sl.H6_2
    rw [View.read_writes_cons_put _ _ _ _ _ rfl, View.read_writes_rep_unit _ _ _ _ rfl, h11, h13]
    exact put_ofCols X6 fun j => truncf .bf16 (dqB i Q K V O (abOf i Q K) j ((i 1).val + 1)) bitsLt_bf16_f32
  isplitl [H7]
  · iapply (owns_of_read c arg7 _ ?_)
    rotate_left
    · iexact H7
    unfold lastOr
    by_cases h3 : (i 1).val = 3
    · rw [dif_pos ((last_iff i).mpr h3), if_pos h3, View.read_writes_full, hdk]
      rfl
    · rw [dif_neg (mt (last_iff i).mp h3), if_neg h3, View.read_rep]
  isplitl [H8]
  · iapply (owns_of_read c arg8 _ ?_)
    rotate_left
    · iexact H8
    unfold lastOr
    by_cases h3 : (i 1).val = 3
    · rw [dif_pos ((last_iff i).mpr h3), if_pos h3, View.read_writes_full, hdv]
      rfl
    · rw [dif_neg (mt (last_iff i).mp h3), if_neg h3, View.read_rep]
  isplitl [H9]; · iexact H9
  isplitl [H10]; · iexact H10
  iexact H11'

end Cert.Proof.Attn

end
-- ==== Proof.Run.lean ====
/-
  The whole call: what the two accumulators hold before every grid point, the body's obligation at a generic point, and the
  launch.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

theorem point_row : ∀ t : Fin cfg0.N, (grid0.coords t 1).val = t.val % 4 := by decide +kernel
theorem point_head : ∀ t : Fin cfg0.N, (grid0.coords t 0).val = t.val / 4 := by decide +kernel

theorem cond2_false : ∀ t : Fin cfg0.N, t.val % 4 ≠ 3 → (k0_cond2 (grid0.coords t) == 1#1) = false := by decide +kernel
theorem cond2_true : ∀ t : Fin cfg0.N, t.val % 4 = 3 → (k0_cond2 (grid0.coords t) == 1#1) = true := by decide +kernel

/-! ## The blocks a point reads -/

/-- The rows of `q` for the point's two heads. -/
def qAt (c : Dev nD) (t : Fin cfg0.N) : Vec F S512x256 .bf16 := iblk m c 0 t
/-- `k` for the point's two heads. -/
def kAt (c : Dev nD) (t : Fin cfg0.N) : Vec F S2048x256 .bf16 := iblk m c 1 t
/-- `v` for the point's two heads. -/
def vAt (c : Dev nD) (t : Fin cfg0.N) : Vec F S2048x256 .bf16 := iblk m c 2 t
/-- The rows of the output's cotangent for the point's two heads. -/
def oAt (c : Dev nD) (t : Fin cfg0.N) : Vec F S512x256 .f32 := iblk m c 3 t

/-- What a point leaves in `k`'s accumulator, found at `D`. -/
def dkNext (c : Dev nD) (t : Fin cfg0.N) (D : Vec F S2048x256 .f32) : Vec F S2048x256 .f32 :=
  dkStep (grid0.coords t) (qAt m c t) (kAt m c t) (vAt m c t) (oAt m c t) (start (grid0.coords t) D)
/-- What a point leaves in `v`'s accumulator, found at `D`. -/
def dvNext (c : Dev nD) (t : Fin cfg0.N) (D : Vec F S2048x256 .f32) : Vec F S2048x256 .f32 :=
  dvStep (grid0.coords t) (qAt m c t) (kAt m c t) (oAt m c t) (start (grid0.coords t) D)

/-- `k`'s accumulator before point `n`. -/
def dkAcc (c : Dev nD) : ℕ → Vec F S2048x256 .f32
  | 0 => k0_pay79
  | n + 1 => if h : n < cfg0.N then dkNext m c ⟨n, h⟩ (dkAcc c n) else dkAcc c n
/-- `v`'s accumulator before point `n`. -/
def dvAcc (c : Dev nD) : ℕ → Vec F S2048x256 .f32
  | 0 => k0_pay79
  | n + 1 => if h : n < cfg0.N then dvNext m c ⟨n, h⟩ (dvAcc c n) else dvAcc c n

theorem dkAcc_succ (c : Dev nD) (t : Fin cfg0.N) : dkAcc m c (t.val + 1) = dkNext m c t (dkAcc m c t.val) := by
  rw [dkAcc, dif_pos t.isLt]
theorem dvAcc_succ (c : Dev nD) (t : Fin cfg0.N) : dvAcc m c (t.val + 1) = dvNext m c t (dvAcc m c t.val) := by
  rw [dvAcc, dif_pos t.isLt]

/-- At the first row block of a pair of heads a point clears what it finds. -/
theorem start_eq (t : Fin cfg0.N) (D D' : Vec F S2048x256 .f32) (h : t.val % 4 ≠ 0 → D = D') :
    start (F := F) (grid0.coords t) D = start (grid0.coords t) D' := by
  unfold start
  rw [point_row t]
  by_cases h0 : t.val % 4 = 0
  · rw [if_pos h0, if_pos h0]
  · rw [h h0]

/-! ## The proof data -/

/-- Between two points: the three buffers the call keeps, the accumulators at their trajectory unless about to be cleared. -/
def PhiS (c : Dev nD) (n : ℕ) : sProp 𝕄 :=
  iprop((∃ A, owns (c : Thread nD τ) (Memref.whole cc0_scratch0) fullShare A)
    ∗ (∃ D, ⌜n % 4 ≠ 0 → D = dkAcc m c n⌝ ∗ owns (c : Thread nD τ) (Memref.whole cc0_scratch1) fullShare D)
    ∗ (∃ D, ⌜n % 4 ≠ 0 → D = dvAcc m c n⌝ ∗ owns (c : Thread nD τ) (Memref.whole cc0_scratch2) fullShare D)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqOut (grid0.coords t) (qAt m c t) (kAt m c t) (vAt m c t) (oAt m c t)
    | ⟨5, _⟩ => truncf .bf16 (dkAcc m c (t.val + 1)) bitsLt_bf16_f32
    | ⟨6, _⟩ => truncf .bf16 (dvAcc m c (t.val + 1)) bitsLt_bf16_f32
  Φ n := PhiS m c n.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = dqOut (grid0.coords t) (qAt m c t) (kAt m c t) (vAt m c t) (oAt m c t) := by dsimp only [dats]
theorem after5 (c : Dev nD) (t : Fin cfg0.N) :
    (dats m 0 c).after 5 t = truncf .bf16 (dkAcc m c (t.val + 1)) bitsLt_bf16_f32 := by dsimp only [dats]
theorem after6 (c : Dev nD) (t : Fin cfg0.N) :
    (dats m 0 c).after 6 t = truncf .bf16 (dvAcc m c (t.val + 1)) bitsLt_bf16_f32 := by dsimp only [dats]
theorem before0 (c : Dev nD) (t : Fin cfg0.N) (d) : (dats m 0 c).before 0 t d = qAt m c t :=
  before0_0_of m (dats m 0 c) (A_eq m c 0) (after0 m c) t d
theorem before1 (c : Dev nD) (t : Fin cfg0.N) (d) : (dats m 0 c).before 1 t d = kAt m c t :=
  before0_1_of m (dats m 0 c) (A_eq m c 1) (after1 m c) t d
theorem before2 (c : Dev nD) (t : Fin cfg0.N) (d) : (dats m 0 c).before 2 t d = vAt m c t :=
  before0_2_of m (dats m 0 c) (A_eq m c 2) (after2 m c) t d
theorem before3 (c : Dev nD) (t : Fin cfg0.N) (d) : (dats m 0 c).before 3 t d = oAt m c t :=
  before0_3_of m (dats m 0 c) (A_eq m c 3) (after3 m c) t d

theorem Phi_eq (c : Dev nD) (n : Fin (cfg0.N + 1)) : (dats m 0 c).Φ n = PhiS m c n.val := by dsimp only [dats]

/-! ## The body at a generic point -/

/-- What a point's body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

/-- An accumulator's output window after a point, from what the body leaves in it. -/
theorem leave5 (c : Dev nD) (t : Fin cfg0.N) (d) :
    owns (c : Thread nD τ) (st0_5 t) fullShare
      (lastOr (F := F) (grid0.coords t) (dkAcc m c (t.val + 1)) ((dats m 0 c).before 5 t d)) ⊢ ((dats m 0 c).leavesExact 5 t : sProp 𝕄) := by
  unfold lastOr
  rw [point_row t]
  by_cases h : t.val % 4 = 3
  · rw [if_pos h]
    have hidle : cfg0.idle 5 (cfg0.grid.coords t) = false := by
      show (!(k0_cond2 (grid0.coords t) == 1#1)) = false
      rw [cond2_true t h]; rfl
    unfold Dat.leavesExact
    rw [hidle]
    exact .rfl
  · rw [if_neg h]
    have hidle : cfg0.idle 5 (cfg0.grid.coords t) = true := by
      show (!(k0_cond2 (grid0.coords t) == 1#1)) = true
      rw [cond2_false t h]; rfl
    rw [Dat.leavesExact_idle _ _ _ hidle (Bool.eq_false_iff.mpr fun hf => h ((flush0_5 t).mp hf))]
    iintro H; iexists d; iexact H

theorem leave6 (c : Dev nD) (t : Fin cfg0.N) (d) :
    owns (c : Thread nD τ) (st0_6 t) fullShare
      (lastOr (F := F) (grid0.coords t) (dvAcc m c (t.val + 1)) ((dats m 0 c).before 6 t d)) ⊢ ((dats m 0 c).leavesExact 6 t : sProp 𝕄) := by
  unfold lastOr
  rw [point_row t]
  by_cases h : t.val % 4 = 3
  · rw [if_pos h]
    have hidle : cfg0.idle 6 (cfg0.grid.coords t) = false := by
      show (!(k0_cond2 (grid0.coords t) == 1#1)) = false
      rw [cond2_true t h]; rfl
    unfold Dat.leavesExact
    rw [hidle]
    exact .rfl
  · rw [if_neg h]
    have hidle : cfg0.idle 6 (cfg0.grid.coords t) = true := by
      show (!(k0_cond2 (grid0.coords t) == 1#1)) = true
      rw [cond2_false t h]; rfl
    rw [Dat.leavesExact_idle _ _ _ hidle (Bool.eq_false_iff.mpr fun hf => h ((flush0_6 t).mp hf))]
    iintro H; iexists d; iexact H

theorem sound_point (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0, before1, before2, before3]
  rw [show (dats m 0 c).owesAt () t.succ = (dats m 0 c).owesAt () t.castSucc from rfl, Phi_eq, Phi_eq, after0, after1, after2, after3, after4]
  unfold PhiS
  iintro ⟨⟨⟨%A, HA⟩, ⟨%D1, %h1, HD1⟩, ⟨%D2, %h2, HD2⟩, Hr⟩, Ho, ⟨%d0, H0⟩, ⟨%d1, H1⟩, ⟨%d2, H2⟩, ⟨%d3, H3⟩, ⟨%d4, H4⟩, ⟨%d5, H5⟩, ⟨%d6, H6⟩⟩
  have e1 : dkNext m c t D1 = dkAcc m c (t.val + 1) := by
    rw [dkAcc_succ]; unfold dkNext; rw [start_eq t D1 _ h1]; rfl
  have e2 : dvNext m c t D2 = dvAcc m c (t.val + 1) := by
    rw [dvAcc_succ]; unfold dvNext; rw [start_eq t D2 _ h2]; rfl
  iapply (wp_wand_r Idealize.ShloMosaic.frame (wpE (defs₀ (F := F)) Variants.none (c : Thread nD τ) none) Set.univ)
  isplitl [HA HD1 HD2 H0 H1 H2 H3 H4 H5 H6]
  · iapply (sound_body c (grid0.coords t) _ _ _ _ _ _ _ _ _ _ _ _ _ _ _ _ _ _ _ _ (qAt m c t) (kAt m c t) (vAt m c t) (oAt m c t)
      ((dats m 0 c).before 4 t d4) ((dats m 0 c).before 5 t d5) ((dats m 0 c).before 6 t d6) A D1 D2 Set.univ)
    isplitl [H0]; · iapply (rep_of_owns (c : Thread nD τ) (st0_0 t) fullShare _); iexact H0
    isplitl [H1]; · iapply (rep_of_owns (c : Thread nD τ) (st0_1 t) fullShare _); iexact H1
    isplitl [H2]; · iapply (rep_of_owns (c : Thread nD τ) (st0_2 t) fullShare _); iexact H2
    isplitl [H3]; · iapply (rep_of_owns (c : Thread nD τ) (st0_3 t) fullShare _); iexact H3
    isplitl [H4]; · iapply (rep_of_owns (c : Thread nD τ) (st0_4 t) fullShare _); iexact H4
    isplitl [H5]; · iapply (rep_of_owns (c : Thread nD τ) (st0_5 t) fullShare _); iexact H5
    isplitl [H6]; · iapply (rep_of_owns (c : Thread nD τ) (st0_6 t) fullShare _); iexact H6
    isplitl [HA]; · iapply (rep_of_owns (c : Thread nD τ) (Memref.whole cc0_scratch0) fullShare _); iexact HA
    isplitl [HD1]; · iapply (rep_of_owns (c : Thread nD τ) (Memref.whole cc0_scratch1) fullShare _); iexact HD1
    iapply (rep_of_owns (c : Thread nD τ) (Memref.whole cc0_scratch2) fullShare _); iexact HD2
  iintro %r ⟨H0, H1, H2, H3, H4, H5, H6, HA, HD1, HD2⟩
  isplitl [HA HD1 HD2 Hr]
  · isplitl [HA]
    · iexists _; iapply (owns_of_rep (c : Thread nD τ) (Memref.whole cc0_scratch0) fullShare _); iexact HA
    isplitl [HD1]
    · iexists (dkNext m c t D1)
      isplitr; · ipureintro; exact fun _ => e1
      iapply (owns_of_rep (c : Thread nD τ) (Memref.whole cc0_scratch1) fullShare _); iexact HD1
    isplitl [HD2]
    · iexists (dvNext m c t D2)
      isplitr; · ipureintro; exact fun _ => e2
      iapply (owns_of_rep (c : Thread nD τ) (Memref.whole cc0_scratch2) fullShare _); iexact HD2
    iexact Hr
  isplitl [Ho]; · iexact Ho
  isplitl [H0]; · iapply (owns_of_rep (c : Thread nD τ) (st0_0 t) fullShare _); iexact H0
  isplitl [H1]; · iapply (owns_of_rep (c : Thread nD τ) (st0_1 t) fullShare _); iexact H1
  isplitl [H2]; · iapply (owns_of_rep (c : Thread nD τ) (st0_2 t) fullShare _); iexact H2
  isplitl [H3]; · iapply (owns_of_rep (c : Thread nD τ) (st0_3 t) fullShare _); iexact H3
  isplitl [H4]; · iexact H4
  isplitl [H5]
  · iapply (leave5 m c t d5); rw [← e1]; iexact H5
  · iapply (leave6 m c t d6); rw [← e2]; iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

/-! ## The launch -/

theorem Phi_in (c : Dev nD) : Pipeline.ΦA spec0 c ⊢ ((dats (F := F) m 0 c).Φ 0 : sProp 𝕄) := by
  rw [Phi_eq]
  unfold Pipeline.ΦA PhiS
  rw [scopedRest0_eq]
  simp only [owns_whole]
  iintro ⟨⟨⟨%f0, H0⟩, ⟨%f1, H1⟩, ⟨%f2, H2⟩⟩, Hr⟩
  isplitl [H0]; · iexists f0; iexact H0
  isplitl [H1]
  · iexists f1
    isplitr; · ipureintro; exact fun h => absurd rfl h
    iexact H1
  isplitl [H2]
  · iexists f2
    isplitr; · ipureintro; exact fun h => absurd rfl h
    iexact H2
  iexact Hr

theorem Phi_out (c : Dev nD) : (dats (F := F) m 0 c).Φ (Fin.last cfg0.N) ⊢ (Pipeline.ΦA spec0 c : sProp 𝕄) := by
  rw [Phi_eq]
  unfold Pipeline.ΦA PhiS
  rw [scopedRest0_eq]
  simp only [owns_whole]
  iintro ⟨⟨%f0, H0⟩, ⟨%f1, %h1, H1⟩, ⟨%f2, %h2, H2⟩, Hr⟩
  isplitr [Hr]
  · isplitl [H0]; · iexists f0; iexact H0
    isplitl [H1]; · iexists f1; iexact H1
    iexists f2; iexact H2
  iexact Hr

set_option backward.isDefEq.respectTransparency.types false in
/-- Every run ends, with the windows' arrays at what the grid's points leave, everything else as found, and every
    semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := Phi_in m) (hout := Phi_out m) (hQ' := fun _ h => h)

/-- The call's frame, for any values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Cert.Proof.Attn

end
-- ==== Proof.Same.lean ====
/-
  The kernel and its idealization are one text: their body tables and their mains are equal.
-/
module

public import proofs.«01_k».proof.Proof.Gen.Kernel
public import proofs.«01_k».proof.Proof.Gen.KernelIdeal

@[expose] public section

set_option maxRecDepth 16384

namespace Cert.Proof

open Idealize.ShloMosaic Idealize.ShloMosaic.TcCoe

variable {F : FTy → Type} [FloatOps F]

theorem defs₀_same : Cert.Kernel.defs₀ (F := F) = Cert.KernelIdeal.defs₀ (F := F) := by
  unfold Cert.Kernel.defs₀ Cert.KernelIdeal.defs₀
  refine congrArg (Defs.onTc (τ := Cert.KernelIdeal.τ) (nD := Cert.KernelIdeal.nD) (sig := Cert.KernelIdeal.sig) (Val := Elt F) (Λ := Cert.KernelIdeal.Λ₀)) ?_
  funext l x
  match l, x with
  | 0, (t, s) => exact rfl

theorem defs_same : Cert.Kernel.defs (F := F) = Cert.KernelIdeal.defs (F := F) := by
  unfold Cert.Kernel.defs Cert.KernelIdeal.defs
  rw [defs₀_same]
  rfl

end Cert.Proof

end
-- ==== Proof.Stick.lean ====
/-
  The gradient of stick-breaking attention for one head, over the reals. `q`, `k`, `v` and `o` (the gradient of the
  attention's output) are read at a row and a column; the rows are 0 to 2047 and the columns 0 to 127. Query `t` sees the
  keys before it, breaks off the fraction `σ (z t s)` of what later keys left, and `da`, `dz` are the gradients that
  follow. The second part cuts the sums over 2048 keys into four blocks of 512.
-/
module

public import Idealize.ShloMosaic.PureOps.Ideal.Laws
public import Mathlib.Algebra.BigOperators.Intervals

@[expose] public section

noncomputable section

namespace Cert.Proof.Stick

open Finset

/-! ## The functions of one number -/

/-- The fraction. -/
def frac (x : ℝ) : ℝ := Real.exp x / (1 + Real.exp x)

/-- The log of the fraction. -/
def logFrac (x : ℝ) : ℝ := -Real.log (1 + Real.exp (-x))

/-- The log of what the fraction leaves. -/
def logKeep (x : ℝ) : ℝ := -Real.log (1 + Real.exp x)

theorem one_add_exp_pos (x : ℝ) : 0 < 1 + Real.exp x := by have := Real.exp_pos x; linarith

/-- `log (1 + exp x)` written without large exponentials. -/
theorem log_one_add_exp (x : ℝ) : Real.log (1 + Real.exp x) = max x 0 + Real.log (1 + Real.exp (-|x|)) := by
  rcases le_total 0 x with h | h
  · rw [max_eq_left h, abs_of_nonneg h]
    have e : 1 + Real.exp x = Real.exp x * (1 + Real.exp (-x)) := by
      rw [mul_add, ← Real.exp_add, add_neg_cancel, Real.exp_zero]; ring
    rw [e, Real.log_mul (Real.exp_pos x).ne' (one_add_exp_pos (-x)).ne', Real.log_exp]
  · rw [max_eq_right h, abs_of_nonpos h, neg_neg, zero_add]

theorem logKeep_eq (x : ℝ) : logKeep x = min (-x) 0 - Real.log (1 + Real.exp (-|x|)) := by
  have h : min (-x) 0 = -max x 0 := by rw [← neg_zero, min_neg_neg, neg_zero]
  rw [logKeep, log_one_add_exp, h]; ring

theorem logFrac_eq (x : ℝ) : logFrac x = min x 0 - Real.log (1 + Real.exp (-|x|)) := by
  have h := logKeep_eq (-x)
  rw [neg_neg, abs_neg] at h
  exact h

theorem frac_eq (x : ℝ) : frac x = (if 0 ≤ x then 1 else Real.exp (-|x|)) / (1 + Real.exp (-|x|)) := by
  by_cases h : 0 ≤ x
  · rw [if_pos h, abs_of_nonneg h, frac, Real.exp_neg]
    have := Real.exp_pos x
    field_simp
    ring
  · rw [if_neg h, abs_of_neg (lt_of_not_ge h), neg_neg, frac]

/-- The derivative of `log (1 + exp x)` is the fraction. -/
theorem exp_sub_log (x : ℝ) : Real.exp (x - Real.log (1 + Real.exp x)) = frac x := by
  rw [Real.exp_sub, Real.exp_log (one_add_exp_pos x), frac]

theorem frac_neg (x : ℝ) : frac (-x) = 1 - frac x := by
  rw [frac, frac, Real.exp_neg]
  have := Real.exp_pos x
  field_simp
  ring

/-! ## One head -/

variable (c : ℝ) (q k v o : ℕ → ℕ → ℝ)

/-- The score of query `t` against key `s`. -/
def z (t s : ℕ) : ℝ := (∑ d ∈ range 128, q t d * k s d) * c

/-- The log of what key `s` leaves, for the keys before the query. -/
def rest (t s : ℕ) : ℝ := if s < t then logKeep (z c q k t s) else 0

/-- The attention weight. -/
def att (t s : ℕ) : ℝ :=
  if s < t then Real.exp (logFrac (z c q k t s) + ∑ j ∈ Ico (s + 1) 2048, rest c q k t j) else 0

/-- The gradient of the log of the weight. -/
def wg (t s : ℕ) : ℝ := (∑ d ∈ range 128, o t d * v s d) * att c q k t s

/-- The gradient of the unscaled score. -/
def sg (t s : ℕ) : ℝ :=
  (if s < t then wg c q k v o t s * (1 - frac (z c q k t s)) - frac (z c q k t s) * ∑ j ∈ range s, wg c q k v o t j else 0) * c

/-- The gradient of `q`. -/
def dq (t d : ℕ) : ℝ := ∑ s ∈ range 2048, sg c q k v o t s * k s d

/-- The gradient of `k`. -/
def dk (s d : ℕ) : ℝ := ∑ t ∈ range 2048, sg c q k v o t s * q t d

/-- The gradient of `v`. -/
def dv (s d : ℕ) : ℝ := ∑ t ∈ range 2048, att c q k t s * o t d

variable {c q k v o}

theorem rest_off {t s : ℕ} (h : t ≤ s) : rest c q k t s = 0 := if_neg (Nat.not_lt.mpr h)
theorem att_off {t s : ℕ} (h : t ≤ s) : att c q k t s = 0 := if_neg (Nat.not_lt.mpr h)
theorem sg_off {t s : ℕ} (h : t ≤ s) : sg c q k v o t s = 0 := by rw [sg, if_neg (Nat.not_lt.mpr h), zero_mul]

/-! ## Sums in blocks of 512 -/

/-- A block's part of a sum. -/
theorem sum_block (f : ℕ → ℝ) (n : ℕ) : ∑ j ∈ range (512 * n), f j + ∑ x : Fin 512, f (512 * n + x.val) = ∑ j ∈ range (512 * (n + 1)), f j := by
  rw [← Finset.sum_range (fun x => f (512 * n + x)), ← Finset.sum_range_add]
  exact rfl

/-- The part of a block before its element `y`. -/
theorem sum_before (f : ℕ → ℝ) (n : ℕ) (y : Fin 512) :
    ∑ j ∈ range (512 * n), f j + ∑ x : Fin 512, f (512 * n + x.val) * (if x.val < y.val then 1 else 0) = ∑ j ∈ range (512 * n + y.val), f j := by
  have e : ∑ x : Fin 512, f (512 * n + x.val) * (if x.val < y.val then 1 else 0) = ∑ x ∈ range y.val, f (512 * n + x) := by
    rw [← Finset.sum_range (fun x => f (512 * n + x) * (if x < y.val then 1 else 0))]
    simp only [mul_ite, mul_one, mul_zero]
    rw [← Finset.sum_filter]
    congr 1
    ext x
    have := y.isLt
    simp only [mem_filter, mem_range]
    omega
  rw [e, ← Finset.sum_range_add]

/-- The part of a block after its element `y`. -/
theorem sum_after (f : ℕ → ℝ) (n N : ℕ) (hN : 512 * (n + 1) ≤ N) (y : Fin 512) :
    ∑ j ∈ Ico (512 * (n + 1)) N, f j + ∑ x : Fin 512, f (512 * n + x.val) * (if y.val < x.val then 1 else 0)
      = ∑ j ∈ Ico (512 * n + y.val + 1) N, f j := by
  have hy := y.isLt
  have e : ∑ x : Fin 512, f (512 * n + x.val) * (if y.val < x.val then 1 else 0) = ∑ j ∈ Ico (512 * n + y.val + 1) (512 * (n + 1)), f j := by
    rw [← Finset.sum_range (fun x => f (512 * n + x) * (if y.val < x then 1 else 0))]
    simp only [mul_ite, mul_one, mul_zero]
    rw [← Finset.sum_filter, show 512 * n + y.val + 1 = (y.val + 1) + 512 * n by ring, show 512 * (n + 1) = 512 + 512 * n by ring,
      ← Finset.sum_Ico_add' f (y.val + 1) 512 (512 * n)]
    refine Finset.sum_congr ?_ fun x _ => by rw [Nat.add_comm]
    ext x
    simp only [mem_filter, mem_range, mem_Ico]
    omega
  rw [e, add_comm, Finset.sum_Ico_consecutive f (by omega) hN]

/-- A block added to the part above it. -/
theorem sum_above {R : Type} [AddCommMonoid R] (f : ℕ → R) (n N : ℕ) (hN : 512 * (n + 1) ≤ N) :
    ∑ j ∈ Ico (512 * (n + 1)) N, f j + ∑ x : Fin 512, f (512 * n + x.val) = ∑ j ∈ Ico (512 * n) N, f j := by
  have e : ∑ x : Fin 512, f (512 * n + x.val) = ∑ j ∈ Ico (512 * n) (512 * (n + 1)), f j := by
    rw [← Finset.sum_range (fun x => f (512 * n + x)), Finset.sum_Ico_eq_sum_range]
    exact Finset.sum_congr (by congr 1; omega) fun _ _ => rfl
  rw [e, add_comm, Finset.sum_Ico_consecutive f (by omega) hN]

/-- Sums whose terms are zero from `M` on. -/
theorem sum_Ico_trim {R : Type} [AddCommMonoid R] (f : ℕ → R) {a M N : ℕ} (h : M ≤ N) (hz : ∀ j, M ≤ j → f j = 0) : ∑ j ∈ Ico a N, f j = ∑ j ∈ Ico a M, f j := by
  refine (Finset.sum_subset (Finset.Ico_subset_Ico_right h) fun j hj hn => hz j ?_).symm
  simp only [mem_Ico] at hj hn
  omega

theorem sum_range_trim {R : Type} [AddCommMonoid R] (f : ℕ → R) {M N : ℕ} (h : M ≤ N) (hz : ∀ j, M ≤ j → f j = 0) : ∑ j ∈ range N, f j = ∑ j ∈ range M, f j := by
  rw [Finset.range_eq_Ico, Finset.range_eq_Ico]; exact sum_Ico_trim f h hz

/-- Sums whose terms are zero below `M`. -/
theorem sum_range_skip (f : ℕ → ℝ) {M : ℕ} (hz : ∀ j, j < M → f j = 0) : ∑ j ∈ range M, f j = 0 :=
  Finset.sum_eq_zero fun j hj => hz j (mem_range.mp hj)

end Cert.Proof.Stick

end
-- ==== Proof.Num.lean ====
/-
  The extended reals' operations on finite values: sums, products, the log term and the fraction of a score.
-/
module

public import proofs.«01_k».proof.Proof.Stick
public import Idealize.ShloMosaic.Lib.Pointwise

@[expose] public section

set_option maxRecDepth 16384

noncomputable section

namespace Cert.Proof.Num

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of finite products. -/
theorem dot_coe {ι : Type} (s : Finset ι) (f g : ι → ℝ) : ∑ i ∈ s, (f i : EReal) * (g i : EReal) = ((∑ i ∈ s, f i * g i : ℝ) : EReal) := by
  rw [coe_sum]; exact Finset.sum_congr rfl fun i _ => (EReal.coe_mul _ _).symm

/-- The word of the scale of the scores. -/
def scale : ℝ := (Ideal.ofBits .f32 0x3DB504F3#32).toReal

theorem ofBits_scale : Ideal.ofBits .f32 0x3DB504F3#32 = (scale : EReal) := by
  have h : ∃ r : ℝ, Ideal.ofBits .f32 0x3DB504F3#32 = (r : EReal) := ⟨_, by
    unfold Ideal.ofBits Ideal.ieee
    simp only []
    rw [if_neg (by decide), if_neg (by decide)]⟩
  obtain ⟨r, hr⟩ := h
  rw [scale, hr, EReal.toReal_coe]

theorem ofBits_one : Ideal.ofBits .f32 0x3F800000#32 = 1 := by
  simp [Ideal.ofBits, Ideal.ieee]; rw [← EReal.coe_mul]; norm_num

theorem ofBits_inf : Ideal.ofBits .f32 0x7F800000#32 = ⊤ := by
  simp [Ideal.ofBits, Ideal.ieee]

theorem abs_coe (x : ℝ) : max (x : EReal) (-(x : EReal)) = ((|x| : ℝ) : EReal) := by
  rw [← EReal.coe_neg, ← EReal.coe_strictMono.monotone.map_max]; rfl

theorem min_coe (x y : ℝ) : min (x : EReal) (y : EReal) = ((min x y : ℝ) : EReal) :=
  (EReal.coe_strictMono.monotone.map_min).symm

theorem max_coe (x y : ℝ) : max (x : EReal) (y : EReal) = ((max x y : ℝ) : EReal) :=
  (EReal.coe_strictMono.monotone.map_max).symm

theorem log_one_add_coe (x : ℝ) : Ideal.log (1 + (Real.exp x : EReal)) = ((Real.log (1 + Real.exp x) : ℝ) : EReal) := by
  have h := Stick.one_add_exp_pos x
  rw [← EReal.coe_one, ← EReal.coe_add, Ideal.log_coe, if_neg (not_le.mpr h)]

theorem div_coe_coe (x : ℝ) {y : ℝ} (h : y ≠ 0) : Ideal.div (x : EReal) (y : EReal) = ((x / y : ℝ) : EReal) := by
  rw [Ideal.div_coe h, ← EReal.coe_mul, mul_one_div]

/-- A value below infinity in absolute value is a real. -/
theorem real_of_lt {x : EReal} (h : max x (-x) < ⊤) : ((x.toReal : ℝ) : EReal) = x := by
  refine EReal.coe_toReal (fun hx => ?_) (fun hx => ?_)
  · rw [hx] at h; exact absurd h (by simp)
  · rw [hx] at h; exact absurd h (by simp)

/-! ## Masks -/

/-- A one-bit word of a proposition. -/
theorem select_one {p : Prop} [Decidable p] {w : BitVec 1} (h : w = if p then 1#1 else 0#1) (x y : EReal) :
    Scalar.select w x y = if p then x else y := by
  rw [h]; by_cases hp : p
  · rw [if_pos hp, if_pos hp]; rfl
  · rw [if_neg hp, if_neg hp]; rfl

/-- A small word as an integer. -/
theorem toInt_small {n : ℕ} (h : n < 2048) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- Two small words compare as their numbers do. -/
theorem slt_small {a b : ℕ} (ha : a < 2048) (hb : b < 2048) :
    IntOp.cmpi CmpIPredicate.slt (BitVec.ofNat 32 a) (BitVec.ofNat 32 b) = if a < b then 1#1 else 0#1 := by
  have h : (BitVec.ofNat 32 a).slt (BitVec.ofNat 32 b) = decide (a < b) := by
    rw [BitVec.slt, toInt_small ha, toInt_small hb]
    exact decide_eq_decide.mpr (by omega)
  show BitVec.ofBool _ = _
  rw [h]
  by_cases hab : a < b
  · rw [if_pos hab, decide_eq_true hab]; rfl
  · rw [if_neg hab, decide_eq_false hab]; rfl

end Cert.Proof.Num

end
-- ==== Proof.BlockValue.lean ====
/-
  One block against one block, on finite values: each function of the blocks is the coercion of a function over the reals.
-/
module

public import proofs.«01_k».proof.Proof.Num
public import proofs.«01_k».proof.Proof.Steps

@[expose] public section

set_option maxRecDepth 16384

noncomputable section

namespace Cert.Proof.Attn

open Cert.KernelIdeal Cert.KernelIdeal.Gen
open Idealize.ShloMosaic
open Cert.Proof.Num

theorem mask_val (i : grid0.Coords) (kb : Fin 4) (r c : Fin 512) :
    mask i kb (ix2 r c) = if 512 * kb.val + c.val < 512 * (i 1).val + r.val then 1#1 else 0#1 := by
  have hi : (i 1).val < 4 := (i 1).isLt
  have hk := kb.isLt
  have hr := r.isLt
  have hc := c.isLt
  have h : mask i kb (ix2 r c) = IntOp.cmpi CmpIPredicate.slt (IntOp.addi (BitVec.ofNat 32 (512 * kb.val)) (BitVec.ofNat 32 c.val))
      (IntOp.addi (Scalar.muli (BitVec.ofNat 32 (i 1).val) 512#32) (BitVec.ofNat 32 r.val)) := by
    pointwise [mask, k0_pay83]
  have e1 : IntOp.addi (BitVec.ofNat 32 (512 * kb.val)) (BitVec.ofNat 32 c.val) = BitVec.ofNat 32 (512 * kb.val + c.val) :=
    (BitVec.ofNat_add _ _).symm
  have e2 : IntOp.addi (Scalar.muli (BitVec.ofNat 32 (i 1).val) 512#32) (BitVec.ofNat 32 r.val) = BitVec.ofNat 32 (512 * (i 1).val + r.val) := by
    rw [BitVec.ofNat_add, Nat.mul_comm 512, BitVec.ofNat_mul]; rfl
  rw [h, e1, e2, slt_small (by omega) (by omega)]

theorem sitofp_one {p : Prop} [Decidable p] {w : BitVec 1} (h : w = if p then 1#1 else 0#1) :
    (FloatOps.sitofp (F := Ideal) FTy.f32 (BitVec.setWidth 32 w) : EReal) = ((if p then 1 else 0 : ℝ) : EReal) := by
  rw [h]; by_cases hp : p
  · rw [if_pos hp, if_pos hp]
    show (((BitVec.setWidth 32 1#1).toInt : ℝ) : EReal) = _
    rw [show (BitVec.setWidth 32 1#1).toInt = 1 by decide]; norm_num
  · rw [if_neg hp, if_neg hp]
    show (((BitVec.setWidth 32 0#1).toInt : ℝ) : EReal) = _
    rw [show (BitVec.setWidth 32 0#1).toInt = 0 by decide]; norm_num

/-- The matrix that sums what comes after a column. -/
theorem after_val (r c : Fin 512) : (k0_pay77 (F := Ideal) (ix2 r c) : EReal) = ((if c.val < r.val then 1 else 0 : ℝ) : EReal) := by
  have h : (k0_pay77 (F := Ideal) (ix2 r c) : EReal)
      = FloatOps.sitofp (F := Ideal) FTy.f32 (BitVec.setWidth 32 (IntOp.cmpi CmpIPredicate.slt (BitVec.ofNat 32 c.val) (BitVec.ofNat 32 r.val))) := by
    pointwise [k0_pay77]
    rfl
  rw [h]
  exact sitofp_one (slt_small (by omega) (by omega))

/-- The matrix that sums what comes before a column. -/
theorem before_val (r c : Fin 512) : (k0_pay78 (F := Ideal) (ix2 r c) : EReal) = ((if r.val < c.val then 1 else 0 : ℝ) : EReal) := by
  have h : (k0_pay78 (F := Ideal) (ix2 r c) : EReal)
      = FloatOps.sitofp (F := Ideal) FTy.f32 (BitVec.setWidth 32 (IntOp.cmpi CmpIPredicate.slt (BitVec.ofNat 32 r.val) (BitVec.ofNat 32 c.val))) := by
    pointwise [k0_pay78]
  rw [h]
  exact sitofp_one (slt_small (by omega) (by omega))

section Ops

variable (q k : FVec Ideal S512x128 .bf16) (qf kf : Fin 512 → Fin 128 → ℝ) (r c : Fin 512)

theorem score_val (hq : ∀ d : Fin 128, q (ix2 r d) = (qf r d : EReal)) (hk : ∀ d : Fin 128, k (ix2 c d) = (kf c d : EReal)) :
    score (F := Ideal) q k (ix2 r c) = (((∑ d : Fin 128, qf r d * kf c d) * scale : ℝ) : EReal) := by
  pointwise [score, cst, hq, hk]
  rw [ofBits_scale, dot_coe, EReal.coe_mul]

variable (z : FVec Ideal S512x512 .f32) (m : IVec S512x512 1) {x : ℝ} {p : Prop} [Decidable p]

theorem logTerm_val (hz : z (ix2 r c) = (x : EReal)) : logTerm (F := Ideal) z (ix2 r c) = ((Real.log (1 + Real.exp (-|x|)) : ℝ) : EReal) := by
  pointwise [logTerm, cst, hz]
  rw [Ideal.absf_def, abs_coe, zero_sub, ← EReal.coe_neg, Ideal.exp_coe, log_one_add_coe]

theorem logBeta_val (hz : z (ix2 r c) = (x : EReal)) : logBeta (F := Ideal) z (ix2 r c) = ((Stick.logFrac x : ℝ) : EReal) := by
  have h := logTerm_val r c z hz
  pointwise [logBeta, cst, hz, h]
  rw [← EReal.coe_zero, min_coe, ← EReal.coe_sub, ← Stick.logFrac_eq]

theorem logRest_val (hm : m (ix2 r c) = if p then 1#1 else 0#1) (hz : z (ix2 r c) = (x : EReal)) :
    logRest (F := Ideal) m z (ix2 r c) = ((if p then Stick.logKeep x else 0 : ℝ) : EReal) := by
  have h := logTerm_val r c z hz
  have e : logRest (F := Ideal) m z (ix2 r c) = Scalar.select (m (ix2 r c)) (min (0 - z (ix2 r c)) 0 - logTerm (F := Ideal) z (ix2 r c)) 0 := by
    pointwise [logRest, cst]
  rw [e, select_one hm, hz, h, zero_sub, ← EReal.coe_neg, ← EReal.coe_zero, min_coe, ← EReal.coe_sub, ← Stick.logKeep_eq]
  by_cases hp : p
  · rw [if_pos hp, if_pos hp]
  · rw [if_neg hp, if_neg hp]

/-- On finite values the middle and the low part are zero. -/
theorem split3_val (y : FVec Ideal S512x512 .f32) (t : FVec Ideal S512x512 .bf16) (f g : Fin 512 → ℝ)
    (hx : ∀ a : Fin 512, y (ix2 r a) = (f a : EReal)) (ht : ∀ a : Fin 512, t (ix2 a c) = (g a : EReal)) :
    split3 (F := Ideal) y t (ix2 r c) = ((∑ a : Fin 512, f a * g a : ℝ) : EReal) := by
  pointwise [split3, hx, ht]
  have e : ∀ a : Fin 512, ((f a : EReal) - (f a : EReal)) = 0 := fun a => by rw [← EReal.coe_sub, sub_self, EReal.coe_zero]
  simp only [e, sub_zero, zero_mul, Finset.sum_const_zero, add_zero]
  exact dot_coe _ _ _

theorem attn_val (t : FVec Ideal S512x1 .f32) (u : ℝ) (f : Fin 512 → ℝ) (hm : m (ix2 r c) = if p then 1#1 else 0#1)
    (ht : t (ix2 r 0) = (u : EReal)) (hz : z (ix2 r c) = (x : EReal)) (hl : ∀ a : Fin 512, logRest (F := Ideal) m z (ix2 r a) = (f a : EReal)) :
    attn (F := Ideal) m t z (ix2 r c)
      = ((if p then Real.exp (Stick.logFrac x + (u + ∑ a : Fin 512, f a * (if c.val < a.val then 1 else 0))) else 0 : ℝ) : EReal) := by
  have hb := logBeta_val r c z hz
  have hs := split3_val r c (logRest (F := Ideal) m z) (k0_pay77 (F := Ideal)) f (fun a => if c.val < a.val then 1 else 0) hl (fun a => after_val a c)
  have e : attn (F := Ideal) m t z (ix2 r c) = Scalar.select (m (ix2 r c))
      (Ideal.exp (logBeta (F := Ideal) z (ix2 r c) + t (ix2 r 0) + split3 (F := Ideal) (logRest (F := Ideal) m z) (k0_pay77 (F := Ideal)) (ix2 r c))) 0 := by
    pointwise [attn, cst]
  rw [e, select_one hm, hb, ht, hs, ← EReal.coe_add, ← EReal.coe_add, Ideal.exp_coe, add_assoc]
  by_cases hp : p
  · rw [if_pos hp, if_pos hp]
  · rw [if_neg hp, if_neg hp, EReal.coe_zero]

theorem rowAdd_val (t : FVec Ideal S512x1 .f32) (u : ℝ) (y : FVec Ideal S512x512 .f32) (f : Fin 512 → ℝ)
    (ht : t (ix2 r 0) = (u : EReal)) (hy : ∀ a : Fin 512, y (ix2 r a) = (f a : EReal)) :
    rowAdd (F := Ideal) t y (ix2 r 0) = ((u + ∑ a : Fin 512, f a : ℝ) : EReal) := by
  pointwise [rowAdd, ht, hy]
  rw [EReal.coe_add, coe_sum]

theorem beta_val (hz : z (ix2 r c) = (x : EReal)) : beta (F := Ideal) z (ix2 r c) = ((Stick.frac x : ℝ) : EReal) := by
  pointwise [beta, cst, hz]
  have h := Stick.one_add_exp_pos (-|x|)
  rw [Ideal.absf_def, abs_coe, zero_sub, ← EReal.coe_neg, Ideal.exp_coe, Stick.frac_eq, ← div_coe_coe _ h.ne', EReal.coe_add, EReal.coe_one]
  have e : (0 ≤ (x : EReal)) = (0 ≤ x) := by rw [← EReal.coe_zero, EReal.coe_le_coe_iff]
  simp only [e]
  by_cases hx : 0 ≤ x
  · rw [if_pos hx, if_pos hx, EReal.coe_one]
  · rw [if_neg hx, if_neg hx]

theorem wgrad_val (o : FVec Ideal S512x128 .f32) (v : FVec Ideal S512x128 .bf16) (a : FVec Ideal S512x512 .f32) (of vf : Fin 512 → Fin 128 → ℝ)
    (ho : ∀ d : Fin 128, o (ix2 r d) = (of r d : EReal)) (hv : ∀ d : Fin 128, v (ix2 c d) = (vf c d : EReal)) (ha : a (ix2 r c) = (x : EReal)) :
    wgrad (F := Ideal) o v a (ix2 r c) = (((∑ d : Fin 128, of r d * vf c d) * x : ℝ) : EReal) := by
  pointwise [wgrad, ho, hv, ha]
  rw [dot_coe, EReal.coe_mul]

theorem sgrad_val (h : FVec Ideal S512x1 .f32) (b w : FVec Ideal S512x512 .f32) (u β : ℝ) (f : Fin 512 → ℝ)
    (hm : m (ix2 r c) = if p then 1#1 else 0#1) (hh : h (ix2 r 0) = (u : EReal)) (hb : b (ix2 r c) = (β : EReal))
    (hw : ∀ a : Fin 512, w (ix2 r a) = (f a : EReal)) :
    sgrad (F := Ideal) m h b w (ix2 r c)
      = (((if p then f c * (1 - β) - β * (u + ∑ a : Fin 512, f a * (if a.val < c.val then 1 else 0)) else 0) * scale : ℝ) : EReal) := by
  have hs := split3_val r c w (k0_pay78 (F := Ideal)) f (fun a => if a.val < c.val then 1 else 0) hw (fun a => before_val a c)
  have e : sgrad (F := Ideal) m h b w (ix2 r c) = Scalar.select (m (ix2 r c))
      ((w (ix2 r c) * (1 - b (ix2 r c)) - b (ix2 r c) * (h (ix2 r 0) + split3 (F := Ideal) w (k0_pay78 (F := Ideal)) (ix2 r c)))
        * Ideal.ofBits FTy.f32 0x3DB504F3#32) 0 := by
    pointwise [sgrad, cst]
  rw [e, select_one hm, hs, hw, hb, hh, ofBits_scale]
  by_cases hp : p
  · rw [if_pos hp, if_pos hp]
    push_cast
    rfl
  · rw [if_neg hp, if_neg hp, zero_mul, EReal.coe_zero]

end Ops

/-- A gradient block after one more block of rows. -/
theorem dvAdd_val (o : FVec Ideal S512x128 .f32) (a : FVec Ideal S512x512 .f32) (d : FVec Ideal S512x128 .f32) (c : Fin 512) (e : Fin 128)
    (u : ℝ) (f g : Fin 512 → ℝ) (hd : d (ix2 c e) = (u : EReal)) (ha : ∀ r : Fin 512, a (ix2 r c) = (f r : EReal))
    (ho : ∀ r : Fin 512, o (ix2 r e) = (g r : EReal)) :
    dvAdd (F := Ideal) o a d (ix2 c e) = ((u + ∑ r : Fin 512, f r * g r : ℝ) : EReal) := by
  pointwise [dvAdd, hd, ha, ho]
  rw [dot_coe, EReal.coe_add]

theorem dkAdd_val (s : FVec Ideal S512x512 .bf16) (q : FVec Ideal S512x128 .bf16) (d : FVec Ideal S512x128 .f32) (c : Fin 512) (e : Fin 128)
    (u : ℝ) (f g : Fin 512 → ℝ) (hd : d (ix2 c e) = (u : EReal)) (hs : ∀ r : Fin 512, s (ix2 r c) = (f r : EReal))
    (hq : ∀ r : Fin 512, q (ix2 r e) = (g r : EReal)) :
    dkAdd (F := Ideal) s q d (ix2 c e) = ((u + ∑ r : Fin 512, f r * g r : ℝ) : EReal) := by
  pointwise [dkAdd, hd, hs, hq]
  rw [dot_coe, EReal.coe_add]

theorem dqAdd_val (s : FVec Ideal S512x512 .bf16) (k : FVec Ideal S512x128 .bf16) (d : FVec Ideal S512x128 .f32) (r : Fin 512) (e : Fin 128)
    (u : ℝ) (f g : Fin 512 → ℝ) (hd : d (ix2 r e) = (u : EReal)) (hs : ∀ c : Fin 512, s (ix2 r c) = (f c : EReal))
    (hk : ∀ c : Fin 512, k (ix2 c e) = (g c : EReal)) :
    dqAdd (F := Ideal) s k d (ix2 r e) = ((u + ∑ c : Fin 512, f c * g c : ℝ) : EReal) := by
  pointwise [dqAdd, hd, hs, hk]
  rw [dot_coe, EReal.coe_add]

end Cert.Proof.Attn

end
-- ==== Proof.StepValue.lean ====
/-
  What a grid step computes from finite blocks: the tails, the attention blocks, the heads and the three gradients, each
  the real function of `Stick` at the step's rows.
-/
module

public import proofs.«01_k».proof.Proof.BlockValue

@[expose] public section

set_option maxRecDepth 16384

noncomputable section

namespace Cert.Proof.Attn

open Cert.KernelIdeal Cert.KernelIdeal.Gen
open Idealize.ShloMosaic
open Cert.Proof.Num
open Finset

/-- Head `j` of a pair. -/
def hd (f : ℕ → ℕ → ℝ) (j : ℕ) : ℕ → ℕ → ℝ := fun t d => f t (128 * j + d)

variable (i : grid0.Coords) (Q : FVec Ideal S512x256 .bf16) (K V : FVec Ideal S2048x256 .bf16) (O : FVec Ideal S512x256 .f32)
variable (qf kf vf of : ℕ → ℕ → ℝ)

/-- The blocks hold these reals. -/
structure Reads : Prop where
  q : ∀ (r : Fin 512) (e : Fin 256), Q (ix2 r e) = (qf (512 * (i 1).val + r.val) e.val : EReal)
  k : ∀ (s : Fin 2048) (e : Fin 256), K (ix2 s e) = (kf s.val e.val : EReal)
  v : ∀ (s : Fin 2048) (e : Fin 256), V (ix2 s e) = (vf s.val e.val : EReal)
  o : ∀ (r : Fin 512) (e : Fin 256), O (ix2 r e) = (of (512 * (i 1).val + r.val) e.val : EReal)

variable {i Q K V O qf kf vf of}

section

variable (H : Reads i Q K V O qf kf vf of) (j : Fin 2)
include H

theorem qcol_val (r : Fin 512) (d : Fin 128) : hcol Q j (ix2 r d) = (hd qf j.val (512 * (i 1).val + r.val) d.val : EReal) := H.q _ _
theorem ocol_val (r : Fin 512) (d : Fin 128) : hcol O j (ix2 r d) = (hd of j.val (512 * (i 1).val + r.val) d.val : EReal) := H.o _ _
theorem kblk_val (kb : Fin 4) (c : Fin 512) (d : Fin 128) : blk K kb j (ix2 c d) = (hd kf j.val (512 * kb.val + c.val) d.val : EReal) := H.k _ _
theorem vblk_val (kb : Fin 4) (c : Fin 512) (d : Fin 128) : blk V kb j (ix2 c d) = (hd vf j.val (512 * kb.val + c.val) d.val : EReal) := H.v _ _

theorem zB_val (kb : Fin 4) (r c : Fin 512) :
    zB (F := Ideal) Q K j kb (ix2 r c) = (Stick.z scale (hd qf j.val) (hd kf j.val) (512 * (i 1).val + r.val) (512 * kb.val + c.val) : EReal) := by
  have h := score_val (hcol Q j) (blk K kb j) (fun r d => hd qf j.val (512 * (i 1).val + r.val) d.val)
    (fun c d => hd kf j.val (512 * kb.val + c.val) d.val) r c (fun d => qcol_val H j r d) (fun d => kblk_val H j kb c d)
  refine h.trans ?_
  rw [Stick.z, Finset.sum_range]

theorem logRestB_val (kb : Fin 4) (r c : Fin 512) :
    logRest (F := Ideal) (mask i kb) (zB (F := Ideal) Q K j kb) (ix2 r c)
      = (Stick.rest scale (hd qf j.val) (hd kf j.val) (512 * (i 1).val + r.val) (512 * kb.val + c.val) : EReal) :=
  logRest_val r c _ _ (mask_val i kb r c) (zB_val H j kb r c)

theorem tail_val : ∀ n : ℕ, n ≤ (i 1).val + 1 → ∀ r : Fin 512,
    tail (F := Ideal) i Q K j n (ix2 r 0)
      = ((∑ s ∈ Ico (512 * ((i 1).val + 1 - n)) (512 * ((i 1).val + 1)), Stick.rest scale (hd qf j.val) (hd kf j.val) (512 * (i 1).val + r.val) s : ℝ) : EReal)
  | 0, _, r => by
    rw [Nat.sub_zero, Finset.Ico_self, Finset.sum_empty, EReal.coe_zero]
    exact Ideal.ofBits_zero_f32
  | n + 1, hn, r => by
    have h := rowAdd_val r (tail (F := Ideal) i Q K j n) _ (logRest (F := Ideal) (mask i (kbOf i n)) (zB (F := Ideal) Q K j (kbOf i n))) _
      (tail_val n (by omega) r) (fun a => logRestB_val H j (kbOf i n) r a)
    refine h.trans (congrArg _ ?_)
    have e : (i 1).val + 1 - n = ((i 1).val - n) + 1 := by omega
    rw [e, show (i 1).val + 1 - (n + 1) = (i 1).val - n by omega]
    exact Stick.sum_above (fun s => Stick.rest scale (hd qf j.val) (hd kf j.val) (512 * (i 1).val + r.val) s) ((i 1).val - n) (512 * ((i 1).val + 1)) (by omega)

theorem aB_val (n : ℕ) (hn : n ≤ (i 1).val) (r c : Fin 512) :
    aB (F := Ideal) i Q K j n (ix2 r c)
      = (Stick.att scale (hd qf j.val) (hd kf j.val) (512 * (i 1).val + r.val) (512 * ((i 1).val - n) + c.val) : EReal) := by
  have hr := r.isLt
  have hi : (i 1).val < 4 := (i 1).isLt
  have h := attn_val r c (zB (F := Ideal) Q K j (kbOf i n)) (mask i (kbOf i n)) (tail (F := Ideal) i Q K j n) _ _
    (mask_val i (kbOf i n) r c) (tail_val H j n (by omega) r) (zB_val H j (kbOf i n) r c) (fun a => logRestB_val H j (kbOf i n) r a)
  refine h.trans (congrArg _ ?_)
  rw [show (kbOf i n).val = (i 1).val - n from rfl, Stick.att]
  have e : (i 1).val + 1 - n = ((i 1).val - n) + 1 := by omega
  rw [e, Stick.sum_after (fun s => Stick.rest scale (hd qf j.val) (hd kf j.val) (512 * (i 1).val + r.val) s) ((i 1).val - n) (512 * ((i 1).val + 1)) (by omega) c,
    Stick.sum_Ico_trim _ (M := 512 * ((i 1).val + 1)) (N := 2048) (by omega) (fun s hs => Stick.rest_off (by omega))]

theorem abOf_val (kb : Fin 4) (hk : kb.val ≤ (i 1).val) (r c : Fin 512) :
    abOf (F := Ideal) i Q K j kb (ix2 r c)
      = (Stick.att scale (hd qf j.val) (hd kf j.val) (512 * (i 1).val + r.val) (512 * kb.val + c.val) : EReal) := by
  have h := aB_val H j ((i 1).val - kb.val) (by omega) r c
  rw [show (i 1).val - ((i 1).val - kb.val) = kb.val by omega] at h
  exact h

theorem wB_val (kb : Fin 4) (hk : kb.val ≤ (i 1).val) (r c : Fin 512) :
    wB (F := Ideal) V O (abOf (F := Ideal) i Q K) j kb (ix2 r c)
      = (Stick.wg scale (hd qf j.val) (hd kf j.val) (hd vf j.val) (hd of j.val) (512 * (i 1).val + r.val) (512 * kb.val + c.val) : EReal) := by
  have h := wgrad_val r c (hcol O j) (blk V kb j) (abOf (F := Ideal) i Q K j kb) (fun r d => hd of j.val (512 * (i 1).val + r.val) d.val)
    (fun c d => hd vf j.val (512 * kb.val + c.val) d.val) (fun d => ocol_val H j r d) (fun d => vblk_val H j kb c d) (abOf_val H j kb hk r c)
  refine h.trans (congrArg _ ?_)
  rw [Stick.wg, Finset.sum_range]

theorem headSum_val : ∀ n : ℕ, n ≤ (i 1).val + 1 → ∀ r : Fin 512,
    headSum (F := Ideal) V O (abOf (F := Ideal) i Q K) j n (ix2 r 0)
      = ((∑ s ∈ range (512 * n), Stick.wg scale (hd qf j.val) (hd kf j.val) (hd vf j.val) (hd of j.val) (512 * (i 1).val + r.val) s : ℝ) : EReal)
  | 0, _, r => by
    rw [Nat.mul_zero, Finset.range_zero, Finset.sum_empty, EReal.coe_zero]
    exact Ideal.ofBits_zero_f32
  | n + 1, hn, r => by
    have hi : (i 1).val < 4 := (i 1).isLt
    have hk : (kbUp n).val = n := Nat.mod_eq_of_lt (by omega)
    have h := rowAdd_val r (headSum (F := Ideal) V O (abOf (F := Ideal) i Q K) j n) _ (wB (F := Ideal) V O (abOf (F := Ideal) i Q K) j (kbUp n)) _
      (headSum_val n (by omega) r) (fun a => wB_val H j (kbUp n) (by omega) r a)
    refine h.trans (congrArg _ ?_)
    rw [hk]
    exact Stick.sum_block (fun s => Stick.wg scale (hd qf j.val) (hd kf j.val) (hd vf j.val) (hd of j.val) (512 * (i 1).val + r.val) s) n

theorem sB_val (n : ℕ) (hn : n ≤ (i 1).val) (r c : Fin 512) :
    sB (F := Ideal) i Q K V O (abOf (F := Ideal) i Q K) j n (ix2 r c)
      = (Stick.sg scale (hd qf j.val) (hd kf j.val) (hd vf j.val) (hd of j.val) (512 * (i 1).val + r.val) (512 * n + c.val) : EReal) := by
  have hi : (i 1).val < 4 := (i 1).isLt
  have hk : (kbUp n).val = n := Nat.mod_eq_of_lt (by omega)
  have h := sgrad_val r c (mask i (kbUp n)) (headSum (F := Ideal) V O (abOf (F := Ideal) i Q K) j n) (beta (F := Ideal) (zB (F := Ideal) Q K j (kbUp n)))
    (wB (F := Ideal) V O (abOf (F := Ideal) i Q K) j (kbUp n)) _ _ _ (mask_val i (kbUp n) r c) (headSum_val H j n (by omega) r)
    (beta_val r c _ (zB_val H j (kbUp n) r c)) (fun a => wB_val H j (kbUp n) (by omega) r a)
  refine h.trans (congrArg _ ?_)
  rw [hk, Stick.sg, Stick.sum_before (fun s => Stick.wg scale (hd qf j.val) (hd kf j.val) (hd vf j.val) (hd of j.val) (512 * (i 1).val + r.val) s) n c]

theorem dqB_val : ∀ n : ℕ, n ≤ (i 1).val + 1 → ∀ (r : Fin 512) (e : Fin 128),
    dqB (F := Ideal) i Q K V O (abOf (F := Ideal) i Q K) j n (ix2 r e)
      = ((∑ s ∈ range (512 * n), Stick.sg scale (hd qf j.val) (hd kf j.val) (hd vf j.val) (hd of j.val) (512 * (i 1).val + r.val) s * hd kf j.val s e.val : ℝ) : EReal)
  | 0, _, r, e => by
    rw [Nat.mul_zero, Finset.range_zero, Finset.sum_empty, EReal.coe_zero]
    exact Ideal.ofBits_zero_f32
  | n + 1, hn, r, e => by
    have hi : (i 1).val < 4 := (i 1).isLt
    have hk : (kbUp n).val = n := Nat.mod_eq_of_lt (by omega)
    have h := dqAdd_val (sB (F := Ideal) i Q K V O (abOf (F := Ideal) i Q K) j n) (blk K (kbUp n) j) (dqB (F := Ideal) i Q K V O (abOf (F := Ideal) i Q K) j n)
      r e _ _ _ (dqB_val n (by omega) r e) (fun c => sB_val H j n (by omega) r c) (fun c => kblk_val H j (kbUp n) c e)
    refine h.trans (congrArg _ ?_)
    rw [hk]
    exact Stick.sum_block (fun s => Stick.sg scale (hd qf j.val) (hd kf j.val) (hd vf j.val) (hd of j.val) (512 * (i 1).val + r.val) s * hd kf j.val s e.val) n

end

/-- The step's rows of `q`'s gradient. -/
theorem dqOut_val (H : Reads i Q K V O qf kf vf of) (r : Fin 512) (e : Fin 256) :
    dqOut (F := Ideal) i Q K V O (ix2 r e)
      = (Stick.dq scale (hd qf (e.val / 128)) (hd kf (e.val / 128)) (hd vf (e.val / 128)) (hd of (e.val / 128)) (512 * (i 1).val + r.val) (e.val % 128) : EReal) := by
  have hr := r.isLt
  have hi : (i 1).val < 4 := (i 1).isLt
  have h := dqB_val H (⟨e.val / 128, by have := e.isLt; omega⟩ : Fin 2) ((i 1).val + 1) (Nat.le_refl _) r ⟨e.val % 128, Nat.mod_lt _ (by decide)⟩
  refine Eq.trans ?_ (h.trans (congrArg _ ?_))
  · rfl
  · rw [Stick.dq]
    exact (Stick.sum_range_trim _ (by omega) fun s hs => by rw [Stick.sg_off (by omega), zero_mul]).symm

/-! ## The accumulators -/

/-- Both heads' blocks of one key block replaced. -/
theorem setBlk_two {α : Type} (X : S2048x256.Idx → α) (kb : Fin 4) (w0 w1 : S512x128.Idx → α) (s : Fin 2048) (e : Fin 256) :
    setBlk (setBlk X kb 0 w0) kb 1 w1 (ix2 s e)
      = if s.val / 512 = kb.val then
          (if e.val / 128 = 0 then w0 else w1) (ix2 (⟨s.val % 512, Nat.mod_lt _ (by decide)⟩ : Fin 512) (⟨e.val % 128, Nat.mod_lt _ (by decide)⟩ : Fin 128))
        else X (ix2 s e) := by
  have he := e.isLt
  have e1 : ∀ (Y : S2048x256.Idx → α) (j : Fin 2) (w : S512x128.Idx → α), setBlk Y kb j w (ix2 s e) = if s.val / 512 = kb.val ∧ e.val / 128 = j.val then
      w (ix2 (⟨s.val % 512, Nat.mod_lt _ (by decide)⟩ : Fin 512) (⟨e.val % 128, Nat.mod_lt _ (by decide)⟩ : Fin 128)) else Y (ix2 s e) := fun _ _ _ => rfl
  rw [e1, e1]
  by_cases hs : s.val / 512 = kb.val
  · rw [if_pos hs]
    by_cases h0 : e.val / 128 = 0
    · rw [if_pos h0, if_neg (fun h => by have h2 : e.val / 128 = 1 := h.2; omega), if_pos ⟨hs, h0⟩]
    · rw [if_neg h0, if_pos ⟨hs, show e.val / 128 = 1 by omega⟩]
  · rw [if_neg hs, if_neg (fun h => hs h.1), if_neg (fun h => hs h.1)]

/-- A block read where it is. -/
theorem blk_at (X : FVec Ideal S2048x256 .f32) (kb : Fin 4) (j : Fin 2) (s : Fin 2048) (e : Fin 256) (hs : s.val / 512 = kb.val) (he : e.val / 128 = j.val) :
    blk X kb j (ix2 (⟨s.val % 512, Nat.mod_lt _ (by decide)⟩ : Fin 512) (⟨e.val % 128, Nat.mod_lt _ (by decide)⟩ : Fin 128)) = X (ix2 s e) := by
  refine congrArg X (funext fun a => Fin.ext ?_)
  match a with
  | ⟨0, _⟩ => show 512 * kb.val + s.val % 512 = s.val; omega
  | ⟨1, _⟩ => show 128 * j.val + e.val % 128 = e.val; omega

variable (D : FVec Ideal S2048x256 .f32)

/-- `v`'s gradient accumulator: the key blocks visited so far have the step's rows added. -/
theorem dvBuf_val (H : Reads i Q K V O qf kf vf of) (G : ℕ → ℕ → ℝ) (hD : ∀ (s : Fin 2048) (e : Fin 256), D (ix2 s e) = (G s.val e.val : EReal)) :
    ∀ n : ℕ, n ≤ (i 1).val + 1 → ∀ (s : Fin 2048) (e : Fin 256),
      dvBuf (F := Ideal) i Q K O D n (ix2 s e)
        = ((G s.val e.val + if (i 1).val + 1 - n ≤ s.val / 512 ∧ s.val / 512 ≤ (i 1).val then
            ∑ r : Fin 512, Stick.att scale (hd qf (e.val / 128)) (hd kf (e.val / 128)) (512 * (i 1).val + r.val) s.val * hd of (e.val / 128) (512 * (i 1).val + r.val) (e.val % 128)
          else 0 : ℝ) : EReal)
  | 0, _, s, e => by rw [if_neg (by omega), add_zero]; exact hD s e
  | n + 1, hn, s, e => by
    have he := e.isLt
    have ih := dvBuf_val H G hD n (by omega) s e
    have hb : dvBuf (F := Ideal) i Q K O D (n + 1) = setBlk (setBlk (dvBuf (F := Ideal) i Q K O D n) (kbOf i n) 0
        (dvAdd (F := Ideal) (hcol O 0) (aB (F := Ideal) i Q K 0 n) (blk (dvBuf (F := Ideal) i Q K O D n) (kbOf i n) 0))) (kbOf i n) 1
        (dvAdd (F := Ideal) (hcol O 1) (aB (F := Ideal) i Q K 1 n) (blk (dvBuf (F := Ideal) i Q K O D n) (kbOf i n) 1)) := by
      rw [show dvBuf (F := Ideal) i Q K O D (n + 1) = dvHead (F := Ideal) i Q K O 1 n (dvHead (F := Ideal) i Q K O 0 n (dvBuf (F := Ideal) i Q K O D n)) from rfl,
        dvHead, dvHead, blk_setBlk_of_ne _ _ _ _ _ _ (.inr (by decide))]
    rw [hb, setBlk_two]
    have hkb : (kbOf i n).val = (i 1).val - n := rfl
    by_cases hs : s.val / 512 = (kbOf i n).val
    · rw [if_pos hs, if_pos (show (i 1).val + 1 - (n + 1) ≤ s.val / 512 ∧ s.val / 512 ≤ (i 1).val by omega)]
      rw [if_neg (by omega), add_zero] at ih
      have key : ∀ j : Fin 2, e.val / 128 = j.val → dvAdd (F := Ideal) (hcol O j) (aB (F := Ideal) i Q K j n) (blk (dvBuf (F := Ideal) i Q K O D n) (kbOf i n) j)
          (ix2 (⟨s.val % 512, Nat.mod_lt _ (by decide)⟩ : Fin 512) (⟨e.val % 128, Nat.mod_lt _ (by decide)⟩ : Fin 128))
          = ((G s.val e.val + ∑ r : Fin 512, Stick.att scale (hd qf (e.val / 128)) (hd kf (e.val / 128)) (512 * (i 1).val + r.val) s.val * hd of (e.val / 128) (512 * (i 1).val + r.val) (e.val % 128) : ℝ) : EReal) := by
        intro j hj
        refine dvAdd_val _ _ _ _ _ (G s.val e.val) (fun r => Stick.att scale (hd qf (e.val / 128)) (hd kf (e.val / 128)) (512 * (i 1).val + r.val) s.val)
          (fun r => hd of (e.val / 128) (512 * (i 1).val + r.val) (e.val % 128)) ((blk_at _ _ _ _ _ hs hj).trans ih) (fun r => ?_) (fun r => ?_)
        · have h := aB_val H j n (by omega) r ⟨s.val % 512, Nat.mod_lt _ (by decide)⟩
          rw [show 512 * ((i 1).val - n) + s.val % 512 = s.val by omega] at h
          rw [hj]; exact h
        · rw [hj]; exact ocol_val H j r ⟨e.val % 128, Nat.mod_lt _ (by decide)⟩
      by_cases h0 : e.val / 128 = 0
      · rw [if_pos h0]; exact key 0 h0
      · rw [if_neg h0]; exact key 1 (show e.val / 128 = 1 by omega)
    · rw [if_neg hs, ih]
      exact congrArg _ (congrArg _ (if_congr ⟨fun h => ⟨by omega, h.2⟩, fun h => ⟨by omega, h.2⟩⟩ rfl rfl))

/-- `k`'s gradient accumulator likewise. -/
theorem dkBuf_val (H : Reads i Q K V O qf kf vf of) (G : ℕ → ℕ → ℝ) (hD : ∀ (s : Fin 2048) (e : Fin 256), D (ix2 s e) = (G s.val e.val : EReal)) :
    ∀ n : ℕ, n ≤ (i 1).val + 1 → ∀ (s : Fin 2048) (e : Fin 256),
      dkBuf (F := Ideal) i Q K V O (abOf (F := Ideal) i Q K) D n (ix2 s e)
        = ((G s.val e.val + if s.val / 512 < n then
            ∑ r : Fin 512, Stick.sg scale (hd qf (e.val / 128)) (hd kf (e.val / 128)) (hd vf (e.val / 128)) (hd of (e.val / 128)) (512 * (i 1).val + r.val) s.val * hd qf (e.val / 128) (512 * (i 1).val + r.val) (e.val % 128)
          else 0 : ℝ) : EReal)
  | 0, _, s, e => by rw [if_neg (by omega), add_zero]; exact hD s e
  | n + 1, hn, s, e => by
    have he := e.isLt
    have hi : (i 1).val < 4 := (i 1).isLt
    have ih := dkBuf_val H G hD n (by omega) s e
    have hb : dkBuf (F := Ideal) i Q K V O (abOf (F := Ideal) i Q K) D (n + 1) = setBlk (setBlk (dkBuf (F := Ideal) i Q K V O (abOf (F := Ideal) i Q K) D n) (kbUp n) 0
        (dkAdd (F := Ideal) (sB (F := Ideal) i Q K V O (abOf (F := Ideal) i Q K) 0 n) (hcol Q 0) (blk (dkBuf (F := Ideal) i Q K V O (abOf (F := Ideal) i Q K) D n) (kbUp n) 0))) (kbUp n) 1
        (dkAdd (F := Ideal) (sB (F := Ideal) i Q K V O (abOf (F := Ideal) i Q K) 1 n) (hcol Q 1) (blk (dkBuf (F := Ideal) i Q K V O (abOf (F := Ideal) i Q K) D n) (kbUp n) 1)) := by
      rw [show dkBuf (F := Ideal) i Q K V O (abOf (F := Ideal) i Q K) D (n + 1) = dkHead (F := Ideal) i Q K V O (abOf (F := Ideal) i Q K) 1 n (dkHead (F := Ideal) i Q K V O (abOf (F := Ideal) i Q K) 0 n (dkBuf (F := Ideal) i Q K V O (abOf (F := Ideal) i Q K) D n)) from rfl,
        dkHead, dkHead, blk_setBlk_of_ne _ _ _ _ _ _ (.inr (by decide))]
    rw [hb, setBlk_two]
    have hkb : (kbUp n).val = n := Nat.mod_eq_of_lt (by omega)
    by_cases hs : s.val / 512 = (kbUp n).val
    · rw [if_pos hs, if_pos (show s.val / 512 < n + 1 by omega)]
      rw [if_neg (by omega), add_zero] at ih
      have key : ∀ j : Fin 2, e.val / 128 = j.val → dkAdd (F := Ideal) (sB (F := Ideal) i Q K V O (abOf (F := Ideal) i Q K) j n) (hcol Q j) (blk (dkBuf (F := Ideal) i Q K V O (abOf (F := Ideal) i Q K) D n) (kbUp n) j)
          (ix2 (⟨s.val % 512, Nat.mod_lt _ (by decide)⟩ : Fin 512) (⟨e.val % 128, Nat.mod_lt _ (by decide)⟩ : Fin 128))
          = ((G s.val e.val + ∑ r : Fin 512, Stick.sg scale (hd qf (e.val / 128)) (hd kf (e.val / 128)) (hd vf (e.val / 128)) (hd of (e.val / 128)) (512 * (i 1).val + r.val) s.val * hd qf (e.val / 128) (512 * (i 1).val + r.val) (e.val % 128) : ℝ) : EReal) := by
        intro j hj
        refine dkAdd_val _ _ _ _ _ (G s.val e.val) (fun r => Stick.sg scale (hd qf (e.val / 128)) (hd kf (e.val / 128)) (hd vf (e.val / 128)) (hd of (e.val / 128)) (512 * (i 1).val + r.val) s.val)
          (fun r => hd qf (e.val / 128) (512 * (i 1).val + r.val) (e.val % 128)) ((blk_at _ _ _ _ _ hs hj).trans ih) (fun r => ?_) (fun r => ?_)
        · have h := sB_val H j n (by omega) r ⟨s.val % 512, Nat.mod_lt _ (by decide)⟩
          rw [show 512 * n + s.val % 512 = s.val by omega] at h
          rw [hj]; exact h
        · rw [hj]; exact qcol_val H j r ⟨e.val % 128, Nat.mod_lt _ (by decide)⟩
      by_cases h0 : e.val / 128 = 0
      · rw [if_pos h0]; exact key 0 h0
      · rw [if_neg h0]; exact key 1 (show e.val / 128 = 1 by omega)
    · rw [if_neg hs, ih]
      exact congrArg _ (congrArg _ (if_congr ⟨fun h => by omega, fun h => by omega⟩ rfl rfl))

/-- A step adds its rows to `v`'s gradient. -/
theorem dvStep_val (H : Reads i Q K V O qf kf vf of) (G : ℕ → ℕ → ℝ) (hD : ∀ (s : Fin 2048) (e : Fin 256), D (ix2 s e) = (G s.val e.val : EReal))
    (s : Fin 2048) (e : Fin 256) :
    dvStep (F := Ideal) i Q K O D (ix2 s e)
      = ((G s.val e.val + ∑ r : Fin 512, Stick.att scale (hd qf (e.val / 128)) (hd kf (e.val / 128)) (512 * (i 1).val + r.val) s.val * hd of (e.val / 128) (512 * (i 1).val + r.val) (e.val % 128) : ℝ) : EReal) := by
  refine (dvBuf_val D H G hD ((i 1).val + 1) (Nat.le_refl _) s e).trans (congrArg _ (congrArg _ ?_))
  by_cases h : s.val / 512 ≤ (i 1).val
  · rw [if_pos ⟨by omega, h⟩]
  · rw [if_neg (fun h' => h h'.2)]
    exact (Finset.sum_eq_zero fun r _ => by have := r.isLt; rw [Stick.att_off (by omega), zero_mul]).symm

/-- A step adds its rows to `k`'s gradient. -/
theorem dkStep_val (H : Reads i Q K V O qf kf vf of) (G : ℕ → ℕ → ℝ) (hD : ∀ (s : Fin 2048) (e : Fin 256), D (ix2 s e) = (G s.val e.val : EReal))
    (s : Fin 2048) (e : Fin 256) :
    dkStep (F := Ideal) i Q K V O D (ix2 s e)
      = ((G s.val e.val + ∑ r : Fin 512, Stick.sg scale (hd qf (e.val / 128)) (hd kf (e.val / 128)) (hd vf (e.val / 128)) (hd of (e.val / 128)) (512 * (i 1).val + r.val) s.val * hd qf (e.val / 128) (512 * (i 1).val + r.val) (e.val % 128) : ℝ) : EReal) := by
  refine (dkBuf_val D H G hD ((i 1).val + 1) (Nat.le_refl _) s e).trans (congrArg _ (congrArg _ ?_))
  by_cases h : s.val / 512 < (i 1).val + 1
  · rw [if_pos h]
  · rw [if_neg h]
    exact (Finset.sum_eq_zero fun r _ => by have := r.isLt; rw [Stick.sg_off (by omega), zero_mul]).symm

end Cert.Proof.Attn

end
-- ==== Proof.Heads.lean ====
/-
  The heads of the two argument arrays, and the three gradients as functions of a row and a column.
-/
module

public import proofs.«01_k».proof.Proof.Stick
public import proofs.«01_k».proof.Proof.Num

@[expose] public section

noncomputable section

namespace Cert.Proof.Attn

open Cert.Proof.Num

/-- Head `n` of the queries: the first third of the columns. -/
def qh (A : ℕ → ℕ → ℝ) (n : ℕ) : ℕ → ℕ → ℝ := fun t d => A t (128 * n + d)
/-- Head `n` of the keys: the second third. -/
def kh (A : ℕ → ℕ → ℝ) (n : ℕ) : ℕ → ℕ → ℝ := fun t d => A t (2048 + (128 * n + d))
/-- Head `n` of the values: the last third. -/
def vh (A : ℕ → ℕ → ℝ) (n : ℕ) : ℕ → ℕ → ℝ := fun t d => A t (4096 + (128 * n + d))
/-- Head `n` of the output's cotangent. -/
def oh (B : ℕ → ℕ → ℝ) (n : ℕ) : ℕ → ℕ → ℝ := fun t d => B t (128 * n + d)

/-- The queries' gradient at row `t`, column `e`. -/
def dqAt (A B : ℕ → ℕ → ℝ) (t e : ℕ) : ℝ :=
  Stick.dq scale (qh A (e / 128)) (kh A (e / 128)) (vh A (e / 128)) (oh B (e / 128)) t (e % 128)
/-- The keys' gradient. -/
def dkAt (A B : ℕ → ℕ → ℝ) (s e : ℕ) : ℝ :=
  Stick.dk scale (qh A (e / 128)) (kh A (e / 128)) (vh A (e / 128)) (oh B (e / 128)) s (e % 128)
/-- The values' gradient. -/
def dvAt (A B : ℕ → ℕ → ℝ) (s e : ℕ) : ℝ :=
  Stick.dv scale (qh A (e / 128)) (kh A (e / 128)) (oh B (e / 128)) s (e % 128)

end Cert.Proof.Attn
-- ==== Proof.Arrays.lean ====
/-
  The three result arrays of the call, element by element: the gradients of the stick-breaking attention over finite
  arguments.
-/
module

public import proofs.«01_k».proof.Proof.StepValue
public import proofs.«01_k».proof.Proof.Heads
public import proofs.«01_k».proof.Proof.Run
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (Dat)
open Cert.Proof.Num
open Finset

/-! ## The blocks of a grid point -/

theorem idx : ∀ t : Fin cfg0.N, win0_0.index t = ![t.val % 4, t.val / 4] ∧ win0_1.index t = ![0, 8 + t.val / 4]
    ∧ win0_2.index t = ![0, 16 + t.val / 4] ∧ win0_3.index t = ![t.val % 4, t.val / 4] ∧ win0_4.index t = ![t.val % 4, t.val / 4]
    ∧ win0_5.index t = ![0, t.val / 4] ∧ win0_6.index t = ![0, t.val / 4] :=
  (by decide +kernel : ∀ t : Fin grid0.N, _)

variable (m : (ℓ : Loc nD τ sig) → Buf (Elt Ideal) ℓ) (c : Dev nD)

/-- The two argument arrays hold these reals. -/
structure Finite (X : FVec Ideal S2048x6144 .bf16) (Y : FVec Ideal S2048x2048 .f32) (A B : ℕ → ℕ → ℝ) : Prop where
  qkv : ∀ (t : Fin 2048) (e : Fin 6144), X (ix2 t e) = (A t.val e.val : EReal)
  out : ∀ (t : Fin 2048) (e : Fin 2048), Y (ix2 t e) = (B t.val e.val : EReal)

theorem point_lt (t : Fin cfg0.N) : t.val < 32 := t.isLt

theorem qAt_read (t : Fin cfg0.N) (r : Fin 512) (e : Fin 256) (h0 : 512 * (t.val % 4) + r.val < 2048) (h1 : 256 * (t.val / 4) + e.val < 6144) :
    qAt m c t (ix2 r e) = m ((c : Thread nD τ).loc main_arg0) (ix2 (⟨512 * (t.val % 4) + r.val, h0⟩ : Fin 2048) (⟨256 * (t.val / 4) + e.val, h1⟩ : Fin 6144)) := by
  unfold qAt; blk_ext [iblk, V, idx t]

theorem kAt_read (t : Fin cfg0.N) (r : Fin 2048) (e : Fin 256) (h1 : 2048 + 256 * (t.val / 4) + e.val < 6144) :
    kAt m c t (ix2 r e) = m ((c : Thread nD τ).loc main_arg0) (ix2 r (⟨2048 + 256 * (t.val / 4) + e.val, h1⟩ : Fin 6144)) := by
  unfold kAt; blk_ext [iblk, V, idx t]

theorem vAt_read (t : Fin cfg0.N) (r : Fin 2048) (e : Fin 256) (h1 : 4096 + 256 * (t.val / 4) + e.val < 6144) :
    vAt m c t (ix2 r e) = m ((c : Thread nD τ).loc main_arg0) (ix2 r (⟨4096 + 256 * (t.val / 4) + e.val, h1⟩ : Fin 6144)) := by
  unfold vAt; blk_ext [iblk, V, idx t]

theorem oAt_read (t : Fin cfg0.N) (r : Fin 512) (e : Fin 256) (h0 : 512 * (t.val % 4) + r.val < 2048) (h1 : 256 * (t.val / 4) + e.val < 2048) :
    oAt m c t (ix2 r e) = m ((c : Thread nD τ).loc main_arg1) (ix2 (⟨512 * (t.val % 4) + r.val, h0⟩ : Fin 2048) (⟨256 * (t.val / 4) + e.val, h1⟩ : Fin 2048)) := by
  unfold oAt; blk_ext [iblk, V, idx t]

variable {m c}
variable {A B : ℕ → ℕ → ℝ}

theorem reads_at (H : Finite (m ((c : Thread nD τ).loc main_arg0)) (m ((c : Thread nD τ).loc main_arg1)) A B) (t : Fin cfg0.N) :
    Reads (grid0.coords t) (qAt m c t) (kAt m c t) (vAt m c t) (oAt m c t)
      (fun r e => A r (256 * (t.val / 4) + e)) (fun r e => A r (2048 + 256 * (t.val / 4) + e)) (fun r e => A r (4096 + 256 * (t.val / 4) + e))
      (fun r e => B r (256 * (t.val / 4) + e)) := by
  have ht := point_lt t
  refine ⟨fun r e => ?_, fun r e => ?_, fun r e => ?_, fun r e => ?_⟩ <;> have hr := r.isLt <;> have he := e.isLt
  · rw [point_row t, qAt_read m c t r e (by omega) (by omega)]; exact H.qkv _ _
  · rw [kAt_read m c t r e (by omega)]; exact H.qkv _ _
  · rw [vAt_read m c t r e (by omega)]; exact H.qkv _ _
  · rw [point_row t, oAt_read m c t r e (by omega) (by omega)]; exact H.out _ _

/-! ## The accumulators along the grid -/

theorem qcols (h : ℕ) (e : ℕ) : hd (fun r e => A r (256 * h + e)) (e / 128) = qh A ((256 * h + e) / 128) := by
  funext t d; show A t (256 * h + (128 * (e / 128) + d)) = A t (128 * ((256 * h + e) / 128) + d); congr 1; omega
theorem kcols (h : ℕ) (e : ℕ) : hd (fun r e => A r (2048 + 256 * h + e)) (e / 128) = kh A ((256 * h + e) / 128) := by
  funext t d; show A t (2048 + 256 * h + (128 * (e / 128) + d)) = A t (2048 + (128 * ((256 * h + e) / 128) + d)); congr 1; omega
theorem vcols (h : ℕ) (e : ℕ) : hd (fun r e => A r (4096 + 256 * h + e)) (e / 128) = vh A ((256 * h + e) / 128) := by
  funext t d; show A t (4096 + 256 * h + (128 * (e / 128) + d)) = A t (4096 + (128 * ((256 * h + e) / 128) + d)); congr 1; omega

/-- The values' gradient over the rows before `n`. -/
def dvTo (A B : ℕ → ℕ → ℝ) (n s e : ℕ) : ℝ :=
  ∑ t ∈ range n, Stick.att scale (qh A (e / 128)) (kh A (e / 128)) t s * oh B (e / 128) t (e % 128)
/-- The keys' gradient over the rows before `n`. -/
def dkTo (A B : ℕ → ℕ → ℝ) (n s e : ℕ) : ℝ :=
  ∑ t ∈ range n, Stick.sg scale (qh A (e / 128)) (kh A (e / 128)) (vh A (e / 128)) (oh B (e / 128)) t s * qh A (e / 128) t (e % 128)

theorem start_zero (t : Fin cfg0.N) (D : FVec Ideal S2048x256 .f32) (h : t.val % 4 = 0) (s : Fin 2048) (e : Fin 256) :
    start (F := Ideal) (grid0.coords t) D (ix2 s e) = ((0 : ℝ) : EReal) := by
  unfold start
  rw [point_row t, if_pos h, EReal.coe_zero]
  exact Ideal.ofBits_zero_f32

theorem start_keep (t : Fin cfg0.N) (D : FVec Ideal S2048x256 .f32) (h : t.val % 4 ≠ 0) : start (F := Ideal) (grid0.coords t) D = D := by
  unfold start
  rw [point_row t, if_neg h]

theorem dvAcc_step (H : Finite (m ((c : Thread nD τ).loc main_arg0)) (m ((c : Thread nD τ).loc main_arg1)) A B) (t : Fin cfg0.N)
    (hs : ∀ (s : Fin 2048) (e : Fin 256), start (F := Ideal) (grid0.coords t) (dvAcc m c t.val) (ix2 s e)
      = (dvTo A B (512 * (t.val % 4)) s.val (256 * (t.val / 4) + e.val) : EReal)) (s : Fin 2048) (e : Fin 256) :
    dvAcc m c (t.val + 1) (ix2 s e) = (dvTo A B (512 * (t.val % 4 + 1)) s.val (256 * (t.val / 4) + e.val) : EReal) := by
  rw [dvAcc_succ, dvNext]
  refine (dvStep_val _ (reads_at H t) (fun s e => dvTo A B (512 * (t.val % 4)) s (256 * (t.val / 4) + e)) hs s e).trans (congrArg _ ?_)
  rw [qcols, kcols, qcols (A := B), point_row t, dvTo, dvTo, show e.val % 128 = (256 * (t.val / 4) + e.val) % 128 by omega]
  exact Stick.sum_block (fun r => Stick.att scale (qh A ((256 * (t.val / 4) + e.val) / 128)) (kh A ((256 * (t.val / 4) + e.val) / 128)) r s.val
    * oh B ((256 * (t.val / 4) + e.val) / 128) r ((256 * (t.val / 4) + e.val) % 128)) (t.val % 4)

theorem dkAcc_step (H : Finite (m ((c : Thread nD τ).loc main_arg0)) (m ((c : Thread nD τ).loc main_arg1)) A B) (t : Fin cfg0.N)
    (hs : ∀ (s : Fin 2048) (e : Fin 256), start (F := Ideal) (grid0.coords t) (dkAcc m c t.val) (ix2 s e)
      = (dkTo A B (512 * (t.val % 4)) s.val (256 * (t.val / 4) + e.val) : EReal)) (s : Fin 2048) (e : Fin 256) :
    dkAcc m c (t.val + 1) (ix2 s e) = (dkTo A B (512 * (t.val % 4 + 1)) s.val (256 * (t.val / 4) + e.val) : EReal) := by
  rw [dkAcc_succ, dkNext]
  refine (dkStep_val _ (reads_at H t) (fun s e => dkTo A B (512 * (t.val % 4)) s (256 * (t.val / 4) + e)) hs s e).trans (congrArg _ ?_)
  rw [qcols, kcols, vcols, qcols (A := B), point_row t, dkTo, dkTo, show e.val % 128 = (256 * (t.val / 4) + e.val) % 128 by omega]
  exact Stick.sum_block (fun r => Stick.sg scale (qh A ((256 * (t.val / 4) + e.val) / 128)) (kh A ((256 * (t.val / 4) + e.val) / 128))
    (vh A ((256 * (t.val / 4) + e.val) / 128)) (oh B ((256 * (t.val / 4) + e.val) / 128)) r s.val
    * qh A ((256 * (t.val / 4) + e.val) / 128) r ((256 * (t.val / 4) + e.val) % 128)) (t.val % 4)

/-- After a grid point `v`'s accumulator holds its gradient over the rows seen so far. -/
theorem dvAcc_val (H : Finite (m ((c : Thread nD τ).loc main_arg0)) (m ((c : Thread nD τ).loc main_arg1)) A B) (n : ℕ) :
    ∀ hn : n < cfg0.N, ∀ (s : Fin 2048) (e : Fin 256),
      dvAcc m c (n + 1) (ix2 s e) = (dvTo A B (512 * (n % 4 + 1)) s.val (256 * (n / 4) + e.val) : EReal) := by
  induction n with
  | zero =>
    intro hn
    refine dvAcc_step H ⟨0, hn⟩ fun s e => ?_
    rw [start_zero _ _ rfl]; rfl
  | succ n ih =>
    intro hn
    refine dvAcc_step H ⟨n + 1, hn⟩ fun s e => ?_
    by_cases h : (n + 1) % 4 = 0
    · rw [start_zero _ _ h, dvTo, show (⟨n + 1, hn⟩ : Fin cfg0.N).val % 4 = 0 from h, Nat.mul_zero, Finset.range_zero, Finset.sum_empty]
    · rw [start_keep _ _ h]
      refine (ih (Nat.lt_of_succ_lt hn) s e).trans ?_
      rw [show n % 4 + 1 = (n + 1) % 4 by omega, show n / 4 = (n + 1) / 4 by omega]

/-- After a grid point `k`'s accumulator holds its gradient over the rows seen so far. -/
theorem dkAcc_val (H : Finite (m ((c : Thread nD τ).loc main_arg0)) (m ((c : Thread nD τ).loc main_arg1)) A B) (n : ℕ) :
    ∀ hn : n < cfg0.N, ∀ (s : Fin 2048) (e : Fin 256),
      dkAcc m c (n + 1) (ix2 s e) = (dkTo A B (512 * (n % 4 + 1)) s.val (256 * (n / 4) + e.val) : EReal) := by
  induction n with
  | zero =>
    intro hn
    refine dkAcc_step H ⟨0, hn⟩ fun s e => ?_
    rw [start_zero _ _ rfl]; rfl
  | succ n ih =>
    intro hn
    refine dkAcc_step H ⟨n + 1, hn⟩ fun s e => ?_
    by_cases h : (n + 1) % 4 = 0
    · rw [start_zero _ _ h, dkTo, show (⟨n + 1, hn⟩ : Fin cfg0.N).val % 4 = 0 from h, Nat.mul_zero, Finset.range_zero, Finset.sum_empty]
    · rw [start_keep _ _ h]
      refine (ih (Nat.lt_of_succ_lt hn) s e).trans ?_
      rw [show n % 4 + 1 = (n + 1) % 4 by omega, show n / 4 = (n + 1) / 4 by omega]

/-! ## The result arrays -/

/-- An array of the reals `G`. -/
def arr (G : ℕ → ℕ → ℝ) : FVec Ideal S2048x2048 .bf16 := fun y => ((G (y 0).val (y 1).val : ℝ) : EReal)

theorem dq_block (H : Finite (m ((c : Thread nD τ).loc main_arg0)) (m ((c : Thread nD τ).loc main_arg1)) A B) (t : Fin cfg0.N) (r : Fin 512) (e : Fin 256) :
    dqOut (F := Ideal) (grid0.coords t) (qAt m c t) (kAt m c t) (vAt m c t) (oAt m c t) (ix2 r e)
      = (dqAt A B (t.val % 4 * 512 + r.val) (t.val / 4 * 256 + e.val) : EReal) := by
  refine (dqOut_val (reads_at H t) r e).trans (congrArg _ ?_)
  rw [qcols, kcols, vcols, qcols (A := B), point_row t, dqAt, Nat.mul_comm (t.val % 4), Nat.mul_comm (t.val / 4), show e.val % 128 = (256 * (t.val / 4) + e.val) % 128 by omega]
  rfl

theorem dk_block (H : Finite (m ((c : Thread nD τ).loc main_arg0)) (m ((c : Thread nD τ).loc main_arg1)) A B) (t : Fin cfg0.N) (ht : t.val % 4 = 3)
    (s : Fin 2048) (e : Fin 256) : dkAcc m c (t.val + 1) (ix2 s e) = (dkAt A B s.val (t.val / 4 * 256 + e.val) : EReal) := by
  refine (dkAcc_val H t.val t.isLt s e).trans ?_
  rw [ht, dkTo, Nat.mul_comm (t.val / 4)]
  rfl

theorem dv_block (H : Finite (m ((c : Thread nD τ).loc main_arg0)) (m ((c : Thread nD τ).loc main_arg1)) A B) (t : Fin cfg0.N) (ht : t.val % 4 = 3)
    (s : Fin 2048) (e : Fin 256) : dvAcc m c (t.val + 1) (ix2 s e) = (dvAt A B s.val (t.val / 4 * 256 + e.val) : EReal) := by
  refine (dvAcc_val H t.val t.isLt s e).trans ?_
  rw [ht, dvTo, Nat.mul_comm (t.val / 4)]
  rfl

/-- The queries' gradient the call leaves. -/
theorem dq_final (H : Finite (m ((c : Thread nD τ).loc main_arg0)) (m ((c : Thread nD τ).loc main_arg1)) A B) :
    (dats m 0 c).arrAt 4 (cfgs 0).N = arr (dqAt A B) := by
  refine (dats m 0 c).arrAt_eq_of_covers 4 _ (by decide +kernel) fun t _ y => ?_
  blk_simp
  rw [after4]
  unfold arr
  blk_simp [idx t]
  exact (congrArg (dqOut (F := Ideal) (grid0.coords t) (qAt m c t) (kAt m c t) (vAt m c t) (oAt m c t)) (eq_ix2 y)).trans (dq_block H t (y 0) (y 1))

/-- The keys' gradient the call leaves. -/
theorem dk_final (H : Finite (m ((c : Thread nD τ).loc main_arg0)) (m ((c : Thread nD τ).loc main_arg1)) A B) :
    (dats m 0 c).arrAt 5 (cfgs 0).N = arr (dkAt A B) := by
  refine (dats m 0 c).arrAt_eq_of_covers 5 _ (by decide +kernel) fun t hf y => ?_
  blk_simp
  rw [after5]
  unfold arr
  blk_simp [idx t]
  exact (congrArg (dkAcc m c (t.val + 1)) (eq_ix2 y)).trans (dk_block H t ((flush0_5 t).mp hf) (y 0) (y 1))

/-- The values' gradient the call leaves. -/
theorem dv_final (H : Finite (m ((c : Thread nD τ).loc main_arg0)) (m ((c : Thread nD τ).loc main_arg1)) A B) :
    (dats m 0 c).arrAt 6 (cfgs 0).N = arr (dvAt A B) := by
  refine (dats m 0 c).arrAt_eq_of_covers 6 _ (by decide +kernel) fun t hf y => ?_
  blk_simp
  rw [after6]
  unfold arr
  blk_simp [idx t]
  exact (congrArg (dvAcc m c (t.val + 1)) (eq_ix2 y)).trans (dv_block H t ((flush0_6 t).mp hf) (y 0) (y 1))

end Cert.Proof.Attn

end
-- ==== Proof.RefSum.lean ====
/-
  The reference's two running sums along the keys: each entry of the windowed sum is the sum of the entries from its own
  to the last, or from the first to its own.
-/
module

public import proofs.«01_k».proof.Proof.Num

@[expose] public section

set_option maxRecDepth 16384

noncomputable section

namespace Cert.Proof.RefSum

open Idealize.ShloMosaic
open Cert.Proof.Num
open Finset

/-- The scores' shape. -/
abbrev SH : Shape := ⟨3, ![16, 2048, 2048]⟩
/-- The window: one head, one query, all the keys. -/
abbrev SW : Shape := ⟨3, ![1, 1, 2048]⟩

theorem foldl_sum {ι : Type} (g : ι → EReal) (l : List ι) : ∀ r : EReal, l.foldl (fun r n => r + g n) r = r + (l.map g).sum := by
  induction l with
  | nil => intro r; simp
  | cons a l ih => intro r; rw [List.foldl_cons, ih, List.map_cons, List.sum_cons, add_assoc]

theorem window_numel : SW.numel = 2048 := by decide

/-- A window position's coordinates. -/
theorem window_symm (n : Fin SW.numel) :
    (SW.rowMajor.symm n 0).val = 0 ∧ (SW.rowMajor.symm n 1).val = 0 ∧ (SW.rowMajor.symm n 2).val = n.val := by
  have h0 : (SW.rowMajor.symm n 0).val < 1 := (SW.rowMajor.symm n 0).isLt
  have h1 : (SW.rowMajor.symm n 1).val < 1 := (SW.rowMajor.symm n 1).isLt
  have h := Shape.rowMajor_val_three (SW.rowMajor.symm n)
  rw [Equiv.apply_symm_apply] at h
  have h2 : n.val = ((SW.rowMajor.symm n 0).val * 1 + (SW.rowMajor.symm n 1).val) * 2048 + (SW.rowMajor.symm n 2).val := h
  refine ⟨by omega, by omega, by omega⟩

/-- A fold over the window of finite values is their sum. -/
theorem fold_window (g : Fin SW.numel → EReal) (G : ℕ → ℝ) (hg : ∀ n, g n = (G n.val : EReal)) :
    (List.finRange SW.numel).foldl (fun r n => r + g n) 0 = ((∑ w ∈ range 2048, G w : ℝ) : EReal) := by
  rw [foldl_sum, zero_add, ← Fin.sum_univ_def, Finset.sum_congr rfl fun n _ => hg n, ← coe_sum, Fin.sum_univ_eq_sum_range G SW.numel, window_numel]

theorem sum_rev (f : ℕ → ℝ) (s : ℕ) (hs : s < 2048) : ∑ w ∈ range 2048, (if s + w < 2048 then f (s + w) else 0) = ∑ j ∈ Ico s 2048, f j := by
  rw [Finset.sum_Ico_eq_sum_range, ← Finset.sum_filter]
  refine Finset.sum_congr (Finset.ext fun w => ?_) fun _ _ => rfl
  rw [Finset.mem_filter, Finset.mem_range, Finset.mem_range]
  omega

theorem sum_fwd (f : ℕ → ℝ) (s : ℕ) (hs : s < 2048) : ∑ w ∈ range 2048, (if 2047 ≤ s + w then f (s + w - 2047) else 0) = ∑ j ∈ range (s + 1), f j := by
  have e : ∑ j ∈ range (s + 1), f j = ∑ w ∈ Ico (2047 - s) 2048, f (s + w - 2047) := by
    rw [Finset.sum_Ico_eq_sum_range, show 2048 - (2047 - s) = s + 1 by omega]
    refine Finset.sum_congr rfl fun j _ => ?_
    rw [show s + (2047 - s + j) - 2047 = j by omega]
  rw [e, ← Finset.sum_filter]
  refine Finset.sum_congr (Finset.ext fun w => ?_) fun _ _ => rfl
  rw [Finset.mem_filter, Finset.mem_range, Finset.mem_Ico]
  omega

variable (x : FVec Ideal SH .f32) (init : FVec Ideal (⟨0, ![]⟩ : Shape) .f32) (hi0 : ∀ i, init i = 0)
include hi0

/-- The running sum from the last key back. -/
theorem reduce_rev (h : SH.ReduceWindows ![1, 1, 2048] ![1, 1, 1] ![0, 0, 0] ![0, 0, 2047] SH) (hu : 0 < (⟨0, ![]⟩ : Shape).numel)
    (n : Fin 16) (t s : Fin 2048) (f : ℕ → ℝ) (hx : ∀ j : Fin 2048, x (ix3 n t j) = (f j.val : EReal)) :
    Host.reduceWindowAdd ![1, 1, 2048] ![1, 1, 1] ![0, 0, 0] ![0, 0, 2047] x init h hu (ix3 n t s) = ((∑ j ∈ Ico s.val 2048, f j : ℝ) : EReal) := by
  rw [← sum_rev f s.val s.isLt]
  unfold Host.reduceWindowAdd
  rw [Ideal.hostReduceWindowAdd_def, hi0]
  unfold Ideal.hostReduceWindowAdd Host.reduceWindow
  dsimp only
  refine fold_window _ (fun w => if s.val + w < 2048 then f (s.val + w) else 0) fun w => ?_
  obtain ⟨w0, w1, w2⟩ := window_symm w
  have hn := n.isLt
  have ht := t.isLt
  split
  · next hin =>
    have h2 := hin 2
    change 0 ≤ s.val * 1 + (SW.rowMajor.symm w 2).val ∧ s.val * 1 + (SW.rowMajor.symm w 2).val - 0 < 2048 at h2
    rw [w2] at h2
    have h3 : s.val + w.val < 2048 := by omega
    rw [if_pos h3]
    refine (congrArg x (funext fun a => Fin.ext ?_)).trans (hx ⟨s.val + w.val, h3⟩)
    match a with
    | ⟨0, _⟩ => show n.val * 1 + (SW.rowMajor.symm w 0).val - 0 = n.val; rw [w0]; omega
    | ⟨1, _⟩ => show t.val * 1 + (SW.rowMajor.symm w 1).val - 0 = t.val; rw [w1]; omega
    | ⟨2, _⟩ => show s.val * 1 + (SW.rowMajor.symm w 2).val - 0 = s.val + w.val; rw [w2]; omega
  · next hin =>
    rw [if_neg fun hlt => hin fun a => by
      match a with
      | ⟨0, _⟩ => show 0 ≤ n.val * 1 + (SW.rowMajor.symm w 0).val ∧ n.val * 1 + (SW.rowMajor.symm w 0).val - 0 < 16; rw [w0]; omega
      | ⟨1, _⟩ => show 0 ≤ t.val * 1 + (SW.rowMajor.symm w 1).val ∧ t.val * 1 + (SW.rowMajor.symm w 1).val - 0 < 2048; rw [w1]; omega
      | ⟨2, _⟩ => show 0 ≤ s.val * 1 + (SW.rowMajor.symm w 2).val ∧ s.val * 1 + (SW.rowMajor.symm w 2).val - 0 < 2048; rw [w2]; omega]
    rfl

/-- The running sum from the first key on. -/
theorem reduce_fwd (h : SH.ReduceWindows ![1, 1, 2048] ![1, 1, 1] ![0, 0, 2047] ![0, 0, 0] SH) (hu : 0 < (⟨0, ![]⟩ : Shape).numel)
    (n : Fin 16) (t s : Fin 2048) (f : ℕ → ℝ) (hx : ∀ j : Fin 2048, x (ix3 n t j) = (f j.val : EReal)) :
    Host.reduceWindowAdd ![1, 1, 2048] ![1, 1, 1] ![0, 0, 2047] ![0, 0, 0] x init h hu (ix3 n t s) = ((∑ j ∈ range (s.val + 1), f j : ℝ) : EReal) := by
  rw [← sum_fwd f s.val s.isLt]
  unfold Host.reduceWindowAdd
  rw [Ideal.hostReduceWindowAdd_def, hi0]
  unfold Ideal.hostReduceWindowAdd Host.reduceWindow
  dsimp only
  refine fold_window _ (fun w => if 2047 ≤ s.val + w then f (s.val + w - 2047) else 0) fun w => ?_
  obtain ⟨w0, w1, w2⟩ := window_symm w
  have hn := n.isLt
  have ht := t.isLt
  have hs := s.isLt
  have hw : w.val < 2048 := (w.cast window_numel).isLt
  split
  · next hin =>
    have h2 := hin 2
    change 2047 ≤ s.val * 1 + (SW.rowMajor.symm w 2).val ∧ s.val * 1 + (SW.rowMajor.symm w 2).val - 2047 < 2048 at h2
    rw [w2] at h2
    have h3 : 2047 ≤ s.val + w.val := by omega
    rw [if_pos h3]
    refine (congrArg x (funext fun a => Fin.ext ?_)).trans (hx ⟨s.val + w.val - 2047, by omega⟩)
    match a with
    | ⟨0, _⟩ => show n.val * 1 + (SW.rowMajor.symm w 0).val - 0 = n.val; rw [w0]; omega
    | ⟨1, _⟩ => show t.val * 1 + (SW.rowMajor.symm w 1).val - 0 = t.val; rw [w1]; omega
    | ⟨2, _⟩ => show s.val * 1 + (SW.rowMajor.symm w 2).val - 2047 = s.val + w.val - 2047; rw [w2]; omega
  · next hin =>
    rw [if_neg fun hlt => hin fun a => by
      match a with
      | ⟨0, _⟩ => show 0 ≤ n.val * 1 + (SW.rowMajor.symm w 0).val ∧ n.val * 1 + (SW.rowMajor.symm w 0).val - 0 < 16; rw [w0]; omega
      | ⟨1, _⟩ => show 0 ≤ t.val * 1 + (SW.rowMajor.symm w 1).val ∧ t.val * 1 + (SW.rowMajor.symm w 1).val - 0 < 2048; rw [w1]; omega
      | ⟨2, _⟩ => show 2047 ≤ s.val * 1 + (SW.rowMajor.symm w 2).val ∧ s.val * 1 + (SW.rowMajor.symm w 2).val - 2047 < 2048; rw [w2]; omega]
    rfl

end Cert.Proof.RefSum

end
-- ==== Proof.RefValue.lean ====
/-
  The reference, read element by element over finite arguments: its three results are the gradients of the
  stick-breaking attention.
-/
module

public import proofs.«01_k».proof.Proof.Heads
public import proofs.«01_k».proof.Proof.RefSum
public import proofs.«01_k».proof.Proof.Gen.ReferenceIdeal.Read

@[expose] public section

set_option maxRecDepth 16384

noncomputable section

namespace Cert.Proof.Ref

open Cert.ReferenceIdeal Cert.ReferenceIdeal.Read
open Idealize.ShloMosaic
open Cert.Proof.Num Cert.Proof.Attn
open Finset

/-! ## One element -/

/-- A comparison which is false picks the second value. -/
theorem pick_false {w : BitVec 1} (h : w = 0#1) (x y : EReal) : Scalar.select w x y = y := by
  rw [h]; rfl

theorem ne_self (x : EReal) : Ideal.cmp .une x x = 0#1 := by
  show BitVec.ofBool (decide (x ≠ x)) = _
  rw [decide_eq_false (by simp)]; rfl

theorem eq_top (x : ℝ) : Ideal.cmp .oeq (x : EReal) ⊤ = 0#1 := by
  show BitVec.ofBool (decide ((x : EReal) = ⊤)) = _
  rw [decide_eq_false (EReal.coe_ne_top x)]; rfl

/-- The reference's `softplus` of a real. -/
theorem softplus (x : ℝ) :
    (Scalar.select (Ideal.cmp .une ((x : EReal) - 0) ((x : EReal) - 0)) ((x : EReal) + 0)
      (max (x : EReal) 0 + Ideal.log1p (Ideal.exp (-(max ((x : EReal) - 0) (-((x : EReal) - 0)))))))
      = ((Real.log (1 + Real.exp x) : ℝ) : EReal) := by
  rw [pick_false (ne_self _), sub_zero, abs_coe, ← EReal.coe_neg, Ideal.exp_coe]
  show _ + Ideal.log (1 + _) = _
  rw [log_one_add_coe, ← EReal.coe_zero, max_coe, ← EReal.coe_add, ← Stick.log_one_add_exp]

/-- What the reference's derivative of `softplus` is built from: a real is left as it is. -/
theorem keep (x : ℝ) (y : EReal) : Scalar.select (Ideal.cmp .oeq (x : EReal) ⊤) y (x : EReal) = (x : EReal) :=
  pick_false (eq_top x) _ _

/-- A sum of products of reals over `Fin n`. -/
theorem dot_val {n : ℕ} (f g : ℕ → ℝ) (F G : Fin n → EReal) (hf : ∀ k, F k = (f k.val : EReal)) (hg : ∀ k, G k = (g k.val : EReal)) :
    ∑ k : Fin n, F k * G k = ((∑ j ∈ range n, f j * g j : ℝ) : EReal) := by
  rw [Finset.sum_range, ← dot_coe]
  exact Finset.sum_congr rfl fun k _ => by rw [hf, hg]

variable (x0 : FVec Ideal S2048x6144 .bf16) (x1 : FVec Ideal S2048x2048 .f32) (A B : ℕ → ℕ → ℝ)

/-! ## The heads -/

section
variable (hx : ∀ (t : Fin 2048) (e : Fin 6144), e.val < 4096 → x0 (ix2 t e) = (A t.val e.val : EReal))
include hx

theorem x0_val (i : S2048x6144.Idx) (t e : ℕ) (h0 : (i 0).val = t) (h1 : (i 1).val = e) (he : e < 4096) : x0 i = (A t e : EReal) := by
  subst h0 h1
  exact (congrArg x0 (eq_ix2 i)).trans (hx (i 0) (i 1) he)

theorem q_val (i : S2048x16x128.Idx) : val_main_v4 (F := Ideal) x0 i = (qh A (i 1).val (i 0).val (i 2).val : EReal) := by
  rw [val_main_v4_apply, val_main_v1_apply, val_main_v0_apply]
  have h1 : (i 1).val < 16 := (i 1).isLt
  have h2 : (i 2).val < 128 := (i 2).isLt
  refine x0_val x0 A hx _ _ _ ?_ ?_ (by omega)
  · show (((i 0).val * 16 + (i 1).val) * 128 + (i 2).val) / 2048 = _; omega
  · show (((i 0).val * 16 + (i 1).val) * 128 + (i 2).val) % 2048 = _; omega

theorem k_val (i : S2048x16x128.Idx) : val_main_v5 (F := Ideal) x0 i = (kh A (i 1).val (i 0).val (i 2).val : EReal) := by
  rw [val_main_v5_apply, val_main_v2_apply, val_main_v0_apply]
  have h1 : (i 1).val < 16 := (i 1).isLt
  have h2 : (i 2).val < 128 := (i 2).isLt
  refine x0_val x0 A hx _ _ _ ?_ ?_ (by omega)
  · show (((i 0).val * 16 + (i 1).val) * 128 + (i 2).val) / 2048 = _; omega
  · show 2048 + (((i 0).val * 16 + (i 1).val) * 128 + (i 2).val) % 2048 = _; omega

/-! ## The scores -/

/-- The score at a position. -/
def zAt (A : ℕ → ℕ → ℝ) (i : S16x2048x2048.Idx) : ℝ := Stick.z scale (qh A (i 0).val) (kh A (i 0).val) (i 1).val (i 2).val

theorem z_val (i : S16x2048x2048.Idx) : val_main_v10 (F := Ideal) x0 i = (zAt A i : EReal) := by
  rw [val_main_v10_apply, val_main_v8_apply, val_main_v9_apply]
  rw [dot_val (fun d => qh A (i 0).val (i 1).val d) (fun d => kh A (i 0).val (i 2).val d) _ _
    (fun k => q_val x0 A hx _) (fun k => k_val x0 A hx _)]
  show _ * Ideal.ofBits .f32 0x3DB504F3#32 = _
  rw [ofBits_scale, ← EReal.coe_mul]
  rfl

theorem negz_val (i : S16x2048x2048.Idx) : val_main_call0_v0 (F := Ideal) x0 i = ((-zAt A i : ℝ) : EReal) := by
  rw [val_main_call0_v0_apply, z_val x0 A hx]; exact (EReal.coe_neg _).symm

theorem negnegz_val (i : S16x2048x2048.Idx) : val_main_call1_v0 (F := Ideal) x0 i = (zAt A i : EReal) := by
  rw [val_main_call1_v0_apply, val_main_v17_apply, z_val x0 A hx]; exact neg_neg _

theorem sp0_val (i : S16x2048x2048.Idx) :
    val_main_call0_v1_0 (F := Ideal) x0 i = ((Real.log (1 + Real.exp (-zAt A i)) : ℝ) : EReal) := by
  rw [← softplus]
  rw [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v5_apply, val_main_call0_call0_v2_apply,
    val_main_call0_call0_v0_apply, negz_val x0 A hx]
  simp only [val_main_call0_call0_cst_apply, Ideal.ofBits_def, Ideal.ofBits_zero_f32]
  rfl

theorem sp1_val (i : S16x2048x2048.Idx) :
    val_main_call1_v1_0 (F := Ideal) x0 i = ((Real.log (1 + Real.exp (zAt A i)) : ℝ) : EReal) := by
  rw [← softplus]
  rw [val_main_call1_v1_0_apply, val_main_call1_call0_v4_apply, val_main_call1_call0_v6_apply, val_main_call1_call0_v11_apply,
    val_main_call1_call0_v1_apply, val_main_call1_call0_v10_apply, val_main_call1_call0_v9_apply, val_main_call1_call0_v8_apply,
    val_main_call1_call0_v7_apply, val_main_call1_call0_v3_apply, val_main_call1_call0_v5_apply, val_main_call1_call0_v2_apply,
    val_main_call1_call0_v0_apply, negnegz_val x0 A hx]
  simp only [val_main_call1_call0_cst_apply, Ideal.ofBits_def, Ideal.ofBits_zero_f32]
  rfl

theorem logFrac_val (i : S16x2048x2048.Idx) : val_main_v16_0 (F := Ideal) x0 i = (Stick.logFrac (zAt A i) : EReal) := by
  rw [val_main_v16_0_apply, sp0_val x0 A hx]; exact (EReal.coe_neg _).symm

theorem logKeep_val (i : S16x2048x2048.Idx) : val_main_v18_0 (F := Ideal) x0 i = (Stick.logKeep (zAt A i) : EReal) := by
  rw [val_main_v18_0_apply, sp1_val x0 A hx]; exact (EReal.coe_neg _).symm

theorem keepFrac_val (i : S16x2048x2048.Idx) : val_main_v16_1 (F := Ideal) x0 i = ((1 - Stick.frac (zAt A i) : ℝ) : EReal) := by
  rw [val_main_v16_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_cst_0_apply, val_main_call0_call0_cst_2_apply, negz_val x0 A hx, sp0_val x0 A hx]
  simp only [Ideal.ofBits_def, ofBits_inf, Ideal.cmpf_def]
  rw [keep, keep, ← Stick.frac_neg, ← Stick.exp_sub_log, ← Ideal.exp_coe, EReal.coe_sub]
  rfl

theorem frac_val (i : S16x2048x2048.Idx) : val_main_v18_1 (F := Ideal) x0 i = (Stick.frac (zAt A i) : EReal) := by
  rw [val_main_v18_1_apply, val_main_call1_call0_v21_apply, val_main_call1_call0_v16_apply, val_main_call1_call0_v20_apply,
    val_main_call1_call0_v14_apply, val_main_call1_call0_v18_apply, val_main_call1_call0_v13_apply, val_main_call1_call0_v17_apply,
    val_main_call1_call0_cst_0_apply, val_main_call1_call0_cst_2_apply, negnegz_val x0 A hx, sp1_val x0 A hx]
  simp only [Ideal.ofBits_def, ofBits_inf, Ideal.cmpf_def]
  rw [keep, keep, ← Stick.exp_sub_log, ← Ideal.exp_coe, EReal.coe_sub]
  rfl

/-! ## The weights -/

omit hx in
theorem mask_val (i : S2048x2048.Idx) : val_main_v15 (F := Ideal) i = if (i 1).val < (i 0).val then 1#1 else 0#1 := by
  rw [val_main_v15_apply, val_main_v13_apply, val_main_v14_apply, val_main_v11_apply, val_main_v12_apply]
  exact slt_small (i 1).isLt (i 0).isLt

omit hx in
theorem mask0_val (i : S16x2048x2048.Idx) : val_main_v19_1 (F := Ideal) i = if (i 2).val < (i 1).val then 1#1 else 0#1 := by
  rw [val_main_v19_1_apply, mask_val]

omit hx in
theorem mask1_val (i : S16x2048x2048.Idx) : val_main_v24_1 (F := Ideal) i = if (i 2).val < (i 1).val then 1#1 else 0#1 := by
  rw [val_main_v24_1_apply, mask_val]

/-- What the later keys leave, and the weight. -/
def restAt (A : ℕ → ℕ → ℝ) (n t s : ℕ) : ℝ := Stick.rest scale (qh A n) (kh A n) t s
def attAt (A : ℕ → ℕ → ℝ) (n t s : ℕ) : ℝ := Stick.att scale (qh A n) (kh A n) t s

theorem rest_val (i : S16x2048x2048.Idx) :
    val_main_v19_0 (F := Ideal) x0 i = (restAt A (i 0).val (i 1).val (i 2).val : EReal) := by
  rw [val_main_v19_0_apply, select_one (mask0_val i), logKeep_val x0 A hx, val_main_call2_v2_apply, val_main_call2_v0_apply]
  unfold restAt Stick.rest
  split
  · rfl
  · exact Ideal.ofBits_zero_f32

theorem exp_val (n : Fin 16) (t s : Fin 2048) :
    val_main_v23 (F := Ideal) x0 (ix3 n t s)
      = ((Real.exp (Stick.logFrac (zAt A (ix3 n t s)) + ∑ j ∈ Ico (s.val + 1) 2048, restAt A n.val t.val j) : ℝ) : EReal) := by
  have e : val_main_v20 (F := Ideal) x0 (ix3 n t s) = ((∑ j ∈ Ico s.val 2048, restAt A n.val t.val j : ℝ) : EReal) :=
    RefSum.reduce_rev _ _ (fun i => by
      rw [val_main_call3_v0_apply, val_main_call3_cst_apply]; exact Ideal.ofBits_zero_f32) _ _ n t s (restAt A n.val t.val)
      fun j => rest_val x0 A hx _
  rw [val_main_v23_apply, val_main_v22_apply, val_main_v21_apply, e, rest_val x0 A hx, logFrac_val x0 A hx, ← Ideal.exp_coe,
    EReal.coe_add]
  have h : ∑ j ∈ Ico (s.val + 1) 2048, restAt A n.val t.val j
      = ∑ j ∈ Ico s.val 2048, restAt A n.val t.val j - restAt A n.val t.val s.val := by
    rw [Finset.sum_eq_sum_Ico_succ_bot s.isLt]; ring
  rw [h, EReal.coe_sub]
  rfl

theorem att_val (n : Fin 16) (t s : Fin 2048) :
    val_main_v24_0 (F := Ideal) x0 (ix3 n t s) = (attAt A n.val t.val s.val : EReal) := by
  rw [val_main_v24_0_apply, select_one (mask1_val _), exp_val x0 A hx, val_main_call4_v2_apply, val_main_call4_v0_apply]
  unfold attAt Stick.att
  show (if s.val < t.val then _ else _) = _
  by_cases h : s.val < t.val
  · rw [if_pos h, if_pos h]; rfl
  · rw [if_neg h, if_neg h]; exact Ideal.ofBits_zero_f32

theorem att_at (i : S16x2048x2048.Idx) : val_main_v24_0 (F := Ideal) x0 i = (attAt A (i 0).val (i 1).val (i 2).val : EReal) :=
  (congrArg _ (eq_ix3 i)).trans (att_val x0 A hx _ _ _)

end

/-! ## The gradients -/

section
variable (hx : ∀ (t : Fin 2048) (e : Fin 6144), x0 (ix2 t e) = (A t.val e.val : EReal))

theorem low (hx : ∀ (t : Fin 2048) (e : Fin 6144), x0 (ix2 t e) = (A t.val e.val : EReal)) (t : Fin 2048) (e : Fin 6144) (_ : e.val < 4096) :
    x0 (ix2 t e) = (A t.val e.val : EReal) := hx t e

include hx

theorem v_val (i : S2048x16x128.Idx) : val_main_v6 (F := Ideal) x0 i = (vh A (i 1).val (i 0).val (i 2).val : EReal) := by
  rw [val_main_v6_apply, val_main_v3_apply, val_main_v0_apply]
  have h1 : (i 1).val < 16 := (i 1).isLt
  have h2 : (i 2).val < 128 := (i 2).isLt
  refine (congrArg x0 (eq_ix2 _)).trans ((hx _ _).trans ?_)
  refine congrArg (fun r : ℝ => (r : EReal)) (congrArg₂ A ?_ ?_)
  · show (((i 0).val * 16 + (i 1).val) * 128 + (i 2).val) / 2048 = _; omega
  · show 4096 + (((i 0).val * 16 + (i 1).val) * 128 + (i 2).val) % 2048 = _; omega

variable (hy : ∀ t e : Fin 2048, x1 (ix2 t e) = (B t.val e.val : EReal))

omit hx in
include hy in
theorem x1_val (i : S2048x2048.Idx) (t e : ℕ) (h0 : (i 0).val = t) (h1 : (i 1).val = e) : x1 i = (B t e : EReal) := by
  subst h0 h1
  exact (congrArg x1 (eq_ix2 i)).trans (hy (i 0) (i 1))

omit hx in
include hy in
/-- The cotangent, by head, depth and row. -/
theorem o_val (i : S16x128x2048.Idx) : val_main_v29 (F := Ideal) x1 i = (oh B (i 0).val (i 2).val (i 1).val : EReal) := by
  rw [val_main_v29_apply, val_main_v28_apply]
  have h0 : (i 0).val < 16 := (i 0).isLt
  have h1 : (i 1).val < 128 := (i 1).isLt
  refine x1_val x1 B hy _ _ _ ?_ ?_
  · show (((i 2).val * 16 + (i 0).val) * 128 + (i 1).val) / 2048 = _; omega
  · show (((i 2).val * 16 + (i 0).val) * 128 + (i 1).val) % 2048 = _; omega

/-- The gradient of the log of the weight, and of the unscaled score. -/
def wgAt (A B : ℕ → ℕ → ℝ) (n t s : ℕ) : ℝ := Stick.wg scale (qh A n) (kh A n) (vh A n) (oh B n) t s
def sgAt (A B : ℕ → ℕ → ℝ) (n t s : ℕ) : ℝ := Stick.sg scale (qh A n) (kh A n) (vh A n) (oh B n) t s

include hy

theorem wg_val (n : Fin 16) (t s : Fin 2048) :
    val_main_v34 (F := Ideal) x0 x1 (ix3 n t s) = (wgAt A B n.val t.val s.val : EReal) := by
  rw [val_main_v34_apply, val_main_v33_apply, select_one (mask1_val _), exp_val x0 A (low x0 A hx), val_main_v30_apply,
    dot_val (fun d => oh B n.val t.val d) (fun d => vh A n.val s.val d) _ _
      (fun k => o_val x1 B hy _) (fun k => v_val x0 A hx _),
    val_main_call5_v0_apply, val_main_call5_cst_apply]
  unfold wgAt Stick.wg Stick.att
  show (if s.val < t.val then _ else _) * _ = _
  by_cases h : s.val < t.val
  · rw [if_pos h, if_pos h, ← EReal.coe_mul]; rfl
  · rw [if_neg h, if_neg h, mul_zero, Ideal.ofBits_def, Ideal.ofBits_zero_f32, zero_mul]; rfl

theorem sg_val (n : Fin 16) (t s : Fin 2048) :
    val_main_v44 (F := Ideal) x0 x1 (ix3 n t s) = (sgAt A B n.val t.val s.val : EReal) := by
  have e : val_main_v36 (F := Ideal) x0 x1 (ix3 n t s) = ((∑ j ∈ range (s.val + 1), wgAt A B n.val t.val j : ℝ) : EReal) :=
    RefSum.reduce_fwd _ _ (fun i => by
      rw [val_main_call6_v0_apply, val_main_call6_cst_apply]; exact Ideal.ofBits_zero_f32) _ _ n t s (wgAt A B n.val t.val)
      fun j => wg_val x0 x1 A B hx hy n t j
  rw [val_main_v44_apply, val_main_v42_apply, val_main_v40_apply, val_main_v39_apply, val_main_call8_v1_apply,
    val_main_call8_v0_apply, val_main_v38_apply, select_one (mask0_val _), val_main_v37_apply, val_main_v35_apply, e,
    val_main_v41_apply, val_main_call9_v1_apply, val_main_call9_v0_apply, wg_val x0 x1 A B hx hy, frac_val x0 A (low x0 A hx),
    keepFrac_val x0 A (low x0 A hx), val_main_call7_v0_apply, val_main_call7_cst_apply, val_main_v43_apply, val_main_cst_2_apply]
  simp only [Ideal.ofBits_def, Ideal.ofBits_zero_f32, ofBits_scale, Ideal.hostNegf_def, Ideal.negf_def, Ideal.mulf_def, Ideal.addf_def]
  have hw : ∑ j ∈ range (s.val + 1), wgAt A B n.val t.val j
      = ∑ j ∈ range s.val, wgAt A B n.val t.val j + wgAt A B n.val t.val s.val := Finset.sum_range_succ _ _
  rw [hw]
  unfold sgAt Stick.sg
  by_cases h : s.val < t.val
  · have h' : ((ix3 n t s : S16x2048x2048.Idx) 2).val < ((ix3 n t s : S16x2048x2048.Idx) 1).val := h
    rw [if_pos h', if_pos h]
    simp only [← EReal.coe_neg, ← EReal.coe_add, ← EReal.coe_mul]
    refine congrArg _ ?_
    show _ = (wgAt A B n.val t.val s.val * (1 - Stick.frac (zAt A (ix3 n t s)))
      - Stick.frac (zAt A (ix3 n t s)) * ∑ j ∈ range s.val, wgAt A B n.val t.val j) * scale
    ring
  · have h' : ¬((ix3 n t s : S16x2048x2048.Idx) 2).val < ((ix3 n t s : S16x2048x2048.Idx) 1).val := h
    have hW : wgAt A B n.val t.val s.val = 0 := by
      unfold wgAt Stick.wg; rw [Stick.att_off (Nat.not_lt.mp h), mul_zero]
    rw [if_neg h', if_neg h, hW]
    simp

theorem sg_at (i : S16x2048x2048.Idx) : val_main_v44 (F := Ideal) x0 x1 i = (sgAt A B (i 0).val (i 1).val (i 2).val : EReal) :=
  (congrArg _ (eq_ix3 i)).trans (sg_val x0 x1 A B hx hy _ _ _)

theorem dv_head (i : S2048x16x128.Idx) : val_main_v32 (F := Ideal) x0 x1 i
    = (Stick.dv scale (qh A (i 1).val) (kh A (i 1).val) (oh B (i 1).val) (i 0).val (i 2).val : EReal) := by
  rw [val_main_v32_apply, val_main_v31_apply,
    dot_val (fun t => oh B (i 1).val t (i 2).val) (fun t => attAt A (i 1).val t (i 0).val) _ _
      (fun k => o_val x1 B hy _) (fun k => att_at x0 A (low x0 A hx) _)]
  exact congrArg _ (Finset.sum_congr rfl fun t _ => mul_comm _ _)

theorem dk_head (i : S2048x16x128.Idx) : val_main_v46 (F := Ideal) x0 x1 i
    = (Stick.dk scale (qh A (i 1).val) (kh A (i 1).val) (vh A (i 1).val) (oh B (i 1).val) (i 0).val (i 2).val : EReal) := by
  rw [val_main_v46_apply, val_main_v45_apply]
  exact dot_val (fun t => sgAt A B (i 1).val t (i 0).val) (fun t => qh A (i 1).val t (i 2).val) _ _
      (fun k => sg_at x0 x1 A B hx hy _) (fun k => q_val x0 A (low x0 A hx) _)

theorem dq_head (i : S2048x16x128.Idx) : val_main_v48 (F := Ideal) x0 x1 i
    = (Stick.dq scale (qh A (i 1).val) (kh A (i 1).val) (vh A (i 1).val) (oh B (i 1).val) (i 0).val (i 2).val : EReal) := by
  rw [val_main_v48_apply, val_main_v47_apply]
  exact dot_val (fun s => sgAt A B (i 1).val (i 0).val s) (fun s => kh A (i 1).val s (i 2).val) _ _
      (fun k => sg_at x0 x1 A B hx hy _) (fun k => k_val x0 A (low x0 A hx) _)

/-! ## The three results -/

/-- The reference's first result. -/
theorem dq_ref : val_main_v52 (F := Ideal) x0 x1 = fun y => ((dqAt A B (y 0).val (y 1).val : ℝ) : EReal) := by
  funext i
  have h1 : (i 1).val < 2048 := (i 1).isLt
  have e0 : ((idx_main_v51 i) 0).val = (i 0).val := by
    show ((i 0).val * 2048 + (i 1).val) / 2048 = _; omega
  have e1 : ((idx_main_v51 i) 1).val = (i 1).val / 128 := by
    show ((i 0).val * 2048 + (i 1).val) / 128 % 16 = _; omega
  have e2 : ((idx_main_v51 i) 2).val = (i 1).val % 128 := by
    show ((i 0).val * 2048 + (i 1).val) % 128 = _; omega
  rw [val_main_v52_apply, val_main_v51_apply, dq_head x0 x1 A B hx hy, e0, e1, e2]
  rfl

/-- The reference's second result. -/
theorem dk_ref : val_main_v53 (F := Ideal) x0 x1 = fun y => ((dkAt A B (y 0).val (y 1).val : ℝ) : EReal) := by
  funext i
  have h1 : (i 1).val < 2048 := (i 1).isLt
  have e0 : ((idx_main_v50 i) 0).val = (i 0).val := by
    show ((i 0).val * 2048 + (i 1).val) / 2048 = _; omega
  have e1 : ((idx_main_v50 i) 1).val = (i 1).val / 128 := by
    show ((i 0).val * 2048 + (i 1).val) / 128 % 16 = _; omega
  have e2 : ((idx_main_v50 i) 2).val = (i 1).val % 128 := by
    show ((i 0).val * 2048 + (i 1).val) % 128 = _; omega
  rw [val_main_v53_apply, val_main_v50_apply, dk_head x0 x1 A B hx hy, e0, e1, e2]
  rfl

/-- The reference's third result. -/
theorem dv_ref : val_main_v54 (F := Ideal) x0 x1 = fun y => ((dvAt A B (y 0).val (y 1).val : ℝ) : EReal) := by
  funext i
  have h1 : (i 1).val < 2048 := (i 1).isLt
  have e0 : ((idx_main_v49 i) 0).val = (i 0).val := by
    show ((i 0).val * 2048 + (i 1).val) / 2048 = _; omega
  have e1 : ((idx_main_v49 i) 1).val = (i 1).val / 128 := by
    show ((i 0).val * 2048 + (i 1).val) / 128 % 16 = _; omega
  have e2 : ((idx_main_v49 i) 2).val = (i 1).val % 128 := by
    show ((i 0).val * 2048 + (i 1).val) % 128 = _; omega
  rw [val_main_v54_apply, val_main_v49_apply, dv_head x0 x1 A B hx hy, e0, e1, e2]
  rfl

end

end Cert.Proof.Ref
-- ==== Proof.Finite.lean ====
/-
  What the precondition says: the two arguments hold reals.
-/
module

public import proofs.«01_k».proof.Pre_finite
public import proofs.«01_k».proof.Proof.Num
public import Idealize.ShloMosaic.Lib.Pipeline.Value
public import Idealize.ShloMosaic.Lib.ValueIdx
public import Idealize.ShloMosaic.Lib.Affine
public import Idealize.ShloMosaic.PureOps.Ideal.Laws

@[expose] public section

noncomputable section

namespace Cert.Proof.Finite

open Cert.Pre_finite
open Idealize.ShloMosaic
open Cert.Proof.Num

theorem facts : Cert.Pre_finite.Facts where
  bitsLt_bf16_f32 := by decide
  slices_S2048x6144_S2048x2048_0_0 := by decide
  bcast_S_S2048x2048 := by decide
  slices_S2048x6144_S2048x2048_0_2048 := by decide
  slices_S2048x6144_S2048x2048_0_4096 := by decide

/-- A comparison against infinity which holds. -/
theorem real_of_cmp {x : EReal} (h : Ideal.cmp .olt (max x (-x)) (Ideal.ofBits .f32 0x7F800000#32) = 1#1) : ((x.toReal : ℝ) : EReal) = x := by
  rw [ofBits_inf] at h
  refine real_of_lt ?_
  by_contra hn
  have e : Ideal.cmp .olt (max x (-x)) ⊤ = 0#1 := by
    show BitVec.ofBool (decide (max x (-x) < ⊤)) = _
    rw [decide_eq_false hn]; rfl
  rw [e] at h
  exact absurd h (by decide)

variable (X : FVec Ideal S2048x6144 .bf16)

/-- A third of the columns of `X`, at an index. -/
theorem slice_at (o : ℕ) (h : S2048x6144.Slices ![0, o] S2048x2048) (t e : Fin 2048) (he : o + e.val < 6144) :
    extractStridedSlice S2048x2048 ![0, o] X h (ix2 t e) = X (ix2 t (⟨o + e.val, he⟩ : Fin 6144)) :=
  extractStridedSlice_apply ![0, o] X h (ix2 t e) (ix2 t (⟨o + e.val, he⟩ : Fin 6144)) (fun a => match a with
    | ⟨0, _⟩ => by show t.val = 0 + t.val; omega
    | ⟨1, _⟩ => rfl)

variable [Cert.Pre_finite.Facts] (Y : FVec Ideal S2048x2048 .f32)
variable (H : Cert.Pre_finite.fn (F := Ideal) X Y = fun _ => 1#1)
include H

theorem parts (t e : Fin 2048) : (∀ (o : ℕ) (he : o + e.val < 6144), o = 0 ∨ o = 2048 ∨ o = 4096 →
      (((X (ix2 t (⟨o + e.val, he⟩ : Fin 6144)) : EReal).toReal : ℝ) : EReal) = X (ix2 t (⟨o + e.val, he⟩ : Fin 6144)))
    ∧ (((Y (ix2 t e) : EReal).toReal : ℝ) : EReal) = Y (ix2 t e) := by
  have h := congrFun H (ix2 t e)
  dsimp only [Cert.Pre_finite.fn] at h
  obtain ⟨h123, h4⟩ := IntOp.andi_eq_one.mp h
  obtain ⟨h12, h3⟩ := IntOp.andi_eq_one.mp h123
  obtain ⟨h1, h2⟩ := IntOp.andi_eq_one.mp h12
  refine ⟨fun o he ho => ?_, real_of_cmp h4⟩
  rcases ho with rfl | rfl | rfl
  · rw [← slice_at X 0 Facts.slices_S2048x6144_S2048x2048_0_0 t e he]; exact real_of_cmp h1
  · rw [← slice_at X 2048 Facts.slices_S2048x6144_S2048x2048_0_2048 t e he]; exact real_of_cmp h2
  · rw [← slice_at X 4096 Facts.slices_S2048x6144_S2048x2048_0_4096 t e he]; exact real_of_cmp h3

/-- The reals of the two arguments. -/
theorem reals : ∃ A B : ℕ → ℕ → ℝ, (∀ (t : Fin 2048) (e : Fin 6144), X (ix2 t e) = (A t.val e.val : EReal))
    ∧ ∀ t e : Fin 2048, Y (ix2 t e) = (B t.val e.val : EReal) := by
  refine ⟨fun t e => if h : t < 2048 ∧ e < 6144 then (X (ix2 (⟨t, h.1⟩ : Fin 2048) (⟨e, h.2⟩ : Fin 6144)) : EReal).toReal else 0,
    fun t e => if h : t < 2048 ∧ e < 2048 then (Y (ix2 (⟨t, h.1⟩ : Fin 2048) (⟨e, h.2⟩ : Fin 2048)) : EReal).toReal else 0, ?_, ?_⟩
  · intro t e
    refine Eq.trans ?_ (congrArg (fun r : ℝ => (r : EReal)) (dif_pos (And.intro t.isLt e.isLt))).symm
    have he := e.isLt
    have hd : e.val % 2048 < 2048 := Nat.mod_lt _ (by omega)
    have ho : 2048 * (e.val / 2048) = 0 ∨ 2048 * (e.val / 2048) = 2048 ∨ 2048 * (e.val / 2048) = 4096 := by omega
    have p := (parts X Y H t ⟨e.val % 2048, hd⟩).1 (2048 * (e.val / 2048)) (by show 2048 * (e.val / 2048) + e.val % 2048 < 6144; omega) ho
    have q : (⟨2048 * (e.val / 2048) + e.val % 2048, by omega⟩ : Fin 6144) = e := Fin.ext (by show 2048 * (e.val / 2048) + e.val % 2048 = e.val; omega)
    rw [show (⟨2048 * (e.val / 2048) + (⟨e.val % 2048, hd⟩ : Fin 2048).val, by show 2048 * (e.val / 2048) + e.val % 2048 < 6144; omega⟩ : Fin 6144) = e from q] at p
    exact p.symm
  · intro t e
    refine Eq.trans ?_ (congrArg (fun r : ℝ => (r : EReal)) (dif_pos (And.intro t.isLt e.isLt))).symm
    exact (parts X Y H t e).2.symm

end Cert.Proof.Finite

end
-- ==== Proof.Fwd.lean ====
/-
  The attention's forward, one grid step: one pair of heads and one block of 512 query rows. Its loop goes over blocks
  of 512 keys from the diagonal block down, as the first loop of the gradient does, with the same attention blocks; each
  is multiplied with the values and added up.
-/
module

public import proofs.«01_k».proof.Proof.Steps
public import proofs.«01_k».proof.Proof.Gen.Kernel14Ideal.Value
public import Idealize.ShloMosaic.Lib.VecWindow
public import Idealize.ShloMosaic.Lib.Tactic

@[expose] public section

noncomputable section

namespace Cert.Proof.Fwd

open Cert.Kernel14Ideal Cert.Kernel14Ideal.Gen
open Cert.Proof.Attn
open Idealize.ShloMosaic Idealize.ShloMosaic.TcCoe Idealize.ShloMosaic.Tactic
open Idealize.SL.Sem

variable {F : FTy → Type} [FloatOps F]

/-- The product of one pair of head columns: before trip `n`, the attention blocks so far times their values. -/
def oB (i : grid0.Coords) (Q : Vec F S512x256 .bf16) (K V : Vec F S2048x256 .bf16) (j : Fin 2) : ℕ → FVec F S512x128 .f32
  | 0 => cst S512x128 0x00000000#32
  | n + 1 => dqAdd (truncf .bf16 (aB i Q K j n) bitsLt_bf16_f32 : FVec F S512x512 .bf16) (blk V (kbOf i n) j) (oB i Q K V j n)

theorem off1_eq : ∀ (i : grid0.Coords) (n : Fin (k0_t1_loop i).trips), k0_off1 i n = ![512 * (kbOf i n.val).val, 0] := by decide +kernel
theorem off2_eq : ∀ (i : grid0.Coords) (n : Fin (k0_t1_loop i).trips), k0_off2 i n = ![512 * (kbOf i n.val).val, 128] := by decide +kernel

/-- The first key position of the block a trip visits, as the kernel computes it. -/
theorem word : ∀ (i : grid0.Coords) (n : Fin (k0_t1_loop i).trips),
    Scalar.muli (Scalar.subi (BitVec.ofNat 32 (i 1).val) (Scf.iv 0#32 1#32 n)) 512#32 = BitVec.ofNat 32 (512 * (kbOf i n.val).val) := by decide +kernel

/-- The loop runs once for each key block up to the diagonal one. -/
theorem trips1 : ∀ i : grid0.Coords, (k0_t1_loop i).trips = (i 1).val + 1 := by decide +kernel

/-- Nothing is left for the loop after it. -/
theorem trips2 : ∀ i : grid0.Coords, (k0_t2_loop i).trips = 0 := by decide +kernel

section Payloads

variable (i : grid0.Coords) (n : Fin (k0_t1_loop i).trips) (q k v : Vec F S512x128 .bf16) (o : FVec F S512x128 .f32) (t : FVec F S512x1 .f32) (m : IVec S512x512 1)

/-- The mask of a trip, as the trip computes it. -/
abbrev tripMask : IVec S512x512 1 :=
  k0_pay13 i (BitVec.ofNat 32 (i 1).val) (iota .tc S512x512 32 [1] iota_S512x512_d1_w32) (k0_pay2 i) 0#32 1#32 n

theorem pay_mask : k0_pay13 i (BitVec.ofNat 32 (i 1).val) (iota .tc S512x512 32 [1] iota_S512x512_d1_w32) (k0_pay2 i) 0#32 1#32 n = mask i (kbOf i n.val) := by
  unfold mask
  rw [← word i n]
  rfl

theorem pay_tail0 : k0_pay20 t (k0_pay16 i (BitVec.ofNat 32 (i 1).val) (iota .tc S512x512 32 [1] iota_S512x512_d1_w32) q (k0_pay2 i) 0#32 1#32 n k)
    = rowAdd t (logRest (mask i (kbOf i n.val)) (score q k)) := by
  rw [← pay_mask i n]; rfl

theorem pay_out0 : k0_pay19 o (tripMask i n) (k0_pay17 i (BitVec.ofNat 32 (i 1).val) (iota .tc S512x512 32 [1] iota_S512x512_d1_w32) k0_pay1 q (k0_pay2 i) 0#32 1#32 n t k) k0_pay18 v
    = dqAdd (truncf .bf16 (attn (mask i (kbOf i n.val)) t (score q k)) bitsLt_bf16_f32 : FVec F S512x512 .bf16) v o := by
  rw [← pay_mask i n]; rfl

theorem pay_tail1 : k0_pay8 t (k0_pay23 q m k) = rowAdd t (logRest m (score q k)) := rfl

theorem pay_out1 : k0_pay7 o m (k0_pay24 q t k) (k0_pay25 k0_pay1 q m k) v
    = dqAdd (truncf .bf16 (attn m t (score q k)) bitsLt_bf16_f32 : FVec F S512x512 .bf16) v o := rfl

end Payloads

variable (c : Dev nD) (i : grid0.Coords)
  (arg2 : Memref sig .tc .vmem S512x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S512x256 .bf16) (harg5 : arg5.IsWhole)
  (Q : Vec F S512x256 .bf16) (K V : Vec F S2048x256 .bf16)

/-- What is carried before trip `n`: per head the log survival and the product so far. -/
abbrev state (n : ℕ) : FVec F S512x1 .f32 × FVec F S512x128 .f32 × FVec F S512x1 .f32 × FVec F S512x128 .f32 :=
  (tail i Q K 0 n, oB i Q K V 0 n, tail i Q K 1 n, oB i Q K V 1 n)

theorem trip (n : Fin (k0_t1_loop i).trips) :
    tripR_k0_t1 (F := F) Variants.none c none i arg2 harg2 arg3 harg3 arg4 harg4 arg5 harg5 (BitVec.ofNat 32 (i 1).val)
      (iota .tc S512x512 32 [1] iota_S512x512_d1_w32) (hcol Q 0) (hcol Q 1) (harg3.unread K) (harg4.unread V) n (state i Q K V n.val) = state i Q K V (n.val + 1) := by
  have hk0 : View.readAt (Elt F) arg3.view (Rect.unit (s := S2048x256) (k0_off1 i n) S512x128.size (k0_off1_inb i n)).toLoadRect (harg3.unread K) = blk K (kbOf i n.val) 0 :=
    (View.readAt_unit arg3.view _ (k0_off1_inb i n) (off1_eq i n) (off1_eq i n ▸ k0_off1_inb i n)).trans (by rw [harg3.read_unread]; exact window_blk0 K _ _)
  have hk1 : View.readAt (Elt F) arg3.view (Rect.unit (s := S2048x256) (k0_off2 i n) S512x128.size (k0_off2_inb i n)).toLoadRect (harg3.unread K) = blk K (kbOf i n.val) 1 :=
    (View.readAt_unit arg3.view _ (k0_off2_inb i n) (off2_eq i n) (off2_eq i n ▸ k0_off2_inb i n)).trans (by rw [harg3.read_unread]; exact window_blk1 K _ _)
  have hv0 : View.readAt (Elt F) arg4.view (Rect.unit (s := S2048x256) (k0_off1 i n) S512x128.size (k0_off1_inb i n)).toLoadRect (harg4.unread V) = blk V (kbOf i n.val) 0 :=
    (View.readAt_unit arg4.view _ (k0_off1_inb i n) (off1_eq i n) (off1_eq i n ▸ k0_off1_inb i n)).trans (by rw [harg4.read_unread]; exact window_blk0 V _ _)
  have hv1 : View.readAt (Elt F) arg4.view (Rect.unit (s := S2048x256) (k0_off2 i n) S512x128.size (k0_off2_inb i n)).toLoadRect (harg4.unread V) = blk V (kbOf i n.val) 1 :=
    (View.readAt_unit arg4.view _ (k0_off2_inb i n) (off2_eq i n) (off2_eq i n ▸ k0_off2_inb i n)).trans (by rw [harg4.read_unread]; exact window_blk1 V _ _)
  unfold tripR_k0_t1 trip_k0_t1
  dsimp only
  unfold trip_k0_t1.sl.r_4 trip_k0_t1.sl.r_3 trip_k0_t1.sl.r_5 trip_k0_t1.sl.r_6 trip_k0_t1.sl.r_7
  unfold trip_k0_t1.sl.r_2 trip_k0_t1.sl.r_1 trip_k0_t1.sl.r
  rw [hk0, hk1, hv0, hv1, pay_tail0, pay_tail1, pay_out0, pay_out1, pay_mask]
  rfl

/-- What is carried before each trip. -/
theorem states (k : ℕ) (hk : k ≤ (i 1).val + 1) :
    st_k0_t1 (F := F) Variants.none c none i arg2 harg2 arg3 harg3 arg4 harg4 arg5 harg5 (BitVec.ofNat 32 (i 1).val)
      (iota .tc S512x512 32 [1] iota_S512x512_d1_w32) (hcol Q 0) (hcol Q 1) (harg3.unread K) (harg4.unread V) (k0_pay3, k0_pay4, k0_pay5, k0_pay6) k
      = state i Q K V k := by
  induction k with
  | zero => rfl
  | succ k ih =>
    have h : k < (k0_t1_loop i).trips := by rw [trips1 i]; omega
    refine (st_k0_t1_succ Variants.none c none i arg2 harg2 arg3 harg3 arg4 harg4 arg5 harg5 _ _ _ _ _ _ _ ⟨k, h⟩).trans ?_
    rw [ih (by omega)]
    exact trip c i arg2 harg2 arg3 harg3 arg4 harg4 arg5 harg5 Q K V ⟨k, h⟩

/-- The block the step leaves. -/
def oOut : Vec F S512x256 .bf16 := ofCols fun j => truncf .bf16 (oB i Q K V j ((i 1).val + 1)) bitsLt_bf16_f32

theorem out_eq : out0_A_3 (F := F) c i arg2 harg2 arg3 harg3 arg4 harg4 arg5 harg5 Q K V = oOut i Q K V := by
  unfold out0_A_3 kernelRun0_A
  dsimp only
  have hq0 : View.readAt (Elt F) arg2.view (Rect.unit (s := S512x256) ![0, 0] ![512, 128] inb_S512x256_S512x128_0_0).toLoadRect (harg2.unread Q) = hcol Q 0 :=
    (View.readAt_unit arg2.view _ inb_S512x256_S512x128_0_0 rfl inb_S512x256_S512x128_0_0).trans (by rw [harg2.read_unread]; exact window_hcol0 Q _)
  have hq1 : View.readAt (Elt F) arg2.view (Rect.unit (s := S512x256) ![0, 128] ![512, 128] inb_S512x256_S512x128_0_128).toLoadRect (harg2.unread Q) = hcol Q 1 :=
    (View.readAt_unit arg2.view _ inb_S512x256_S512x128_0_128 rfl inb_S512x256_S512x128_0_128).trans (by rw [harg2.read_unread]; exact window_hcol1 Q _)
  have e1 : Scf.trips (0#32) (Scalar.addi (0#32) (Scalar.muli (Scalar.divsi (Scalar.subi (Scalar.addi (BitVec.ofNat 32 (i 1).val) 1#32) 0#32) 1#32) 1#32)) 1#32
      = (i 1).val + 1 := trips1 i
  have e2 : Scf.trips (Scalar.addi (0#32) (Scalar.muli (Scalar.divsi (Scalar.subi (Scalar.addi (BitVec.ofNat 32 (i 1).val) 1#32) 0#32) 1#32) 1#32))
      (Scalar.addi (0#32) (Scalar.subi (Scalar.addi (BitVec.ofNat 32 (i 1).val) 1#32) 0#32)) 1#32 = 0 := trips2 i
  rw [e1, e2, hq0, hq1]
  unfold kernelRun0_A.sl.v1
  rw [states c i arg2 harg2 arg3 harg3 arg4 harg4 arg5 harg5 Q K V _ (Nat.le_refl _), st_k0_t2_zero]
  rw [View.read_writes_cons_put _ _ _ _ _ rfl, View.read_writes_cons_put _ _ _ _ _ rfl]
  exact put_ofCols _ fun j => truncf .bf16 (oB i Q K V j ((i 1).val + 1)) bitsLt_bf16_f32

end Cert.Proof.Fwd

end
-- ==== Proof.FwdValue.lean ====
/-
  What the attention's forward leaves, element by element: over finite queries and keys, the sum over the keys of the
  stick-breaking weight times the value. The values need not be finite.
-/
module

public import proofs.«01_k».proof.Proof.Fwd
public import proofs.«01_k».proof.Proof.Arrays

@[expose] public section

set_option maxRecDepth 16384

noncomputable section

namespace Cert.Proof.Fwd

open Cert.Kernel14Ideal Cert.Kernel14Ideal.Gen
open Idealize.ShloMosaic Idealize.ShloMosaic.TcCoe Idealize.SL.Sem
open Idealize.ShloMosaic.Pipeline (Dat)
open Cert.Proof.Num
open Cert.Proof.Attn (Reads hd qh kh aB kbOf blk dqAdd hcol ofCols aB_val qcols kcols)
open Finset

/-! ## One grid step -/

/-- A product added, at an index. -/
theorem dqAdd_at (s : FVec Ideal S512x512 .bf16) (k : FVec Ideal S512x128 .bf16) (d : FVec Ideal S512x128 .f32) (r : Fin 512) (e : Fin 128) :
    dqAdd (F := Ideal) s k d (ix2 r e) = (d (ix2 r e) : EReal) + ∑ c : Fin 512, (s (ix2 r c) : EReal) * (k (ix2 c e) : EReal) := by
  pointwise [dqAdd]

variable {i : grid0.Coords} {Q : FVec Ideal S512x256 .bf16} {K V : FVec Ideal S2048x256 .bf16} {qf kf : ℕ → ℕ → ℝ} {vv : ℕ → ℕ → EReal}

section
variable (H : Reads i Q K (fun _ => (0 : EReal)) (fun _ => (0 : EReal)) qf kf (fun _ _ => 0) (fun _ _ => 0))
variable (hv : ∀ (s : Fin 2048) (e : Fin 256), V (ix2 s e) = vv s.val e.val) (j : Fin 2)
include H hv

theorem oB_val : ∀ n : ℕ, n ≤ (i 1).val + 1 → ∀ (r : Fin 512) (d : Fin 128),
    oB (F := Ideal) i Q K V j n (ix2 r d)
      = ∑ s ∈ Ico (512 * ((i 1).val + 1 - n)) (512 * ((i 1).val + 1)),
          (Stick.att scale (hd qf j.val) (hd kf j.val) (512 * (i 1).val + r.val) s : EReal) * vv s (128 * j.val + d.val)
  | 0, _, r, d => by
    rw [Nat.sub_zero, Finset.Ico_self, Finset.sum_empty]
    exact Ideal.ofBits_zero_f32
  | n + 1, hn, r, d => by
    have h := dqAdd_at (truncf .bf16 (aB (F := Ideal) i Q K j n) bitsLt_bf16_f32) (blk V (kbOf i n) j) (oB (F := Ideal) i Q K V j n) r d
    refine h.trans ?_
    rw [oB_val n (by omega) r d]
    have e : (i 1).val + 1 - n = ((i 1).val - n) + 1 := by omega
    rw [e, show (i 1).val + 1 - (n + 1) = (i 1).val - n by omega,
      ← Stick.sum_above (fun s => (Stick.att scale (hd qf j.val) (hd kf j.val) (512 * (i 1).val + r.val) s : EReal) * vv s (128 * j.val + d.val))
        ((i 1).val - n) (512 * ((i 1).val + 1)) (by omega)]
    refine congrArg _ (Finset.sum_congr rfl fun c _ => ?_)
    exact congrArg₂ (fun x y : EReal => x * y) (aB_val H j n (by omega) r c) (hv _ _)

/-- After the last trip the sum is over every key: the later ones have weight zero. -/
theorem oB_last (r : Fin 512) (d : Fin 128) :
    oB (F := Ideal) i Q K V j ((i 1).val + 1) (ix2 r d)
      = ∑ s ∈ range 2048, (Stick.att scale (hd qf j.val) (hd kf j.val) (512 * (i 1).val + r.val) s : EReal) * vv s (128 * j.val + d.val) := by
  have hi : (i 1).val < 4 := (i 1).isLt
  have hr := r.isLt
  rw [oB_val H hv j _ (le_refl _) r d, Nat.sub_self, Nat.mul_zero, Nat.Ico_zero_eq_range]
  refine Finset.sum_subset (fun s hs => ?_) fun s _ hs => ?_
  · rw [Finset.mem_range] at hs ⊢; omega
  · rw [Finset.mem_range] at hs
    rw [Stick.att_off (by omega), EReal.coe_zero, zero_mul]

end

/-! ## The call -/

theorem idx : ∀ t : Fin cfg0.N, win0_0.index t = ![t.val % 4, t.val / 4] ∧ win0_1.index t = ![0, 8 + t.val / 4]
    ∧ win0_2.index t = ![0, 16 + t.val / 4] ∧ win0_3.index t = ![t.val % 4, t.val / 4] :=
  (by decide +kernel : ∀ t : Fin grid0.N, _)

theorem row : ∀ t : Fin cfg0.N, (grid0.coords t 1).val = t.val % 4 := by decide +kernel

/-- The values' columns of the argument. -/
def vals (X : FVec Ideal S2048x6144 .bf16) (s e : ℕ) : EReal :=
  if h : s < 2048 ∧ 4096 + e < 6144 then X (ix2 (⟨s, h.1⟩ : Fin 2048) (⟨4096 + e, h.2⟩ : Fin 6144)) else 0

theorem vals_eq (X : FVec Ideal S2048x6144 .bf16) (s e : ℕ) (hs : s < 2048) (he : 4096 + e < 6144) :
    vals X s e = X (ix2 (⟨s, hs⟩ : Fin 2048) (⟨4096 + e, he⟩ : Fin 6144)) := dif_pos ⟨hs, he⟩

/-- One element of the heads. -/
def headAt (A : ℕ → ℕ → ℝ) (w : ℕ → ℕ → EReal) (t e : ℕ) : EReal :=
  ∑ s ∈ range 2048, (Stick.att scale (qh A (e / 128)) (kh A (e / 128)) t s : EReal) * w s e

/-- The heads: the queries and keys hold the reals `A`. -/
def heads (X : FVec Ideal S2048x6144 .bf16) (A : ℕ → ℕ → ℝ) : FVec Ideal S2048x2048 .bf16 :=
  fun y => headAt A (vals X) (y 0).val (y 1).val

variable (m : (ℓ : Loc nD τ sig) → Buf (Elt Ideal) ℓ) (c : Dev nD)

/-- The rows of `q` for a point's two heads. -/
def qAt (t : Fin cfg0.N) : FVec Ideal S512x256 .bf16 := iblk m c 0 t
/-- `k` for a point's two heads. -/
def kAt (t : Fin cfg0.N) : FVec Ideal S2048x256 .bf16 := iblk m c 1 t
/-- `v` for a point's two heads. -/
def vAt (t : Fin cfg0.N) : FVec Ideal S2048x256 .bf16 := iblk m c 2 t

theorem point_lt (t : Fin cfg0.N) : t.val < 32 := t.isLt

theorem qAt_read (t : Fin cfg0.N) (r : Fin 512) (e : Fin 256) (h0 : 512 * (t.val % 4) + r.val < 2048) (h1 : 256 * (t.val / 4) + e.val < 6144) :
    qAt m c t (ix2 r e) = m ((c : Thread nD τ).loc main_arg0) (ix2 (⟨512 * (t.val % 4) + r.val, h0⟩ : Fin 2048) (⟨256 * (t.val / 4) + e.val, h1⟩ : Fin 6144)) := by
  unfold qAt; blk_ext [iblk, Gen.V, idx t]

theorem kAt_read (t : Fin cfg0.N) (r : Fin 2048) (e : Fin 256) (h1 : 2048 + 256 * (t.val / 4) + e.val < 6144) :
    kAt m c t (ix2 r e) = m ((c : Thread nD τ).loc main_arg0) (ix2 r (⟨2048 + 256 * (t.val / 4) + e.val, h1⟩ : Fin 6144)) := by
  unfold kAt; blk_ext [iblk, Gen.V, idx t]

theorem vAt_read (t : Fin cfg0.N) (r : Fin 2048) (e : Fin 256) (h1 : 4096 + (256 * (t.val / 4) + e.val) < 6144) :
    vAt m c t (ix2 r e) = m ((c : Thread nD τ).loc main_arg0) (ix2 r (⟨4096 + (256 * (t.val / 4) + e.val), h1⟩ : Fin 6144)) := by
  unfold vAt; blk_ext [iblk, Gen.V, idx t]

variable {A : ℕ → ℕ → ℝ}

section
variable (hA : ∀ (t : Fin 2048) (e : Fin 6144), e.val < 4096 → m ((c : Thread nD τ).loc main_arg0) (ix2 t e) = (A t.val e.val : EReal))
include hA

theorem reads_at (t : Fin cfg0.N) :
    Reads (grid0.coords t) (qAt m c t) (kAt m c t) (fun _ => (0 : EReal)) (fun _ => (0 : EReal))
      (fun r e => A r (256 * (t.val / 4) + e)) (fun r e => A r (2048 + 256 * (t.val / 4) + e)) (fun _ _ => 0) (fun _ _ => 0) := by
  have ht := point_lt t
  refine ⟨fun r e => ?_, fun r e => ?_, fun r e => EReal.coe_zero.symm, fun r e => EReal.coe_zero.symm⟩ <;> have hr := r.isLt <;> have he := e.isLt
  · rw [row t, qAt_read m c t r e (by omega) (by omega)]; exact hA _ _ (by show 256 * (t.val / 4) + e.val < 4096; omega)
  · rw [kAt_read m c t r e (by omega)]; exact hA _ _ (by show 2048 + 256 * (t.val / 4) + e.val < 4096; omega)

theorem block (t : Fin cfg0.N) (r : Fin 512) (e : Fin 256) :
    oOut (F := Ideal) (grid0.coords t) (qAt m c t) (kAt m c t) (vAt m c t) (ix2 r e)
      = headAt A (vals (m ((c : Thread nD τ).loc main_arg0))) (t.val % 4 * 512 + r.val) (t.val / 4 * 256 + e.val) := by
  have ht := point_lt t
  have he := e.isLt
  have h := oB_last (vv := fun s e => vals (m ((c : Thread nD τ).loc main_arg0)) s (256 * (t.val / 4) + e)) (reads_at m c hA t)
    (V := vAt m c t) (fun s e => by
      have he := e.isLt
      rw [vAt_read m c t s e (by omega)]; exact (vals_eq _ _ _ s.isLt _).symm)
    (⟨e.val / 128, by omega⟩ : Fin 2) r (⟨e.val % 128, by omega⟩ : Fin 128)
  refine Eq.trans ?_ (h.trans ?_)
  · rfl
  · rw [qcols, kcols, row t, headAt, Nat.mul_comm (t.val % 4), Nat.mul_comm (t.val / 4),
      show 128 * (e.val / 128) + e.val % 128 = e.val by omega]

/-- The heads the call leaves. -/
theorem final : (dats m 0 c).arrAt 3 (cfgs 0).N = heads (m ((c : Thread nD τ).loc main_arg0)) A := by
  refine (dats m 0 c).arrAt_eq_of_covers 3 _ (by decide +kernel) fun t _ y => ?_
  blk_simp
  rw [after0_3, outsAt0, out_eq]
  unfold heads
  blk_simp [idx t]
  exact (congrArg (oOut (F := Ideal) (grid0.coords t) (qAt m c t) (kAt m c t) (vAt m c t)) (eq_ix2 y)).trans (block m c hA t (y 0) (y 1))

end

end Cert.Proof.Fwd

end
-- ==== Proof.FwdRef.lean ====
/-
  The reference of the forward, read element by element, and what its precondition says: the queries and the keys are
  reals. Its attention weights are those of the gradient's reference.
-/
module

public import proofs.«01_k».proof.Proof.FwdValue
public import proofs.«01_k».proof.Proof.RefValue
public import proofs.«01_k».proof.Proof.Finite
public import proofs.«01_k».proof.Pre_finite14
public import proofs.«01_k».proof.Proof.Gen.Reference14Ideal.Read

@[expose] public section

set_option maxRecDepth 16384

noncomputable section

namespace Cert.Proof.Fwd

open Cert.Reference14Ideal Cert.Reference14Ideal.Read
open Idealize.ShloMosaic
open Cert.Proof.Num Cert.Proof.Attn
open Finset

/-! ## The reference -/

variable (x0 : FVec Ideal S2048x6144 .bf16) (A : ℕ → ℕ → ℝ)

/-- Both references compute the attention weights in the same way. -/
theorem weights : val_main_v24 (F := Ideal) x0 = Cert.ReferenceIdeal.Read.val_main_v24_0 (F := Ideal) x0 := rfl

/-- The values, by key, head and depth. -/
theorem v_read (i : S2048x16x128.Idx) : val_main_v6 (F := Ideal) x0 i = vals x0 (i 0).val (128 * (i 1).val + (i 2).val) := by
  rw [val_main_v6_apply, val_main_v3_apply, val_main_v0_apply]
  have h0 : (i 0).val < 2048 := (i 0).isLt
  have h1 : (i 1).val < 16 := (i 1).isLt
  have h2 : (i 2).val < 128 := (i 2).isLt
  refine (congrArg x0 (eq_ix2 _)).trans (Eq.trans ?_ (vals_eq x0 (i 0).val (128 * (i 1).val + (i 2).val) h0 (by omega)).symm)
  refine congrArg x0 (congrArg₂ ix2 (Fin.ext ?_) (Fin.ext ?_))
  · show (((i 0).val * 16 + (i 1).val) * 128 + (i 2).val) / 2048 = (i 0).val; omega
  · show 4096 + (((i 0).val * 16 + (i 1).val) * 128 + (i 2).val) % 2048 = 4096 + (128 * (i 1).val + (i 2).val); omega

variable (hx : ∀ (t : Fin 2048) (e : Fin 6144), e.val < 4096 → x0 (ix2 t e) = (A t.val e.val : EReal))
include hx

/-- The heads, by row, head and depth. -/
theorem head_read (i : S2048x16x128.Idx) : val_main_v26 (F := Ideal) x0 i = headAt A (vals x0) (i 0).val (128 * (i 1).val + (i 2).val) := by
  have h2 : (i 2).val < 128 := (i 2).isLt
  rw [val_main_v26_apply, val_main_v25_apply, headAt, Finset.sum_range, weights, show (128 * (i 1).val + (i 2).val) / 128 = (i 1).val by omega]
  refine Finset.sum_congr rfl fun k _ => ?_
  rw [v_read, Ref.att_at x0 A hx, mul_comm]
  rfl

theorem ref : val_main_v28 (F := Ideal) x0 = heads x0 A := by
  funext y
  have h0 : (y 0).val < 2048 := (y 0).isLt
  have h1 : (y 1).val < 2048 := (y 1).isLt
  rw [val_main_v28_apply]
  show val_main_v27 (F := Ideal) x0 y = _
  rw [val_main_v27_apply, head_read x0 A hx]
  refine congrArg₂ (headAt A (vals x0)) ?_ ?_
  · show ((y 0).val * 2048 + (y 1).val) / 2048 = (y 0).val; omega
  · show 128 * (((y 0).val * 2048 + (y 1).val) / 128 % 16) + ((y 0).val * 2048 + (y 1).val) % 128 = (y 1).val; omega

end Cert.Proof.Fwd

/-! ## The precondition -/

namespace Cert.Proof.Finite14

open Cert.Pre_finite14
open Idealize.ShloMosaic
open Cert.Proof.Num

theorem facts : Cert.Pre_finite14.Facts where
  bitsLt_bf16_f32 := by decide
  slices_S2048x6144_S2048x2048_0_0 := by decide
  bcast_S_S2048x2048 := by decide
  slices_S2048x6144_S2048x2048_0_2048 := by decide

variable [Cert.Pre_finite14.Facts] (X : FVec Ideal S2048x6144 .bf16) (H : Cert.Pre_finite14.fn (F := Ideal) X = fun _ => 1#1)
include H

theorem parts (t e : Fin 2048) (o : ℕ) (he : o + e.val < 6144) (ho : o = 0 ∨ o = 2048) :
    (((X (ix2 t (⟨o + e.val, he⟩ : Fin 6144)) : EReal).toReal : ℝ) : EReal) = X (ix2 t (⟨o + e.val, he⟩ : Fin 6144)) := by
  have h := congrFun H (ix2 t e)
  dsimp only [Cert.Pre_finite14.fn] at h
  obtain ⟨h1, h2⟩ := IntOp.andi_eq_one.mp h
  rcases ho with rfl | rfl
  · rw [← Finite.slice_at X 0 Facts.slices_S2048x6144_S2048x2048_0_0 t e he]; exact Finite.real_of_cmp h1
  · rw [← Finite.slice_at X 2048 Facts.slices_S2048x6144_S2048x2048_0_2048 t e he]; exact Finite.real_of_cmp h2

/-- The reals of the queries and the keys. -/
theorem reals : ∃ A : ℕ → ℕ → ℝ, ∀ (t : Fin 2048) (e : Fin 6144), e.val < 4096 → X (ix2 t e) = (A t.val e.val : EReal) := by
  refine ⟨fun t e => if h : t < 2048 ∧ e < 6144 then (X (ix2 (⟨t, h.1⟩ : Fin 2048) (⟨e, h.2⟩ : Fin 6144)) : EReal).toReal else 0, fun t e he => ?_⟩
  refine Eq.trans ?_ (congrArg (fun r : ℝ => (r : EReal)) (dif_pos (And.intro t.isLt e.isLt))).symm
  have hd : e.val % 2048 < 2048 := Nat.mod_lt _ (by omega)
  have hl : 2048 * (e.val / 2048) + (⟨e.val % 2048, hd⟩ : Fin 2048).val < 6144 := by show 2048 * (e.val / 2048) + e.val % 2048 < 6144; omega
  have p := parts X H t ⟨e.val % 2048, hd⟩ (2048 * (e.val / 2048)) hl (by omega)
  rw [show (⟨2048 * (e.val / 2048) + (⟨e.val % 2048, hd⟩ : Fin 2048).val, hl⟩ : Fin 6144) = e from
    Fin.ext (by show 2048 * (e.val / 2048) + e.val % 2048 = e.val; omega)] at p
  exact p.symm

end Cert.Proof.Finite14

end
-- ==== Proof.Latent.lean ====
/-
  The product with the weights of a latent's widening to the heads, whose columns lie in four parts; the same for the
  queries' latent and for the keys' and values'.
-/
module

public import Idealize.ShloMosaic.Lib.Pipeline.ValueKit

@[expose] public section

noncomputable section

namespace Cert.Proof.Latent

open Idealize.ShloMosaic

theorem hz : (![0, 0] : Fin 2 → Nat) = fun _ => 0 := funext fun a => by fin_cases a <;> rfl
theorem hz3 : (![0, 0, 0] : Fin 3 → Nat) = fun _ => 0 := funext fun a => by fin_cases a <;> rfl

/-- The shapes of the latent, of the weights and of the product. -/
abbrev SC : Shape := ⟨2, ![2048, 512]⟩
abbrev SW : Shape := ⟨3, ![4, 512, 1024]⟩
abbrev SU : Shape := ⟨2, ![2048, 4096]⟩

/-- Element `(i, j)` of the product, kept in either type; column `j` of the weights is column `j % 1024` of part `j / 1024`. -/
def up (ty : FTy) (x : FVec Ideal SC .bf16) (w : FVec Ideal SW .bf16) : FVec Ideal SU ty := fun i =>
  ∑ k : Fin 512, x (ix2 (i 0) k) * w (ix3 (⟨(i 1).val / 1024, by have h1 : (i 1).val < 4096 := (i 1).isLt; omega⟩ : Fin 4) k
    (⟨(i 1).val % 1024, Nat.mod_lt _ (by decide)⟩ : Fin 1024))

theorem up_at (ty : FTy) (x : FVec Ideal SC .bf16) (w : FVec Ideal SW .bf16) (i : SU.Idx) (r : Fin 2048) (p : Fin 4) (j : Fin 1024)
    (hr : r.val = (i 0).val) (hp : p.val = (i 1).val / 1024) (hj : j.val = (i 1).val % 1024) :
    up ty x w i = ∑ k : Fin 512, x (ix2 r k) * w (ix3 p k j) := by
  obtain rfl : r = i 0 := Fin.ext hr
  have h1 : (i 1).val < 4096 := (i 1).isLt
  have ep : (⟨(i 1).val / 1024, by omega⟩ : Fin 4) = p := Fin.ext hp.symm
  have ej : (⟨(i 1).val % 1024, Nat.mod_lt _ (by decide)⟩ : Fin 1024) = j := Fin.ext hj.symm
  unfold up
  rw [ep, ej]

/-- The same product when the weights are read as one matrix, at the places that makes of its elements. -/
theorem up_of (ty : FTy) (x : FVec Ideal SC .bf16) (w : FVec Ideal SW .bf16) (i : SU.Idx) (L : Fin 512 → SC.Idx) (R : Fin 512 → SW.Idx)
    (hl0 : ∀ k, (L k 0).val = (i 0).val) (hl1 : ∀ k, (L k 1).val = k.val) (hr0 : ∀ k, (R k 0).val = (k.val * 4096 + (i 1).val) / 1024 % 4)
    (hr1 : ∀ k, (R k 1).val = (k.val * 4096 + (i 1).val) / 4096) (hr2 : ∀ k, (R k 2).val = (k.val * 4096 + (i 1).val) % 1024) :
    ∑ k : Fin 512, (x (L k) : EReal) * w (R k) = (up ty x w i : EReal) := by
  unfold up
  have h1 : (i 1).val < 4096 := (i 1).isLt
  refine Finset.sum_congr rfl fun k _ => congrArg₂ (· * ·) (congrArg x (funext fun b => Fin.ext ?_)) (congrArg w (funext fun b => Fin.ext ?_))
  · match b with
    | ⟨0, _⟩ => exact hl0 k
    | ⟨1, _⟩ => exact hl1 k
  · match b with
    | ⟨0, _⟩ => exact (hr0 k).trans (show _ = (i 1).val / 1024 by omega)
    | ⟨1, _⟩ => exact (hr1 k).trans (show _ = k.val by omega)
    | ⟨2, _⟩ => exact (hr2 k).trans (show _ = (i 1).val % 1024 by omega)

end Cert.Proof.Latent

end
-- ==== Proof.LatentQuery.lean ====
/-
  The latent queries widened to the heads: what the kernel leaves in its result array and what the reference computes
  are the same product of the two arguments.
-/
module

public import proofs.«01_k».proof.Proof.Gen.Kernel15Ideal.Value
public import proofs.«01_k».proof.Proof.Gen.Reference15Ideal.Read
public import proofs.«01_k».proof.Proof.Latent
public import Idealize.ShloMosaic.Lib.Pipeline.ValueKit

@[expose] public section

set_option maxRecDepth 16384

noncomputable section

namespace Cert.Proof.LatentQuery

open Cert.Kernel15Ideal Cert.Kernel15Ideal.Gen
open Idealize.ShloMosaic Idealize.ShloMosaic.TcCoe Idealize.SL.Sem
open Idealize.ShloMosaic.Pipeline (Dat)
open Cert.Proof.Latent (hz hz3)

/-- The blocks of a grid point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem pay (x : FVec Ideal S1024x512 .bf16) (y : FVec Ideal S1x512x1024 .bf16) (i : S1024x1024.Idx) :
    k0_pay1 (F := Ideal) x y i = ∑ k : Fin 512, x (ix2 (i 0) k) * y (ix3 0 k (i 1)) := by
  pointwise [k0_pay1]

theorem ld0 (x : Vec Ideal S1024x512 .bf16) : View.ld x r0_0 = x := View.ld_unit_zero (S := S1024x512) hz _ x
theorem ld1 (x : Vec Ideal S1x512x1024 .bf16) : View.ld x r0_1 = x := View.ld_unit_zero (S := S1x512x1024) hz3 _ x

variable (m : (ℓ : Loc nD τ sig) → Buf (Elt Ideal) ℓ) (c : Dev nD)

/-- The block product of a grid point is the whole product at the block's place. -/
theorem block (t : Fin cfg0.N) (y : S1024x1024.Idx) (i : S2048x4096.Idx) (h0 : (i 0).val = t.val / 4 * 1024 + (y 0).val)
    (h1 : (i 1).val = t.val % 4 * 1024 + (y 1).val) :
    k0_pay1 (F := Ideal) (iblk m c 0 t : Vec Ideal S1024x512 .bf16) (iblk m c 1 t : Vec Ideal S1x512x1024 .bf16) y
      = Latent.up .f32 (m ((c : Thread nD τ).loc main_arg0)) (m ((c : Thread nD τ).loc main_arg1)) i := by
  have x0 (r : Fin 1024) (k : Fin 512) (h : t.val / 4 * 1024 + r.val < 2048) : (iblk m c 0 t : FVec Ideal S1024x512 .bf16) (ix2 r k)
    = m ((c : Thread nD τ).loc main_arg0) (ix2 (⟨t.val / 4 * 1024 + r.val, h⟩ : Fin 2048) k) := by blk_ext [iblk, V, idx t]
  have x1 (j : Fin 1024) (k : Fin 512) (hp : t.val % 4 < 4) : (iblk m c 1 t : FVec Ideal S1x512x1024 .bf16) (ix3 0 k j)
    = m ((c : Thread nD τ).loc main_arg1) (ix3 (⟨t.val % 4, hp⟩ : Fin 4) k j) := by blk_ext [iblk, V, idx t]
  have ht : t.val < 8 := t.isLt
  have y0 : (y 0).val < 1024 := (y 0).isLt
  have y1 : (y 1).val < 1024 := (y 1).isLt
  rw [pay]
  refine Eq.trans ?_ (Latent.up_at _ _ _ i ⟨t.val / 4 * 1024 + (y 0).val, by omega⟩ ⟨t.val % 4, by omega⟩ (y 1) h0.symm
    (by dsimp only; omega) (by omega)).symm
  exact Finset.sum_congr rfl fun k _ => congrArg₂ (· * ·) (x0 (y 0) k _) (x1 (y 1) k _)

/-- The kernel's result array after its run. -/
theorem final : (dats m 0 c).arrAt 2 cfg0.N = Latent.up .f32 (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero hz, ld0, ld1]
  exact block m c t y _ (by blk_simp [idx t]) (by blk_simp [idx t])

/-- The reference computes the same. -/
theorem ref (x : FVec Ideal S2048x512 .bf16) (w : FVec Ideal S4x512x1024 .bf16) :
    Cert.Reference15Ideal.Read.val_main_v4 (F := Ideal) x w = Latent.up .f32 x w := by
  funext i
  rw [Cert.Reference15Ideal.Read.val_main_v4_apply]
  refine Eq.trans (Finset.sum_congr rfl fun k _ => ?_) (Latent.up_of _ x w i (Cert.Reference15Ideal.Read.lidx_main_v4 i)
    (fun k => Cert.Reference15Ideal.Read.idx_main_v2 (Cert.Reference15Ideal.Read.idx_main_v3 (Cert.Reference15Ideal.Read.ridx_main_v4 i k)))
    (fun _ => rfl) (fun _ => rfl) (fun _ => rfl) (fun _ => rfl) fun _ => rfl)
  rw [Cert.Reference15Ideal.Read.val_main_v3_apply, Cert.Reference15Ideal.Read.val_main_v2_apply]
  rfl

end Cert.Proof.LatentQuery

end
-- ==== Proof.LatentKeyValue.lean ====
/-
  The latent keys and values widened to the heads: what the kernel leaves in its result array and what the reference
  computes are the same product of the two arguments.
-/
module

public import proofs.«01_k».proof.Proof.Gen.Kernel16Ideal.Value
public import proofs.«01_k».proof.Proof.Gen.Reference16Ideal.Read
public import proofs.«01_k».proof.Proof.Latent
public import Idealize.ShloMosaic.Lib.Pipeline.ValueKit

@[expose] public section

set_option maxRecDepth 16384

noncomputable section

namespace Cert.Proof.LatentKeyValue

open Cert.Kernel16Ideal Cert.Kernel16Ideal.Gen
open Idealize.ShloMosaic Idealize.ShloMosaic.TcCoe Idealize.SL.Sem
open Idealize.ShloMosaic.Pipeline (Dat)
open Cert.Proof.Latent (hz hz3)

/-- The blocks of a grid point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem pay (x : FVec Ideal S1024x512 .bf16) (y : FVec Ideal S1x512x1024 .bf16) (i : S1024x1024.Idx) :
    k0_pay1 (F := Ideal) x y i = ∑ k : Fin 512, x (ix2 (i 0) k) * y (ix3 0 k (i 1)) := by
  pointwise [k0_pay1]

theorem ld0 (x : Vec Ideal S1024x512 .bf16) : View.ld x r0_0 = x := View.ld_unit_zero (S := S1024x512) hz _ x
theorem ld1 (x : Vec Ideal S1x512x1024 .bf16) : View.ld x r0_1 = x := View.ld_unit_zero (S := S1x512x1024) hz3 _ x

variable (m : (ℓ : Loc nD τ sig) → Buf (Elt Ideal) ℓ) (c : Dev nD)

/-- The block product of a grid point is the whole product at the block's place. -/
theorem block (t : Fin cfg0.N) (y : S1024x1024.Idx) (i : S2048x4096.Idx) (h0 : (i 0).val = t.val / 4 * 1024 + (y 0).val)
    (h1 : (i 1).val = t.val % 4 * 1024 + (y 1).val) :
    k0_pay1 (F := Ideal) (iblk m c 0 t : Vec Ideal S1024x512 .bf16) (iblk m c 1 t : Vec Ideal S1x512x1024 .bf16) y
      = Latent.up .bf16 (m ((c : Thread nD τ).loc main_arg0)) (m ((c : Thread nD τ).loc main_arg1)) i := by
  have x0 (r : Fin 1024) (k : Fin 512) (h : t.val / 4 * 1024 + r.val < 2048) : (iblk m c 0 t : FVec Ideal S1024x512 .bf16) (ix2 r k)
    = m ((c : Thread nD τ).loc main_arg0) (ix2 (⟨t.val / 4 * 1024 + r.val, h⟩ : Fin 2048) k) := by blk_ext [iblk, V, idx t]
  have x1 (j : Fin 1024) (k : Fin 512) (hp : t.val % 4 < 4) : (iblk m c 1 t : FVec Ideal S1x512x1024 .bf16) (ix3 0 k j)
    = m ((c : Thread nD τ).loc main_arg1) (ix3 (⟨t.val % 4, hp⟩ : Fin 4) k j) := by blk_ext [iblk, V, idx t]
  have ht : t.val < 8 := t.isLt
  have y0 : (y 0).val < 1024 := (y 0).isLt
  have y1 : (y 1).val < 1024 := (y 1).isLt
  rw [pay]
  refine Eq.trans ?_ (Latent.up_at _ _ _ i ⟨t.val / 4 * 1024 + (y 0).val, by omega⟩ ⟨t.val % 4, by omega⟩ (y 1) h0.symm
    (by dsimp only; omega) (by omega)).symm
  exact Finset.sum_congr rfl fun k _ => congrArg₂ (· * ·) (x0 (y 0) k _) (x1 (y 1) k _)

/-- The kernel's result array after its run. -/
theorem final : (dats m 0 c).arrAt 2 cfg0.N = Latent.up .bf16 (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero hz, ld0, ld1]
  exact block m c t y _ (by blk_simp [idx t]) (by blk_simp [idx t])

/-- The reference computes the same. -/
theorem ref (x : FVec Ideal S2048x512 .bf16) (w : FVec Ideal S4x512x1024 .bf16) :
    Cert.Reference16Ideal.Read.val_main_v5 (F := Ideal) x w = Latent.up .bf16 x w := by
  funext i
  rw [Cert.Reference16Ideal.Read.val_main_v5_apply]
  show Cert.Reference16Ideal.Read.val_main_v4 (F := Ideal) x w i = _
  rw [Cert.Reference16Ideal.Read.val_main_v4_apply]
  refine Eq.trans (Finset.sum_congr rfl fun k _ => ?_) (Latent.up_of _ x w i (Cert.Reference16Ideal.Read.lidx_main_v4 i)
    (fun k => Cert.Reference16Ideal.Read.idx_main_v2 (Cert.Reference16Ideal.Read.idx_main_v3 (Cert.Reference16Ideal.Read.ridx_main_v4 i k)))
    (fun _ => rfl) (fun _ => rfl) (fun _ => rfl) (fun _ => rfl) fun _ => rfl)
  rw [Cert.Reference16Ideal.Read.val_main_v3_apply, Cert.Reference16Ideal.Read.val_main_v2_apply]
  rfl

end Cert.Proof.LatentKeyValue

end
-- ==== Proof.LatentUpGrad.lean ====
/-
  The gradient of the weights widening a latent to the heads: what the kernel leaves in its result array, and what the
  reference computes, are the same products of the two arguments summed over the rows.
-/
module

public import proofs.«01_k».proof.Proof.Gen.Kernel17Ideal.Value
public import proofs.«01_k».proof.Proof.Gen.Reference17Ideal.Read
public import proofs.«01_k».proof.Proof.Latent
public import Idealize.ShloMosaic.Lib.Pipeline.ValueKit

@[expose] public section

set_option maxRecDepth 16384

noncomputable section

namespace Cert.Proof.LatentUpGrad

open Cert.Kernel17Ideal Cert.Kernel17Ideal.Gen
open Idealize.ShloMosaic Idealize.ShloMosaic.TcCoe Idealize.SL.Sem
open Idealize.ShloMosaic.Pipeline (Dat)
open Cert.Proof.Latent (hz hz3)

/-- The blocks of a grid point. -/
theorem idx : ∀ t : Fin cfg0.N, win0_0.index t = ![0, 0] ∧ win0_1.index t = ![0, t.val] ∧ win0_2.index t = ![t.val, 0, 0] :=
  (by decide +kernel : ∀ t : Fin grid0.N, _)

/-- Element `(p, i, j)` of the gradient: row `i` of the weights, column `1024 p + j`. -/
def grad (x : FVec Ideal S2048x512 .bf16) (du : FVec Ideal S2048x4096 .bf16) : FVec Ideal S4x512x1024 .bf16 := fun i =>
  ∑ k : Fin 2048, x (ix2 k (i 1))
    * du (ix2 k (⟨1024 * (i 0).val + (i 2).val, by have h0 : (i 0).val < 4 := (i 0).isLt; have h2 : (i 2).val < 1024 := (i 2).isLt; omega⟩ : Fin 4096))

theorem grad_at (x : FVec Ideal S2048x512 .bf16) (du : FVec Ideal S2048x4096 .bf16) (i : S4x512x1024.Idx) (r : Fin 512) (j : Fin 4096)
    (hr : r.val = (i 1).val) (hj : j.val = 1024 * (i 0).val + (i 2).val) : grad x du i = ∑ k : Fin 2048, x (ix2 k r) * du (ix2 k j) := by
  obtain rfl : r = i 1 := Fin.ext hr
  unfold grad
  exact Finset.sum_congr rfl fun k _ => congrArg (fun n : Fin 4096 => x (ix2 k (i 1)) * du (ix2 k n)) (Fin.ext hj.symm)

theorem pay (x : FVec Ideal S2048x512 .bf16) (y : FVec Ideal S2048x1024 .bf16) (i : S1x512x1024.Idx) :
    k0_pay1 (F := Ideal) x y i = ∑ k : Fin 2048, x (ix2 k (i 1)) * y (ix2 k (i 2)) := by
  pointwise [k0_pay1]

theorem ld0 (x : Vec Ideal S2048x512 .bf16) : View.ld x r0_0 = x := View.ld_unit_zero (S := S2048x512) hz _ x
theorem ld1 (x : Vec Ideal S2048x1024 .bf16) : View.ld x r0_1 = x := View.ld_unit_zero (S := S2048x1024) hz _ x

variable (m : (ℓ : Loc nD τ sig) → Buf (Elt Ideal) ℓ) (c : Dev nD)

/-- The block product of a grid point is the whole gradient at the block's place. -/
theorem block (t : Fin cfg0.N) (y : S1x512x1024.Idx) (i : S4x512x1024.Idx) (h0 : (i 0).val = t.val + (y 0).val)
    (h1 : (i 1).val = (y 1).val) (h2 : (i 2).val = (y 2).val) :
    k0_pay1 (F := Ideal) (iblk m c 0 t : Vec Ideal S2048x512 .bf16) (iblk m c 1 t : Vec Ideal S2048x1024 .bf16) y
      = grad (m ((c : Thread nD τ).loc main_arg0)) (m ((c : Thread nD τ).loc main_arg1)) i := by
  have x0 (k : Fin 2048) (j : Fin 512) : (iblk m c 0 t : FVec Ideal S2048x512 .bf16) (ix2 k j)
    = m ((c : Thread nD τ).loc main_arg0) (ix2 k j) := by blk_ext [iblk, V, idx t]
  have x1 (k : Fin 2048) (j : Fin 1024) (h : t.val * 1024 + j.val < 4096) : (iblk m c 1 t : FVec Ideal S2048x1024 .bf16) (ix2 k j)
    = m ((c : Thread nD τ).loc main_arg1) (ix2 k (⟨t.val * 1024 + j.val, h⟩ : Fin 4096)) := by blk_ext [iblk, V, idx t]
  have ht : t.val < 4 := t.isLt
  have y0 : (y 0).val < 1 := (y 0).isLt
  have y2 : (y 2).val < 1024 := (y 2).isLt
  rw [pay]
  refine Eq.trans ?_ (grad_at _ _ i (y 1) ⟨t.val * 1024 + (y 2).val, by omega⟩ h1.symm (by dsimp only; omega)).symm
  exact Finset.sum_congr rfl fun k _ => congrArg₂ (· * ·) (x0 k (y 1)) (x1 k (y 2) _)

/-- The kernel's result array after its run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero hz3, ld0, ld1]
  exact block m c t y _ (by blk_simp [idx t]) (by blk_simp [idx t]) (by blk_simp [idx t])

/-- The reference computes the same. -/
theorem ref (x : FVec Ideal S2048x512 .bf16) (du : FVec Ideal S2048x4096 .bf16) :
    Cert.Reference17Ideal.Read.val_main_v10 (F := Ideal) x du = grad x du := by
  funext i
  rw [Cert.Reference17Ideal.Read.val_main_v10_apply, Cert.Reference17Ideal.Read.val_main_v9_apply, Cert.Reference17Ideal.Read.val_main_v8_apply,
    Cert.Reference17Ideal.Read.val_main_v7_apply, Cert.Reference17Ideal.Read.val_main_v6_apply]
  unfold grad
  refine Finset.sum_congr rfl fun k _ => ?_
  rw [mul_comm]
  have h0 : (i 0).val < 4 := (i 0).isLt
  have h1 : (i 1).val < 512 := (i 1).isLt
  have h2 : (i 2).val < 1024 := (i 2).isLt
  refine congrArg₂ (· * ·) (congrArg x (funext fun b => Fin.ext ?_)) (congrArg du (funext fun b => Fin.ext ?_))
  · match b with
    | ⟨0, _⟩ => rfl
    | ⟨1, _⟩ => show (((i 1).val * 4 + (i 0).val) * 1024 + (i 2).val) / 4096 = (i 1).val; omega
  · match b with
    | ⟨0, _⟩ => rfl
    | ⟨1, _⟩ => show (((i 1).val * 4 + (i 0).val) * 1024 + (i 2).val) % 4096 = 1024 * (i 0).val + (i 2).val; omega

end Cert.Proof.LatentUpGrad

end
-- ==== Proof.BlockSum.lean ====
/-
  A sum taken four blocks of `b` terms at a time.
-/
module

public import Mathlib.Algebra.BigOperators.Fin
public import Mathlib.Data.EReal.Basic

@[expose] public section

namespace Cert.Proof.BlockSum

open Finset

/-- One more block of the sum. -/
theorem step (b : ℕ) (f : ℕ → EReal) (n : ℕ) : ∑ k ∈ range (b * n), f k + ∑ k : Fin b, f (b * n + k.val) = ∑ k ∈ range (b * (n + 1)), f k := by
  rw [← Finset.sum_range (fun k => f (b * n + k)), ← Finset.sum_range_add]
  exact rfl

/-- The first block. -/
theorem first (b : ℕ) (f : ℕ → EReal) : ∑ k : Fin b, f (b * 0 + k.val) = ∑ k ∈ range (b * (0 + 1)), f k := by
  rw [← step b f 0, Nat.mul_zero, Finset.range_zero, Finset.sum_empty, zero_add]

/-- The whole sum. -/
theorem whole (b n : ℕ) (h : b * (3 + 1) = n) (f : ℕ → EReal) : ∑ k ∈ range (b * (3 + 1)), f k = ∑ k : Fin n, f k.val := by
  subst h; exact Finset.sum_range f

end Cert.Proof.BlockSum
-- ==== Proof.LatentUpBack.lean ====
/-
  The gradient of a latent: what the kernel leaves in its result array, adding up four blocks of the sum one grid point
  after another, and what the reference computes are the same product with the weights that widen the latent.
-/
module

public import proofs.«01_k».proof.Proof.Gen.Kernel18Ideal.Value
public import proofs.«01_k».proof.Proof.Gen.Reference18Ideal.Read
public import proofs.«01_k».proof.Proof.Latent
public import proofs.«01_k».proof.Proof.BlockSum
public import Idealize.ShloMosaic.Lib.Pipeline.ValueKit

@[expose] public section

set_option maxRecDepth 16384

noncomputable section

namespace Cert.Proof.LatentUpBack

open Cert.Kernel18Ideal Cert.Kernel18Ideal.Gen
open Idealize.ShloMosaic Idealize.ShloMosaic.TcCoe Idealize.SL.Sem
open Idealize.ShloMosaic.Pipeline (Dat)
open Cert.Proof.Latent (hz hz3)
open Finset

/-! ## What one grid point leaves -/

section Point

variable {F : FTy → Type} [FloatOps F]
variable (c : Dev nD) (i : grid0.Coords) (a3 : Memref sig .tc .vmem S1024x1024 .bf16) (h3 : a3.IsWhole) (a4 : Memref sig .tc .vmem S1x512x1024 .bf16)
    (h4 : a4.IsWhole) (a5 : Memref sig .tc .vmem S1024x512 .f32) (h5 : a5.IsWhole) (a6 : Memref sig .tc .vmem S1024x512 .f32) (h6 : a6.IsWhole)
variable (x0 : Vec F S1024x1024 .bf16) (x1 : Vec F S1x512x1024 .bf16) (s : Vec F S1024x512 .f32)

/-- The first of four points starts the running sum. -/
theorem run_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x1024) hz, View.ld_unit_zero (S := S1x512x1024) hz3]

/-- The next ones add to it. -/
theorem run_B (hc0 : ¬cond0_0 i) (hc1 : cond0_1 i) (hc2 : ¬cond0_2 i) : sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  simp only [View.readAt_eq_ld, h3.read_unread, h4.read_unread, h6.read_unread, View.ld_unit_zero (S := S1024x1024) hz, View.ld_unit_zero (S := S1x512x1024) hz3,
    View.ld_unit_zero (S := S1024x512) hz]

/-- The last one adds to it and writes it out. -/
theorem out_C (hc0 : ¬cond0_0 i) (hc1 : cond0_1 i) (hc2 : cond0_2 i) : out0_C_2 c i a3 h3 a4 h4 a5 h5 a6 h6 hc0 hc1 hc2 x0 x1 s = k0_pay2 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1x512x1024) hz3,
    View.ld_unit_zero (S := S1024x512) hz, View.readCov_unit_zero (S := S1024x512) _ hz]

end Point

/-! ## The running sum along the grid -/

theorem pay1 (x : FVec Ideal S1024x1024 .bf16) (y : FVec Ideal S1x512x1024 .bf16) (i : S1024x512.Idx) :
    k0_pay1 (F := Ideal) x y i = ∑ k : Fin 1024, x (ix2 (i 0) k) * y (ix3 0 (i 1) k) := by
  pointwise [k0_pay1]

theorem pay2 (s : FVec Ideal S1024x512 .f32) (x : FVec Ideal S1024x1024 .bf16) (y : FVec Ideal S1x512x1024 .bf16) (i : S1024x512.Idx) :
    k0_pay2 (F := Ideal) s x y i = s (ix2 (i 0) (i 1)) + ∑ k : Fin 1024, x (ix2 (i 0) k) * y (ix3 0 (i 1) k) := by
  pointwise [k0_pay2]

/-- The blocks of a grid point. -/
theorem idx : ∀ t : Fin cfg0.N, win0_0.index t = ![t.val / 4, t.val % 4] ∧ win0_1.index t = ![t.val % 4, 0, 0] :=
  (by decide +kernel : ∀ t : Fin grid0.N, _)

/-- Term `k` of the sum for row `r` and column `j`; column `k` of the weights is column `k % 1024` of part `k / 1024`. -/
def term (a : FVec Ideal S2048x4096 .bf16) (w : FVec Ideal S4x512x1024 .bf16) (r : Fin 2048) (j : Fin 512) (k : ℕ) : EReal :=
  if h : k < 4096 then a (ix2 r (⟨k, h⟩ : Fin 4096)) * w (ix3 (⟨k / 1024, by omega⟩ : Fin 4) j (⟨k % 1024, Nat.mod_lt _ (by decide)⟩ : Fin 1024)) else 0

/-- The gradient. -/
def grad (a : FVec Ideal S2048x4096 .bf16) (w : FVec Ideal S4x512x1024 .bf16) : FVec Ideal S2048x512 .f32 := fun i =>
  ∑ k : Fin 4096, term a w (i 0) (i 1) k.val

variable (m : (ℓ : Loc nD τ sig) → Buf (Elt Ideal) ℓ) (c : Dev nD)

/-- The blocks of the two arguments at a grid point. -/
def aAt (t : Fin cfg0.N) : FVec Ideal S1024x1024 .bf16 := iblk m c 0 t
def wAt (t : Fin cfg0.N) : FVec Ideal S1x512x1024 .bf16 := iblk m c 1 t

theorem aAt_read (t : Fin cfg0.N) (r : Fin 1024) (k : Fin 1024) (h : t.val / 4 * 1024 + r.val < 2048) (h' : t.val % 4 * 1024 + k.val < 4096) :
    aAt m c t (ix2 r k)
      = m ((c : Thread nD τ).loc main_arg0) (ix2 (⟨t.val / 4 * 1024 + r.val, h⟩ : Fin 2048) (⟨t.val % 4 * 1024 + k.val, h'⟩ : Fin 4096)) := by
  unfold aAt; blk_ext [iblk, V, idx t]

theorem wAt_read (t : Fin cfg0.N) (j : Fin 512) (k : Fin 1024) (hp : t.val % 4 < 4) :
    wAt m c t (ix3 0 j k)
      = m ((c : Thread nD τ).loc main_arg1) (ix3 (⟨t.val % 4, hp⟩ : Fin 4) j k) := by
  unfold wAt; blk_ext [iblk, V, idx t]

theorem acc_A (t : Fin cfg0.N) (h0 : t.val % 4 = 0) (h1 : ¬1 ≤ t.val % 4) (h2 : ¬t.val % 4 = 3) :
    (outsAt0 m c t.val t.isLt).2 = k0_pay1 (F := Ideal) (aAt m c t) (wAt m c t) :=
  by rw [outsAt0_A m c t h0 h1 h2]; dsimp only; rw [run_A]; rfl

theorem acc_B (t : Fin cfg0.N) (h0 : ¬t.val % 4 = 0) (h1 : 1 ≤ t.val % 4) (h2 : ¬t.val % 4 = 3) :
    (outsAt0 m c t.val t.isLt).2 = k0_pay2 (F := Ideal) (outsAt0 m c (t.val - 1) (Nat.lt_of_le_of_lt (Nat.sub_le _ _) t.isLt)).2 (aAt m c t) (wAt m c t) :=
  by rw [outsAt0_B m c t h0 h1 h2]; dsimp only; rw [run_B]; rfl

theorem res_C (t : Fin cfg0.N) (h0 : ¬t.val % 4 = 0) (h1 : 1 ≤ t.val % 4) (h2 : t.val % 4 = 3) :
    (outsAt0 m c t.val t.isLt).1 = k0_pay2 (F := Ideal) (outsAt0 m c (t.val - 1) (Nat.lt_of_le_of_lt (Nat.sub_le _ _) t.isLt)).2 (aAt m c t) (wAt m c t) :=
  by rw [outsAt0_C m c t h0 h1 h2]; dsimp only; rw [out_C]; rfl

/-- The block product of a grid point, as terms of the sum. -/
theorem block (t : Fin cfg0.N) (y : S1024x512.Idx) (r : Fin 2048) (j : Fin 512) (hr : r.val = t.val / 4 * 1024 + (y 0).val) (hj : j.val = (y 1).val) :
    ∑ k : Fin 1024, aAt m c t (ix2 (y 0) k) * wAt m c t (ix3 0 (y 1) k)
      = ∑ k : Fin 1024, term (m ((c : Thread nD τ).loc main_arg0)) (m ((c : Thread nD τ).loc main_arg1)) r j (1024 * (t.val % 4) + k.val) := by
  have ht : t.val < 8 := t.isLt
  refine Finset.sum_congr rfl fun k _ => ?_
  have hk := k.isLt
  have y0 : (y 0).val < 1024 := (y 0).isLt
  have y1 : (y 1).val < 512 := (y 1).isLt
  have hr' := r.isLt
  have hj' := j.isLt
  unfold term
  rw [dif_pos (show 1024 * (t.val % 4) + k.val < 4096 by omega), aAt_read m c t (y 0) k (by omega) (by omega), wAt_read m c t (y 1) k (by omega)]
  rw [show (⟨t.val % 4, by omega⟩ : Fin 4) = ⟨(1024 * (t.val % 4) + k.val) / 1024, by omega⟩ from Fin.ext (by dsimp only; omega),
    show (y 1 : Fin 512) = j from Fin.ext hj.symm,
    show (⟨t.val / 4 * 1024 + (y 0).val, by omega⟩ : Fin 2048) = r from Fin.ext hr.symm,
    show (⟨t.val % 4 * 1024 + k.val, by omega⟩ : Fin 4096) = ⟨1024 * (t.val % 4) + k.val, by omega⟩ from Fin.ext (by dsimp only; omega),
    show (⟨(1024 * (t.val % 4) + k.val) % 1024, Nat.mod_lt _ (by decide)⟩ : Fin 1024) = k from Fin.ext (by dsimp only; omega)]

/-- The running sum after a grid point that is not the last of its four. -/
theorem run_val (n : ℕ) : ∀ (hn : n < cfg0.N), n % 4 ≠ 3 → ∀ (y : S1024x512.Idx) (r : Fin 2048) (j : Fin 512), r.val = n / 4 * 1024 + (y 0).val →
    j.val = (y 1).val → (outsAt0 m c n hn).2 y
      = ∑ k ∈ range (1024 * (n % 4 + 1)), term (m ((c : Thread nD τ).loc main_arg0)) (m ((c : Thread nD τ).loc main_arg1)) r j k := by
  induction n using Nat.strong_induction_on with
  | _ n ih =>
    intro hn h3 y r j hr hj
    by_cases h0 : n % 4 = 0
    · refine (congrFun (acc_A m c ⟨n, hn⟩ h0 (by dsimp only; omega) h3) y).trans ?_
      rw [pay1, block m c ⟨n, hn⟩ y r j hr hj, show (⟨n, hn⟩ : Fin cfg0.N).val % 4 = 0 from h0]
      exact BlockSum.first 1024 _
    · refine (congrFun (acc_B m c ⟨n, hn⟩ h0 (by dsimp only; omega) h3) y).trans ?_
      rw [pay2, block m c ⟨n, hn⟩ y r j hr hj, ← eq_ix2 y]
      refine Eq.trans (congrArg (· + _) (ih (n - 1) (by omega) _ (by omega) y r j (by omega) (by omega))) ?_
      rw [show (n - 1) % 4 + 1 = n % 4 by omega]
      exact BlockSum.step 1024 _ _

/-- What the last of four grid points writes out. -/
theorem out_val (n : ℕ) (hn : n < cfg0.N) (h3 : n % 4 = 3) (y : S1024x512.Idx) (r : Fin 2048) (j : Fin 512) (hr : r.val = n / 4 * 1024 + (y 0).val)
    (hj : j.val = (y 1).val) : (outsAt0 m c n hn).1 y
      = ∑ k : Fin 4096, term (m ((c : Thread nD τ).loc main_arg0)) (m ((c : Thread nD τ).loc main_arg1)) r j k.val := by
  refine (congrFun (res_C m c ⟨n, hn⟩ (by dsimp only; omega) (by dsimp only; omega) h3) y).trans ?_
  rw [pay2, block m c ⟨n, hn⟩ y r j hr hj, ← eq_ix2 y, ← BlockSum.whole 1024 4096 rfl, ← BlockSum.step 1024 _ 3, show (⟨n, hn⟩ : Fin cfg0.N).val % 4 = 3 from h3]
  refine congrArg (· + _) ((run_val m c (n - 1) _ (by omega) y r j (by omega) (by omega)).trans ?_)
  rw [show (n - 1) % 4 + 1 = 3 by omega]

/-- The kernel's result array after its run. -/
theorem final : Value.G2 m c
    = grad (m ((c : Thread nD τ).loc main_arg0)) (m ((c : Thread nD τ).loc main_arg1)) := by
  funext i
  have h0 : (i 0).val < 2048 := (i 0).isLt
  have h1 : (i 1).val < 512 := (i 1).isLt
  have hN : cfg0.N = 8 := N_0
  have hp : Value.pt2Of i < cfg0.N := by dsimp only [Value.pt2Of, Value.run2Of]; omega
  unfold Value.G2
  rw [dif_pos hp, ← Value.outsAt0_sweep m c _ hp]
  unfold grad
  refine out_val m c _ hp ?_ _ (i 0) (i 1) ?_ ?_
  · dsimp only [Value.pt2Of, Value.run2Of]; omega
  · show (i 0).val = Value.pt2Of i / 4 * 1024 + (i 0).val % 1024
    dsimp only [Value.pt2Of, Value.run2Of]; omega
  · show (i 1).val = (i 1).val % 512
    omega

/-- The reference computes the same. -/
theorem ref (a : FVec Ideal S2048x4096 .bf16) (w : FVec Ideal S4x512x1024 .bf16) :
    Cert.Reference18Ideal.Read.val_main_v6 (F := Ideal) a w = grad a w := by
  funext i
  rw [Cert.Reference18Ideal.Read.val_main_v6_apply]
  unfold grad
  refine Finset.sum_congr rfl fun k _ => ?_
  have h1 : (i 1).val < 512 := (i 1).isLt
  have hk := k.isLt
  rw [Cert.Reference18Ideal.Read.val_main_v2_apply, Cert.Reference18Ideal.Read.val_main_v1_apply, Cert.Reference18Ideal.Read.val_main_v0_apply]
  unfold term
  rw [dif_pos hk]
  refine congrArg₂ (· * ·) (congrArg a (funext fun b => Fin.ext ?_)) (congrArg w (funext fun b => Fin.ext ?_))
  · match b with
    | ⟨0, _⟩ => rfl
    | ⟨1, _⟩ => rfl
  · match b with
    | ⟨0, _⟩ => show ((i 1).val * 4096 + k.val) / 1024 % 4 = k.val / 1024; omega
    | ⟨1, _⟩ => show ((i 1).val * 4096 + k.val) / 4096 = (i 1).val; omega
    | ⟨2, _⟩ => show ((i 1).val * 4096 + k.val) % 1024 = k.val % 1024; omega

end Cert.Proof.LatentUpBack

end
-- ==== Proof.LatentDown.lean ====
/-
  The activations narrowed to the latents: what the kernel leaves in its result array, adding up four blocks of the sum
  one grid point after another, and what the reference computes are the same product.
-/
module

public import proofs.«01_k».proof.Proof.Gen.Kernel19Ideal.Value
public import proofs.«01_k».proof.Proof.Gen.Reference19Ideal.Read
public import proofs.«01_k».proof.Proof.Latent
public import proofs.«01_k».proof.Proof.BlockSum
public import Idealize.ShloMosaic.Lib.Pipeline.ValueKit

@[expose] public section

set_option maxRecDepth 16384

noncomputable section

namespace Cert.Proof.LatentDown

open Cert.Kernel19Ideal Cert.Kernel19Ideal.Gen
open Idealize.ShloMosaic Idealize.ShloMosaic.TcCoe Idealize.SL.Sem
open Idealize.ShloMosaic.Pipeline (Dat)
open Cert.Proof.Latent (hz hz3)
open Finset

/-! ## What one grid point leaves -/

section Point

variable {F : FTy → Type} [FloatOps F]
variable (c : Dev nD) (i : grid0.Coords) (a3 : Memref sig .tc .vmem S1024x512 .bf16) (h3 : a3.IsWhole) (a4 : Memref sig .tc .vmem S1x512x384 .bf16)
    (h4 : a4.IsWhole) (a5 : Memref sig .tc .vmem S1024x384 .f32) (h5 : a5.IsWhole) (a6 : Memref sig .tc .vmem S1024x384 .f32) (h6 : a6.IsWhole)
variable (x0 : Vec F S1024x512 .bf16) (x1 : Vec F S1x512x384 .bf16) (s : Vec F S1024x384 .f32)

/-- The first of four points starts the running sum. -/
theorem run_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x512) hz, View.ld_unit_zero (S := S1x512x384) hz3]

/-- The next ones add to it. -/
theorem run_B (hc0 : ¬cond0_0 i) (hc1 : cond0_1 i) (hc2 : ¬cond0_2 i) : sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  simp only [View.readAt_eq_ld, h3.read_unread, h4.read_unread, h6.read_unread, View.ld_unit_zero (S := S1024x512) hz, View.ld_unit_zero (S := S1x512x384) hz3,
    View.ld_unit_zero (S := S1024x384) hz]

/-- The last one adds to it and writes it out. -/
theorem out_C (hc0 : ¬cond0_0 i) (hc1 : cond0_1 i) (hc2 : cond0_2 i) : out0_C_2 c i a3 h3 a4 h4 a5 h5 a6 h6 hc0 hc1 hc2 x0 x1 s = k0_pay2 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x512) hz, View.ld_unit_zero (S := S1x512x384) hz3,
    View.ld_unit_zero (S := S1024x384) hz, View.readCov_unit_zero (S := S1024x384) _ hz]

end Point

/-! ## The running sum along the grid -/

theorem pay1 (x : FVec Ideal S1024x512 .bf16) (y : FVec Ideal S1x512x384 .bf16) (i : S1024x384.Idx) :
    k0_pay1 (F := Ideal) x y i = ∑ k : Fin 512, x (ix2 (i 0) k) * y (ix3 0 k (i 1)) := by
  pointwise [k0_pay1]

theorem pay2 (s : FVec Ideal S1024x384 .f32) (x : FVec Ideal S1024x512 .bf16) (y : FVec Ideal S1x512x384 .bf16) (i : S1024x384.Idx) :
    k0_pay2 (F := Ideal) s x y i = s (ix2 (i 0) (i 1)) + ∑ k : Fin 512, x (ix2 (i 0) k) * y (ix3 0 k (i 1)) := by
  pointwise [k0_pay2]

/-- The blocks of a grid point. -/
theorem idx : ∀ t : Fin cfg0.N, win0_0.index t = ![t.val / 12, t.val % 4] ∧ win0_1.index t = ![t.val % 4, 0, t.val / 4 % 3] :=
  (by decide +kernel : ∀ t : Fin grid0.N, _)

/-- Term `k` of the sum for row `r` and column `j`; row `k` of the weights is row `k % 512` of part `k / 512`. -/
def term (a : FVec Ideal S2048x2048 .bf16) (w : FVec Ideal S4x512x1152 .bf16) (r : Fin 2048) (j : Fin 1152) (k : ℕ) : EReal :=
  if h : k < 2048 then a (ix2 r (⟨k, h⟩ : Fin 2048)) * w (ix3 (⟨k / 512, by omega⟩ : Fin 4) (⟨k % 512, Nat.mod_lt _ (by decide)⟩ : Fin 512) j) else 0

/-- The product. -/
def prod (a : FVec Ideal S2048x2048 .bf16) (w : FVec Ideal S4x512x1152 .bf16) : FVec Ideal S2048x1152 .f32 := fun i =>
  ∑ k : Fin 2048, term a w (i 0) (i 1) k.val

variable (m : (ℓ : Loc nD τ sig) → Buf (Elt Ideal) ℓ) (c : Dev nD)

/-- The blocks of the two arguments at a grid point. -/
def aAt (t : Fin cfg0.N) : FVec Ideal S1024x512 .bf16 := iblk m c 0 t
def wAt (t : Fin cfg0.N) : FVec Ideal S1x512x384 .bf16 := iblk m c 1 t

theorem aAt_read (t : Fin cfg0.N) (r : Fin 1024) (k : Fin 512) (h : t.val / 12 * 1024 + r.val < 2048) (h' : t.val % 4 * 512 + k.val < 2048) :
    aAt m c t (ix2 r k)
      = m ((c : Thread nD τ).loc main_arg0) (ix2 (⟨t.val / 12 * 1024 + r.val, h⟩ : Fin 2048) (⟨t.val % 4 * 512 + k.val, h'⟩ : Fin 2048)) := by
  unfold aAt; blk_ext [iblk, V, idx t]

theorem wAt_read (t : Fin cfg0.N) (j : Fin 384) (k : Fin 512) (hp : t.val % 4 < 4) (h : t.val / 4 % 3 * 384 + j.val < 1152) :
    wAt m c t (ix3 0 k j)
      = m ((c : Thread nD τ).loc main_arg1) (ix3 (⟨t.val % 4, hp⟩ : Fin 4) k (⟨t.val / 4 % 3 * 384 + j.val, h⟩ : Fin 1152)) := by
  unfold wAt; blk_ext [iblk, V, idx t]

theorem acc_A (t : Fin cfg0.N) (h0 : t.val % 4 = 0) (h1 : ¬1 ≤ t.val % 4) (h2 : ¬t.val % 4 = 3) :
    (outsAt0 m c t.val t.isLt).2 = k0_pay1 (F := Ideal) (aAt m c t) (wAt m c t) :=
  by rw [outsAt0_A m c t h0 h1 h2]; dsimp only; rw [run_A]; rfl

theorem acc_B (t : Fin cfg0.N) (h0 : ¬t.val % 4 = 0) (h1 : 1 ≤ t.val % 4) (h2 : ¬t.val % 4 = 3) :
    (outsAt0 m c t.val t.isLt).2 = k0_pay2 (F := Ideal) (outsAt0 m c (t.val - 1) (Nat.lt_of_le_of_lt (Nat.sub_le _ _) t.isLt)).2 (aAt m c t) (wAt m c t) :=
  by rw [outsAt0_B m c t h0 h1 h2]; dsimp only; rw [run_B]; rfl

theorem res_C (t : Fin cfg0.N) (h0 : ¬t.val % 4 = 0) (h1 : 1 ≤ t.val % 4) (h2 : t.val % 4 = 3) :
    (outsAt0 m c t.val t.isLt).1 = k0_pay2 (F := Ideal) (outsAt0 m c (t.val - 1) (Nat.lt_of_le_of_lt (Nat.sub_le _ _) t.isLt)).2 (aAt m c t) (wAt m c t) :=
  by rw [outsAt0_C m c t h0 h1 h2]; dsimp only; rw [out_C]; rfl

/-- The block product of a grid point, as terms of the sum. -/
theorem block (t : Fin cfg0.N) (y : S1024x384.Idx) (r : Fin 2048) (j : Fin 1152) (hr : r.val = t.val / 12 * 1024 + (y 0).val) (hj : j.val = t.val / 4 % 3 * 384 + (y 1).val) :
    ∑ k : Fin 512, aAt m c t (ix2 (y 0) k) * wAt m c t (ix3 0 k (y 1))
      = ∑ k : Fin 512, term (m ((c : Thread nD τ).loc main_arg0)) (m ((c : Thread nD τ).loc main_arg1)) r j (512 * (t.val % 4) + k.val) := by
  have ht : t.val < 24 := t.isLt
  refine Finset.sum_congr rfl fun k _ => ?_
  have hk := k.isLt
  have y0 : (y 0).val < 1024 := (y 0).isLt
  have y1 : (y 1).val < 384 := (y 1).isLt
  have hr' := r.isLt
  have hj' := j.isLt
  unfold term
  rw [dif_pos (show 512 * (t.val % 4) + k.val < 2048 by omega), aAt_read m c t (y 0) k (by omega) (by omega), wAt_read m c t (y 1) k (by omega) (by omega)]
  rw [show (⟨t.val % 4, by omega⟩ : Fin 4) = ⟨(512 * (t.val % 4) + k.val) / 512, by omega⟩ from Fin.ext (by dsimp only; omega),
    show (⟨t.val / 4 % 3 * 384 + (y 1).val, by omega⟩ : Fin 1152) = j from Fin.ext hj.symm,
    show (⟨t.val / 12 * 1024 + (y 0).val, by omega⟩ : Fin 2048) = r from Fin.ext hr.symm,
    show (⟨t.val % 4 * 512 + k.val, by omega⟩ : Fin 2048) = ⟨512 * (t.val % 4) + k.val, by omega⟩ from Fin.ext (by dsimp only; omega),
    show (⟨(512 * (t.val % 4) + k.val) % 512, Nat.mod_lt _ (by decide)⟩ : Fin 512) = k from Fin.ext (by dsimp only; omega)]

/-- The running sum after a grid point that is not the last of its four. -/
theorem run_val (n : ℕ) : ∀ (hn : n < cfg0.N), n % 4 ≠ 3 → ∀ (y : S1024x384.Idx) (r : Fin 2048) (j : Fin 1152), r.val = n / 12 * 1024 + (y 0).val →
    j.val = n / 4 % 3 * 384 + (y 1).val → (outsAt0 m c n hn).2 y
      = ∑ k ∈ range (512 * (n % 4 + 1)), term (m ((c : Thread nD τ).loc main_arg0)) (m ((c : Thread nD τ).loc main_arg1)) r j k := by
  induction n using Nat.strong_induction_on with
  | _ n ih =>
    intro hn h3 y r j hr hj
    by_cases h0 : n % 4 = 0
    · refine (congrFun (acc_A m c ⟨n, hn⟩ h0 (by dsimp only; omega) h3) y).trans ?_
      rw [pay1, block m c ⟨n, hn⟩ y r j hr hj, show (⟨n, hn⟩ : Fin cfg0.N).val % 4 = 0 from h0]
      exact BlockSum.first 512 _
    · refine (congrFun (acc_B m c ⟨n, hn⟩ h0 (by dsimp only; omega) h3) y).trans ?_
      rw [pay2, block m c ⟨n, hn⟩ y r j hr hj, ← eq_ix2 y]
      refine Eq.trans (congrArg (· + _) (ih (n - 1) (by omega) _ (by omega) y r j (by omega) (by omega))) ?_
      rw [show (n - 1) % 4 + 1 = n % 4 by omega]
      exact BlockSum.step 512 _ _

/-- What the last of four grid points writes out. -/
theorem out_val (n : ℕ) (hn : n < cfg0.N) (h3 : n % 4 = 3) (y : S1024x384.Idx) (r : Fin 2048) (j : Fin 1152) (hr : r.val = n / 12 * 1024 + (y 0).val)
    (hj : j.val = n / 4 % 3 * 384 + (y 1).val) : (outsAt0 m c n hn).1 y
      = ∑ k : Fin 2048, term (m ((c : Thread nD τ).loc main_arg0)) (m ((c : Thread nD τ).loc main_arg1)) r j k.val := by
  refine (congrFun (res_C m c ⟨n, hn⟩ (by dsimp only; omega) (by dsimp only; omega) h3) y).trans ?_
  rw [pay2, block m c ⟨n, hn⟩ y r j hr hj, ← eq_ix2 y, ← BlockSum.whole 512 2048 rfl, ← BlockSum.step 512 _ 3, show (⟨n, hn⟩ : Fin cfg0.N).val % 4 = 3 from h3]
  refine congrArg (· + _) ((run_val m c (n - 1) _ (by omega) y r j (by omega) (by omega)).trans ?_)
  rw [show (n - 1) % 4 + 1 = 3 by omega]

/-- The kernel's result array after its run. -/
theorem final : Value.G2 m c = prod (m ((c : Thread nD τ).loc main_arg0)) (m ((c : Thread nD τ).loc main_arg1)) := by
  funext i
  have h0 : (i 0).val < 2048 := (i 0).isLt
  have h1 : (i 1).val < 1152 := (i 1).isLt
  have hN : cfg0.N = 24 := N_0
  have hp : Value.pt2Of i < cfg0.N := by dsimp only [Value.pt2Of, Value.run2Of]; omega
  unfold Value.G2
  rw [dif_pos hp, ← Value.outsAt0_sweep m c _ hp]
  unfold prod
  refine out_val m c _ hp ?_ _ (i 0) (i 1) ?_ ?_
  · dsimp only [Value.pt2Of, Value.run2Of]; omega
  · show (i 0).val = Value.pt2Of i / 12 * 1024 + (i 0).val % 1024
    dsimp only [Value.pt2Of, Value.run2Of]; omega
  · show (i 1).val = Value.pt2Of i / 4 % 3 * 384 + (i 1).val % 384
    dsimp only [Value.pt2Of, Value.run2Of]; omega

/-- The reference computes the same. -/
theorem ref (a : FVec Ideal S2048x2048 .bf16) (w : FVec Ideal S4x512x1152 .bf16) :
    Cert.Reference19Ideal.Read.val_main_v3 (F := Ideal) a w = prod a w := by
  funext i
  rw [Cert.Reference19Ideal.Read.val_main_v3_apply]
  unfold prod
  refine Finset.sum_congr rfl fun k _ => ?_
  have h1 : (i 1).val < 1152 := (i 1).isLt
  have hk := k.isLt
  rw [Cert.Reference19Ideal.Read.val_main_v2_apply, Cert.Reference19Ideal.Read.val_main_v1_apply]
  unfold term
  rw [dif_pos hk]
  refine congrArg₂ (· * ·) (congrArg a (funext fun b => Fin.ext ?_)) (congrArg w (funext fun b => Fin.ext ?_))
  · match b with
    | ⟨0, _⟩ => rfl
    | ⟨1, _⟩ => rfl
  · match b with
    | ⟨0, _⟩ => show (k.val * 1152 + (i 1).val) / 589824 = k.val / 512; omega
    | ⟨1, _⟩ => show (k.val * 1152 + (i 1).val) / 1152 % 512 = k.val % 512; omega
    | ⟨2, _⟩ => show (k.val * 1152 + (i 1).val) % 1152 = (i 1).val; omega

end Cert.Proof.LatentDown

end
-- ==== Proof.LatentDownGrad.lean ====
/-
  The gradient of the weights narrowing the activations to the latents: what the kernel leaves in its result array, and
  what the reference computes, are the same products of the two arguments summed over the rows.
-/
module

public import proofs.«01_k».proof.Proof.Gen.Kernel20Ideal.Value
public import proofs.«01_k».proof.Proof.Gen.Reference20Ideal.Read
public import proofs.«01_k».proof.Proof.Latent
public import Idealize.ShloMosaic.Lib.Pipeline.ValueKit

@[expose] public section

set_option maxRecDepth 16384

noncomputable section

namespace Cert.Proof.LatentDownGrad

open Cert.Kernel20Ideal Cert.Kernel20Ideal.Gen
open Idealize.ShloMosaic Idealize.ShloMosaic.TcCoe Idealize.SL.Sem
open Idealize.ShloMosaic.Pipeline (Dat)
open Cert.Proof.Latent (hz hz3)

/-- The blocks of a grid point. -/
theorem idx : ∀ t : Fin cfg0.N, win0_0.index t = ![0, t.val / 3] ∧ win0_1.index t = ![0, t.val % 3] ∧ win0_2.index t = ![t.val / 3, 0, t.val % 3] :=
  (by decide +kernel : ∀ t : Fin grid0.N, _)

/-- Element `(p, i, j)` of the gradient: row `512 p + i` of the weights, column `j`. -/
def grad (a : FVec Ideal S2048x2048 .bf16) (dy : FVec Ideal S2048x1152 .bf16) : FVec Ideal S4x512x1152 .bf16 := fun i =>
  ∑ k : Fin 2048, a (ix2 k (⟨512 * (i 0).val + (i 1).val, by have h0 : (i 0).val < 4 := (i 0).isLt; have h1 : (i 1).val < 512 := (i 1).isLt; omega⟩ : Fin 2048))
    * dy (ix2 k (i 2))

theorem grad_at (a : FVec Ideal S2048x2048 .bf16) (dy : FVec Ideal S2048x1152 .bf16) (i : S4x512x1152.Idx) (r : Fin 2048) (j : Fin 1152)
    (hr : r.val = 512 * (i 0).val + (i 1).val) (hj : j.val = (i 2).val) : grad a dy i = ∑ k : Fin 2048, a (ix2 k r) * dy (ix2 k j) := by
  obtain rfl : j = i 2 := Fin.ext hj
  unfold grad
  exact Finset.sum_congr rfl fun k _ => congrArg (fun n : Fin 2048 => a (ix2 k n) * dy (ix2 k (i 2))) (Fin.ext hr.symm)

theorem pay (x : FVec Ideal S2048x512 .bf16) (y : FVec Ideal S2048x384 .bf16) (i : S1x512x384.Idx) :
    k0_pay1 (F := Ideal) x y i = ∑ k : Fin 2048, x (ix2 k (i 1)) * y (ix2 k (i 2)) := by
  pointwise [k0_pay1]

theorem ld0 (x : Vec Ideal S2048x512 .bf16) : View.ld x r0_0 = x := View.ld_unit_zero (S := S2048x512) hz _ x
theorem ld1 (x : Vec Ideal S2048x384 .bf16) : View.ld x r0_1 = x := View.ld_unit_zero (S := S2048x384) hz _ x

variable (m : (ℓ : Loc nD τ sig) → Buf (Elt Ideal) ℓ) (c : Dev nD)

/-- The block product of a grid point is the whole gradient at the block's place. -/
theorem block (t : Fin cfg0.N) (y : S1x512x384.Idx) (i : S4x512x1152.Idx) (h0 : (i 0).val = t.val / 3 + (y 0).val)
    (h1 : (i 1).val = (y 1).val) (h2 : (i 2).val = t.val % 3 * 384 + (y 2).val) :
    k0_pay1 (F := Ideal) (iblk m c 0 t : Vec Ideal S2048x512 .bf16) (iblk m c 1 t : Vec Ideal S2048x384 .bf16) y
      = grad (m ((c : Thread nD τ).loc main_arg0)) (m ((c : Thread nD τ).loc main_arg1)) i := by
  have x0 (k : Fin 2048) (j : Fin 512) (h : t.val / 3 * 512 + j.val < 2048) : (iblk m c 0 t : FVec Ideal S2048x512 .bf16) (ix2 k j)
    = m ((c : Thread nD τ).loc main_arg0) (ix2 k (⟨t.val / 3 * 512 + j.val, h⟩ : Fin 2048)) := by blk_ext [iblk, V, idx t]
  have x1 (k : Fin 2048) (j : Fin 384) (h : t.val % 3 * 384 + j.val < 1152) : (iblk m c 1 t : FVec Ideal S2048x384 .bf16) (ix2 k j)
    = m ((c : Thread nD τ).loc main_arg1) (ix2 k (⟨t.val % 3 * 384 + j.val, h⟩ : Fin 1152)) := by blk_ext [iblk, V, idx t]
  have ht : t.val < 12 := t.isLt
  have y0 : (y 0).val < 1 := (y 0).isLt
  have y1 : (y 1).val < 512 := (y 1).isLt
  have y2 : (y 2).val < 384 := (y 2).isLt
  rw [pay]
  refine Eq.trans ?_ (grad_at _ _ i ⟨t.val / 3 * 512 + (y 1).val, by omega⟩ ⟨t.val % 3 * 384 + (y 2).val, by omega⟩
    (by dsimp only; omega) h2.symm).symm
  exact Finset.sum_congr rfl fun k _ => congrArg₂ (· * ·) (x0 k (y 1) _) (x1 k (y 2) _)

/-- The kernel's result array after its run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  rw [View.canon_unit_zero hz3, ld0, ld1]
  exact block m c t y _ (by blk_simp [idx t]) (by blk_simp [idx t]) (by blk_simp [idx t])

/-- The reference computes the same. -/
theorem ref (a : FVec Ideal S2048x2048 .bf16) (dy : FVec Ideal S2048x1152 .bf16) :
    Cert.Reference20Ideal.Read.val_main_v8 (F := Ideal) a dy = grad a dy := by
  funext i
  rw [Cert.Reference20Ideal.Read.val_main_v8_apply, Cert.Reference20Ideal.Read.val_main_v7_apply, Cert.Reference20Ideal.Read.val_main_v6_apply, Cert.Reference20Ideal.Read.val_main_v5_apply]
  unfold grad
  refine Finset.sum_congr rfl fun k _ => ?_
  rw [mul_comm]
  have h1 : (i 1).val < 512 := (i 1).isLt
  have h2 : (i 2).val < 1152 := (i 2).isLt
  refine congrArg₂ (· * ·) (congrArg a (funext fun b => Fin.ext ?_)) (congrArg dy (funext fun b => Fin.ext ?_))
  · match b with
    | ⟨0, _⟩ => rfl
    | ⟨1, _⟩ => show (((i 0).val * 512 + (i 1).val) * 1152 + (i 2).val) / 1152 = 512 * (i 0).val + (i 1).val; omega
  · match b with
    | ⟨0, _⟩ => rfl
    | ⟨1, _⟩ => show (((i 0).val * 512 + (i 1).val) * 1152 + (i 2).val) % 1152 = (i 2).val; omega

end Cert.Proof.LatentDownGrad

end
-- ==== Proof.LatentDownBack.lean ====
/-
  The gradient of a latent attention's input: what the kernel leaves in its result array, the product with the weights
  that narrow it and the residual's part, and what the reference computes are the same.
-/
module

public import proofs.«01_k».proof.Proof.Gen.Kernel21Ideal.Value
public import proofs.«01_k».proof.Proof.Gen.Reference21Ideal.Read
public import proofs.«01_k».proof.Proof.Latent
public import Idealize.ShloMosaic.Lib.Pipeline.ValueKit

@[expose] public section

set_option maxRecDepth 16384

noncomputable section

namespace Cert.Proof.LatentDownBack

open Cert.Kernel21Ideal Cert.Kernel21Ideal.Gen
open Idealize.ShloMosaic Idealize.ShloMosaic.TcCoe Idealize.SL.Sem
open Idealize.ShloMosaic.Pipeline (Dat)
open Cert.Proof.Latent (hz hz3)

/-- The blocks of a grid point. -/
theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

/-- The residual's factor, as the program writes it. -/
abbrev alpha : EReal := Ideal.ofBits .f32 0x3FD744FD#32

/-- Element `(i, j)` of the gradient; row `j` of the weights is row `j % 512` of part `j / 512`. -/
def grad (dy : FVec Ideal S2048x1152 .bf16) (w : FVec Ideal S4x512x1152 .bf16) (z : FVec Ideal S2048x2048 .f32) : FVec Ideal S2048x2048 .f32 := fun i =>
  ∑ k : Fin 1152, dy (ix2 (i 0) k) * w (ix3 (⟨(i 1).val / 512, by have h1 : (i 1).val < 2048 := (i 1).isLt; omega⟩ : Fin 4)
    (⟨(i 1).val % 512, Nat.mod_lt _ (by decide)⟩ : Fin 512) k) + alpha * z (ix2 (i 0) (i 1))

theorem grad_at (dy : FVec Ideal S2048x1152 .bf16) (w : FVec Ideal S4x512x1152 .bf16) (z : FVec Ideal S2048x2048 .f32) (i : S2048x2048.Idx)
    (r n : Fin 2048) (p : Fin 4) (j : Fin 512) (hr : r.val = (i 0).val) (hn : n.val = (i 1).val) (hp : p.val = (i 1).val / 512) (hj : j.val = (i 1).val % 512) :
    grad dy w z i = ∑ k : Fin 1152, dy (ix2 r k) * w (ix3 p j k) + alpha * z (ix2 r n) := by
  obtain rfl : r = i 0 := Fin.ext hr
  obtain rfl : n = i 1 := Fin.ext hn
  have h1 : (i 1).val < 2048 := (i 1).isLt
  have ep : (⟨(i 1).val / 512, by omega⟩ : Fin 4) = p := Fin.ext hp.symm
  have ej : (⟨(i 1).val % 512, Nat.mod_lt _ (by decide)⟩ : Fin 512) = j := Fin.ext hj.symm
  unfold grad
  rw [ep, ej]

theorem pay (x : FVec Ideal S1024x1152 .bf16) (y : FVec Ideal S1x512x1152 .bf16) (z : FVec Ideal S1024x512 .f32) (i : S1024x512.Idx) :
    k0_pay1 (F := Ideal) x y z i = ∑ k : Fin 1152, x (ix2 (i 0) k) * y (ix3 0 (i 1) k) + alpha * z (ix2 (i 0) (i 1)) := by
  pointwise [k0_pay1]

theorem ld0 (x : Vec Ideal S1024x1152 .bf16) : View.ld x r0_0 = x := View.ld_unit_zero (S := S1024x1152) hz _ x
theorem ld1 (x : Vec Ideal S1x512x1152 .bf16) : View.ld x r0_1 = x := View.ld_unit_zero (S := S1x512x1152) hz3 _ x
theorem ld2 (x : Vec Ideal S1024x512 .f32) : View.ld x r0_2 = x := View.ld_unit_zero (S := S1024x512) hz _ x

variable (m : (ℓ : Loc nD τ sig) → Buf (Elt Ideal) ℓ) (c : Dev nD)

/-- What a grid point computes is the whole gradient at the block's place. -/
theorem block (t : Fin cfg0.N) (y : S1024x512.Idx) (i : S2048x2048.Idx) (h0 : (i 0).val = t.val / 4 * 1024 + (y 0).val)
    (h1 : (i 1).val = t.val % 4 * 512 + (y 1).val) :
    k0_pay1 (F := Ideal) (iblk m c 0 t : Vec Ideal S1024x1152 .bf16) (iblk m c 1 t : Vec Ideal S1x512x1152 .bf16) (iblk m c 2 t : Vec Ideal S1024x512 .f32) y
      = grad (m ((c : Thread nD τ).loc main_arg0)) (m ((c : Thread nD τ).loc main_arg1)) (m ((c : Thread nD τ).loc main_arg2)) i := by
  have x0 (r : Fin 1024) (k : Fin 1152) (h : t.val / 4 * 1024 + r.val < 2048) : (iblk m c 0 t : FVec Ideal S1024x1152 .bf16) (ix2 r k)
    = m ((c : Thread nD τ).loc main_arg0) (ix2 (⟨t.val / 4 * 1024 + r.val, h⟩ : Fin 2048) k) := by blk_ext [iblk, V, idx t]
  have x1 (j : Fin 512) (k : Fin 1152) (hp : t.val % 4 < 4) : (iblk m c 1 t : FVec Ideal S1x512x1152 .bf16) (ix3 0 j k)
    = m ((c : Thread nD τ).loc main_arg1) (ix3 (⟨t.val % 4, hp⟩ : Fin 4) j k) := by blk_ext [iblk, V, idx t]
  have x2 (r : Fin 1024) (j : Fin 512) (h : t.val / 4 * 1024 + r.val < 2048) (h' : t.val % 4 * 512 + j.val < 2048) : (iblk m c 2 t : FVec Ideal S1024x512 .f32) (ix2 r j)
    = m ((c : Thread nD τ).loc main_arg2) (ix2 (⟨t.val / 4 * 1024 + r.val, h⟩ : Fin 2048) (⟨t.val % 4 * 512 + j.val, h'⟩ : Fin 2048)) := by blk_ext [iblk, V, idx t]
  have ht : t.val < 8 := t.isLt
  have y0 : (y 0).val < 1024 := (y 0).isLt
  have y1 : (y 1).val < 512 := (y 1).isLt
  rw [pay]
  refine Eq.trans ?_ (grad_at _ _ _ i ⟨t.val / 4 * 1024 + (y 0).val, by omega⟩ ⟨t.val % 4 * 512 + (y 1).val, by omega⟩
    ⟨t.val % 4, by omega⟩ (y 1) h0.symm h1.symm (by dsimp only; omega) (by omega)).symm
  exact congrArg₂ (fun p q : EReal => p + q) (Finset.sum_congr rfl fun k _ => congrArg₂ (· * ·) (x0 (y 0) k _) (x1 (y 1) k _))
    (congrArg (fun q : EReal => alpha * q) (x2 (y 0) (y 1) _ _))

/-- The kernel's result array after its run. -/
theorem final : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  rw [View.canon_unit_zero hz, ld0, ld1, ld2]
  exact block m c t y _ (by blk_simp [idx t]) (by blk_simp [idx t])

/-- The reference computes the same. -/
theorem ref (dy : FVec Ideal S2048x1152 .bf16) (w : FVec Ideal S4x512x1152 .bf16) (z : FVec Ideal S2048x2048 .f32) :
    Cert.Reference21Ideal.Read.val_main_v10 (F := Ideal) dy w z = grad dy w z := by
  funext i
  rw [Cert.Reference21Ideal.Read.val_main_v10_apply, Cert.Reference21Ideal.Read.val_main_v9_apply, Cert.Reference21Ideal.Read.val_main_v8_apply,
    Cert.Reference21Ideal.Read.val_main_cst_1_apply, Cert.Reference21Ideal.Read.val_main_v7_apply]
  unfold grad
  refine congrArg₂ (fun x y : EReal => x + y) (Finset.sum_congr rfl fun k _ => ?_) (congrArg (fun x : EReal => alpha * x) (congrArg z (eq_ix2 i)))
  rw [Cert.Reference21Ideal.Read.val_main_v1_apply, Cert.Reference21Ideal.Read.val_main_v0_apply]
  have h1 : (i 1).val < 2048 := (i 1).isLt
  have hk := k.isLt
  refine congrArg₂ (· * ·) (congrArg dy (funext fun b => Fin.ext ?_)) (congrArg w (funext fun b => Fin.ext ?_))
  · match b with
    | ⟨0, _⟩ => rfl
    | ⟨1, _⟩ => rfl
  · match b with
    | ⟨0, _⟩ => show ((i 1).val * 1152 + k.val) / 589824 = (i 1).val / 512; omega
    | ⟨1, _⟩ => show ((i 1).val * 1152 + k.val) / 1152 % 512 = (i 1).val % 512; omega
    | ⟨2, _⟩ => show ((i 1).val * 1152 + k.val) % 1152 = k.val; omega

end Cert.Proof.LatentDownBack

end
-- ==== Proof.Update.lean ====
/-
  The optimiser's step of one weight from its gradient and its two running averages, the same for every element of an
  array of any shape.
-/
module

public import Idealize.ShloMosaic.Lib.Pipeline.ValueKit

@[expose] public section

noncomputable section

namespace Cert.Proof.Update

open Idealize.ShloMosaic

variable {S : Shape}

/-- The running average of the gradient, `0.9 m + 0.1 g` with the nearest floats for the two numbers. -/
def avg (g m : FVec Ideal S .f32) : FVec Ideal S .f32 := fun i =>
  (Ideal.ofBits .f32 0x3F666666#32 * m i + Ideal.ofBits .f32 0x3DCCCCCD#32 * g i : EReal)

/-- The running average of its square, `0.999 v + 0.001 g²`. -/
def sqr (g v : FVec Ideal S .f32) : FVec Ideal S .f32 := fun i =>
  (Ideal.ofBits .f32 0x3F7FBE77#32 * v i + Ideal.ofBits .f32 0x3A83126F#32 * (g i * g i) : EReal)

/-- The change of the weight: both averages are corrected by the numbers that the tenth step has, and the weight decays. -/
def step (w g m v : FVec Ideal S .f32) : FVec Ideal S .f32 := fun i =>
  (Ideal.ofBits .f32 0xBA83126F#32 * (FloatOps.divf (F := Ideal) (φ := .f32)
      (FloatOps.divf (F := Ideal) (φ := .f32) (avg g m i) (Ideal.ofBits .f32 0x3F26BD02#32))
      (FloatOps.sqrt (F := Ideal) (φ := .f32) (FloatOps.divf (F := Ideal) (φ := .f32) (sqr g v i) (Ideal.ofBits .f32 0x3C231ACC#32))
        + Ideal.ofBits .f32 0x322BCC77#32 : EReal)
    + Ideal.ofBits .f32 0x3C23D70A#32 * w i) : EReal)

/-- Results that are these functions of some arguments are the same functions of equal ones. -/
theorem agree {w w' g g' m m' v v' r r₁ r₂ : FVec Ideal S .f32} {P : Prop} (h : r = step w g m v ∧ r₁ = avg g m ∧ r₂ = sqr g v ∧ P)
    (hargs : w = w' ∧ g = g' ∧ m = m' ∧ v = v') : r = step w' g' m' v' ∧ r₁ = avg g' m' ∧ r₂ = sqr g' v' ∧ P := by
  obtain ⟨rfl, rfl, rfl, rfl⟩ := hargs
  exact h

end Cert.Proof.Update

end
-- ==== Proof.Norm.lean ====
/-
  The norm over the rows of the stream and a mixer's result: what the kernel leaves in its four result arrays and what
  the reference computes are the same four functions of the rows.
-/
module

public import proofs.«01_k».proof.Proof.Gen.Kernel23Ideal.Value
public import proofs.«01_k».proof.Proof.Gen.Reference23Ideal.Read
public import Idealize.ShloMosaic.Lib.Pipeline.ValueKit

@[expose] public section

set_option maxRecDepth 16384

noncomputable section

namespace Cert.Proof.Norm

open Cert.Kernel23Ideal Cert.Kernel23Ideal.Gen
open Idealize.ShloMosaic Idealize.ShloMosaic.TcCoe Idealize.SL.Sem
open Idealize.ShloMosaic.Pipeline (Dat)

/-! ## One row -/

/-- The stream's row scaled, with the mixer's row added. -/
def mixed (u v : Fin 2048 → EReal) (k : Fin 2048) : EReal := Ideal.ofBits .f32 0x3FD744FD#32 * u k + v k

/-- The mean of a row. -/
def mean (z : Fin 2048 → EReal) : EReal := FloatOps.divf (F := Ideal) (φ := .f32) (∑ k, z k : EReal) (Ideal.ofBits .f32 0x45000000#32)

/-- A row less its mean. -/
def off (z : Fin 2048 → EReal) (k : Fin 2048) : EReal := z k - mean z

/-- One over the row's deviation. -/
def inv (z : Fin 2048 → EReal) : EReal :=
  FloatOps.rsqrt (F := Ideal) (φ := .f32) (mean (fun k => off z k * off z k) + Ideal.ofBits .f32 0x3727C5AC#32 : EReal)

/-! ## The four arrays -/

/-- The row of the sum that an index of the arrays lies in. -/
def row (x y : FVec Ideal S2048x2048 .f32) (r : Fin 2048) : Fin 2048 → EReal := mixed (fun k => x (ix2 r k)) fun k => y (ix2 r k)

def hat (x y : FVec Ideal S2048x2048 .f32) : FVec Ideal S2048x2048 .f32 := fun i => (off (row x y (i 0)) (i 1) * inv (row x y (i 0)) : EReal)

def dev (x y : FVec Ideal S2048x2048 .f32) : FVec Ideal S2048x1 .f32 := fun i => inv (row x y (i 0))

def normed (φ : FTy) (x y : FVec Ideal S2048x2048 .f32) (g b : FVec Ideal S1x2048 .f32) : FVec Ideal S2048x2048 φ := fun i =>
  (hat x y i * g (ix2 0 (i 1)) + b (ix2 0 (i 1)) : EReal)

/-! ## The kernel -/

theorem hz : (![0, 0] : Fin 2 → ℕ) = fun _ => 0 := funext fun a => by fin_cases a <;> rfl

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

section Block

variable (x y : FVec Ideal S256x2048 .f32) (g b : FVec Ideal S1x2048 .f32)

theorem pay1 (r : Fin 256) (k : Fin 2048) :
    k0_pay1 (F := Ideal) x y (ix2 r k) = off (mixed (fun k => x (ix2 r k)) fun k => y (ix2 r k)) k := by
  pointwise [k0_pay1]
  rfl

theorem pay2 (i : S256x1.Idx) : k0_pay2 (F := Ideal) x y i = inv (mixed (fun k => x (ix2 (i 0) k)) fun k => y (ix2 (i 0) k)) := by
  pointwise [k0_pay2, pay1]
  rfl

theorem pay3 (i : S256x2048.Idx) : k0_pay3 (F := Ideal) x y i
    = (off (mixed (fun k => x (ix2 (i 0) k)) fun k => y (ix2 (i 0) k)) (i 1)
        * inv (mixed (fun k => x (ix2 (i 0) k)) fun k => y (ix2 (i 0) k)) : EReal) := by
  pointwise [k0_pay3, pay2]
  exact congrArg (· * _) ((congrArg (k0_pay1 (F := Ideal) x y) (by blk_ext)).trans (pay1 x y (i 0) (i 1)))

theorem pay4 (i : S256x2048.Idx) :
    k0_pay4 (F := Ideal) x y g b i = (k0_pay3 (F := Ideal) x y i * g (ix2 0 (i 1)) + b (ix2 0 (i 1)) : EReal) := by
  pointwise [k0_pay4]

end Block

theorem ld0 (x : Vec Ideal S256x2048 .f32) : View.ld x r0_0 = x := View.ld_unit_zero (S := S256x2048) hz _ x
theorem ld2 (x : Vec Ideal S1x2048 .f32) : View.ld x r0_2 = x := View.ld_unit_zero (S := S1x2048) hz _ x

variable (m : (ℓ : Loc nD τ sig) → Buf (Elt Ideal) ℓ) (c : Dev nD)

/-- A row of a grid point's blocks is the row of the arrays at the block's place. -/
theorem rows (t : Fin cfg0.N) (r : Fin 256) (R : Fin 2048) (h : R.val = t.val * 256 + r.val) :
    mixed (fun k => (iblk m c 0 t : FVec Ideal S256x2048 .f32) (ix2 r k)) (fun k => (iblk m c 1 t : FVec Ideal S256x2048 .f32) (ix2 r k))
      = row (m ((c : Thread nD τ).loc main_arg0)) (m ((c : Thread nD τ).loc main_arg1)) R := by
  have x0 (k : Fin 2048) : (iblk m c 0 t : FVec Ideal S256x2048 .f32) (ix2 r k) = m ((c : Thread nD τ).loc main_arg0) (ix2 R k) := by
    blk_ext [iblk, V, idx t, h]
  have x1 (k : Fin 2048) : (iblk m c 1 t : FVec Ideal S256x2048 .f32) (ix2 r k) = m ((c : Thread nD τ).loc main_arg1) (ix2 R k) := by
    blk_ext [iblk, V, idx t, h]
  exact congrArg₂ mixed (funext x0) (funext x1)

theorem block3 (t : Fin cfg0.N) (y : S256x2048.Idx) (i : S2048x2048.Idx) (h0 : (i 0).val = t.val * 256 + (y 0).val) (h1 : (i 1).val = (y 1).val) :
    k0_pay3 (F := Ideal) (iblk m c 0 t : Vec Ideal S256x2048 .f32) (iblk m c 1 t : Vec Ideal S256x2048 .f32) y
      = hat (m ((c : Thread nD τ).loc main_arg0)) (m ((c : Thread nD τ).loc main_arg1)) i := by
  rw [pay3]
  exact congrArg₂ (fun z k => (off z k * inv z : EReal)) (rows m c t (y 0) (i 0) h0) (Fin.ext h1.symm)

theorem block4 (t : Fin cfg0.N) (y : S256x2048.Idx) (i : S2048x2048.Idx) (h0 : (i 0).val = t.val * 256 + (y 0).val) (h1 : (i 1).val = (y 1).val) :
    k0_pay4 (F := Ideal) (iblk m c 0 t : Vec Ideal S256x2048 .f32) (iblk m c 1 t : Vec Ideal S256x2048 .f32)
        (iblk m c 2 t : Vec Ideal S1x2048 .f32) (iblk m c 3 t : Vec Ideal S1x2048 .f32) y
      = normed .f32 (m ((c : Thread nD τ).loc main_arg0)) (m ((c : Thread nD τ).loc main_arg1)) (m ((c : Thread nD τ).loc main_arg2))
          (m ((c : Thread nD τ).loc main_arg3)) i := by
  have x2 (k : Fin 2048) : (iblk m c 2 t : FVec Ideal S1x2048 .f32) (ix2 0 k) = m ((c : Thread nD τ).loc main_arg2) (ix2 0 k) := by
    blk_ext [iblk, V, idx t]
  have x3 (k : Fin 2048) : (iblk m c 3 t : FVec Ideal S1x2048 .f32) (ix2 0 k) = m ((c : Thread nD τ).loc main_arg3) (ix2 0 k) := by
    blk_ext [iblk, V, idx t]
  have e : (y 1 : Fin 2048) = i 1 := Fin.ext h1.symm
  rw [pay4]
  exact congrArg₂ (fun p q : EReal => p + q) (congrArg₂ (fun p q : EReal => p * q) (block3 m c t y i h0 h1)
    ((x2 (y 1)).trans (congrArg _ (congrArg (ix2 0) e)))) ((x3 (y 1)).trans (congrArg _ (congrArg (ix2 0) e)))

theorem block2 (t : Fin cfg0.N) (y : S256x1.Idx) (i : S2048x1.Idx) (h0 : (i 0).val = t.val * 256 + (y 0).val) :
    k0_pay2 (F := Ideal) (iblk m c 0 t : Vec Ideal S256x2048 .f32) (iblk m c 1 t : Vec Ideal S256x2048 .f32) y
      = dev (m ((c : Thread nD τ).loc main_arg0)) (m ((c : Thread nD τ).loc main_arg1)) i := by
  rw [pay2]
  exact congrArg inv (rows m c t (y 0) (i 0) h0)

/-- The kernel's result arrays after its run. -/
theorem final4 : (dats m 0 c).arrAt 4 cfg0.N = normed .f32 (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  rw [View.canon_unit_zero hz, ld0, ld0, ld2, ld2]
  exact block4 m c t y _ (by blk_simp [idx t]) (by blk_simp [idx t])

theorem final5 : (dats m 0 c).arrAt 5 cfg0.N = normed .bf16 (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  blk_simp
  rw [after0_5]
  unfold out0_5
  rw [View.canon_unit_zero hz, ld0, ld0, ld2, ld2]
  exact block4 m c t y _ (by blk_simp [idx t]) (by blk_simp [idx t])

theorem final6 : (dats m 0 c).arrAt 6 cfg0.N = hat (m ((c : Thread nD τ).loc main_arg0)) (m ((c : Thread nD τ).loc main_arg1)) := by
  refine (dats m 0 c).arrAt_eq_of_covers 6 _ (by decide +kernel) fun t _ y => ?_
  blk_simp
  rw [after0_6]
  unfold out0_6
  rw [View.canon_unit_zero hz, ld0, ld0]
  exact block3 m c t y _ (by blk_simp [idx t]) (by blk_simp [idx t])

theorem final7 : (dats m 0 c).arrAt 7 cfg0.N = dev (m ((c : Thread nD τ).loc main_arg0)) (m ((c : Thread nD τ).loc main_arg1)) := by
  refine (dats m 0 c).arrAt_eq_of_covers 7 _ (by decide +kernel) fun t _ y => ?_
  blk_simp
  rw [after0_7]
  unfold out0_7
  rw [View.canon_unit_zero hz, ld0, ld0]
  exact block2 m c t y _ (by blk_simp [idx t])

/-! ## The reference -/

open Cert.Reference23Ideal.Read

variable (x y : FVec Ideal S2048x2048 .f32) (g b : FVec Ideal S1x2048 .f32)

theorem ref_mixed (i : S2048x2048.Idx) : val_main_v2 (F := Ideal) x y i = row x y (i 0) (i 1) := by
  rw [val_main_v2_apply, val_main_v1_apply, val_main_v0_apply, val_main_cst_apply, show i = ix2 (i 0) (i 1) by blk_ext]
  rfl

theorem ref_mean (i : S2048x1.Idx) : val_main_v8 (F := Ideal) x y i = mean (row x y (i 0)) := by
  rw [val_main_v8_apply, val_main_v6_apply, val_main_v5_apply, val_main_cst_0_apply, val_main_v7_apply, val_main_cst_1_apply]
  simp only [ref_mixed]
  exact congrArg (fun s => Ideal.div s _) ((congrArg (· + _) (Ideal.ofBits_zero_f32)).trans (zero_add _))

theorem ref_off (i : S2048x2048.Idx) : val_main_v10 (F := Ideal) x y i = off (row x y (i 0)) (i 1) := by
  rw [val_main_v10_apply, val_main_v9_apply, ref_mean, ref_mixed]
  rfl

theorem ref_dev : val_main_v18 (F := Ideal) x y = dev x y := by
  funext i
  rw [val_main_v18_apply, val_main_v17_apply, val_main_v15_apply, val_main_v13_apply, val_main_v12_apply, val_main_cst_2_apply,
    val_main_v14_apply, val_main_cst_3_apply, val_main_v16_apply, val_main_cst_4_apply]
  simp only [val_main_v11_apply, ref_off]
  exact congrArg (fun s => Ideal.rsqrt (Ideal.div s _ + _)) ((congrArg (· + _) (Ideal.ofBits_zero_f32)).trans (zero_add _))

theorem ref_hat : val_main_v32 (F := Ideal) x y = hat x y := by
  funext i
  rw [val_main_v32_apply, val_main_v31_apply, ref_dev]
  exact congrArg (· * _) (ref_off x y i)

theorem ref_normed : val_main_v28 (F := Ideal) x y g b = normed .f32 x y g b := by
  funext i
  rw [val_main_v28_apply, val_main_v25_apply, val_main_v24_apply, val_main_v23_apply, val_main_v3_apply, val_main_v27_apply,
    val_main_v26_apply, val_main_v4_apply, show val_main_v22 (F := Ideal) x y = hat x y from ref_hat x y]
  exact congrArg₂ (fun j k => (hat x y i * g j + b k : EReal)) (by blk_ext) (by blk_ext)

theorem ref_normed' : val_main_v33 (F := Ideal) x y g b = normed .bf16 x y g b := ref_normed x y g b

/-- The reference's results over some arguments are the four functions of equal ones. -/
theorem agree {x y x' y' : FVec Ideal S2048x2048 .f32} {g b g' b' : FVec Ideal S1x2048 .f32} {r₀ r₂ : FVec Ideal S2048x2048 .f32}
    {r₁ : FVec Ideal S2048x2048 .bf16} {r₃ : FVec Ideal S2048x1 .f32} {P : Prop}
    (h : r₀ = val_main_v28 (F := Ideal) x y g b ∧ r₁ = val_main_v33 (F := Ideal) x y g b ∧ r₂ = val_main_v32 (F := Ideal) x y
      ∧ r₃ = val_main_v18 (F := Ideal) x y ∧ P) (hargs : x = x' ∧ y = y' ∧ g = g' ∧ b = b') :
    r₀ = normed .f32 x' y' g' b' ∧ r₁ = normed .bf16 x' y' g' b' ∧ r₂ = hat x' y' ∧ r₃ = dev x' y' ∧ P := by
  obtain ⟨rfl, rfl, rfl, rfl⟩ := hargs
  rw [ref_normed, ref_normed', ref_hat, ref_dev] at h
  exact h

end Cert.Proof.Norm

end
-- ==== Proof.Loss.lean ====
/-
  The loss and its gradient: what the kernel leaves in its two result arrays, adding up the rows of the loss one grid
  point after another, and what the reference computes are the same.
-/
module

public import proofs.«01_k».proof.Proof.Gen.Kernel24Ideal.Value
public import proofs.«01_k».proof.Proof.Gen.Reference24Ideal.Read
public import proofs.«01_k».proof.Proof.BlockSum
public import proofs.«01_k».proof.Proof.Num
public import Idealize.ShloMosaic.Lib.Pipeline.ValueKit

@[expose] public section

set_option maxRecDepth 16384

noncomputable section

namespace Cert.Proof.Loss

open Cert.Kernel24Ideal Cert.Kernel24Ideal.Gen
open Idealize.ShloMosaic Idealize.ShloMosaic.TcCoe Idealize.SL.Sem
open Idealize.ShloMosaic.Pipeline (Dat)
open Finset

/-! ## The numbers -/

theorem ofBits_half : Ideal.ofBits .f32 0x3F000000#32 = ((1 / 2 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_cols : Ideal.ofBits .f32 0x45000000#32 = ((2048 : ℝ) : EReal) := by
  simp [Ideal.ofBits, Ideal.ieee]; rw [← EReal.coe_mul]; norm_num

theorem ofBits_col : Ideal.ofBits .f32 0x3A000000#32 = ((1 / 2048 : ℝ) : EReal) := by
  simp [Ideal.ofBits, Ideal.ieee]; rw [← EReal.coe_mul]; norm_num

/-- Half of a sum is the sum of the halves. -/
theorem half_sum {ι : Type} (s : Finset ι) (f : ι → EReal) :
    Ideal.ofBits .f32 0x3F000000#32 * ∑ k ∈ s, f k = ∑ k ∈ s, Ideal.ofBits .f32 0x3F000000#32 * f k := by
  classical
  rw [ofBits_half]
  induction s using Finset.induction_on with
  | empty => simp
  | insert a s h ih =>
    rw [Finset.sum_insert h, Finset.sum_insert h, ← ih]
    exact EReal.left_distrib_of_nonneg_of_ne_top (EReal.coe_nonneg.mpr (by norm_num)) (EReal.coe_ne_top _) _ _

/-! ## The two results -/

/-- The mean of the squares of a row of differences. -/
def meanSq (e : Fin 2048 → EReal) : EReal := Ideal.div (∑ k, e k * e k) (Ideal.ofBits .f32 0x45000000#32)

/-- What row `r` adds to the loss. -/
def term (x y : FVec Ideal S2048x2048 .f32) (r : ℕ) : EReal :=
  if h : r < 2048 then Ideal.ofBits .f32 0x3F000000#32 * meanSq (fun k => x (ix2 (⟨r, h⟩ : Fin 2048) k) - y (ix2 (⟨r, h⟩ : Fin 2048) k)) else 0

def loss (x y : FVec Ideal S2048x2048 .f32) : FVec Ideal S1x1 .f32 := fun _ => (∑ r : Fin 2048, term x y r.val : EReal)

def grad (x y : FVec Ideal S2048x2048 .f32) : FVec Ideal S2048x2048 .f32 := fun i =>
  ((x i - y i) * Ideal.ofBits .f32 0x3A000000#32 : EReal)

/-! ## What one grid point leaves -/

theorem hz : (![0, 0] : Fin 2 → ℕ) = fun _ => 0 := funext fun a => by fin_cases a <;> rfl

section Point

variable {F : FTy → Type} [FloatOps F]
variable (c : Dev nD) (i : grid0.Coords) (a1 : Memref sig .tc .vmem S256x2048 .f32) (h1 : a1.IsWhole) (a2 : Memref sig .tc .vmem S256x2048 .f32)
    (h2 : a2.IsWhole) (a3 : Memref sig .tc .vmem S1x1 .f32) (h3 : a3.IsWhole) (a4 : Memref sig .tc .vmem S256x2048 .f32) (h4 : a4.IsWhole)
variable (x0 x1 : Vec F S256x2048 .f32) (s : Vec F S1x1 .f32)

theorem loss_A (hc0 : cond0_0 i) (hc1 : ¬cond0_1 i) : out0_A_2 c i a1 h1 a2 h2 a3 h3 a4 h4 hc0 hc1 x0 x1 = k0_pay3 x0 x1 := by
  unfold out0_A_2
  rw [View.read_writes_eq_canon _ _ _ (cover0_A_2 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S256x2048) hz]

theorem loss_B (hc0 : ¬cond0_0 i) (hc1 : cond0_1 i) : out0_B_2 c i a1 h1 a2 h2 a3 h3 a4 h4 hc0 hc1 x0 x1 s = k0_pay4 x0 x1 s := by
  unfold out0_B_2
  rw [View.read_writes_eq_canon _ _ _ (cover0_B_2 c i a1 h1 a2 h2 a3 h3 a4 h4 hc0 hc1 x0 x1 s)]
  unfold kernelRun0_B
  dsimp only
  rw [View.canon_unit_zero hz]
  simp only [View.readAt_eq_ld, h1.read_unread, h2.read_unread, h3.read_unread, View.ld_unit_zero (S := S256x2048) hz, View.ld_unit_zero (S := S1x1) hz]

theorem grad_A (hc0 : cond0_0 i) (hc1 : ¬cond0_1 i) : out0_A_3 c i a1 h1 a2 h2 a3 h3 a4 h4 hc0 hc1 x0 x1 = k0_pay2 x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S256x2048) hz]

theorem grad_B (hc0 : ¬cond0_0 i) (hc1 : cond0_1 i) : out0_B_3 c i a1 h1 a2 h2 a3 h3 a4 h4 hc0 hc1 x0 x1 s = k0_pay2 x0 x1 := by
  unfold out0_B_3
  rw [View.read_writes_eq_canon _ _ _ (cover0_B_3 c i a1 h1 a2 h2 a3 h3 a4 h4 hc0 hc1 x0 x1 s)]
  unfold kernelRun0_B
  dsimp only
  rw [View.canon_unit_zero hz]
  simp only [View.readAt_eq_ld, h1.read_unread, h2.read_unread, View.ld_unit_zero (S := S256x2048) hz]

end Point

/-! ## The running sum along the grid -/

theorem pay2 (x y : FVec Ideal S256x2048 .f32) (i : S256x2048.Idx) :
    k0_pay2 (F := Ideal) x y i = ((x i - y i) * Ideal.ofBits .f32 0x3A000000#32 : EReal) := by
  pointwise [k0_pay2, k0_pay1]

theorem pay3 (x y : FVec Ideal S256x2048 .f32) (i : S1x1.Idx) :
    k0_pay3 (F := Ideal) x y i
      = Ideal.ofBits .f32 0x3F000000#32 * ∑ r : Fin 256, meanSq (fun k => x (ix2 r k) - y (ix2 r k)) := by
  pointwise [k0_pay3, k0_pay1]
  rfl

theorem pay4 (x y : FVec Ideal S256x2048 .f32) (s : FVec Ideal S1x1 .f32) (i : S1x1.Idx) :
    k0_pay4 (F := Ideal) x y s i = (s i + k0_pay3 (F := Ideal) x y i : EReal) := by
  pointwise [k0_pay4]

theorem idx : ∀ t : Fin cfg0.N, win0_0.index t = ![t.val, 0] ∧ win0_1.index t = ![t.val, 0] ∧ win0_3.index t = ![t.val, 0] :=
  (by decide +kernel : ∀ t : Fin grid0.N, _)

/-- Only the last grid point writes the loss out. -/
theorem last : ∀ t : Fin cfg0.N, (cfg0.win 2).flush t = true → t.val = 7 :=
  (by decide +kernel : ∀ t : Fin grid0.N, _)

variable (m : (ℓ : Loc nD τ sig) → Buf (Elt Ideal) ℓ) (c : Dev nD)

def xAt (t : Fin cfg0.N) : FVec Ideal S256x2048 .f32 := iblk m c 0 t
def yAt (t : Fin cfg0.N) : FVec Ideal S256x2048 .f32 := iblk m c 1 t

theorem xAt_read (t : Fin cfg0.N) (r : Fin 256) (k : Fin 2048) (h : 256 * t.val + r.val < 2048) :
    xAt m c t (ix2 r k) = m ((c : Thread nD τ).loc main_arg0) (ix2 (⟨256 * t.val + r.val, h⟩ : Fin 2048) k) := by
  unfold xAt; blk_ext [iblk, V, idx t]

theorem yAt_read (t : Fin cfg0.N) (r : Fin 256) (k : Fin 2048) (h : 256 * t.val + r.val < 2048) :
    yAt m c t (ix2 r k) = m ((c : Thread nD τ).loc main_arg1) (ix2 (⟨256 * t.val + r.val, h⟩ : Fin 2048) k) := by
  unfold yAt; blk_ext [iblk, V, idx t]

/-- What a grid point's rows add to the loss. -/
theorem block (t : Fin cfg0.N) (i : S1x1.Idx) : k0_pay3 (F := Ideal) (xAt m c t) (yAt m c t) i
    = ∑ r : Fin 256, term (m ((c : Thread nD τ).loc main_arg0)) (m ((c : Thread nD τ).loc main_arg1)) (256 * t.val + r.val) := by
  have ht : t.val < 8 := t.isLt
  rw [pay3, half_sum]
  refine Finset.sum_congr rfl fun r _ => ?_
  have hr := r.isLt
  unfold term
  rw [dif_pos (show 256 * t.val + r.val < 2048 by omega)]
  simp only [xAt_read m c t r _ (show 256 * t.val + r.val < 2048 by omega), yAt_read m c t r _ (show 256 * t.val + r.val < 2048 by omega)]

theorem run_val (n : ℕ) : ∀ (hn : n < cfg0.N) (i : S1x1.Idx), (outsAt0 m c n hn).1 i
    = ∑ r ∈ range (256 * (n + 1)), term (m ((c : Thread nD τ).loc main_arg0)) (m ((c : Thread nD τ).loc main_arg1)) r := by
  induction n with
  | zero =>
    intro hn i
    rw [outsAt0_A m c ⟨0, hn⟩ rfl (by dsimp only; omega)]
    dsimp only
    rw [loss_A]
    exact (block m c ⟨0, hn⟩ i).trans (BlockSum.first 256 _)
  | succ n ih =>
    intro hn i
    have hN : n + 1 < 8 := hn
    rw [outsAt0_B m c ⟨n + 1, hn⟩ (by dsimp only; omega) (by dsimp only; omega)]
    dsimp only
    rw [loss_B]
    refine (pay4 (xAt m c ⟨n + 1, hn⟩) (yAt m c ⟨n + 1, hn⟩) _ i).trans ?_
    rw [block m c ⟨n + 1, hn⟩ i]
    exact (congrArg (· + _) (ih _ i)).trans (BlockSum.step 256 _ (n + 1))

theorem grad_at (t : Fin cfg0.N) : (outsAt0 m c t.val t.isLt).2 = k0_pay2 (F := Ideal) (xAt m c t) (yAt m c t) := by
  have ht : t.val < 8 := t.isLt
  by_cases h : t.val = 0
  · rw [outsAt0_A m c t (by omega) (by omega)]; dsimp only; rw [grad_A]; rfl
  · rw [outsAt0_B m c t (by omega) (by omega)]; dsimp only; rw [grad_B]; rfl

/-- The kernel's result arrays after its run. -/
theorem final2 : (dats m 0 c).arrAt 2 cfg0.N = loss (m ((c : Thread nD τ).loc main_arg0)) (m ((c : Thread nD τ).loc main_arg1)) := by
  refine (dats m 0 c).arrAt_eq_of_covers 2 _ (by decide +kernel) fun t ht y => ?_
  have h7 := last t ht
  blk_simp
  rw [after0_2, run_val m c t.val t.isLt, h7]
  exact Finset.sum_range (M := EReal) _

theorem final3 : (dats m 0 c).arrAt 3 cfg0.N = grad (m ((c : Thread nD τ).loc main_arg0)) (m ((c : Thread nD τ).loc main_arg1)) := by
  refine (dats m 0 c).arrAt_eq_of_covers 3 _ (by decide +kernel) fun t _ y => ?_
  blk_simp
  rw [after0_3, grad_at, pay2]
  unfold grad xAt yAt
  exact congrArg (· * _) (congrArg₂ (fun p q : EReal => p - q) (by blk_ext [iblk, V, idx t]) (by blk_ext [iblk, V, idx t]))

/-! ## The reference -/

open Cert.Reference24Ideal.Read

variable (x y : FVec Ideal S2048x2048 .f32)

theorem ref_grad : val_main_v14 (F := Ideal) x y = grad x y := by
  funext i
  rw [val_main_v14_apply, val_main_v13_apply, val_main_v12_apply, val_main_v10_apply, val_main_v9_apply, val_main_cst_4_apply,
    val_main_cst_5_apply, val_main_v11_apply, val_main_cst_6_apply, val_main_v3_apply, val_main_v2_apply, val_main_cst_apply, val_main_v0_apply]
  show Ideal.div (Ideal.ofBits .f32 0x3F000000#32 * Ideal.ofBits .f32 0x3F800000#32) (Ideal.ofBits .f32 0x45000000#32)
    * (Ideal.ofBits .f32 0x40000000#32 * (x i - y i)) = (x i - y i) * Ideal.ofBits .f32 0x3A000000#32
  rw [Num.ofBits_one, mul_one, ofBits_half, ofBits_cols, Num.div_coe_coe _ (by norm_num), ofBits_two, ofBits_col, ← mul_assoc, ← EReal.coe_mul,
    mul_comm]
  norm_num

theorem ref_row (j : Cert.Reference24Ideal.S2048.Idx) : Ideal.ofBits .f32 0x3F000000#32 * val_main_v6 (F := Ideal) x y j = term x y (j 0).val := by
  have hj : (j 0).val < 2048 := (j 0).isLt
  unfold term
  rw [dif_pos hj, val_main_v6_apply, val_main_v4_apply, val_main_cst_0_apply, val_main_v5_apply, val_main_cst_1_apply]
  simp only [val_main_v1_apply, val_main_v0_apply]
  refine congrArg (_ * ·) (congrArg (fun s => Ideal.div s _) (((congrArg (· + _) Ideal.ofBits_zero_f32).trans (zero_add _)).trans
    (Finset.sum_congr rfl fun k _ => ?_)))
  have e : idx_main_v4 j k = ix2 (⟨(j 0).val, hj⟩ : Fin 2048) k := by blk_ext
  rw [e]
  rfl

theorem ref_loss : val_main_v15 (F := Ideal) x y = loss x y := by
  funext i
  unfold val_main_v15
  rw [shapeCast_apply _ _ i (fun a => a.elim0) ((Nat.lt_one_iff.mp (Fin.isLt _)).trans (Nat.lt_one_iff.mp (Fin.isLt _)).symm),
    val_main_v8_apply, val_main_cst_3_apply, val_main_v7_apply, val_main_cst_2_apply]
  refine (congrArg (_ * ·) ((congrArg (· + _) Ideal.ofBits_zero_f32).trans (zero_add _))).trans ((half_sum _ _).trans
    ((Finset.sum_congr rfl fun j _ => ref_row x y j).trans ?_))
  exact Fintype.sum_bijective (fun j : Cert.Reference24Ideal.S2048.Idx => (j 0 : Fin 2048))
    ⟨fun a b h => funext fun d => by obtain rfl : d = 0 := Subsingleton.elim _ _; exact h, fun r => ⟨ix1 r, rfl⟩⟩ _ _ fun _ => rfl

end Cert.Proof.Loss

end
-- ==== Proof.GradOut.lean ====
/-
  The gradient of the MLP's second weight matrix: what the kernel leaves in its result array, and what the reference
  computes, are the same products of the two arguments summed over the rows.
-/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Proof.GradOut

open Cert.Kernel2Ideal Cert.Kernel2Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![0, t.val / 2] ∧ win0_1.index t = ![0, t.val % 2]
    ∧ win0_2.index t = ![t.val / 4, t.val / 2 % 2, t.val % 2] :=
  (by decide +kernel : ∀ t : Fin grid0.N, _)

/-- Element `(p, i, j)` of the gradient: row `2048 p + i` of the weights, column `j`. -/
def grad (a : FVec Ideal S2048x8192 .bf16) (dy : FVec Ideal S2048x2048 .bf16) : FVec Ideal S4x2048x2048 .bf16 := fun i =>
  ∑ k : Fin 2048, a (ix2 k (⟨2048 * (i 0).val + (i 1).val, by have h0 : (i 0).val < 4 := (i 0).isLt; have h1 : (i 1).val < 2048 := (i 1).isLt; omega⟩ : Fin 8192))
    * dy (ix2 k (i 2))

theorem grad_at (a : FVec Ideal S2048x8192 .bf16) (dy : FVec Ideal S2048x2048 .bf16) (i : S4x2048x2048.Idx) (r : Fin 8192) (j : Fin 2048)
    (hr : r.val = 2048 * (i 0).val + (i 1).val) (hj : j.val = (i 2).val) : grad a dy i = ∑ k : Fin 2048, a (ix2 k r) * dy (ix2 k j) := by
  obtain rfl : j = i 2 := Fin.ext hj
  unfold grad
  exact Finset.sum_congr rfl fun k _ => congrArg (fun n : Fin 8192 => a (ix2 k n) * dy (ix2 k (i 2))) (Fin.ext hr.symm)

theorem pay (x : FVec Ideal S2048x1024 .bf16) (y : FVec Ideal S2048x1024 .bf16) (i : S1x1024x1024.Idx) :
    k0_pay1 x y i = ∑ k : Fin 2048, x (ix2 k (i 1)) * y (ix2 k (i 2)) := by
  pointwise [k0_pay1]

theorem hz : (![0, 0] : Fin 2 → Nat) = fun _ => 0 := funext fun a => by fin_cases a <;> rfl
theorem hz3 : (![0, 0, 0] : Fin 3 → Nat) = fun _ => 0 := funext fun a => by fin_cases a <;> rfl

theorem ld (x : Vec Ideal S2048x1024 .bf16) : View.ld x r0_0 = x := View.ld_unit_zero (S := S2048x1024) hz _ x

variable (m : (ℓ : Loc nD τ sig) → Buf (Elt Ideal) ℓ) (c : Dev nD)

theorem flushed (t : Fin cfg0.N) : (dats m 0 c).flushed 2 t
    = ((cfg0.win 2).blk t).view.read (Elt Ideal) (grad (m ((c : Thread nD τ).loc main_arg0)) (m ((c : Thread nD τ).loc main_arg1))) := by
  rw [Value.flushed2]
  funext y
  rw [View.read_apply]
  obtain ⟨e0, e1, e2⟩ := idx t
  show out0_2 _ _ ((cfg0.win 2).xinj (grid0.coords t) y) = _
  unfold out0_2
  rw [View.canon_unit_zero hz3, pay]
  rw [ld, ld]
  have x0 (k : Fin 2048) (j : Fin 1024) (h : t.val / 2 * 1024 + j.val < 8192) : (iblk m c 0 t : FVec Ideal S2048x1024 .bf16) (ix2 k j)
    = m ((c : Thread nD τ).loc main_arg0) (ix2 k (⟨t.val / 2 * 1024 + j.val, h⟩ : Fin 8192)) := by blk_ext [iblk, V, idx t]
  have x1 (k : Fin 2048) (j : Fin 1024) (h : t.val % 2 * 1024 + j.val < 2048) : (iblk m c 1 t : FVec Ideal S2048x1024 .bf16) (ix2 k j)
    = m ((c : Thread nD τ).loc main_arg1) (ix2 k (⟨t.val % 2 * 1024 + j.val, h⟩ : Fin 2048)) := by blk_ext [iblk, V, idx t]
  have ht : t.val < 16 := t.isLt
  have b0 : (((cfg0.win 2).blk t).view.emb y 0).val = t.val / 4 := by
    refine (show _ = win0_2.index t (0 : Fin 3) * 1 + 1 * (y 0).val from rfl).trans ?_
    have hy : (y 0).val < 1 := (y 0).isLt
    rw [e2]; show t.val / 4 * 1 + 1 * (y 0).val = _; omega
  have b1 : (((cfg0.win 2).blk t).view.emb y 1).val = t.val / 2 % 2 * 1024 + (y 1).val := by
    refine (show _ = win0_2.index t (1 : Fin 3) * 1024 + 1 * (y 1).val from rfl).trans ?_
    rw [e2]; show t.val / 2 % 2 * 1024 + 1 * (y 1).val = _; omega
  have b2 : (((cfg0.win 2).blk t).view.emb y 2).val = t.val % 2 * 1024 + (y 2).val := by
    refine (show _ = win0_2.index t (2 : Fin 3) * 1024 + 1 * (y 2).val from rfl).trans ?_
    rw [e2]; show t.val % 2 * 1024 + 1 * (y 2).val = _; omega
  have h1 : (y 1).val < 1024 := (y 1).isLt
  have h2 : (y 2).val < 1024 := (y 2).isLt
  have hr : t.val / 2 * 1024 + (y 1).val = 2048 * (((cfg0.win 2).blk t).view.emb y 0).val + (((cfg0.win 2).blk t).view.emb y 1).val := by
    rw [b0, b1]; omega
  refine Eq.trans ?_ (grad_at _ _ (((cfg0.win 2).blk t).view.emb y) ⟨t.val / 2 * 1024 + (y 1).val, by omega⟩
    ⟨t.val % 2 * 1024 + (y 2).val, by omega⟩ hr b2.symm).symm
  exact Finset.sum_congr rfl fun k _ => congrArg₂ (· * ·) (x0 k ⟨(y 1).val, h1⟩ _) (x1 k ⟨(y 2).val, h2⟩ _)

/-- Every element of the result lies in the block of some grid point. -/
theorem cover (i : S4x2048x2048.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2048 := (i 2).isLt
  have hN : cfg0.N = 16 := N_0
  let t : Fin cfg0.N := ⟨4 * (i 0).val + 2 * ((i 1).val / 1024) + (i 2).val / 1024, by omega⟩
  have hv : t.val = 4 * (i 0).val + 2 * ((i 1).val / 1024) + (i 2).val / 1024 := rfl
  refine ⟨t, flush0_2 t, ?_⟩
  show i ∈ ((View.whole main_v0).slice (win0_2.rect t)).set
  rw [View.set_slice_whole, Rect.mem_set_unit]
  intro a
  show win0_2.index t a * S1x1024x1024.size a ≤ (i a).val ∧ (i a).val < win0_2.index t a * S1x1024x1024.size a + S1x1024x1024.size a
  rw [(idx t).2.2]
  match a with
  | ⟨0, _⟩ => show t.val / 4 * 1 ≤ (i 0).val ∧ (i 0).val < t.val / 4 * 1 + 1; omega
  | ⟨1, _⟩ => show t.val / 2 % 2 * 1024 ≤ (i 1).val ∧ (i 1).val < t.val / 2 % 2 * 1024 + 1024; omega
  | ⟨2, _⟩ => show t.val % 2 * 1024 ≤ (i 2).val ∧ (i 2).val < t.val % 2 * 1024 + 1024; omega

/-- The kernel's result array after its run. -/
theorem final : (dats m 0 c).arrAt 2 cfg0.N = grad (m ((c : Thread nD τ).loc main_arg0)) (m ((c : Thread nD τ).loc main_arg1)) :=
  (dats m 0 c).arrAt_eq_of_cover 2 _ (fun t _ => flushed m c t) cover

/-- The reference computes the same. -/
theorem ref (a : FVec Ideal S2048x8192 .bf16) (dy : FVec Ideal S2048x2048 .bf16) :
    Cert.Reference2Ideal.Read.val_main_v8 (F := Ideal) a dy = grad a dy := by
  funext i
  rw [Cert.Reference2Ideal.Read.val_main_v8_apply, Cert.Reference2Ideal.Read.val_main_v7_apply,
    Cert.Reference2Ideal.Read.val_main_v6_apply, Cert.Reference2Ideal.Read.val_main_v5_apply]
  unfold grad
  refine Finset.sum_congr rfl fun k _ => ?_
  rw [mul_comm]
  have h1 : (i 1).val < 2048 := (i 1).isLt
  have h2 : (i 2).val < 2048 := (i 2).isLt
  refine congrArg₂ (· * ·) (congrArg a (funext fun b => Fin.ext ?_)) (congrArg dy (funext fun b => Fin.ext ?_))
  · match b with
    | ⟨0, _⟩ => rfl
    | ⟨1, _⟩ => show (((i 0).val * 2048 + (i 1).val) * 2048 + (i 2).val) / 2048 = 2048 * (i 0).val + (i 1).val; omega
  · match b with
    | ⟨0, _⟩ => rfl
    | ⟨1, _⟩ => show (((i 0).val * 2048 + (i 1).val) * 2048 + (i 2).val) % 2048 = (i 2).val; omega

end Cert.Proof.GradOut
-- ==== Proof.GradHidden.lean ====
/-
  The gradient of the MLP's hidden layer: what the kernel leaves in its result array, and what the reference computes,
  are the same products of the first two arguments, times twice the positive part of the third.
-/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Proof.GradHidden

open Cert.Kernel3Ideal Cert.Kernel3Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![t.val / 8, 0] ∧ win0_1.index t = ![t.val % 8 / 2, t.val % 2, 0]
    ∧ win0_2.index t = ![t.val / 8, t.val % 8] ∧ win0_3.index t = ![t.val / 8, t.val % 8] :=
  (by decide +kernel : ∀ t : Fin grid0.N, _)

/-- The number two, as the program writes it. -/
abbrev two : EReal := Ideal.ofBits .f32 0x40000000#32

/-- Element `(i, j)` of the gradient; row `j` of the weights is row `j % 2048` of part `j / 2048`. -/
def grad (dy : FVec Ideal S2048x2048 .bf16) (w : FVec Ideal S4x2048x2048 .bf16) (u : FVec Ideal S2048x8192 .f32) : FVec Ideal S2048x8192 .bf16 := fun i =>
  (∑ k : Fin 2048, dy (ix2 (i 0) k) * w (ix3 (⟨(i 1).val / 2048, by have h1 : (i 1).val < 8192 := (i 1).isLt; omega⟩ : Fin 4)
    (⟨(i 1).val % 2048, Nat.mod_lt _ (by decide)⟩ : Fin 2048) k)) * (two * max (u i) 0)

theorem grad_at (dy : FVec Ideal S2048x2048 .bf16) (w : FVec Ideal S4x2048x2048 .bf16) (u : FVec Ideal S2048x8192 .f32) (i : S2048x8192.Idx)
    (r : Fin 2048) (n : Fin 8192) (p : Fin 4) (j : Fin 2048) (hr : r.val = (i 0).val) (hn : n.val = (i 1).val) (hp : p.val = (i 1).val / 2048)
    (hj : j.val = (i 1).val % 2048) :
    grad dy w u i = (∑ k : Fin 2048, dy (ix2 r k) * w (ix3 p j k)) * (two * max (u (ix2 r n)) 0) := by
  obtain rfl : r = i 0 := Fin.ext hr
  obtain rfl : n = i 1 := Fin.ext hn
  have h1 : (i 1).val < 8192 := (i 1).isLt
  have ep : (⟨(i 1).val / 2048, by omega⟩ : Fin 4) = p := Fin.ext hp.symm
  have ej : (⟨(i 1).val % 2048, Nat.mod_lt _ (by decide)⟩ : Fin 2048) = j := Fin.ext hj.symm
  unfold grad
  rw [ep, ej, ← eq_ix2 i]

theorem pay (x : FVec Ideal S1024x2048 .bf16) (y : FVec Ideal S1x1024x2048 .bf16) (z : FVec Ideal S1024x1024 .f32) (i : S1024x1024.Idx) :
    k0_pay1 x y z i = (∑ k : Fin 2048, x (ix2 (i 0) k) * y (ix3 0 (i 1) k)) * (two * max (z (ix2 (i 0) (i 1))) 0) := by
  pointwise [k0_pay1]

theorem hz : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S1024x2048 .bf16) : View.ld x r0_0 = x := View.ld_unit_zero (S := S1024x2048) hz _ x
theorem ld1 (x : Vec Ideal S1x1024x2048 .bf16) : View.ld x r0_1 = x := View.ld_unit_zero (S := S1x1024x2048) hz3 _ x
theorem ld2 (x : Vec Ideal S1024x1024 .f32) : View.ld x r0_2 = x := View.ld_unit_zero (S := S1024x1024) hz _ x

variable (m : (ℓ : Loc nD τ sig) → Buf (Elt Ideal) ℓ) (c : Dev nD)

theorem flushed (t : Fin cfg0.N) : (dats m 0 c).flushed 3 t = ((cfg0.win 3).blk t).view.read (Elt Ideal)
    (grad (m ((c : Thread nD τ).loc main_arg0)) (m ((c : Thread nD τ).loc main_arg1)) (m ((c : Thread nD τ).loc main_arg2))) := by
  rw [Value.flushed3]
  funext y
  rw [View.read_apply]
  obtain ⟨e0, e1, e2, e3⟩ := idx t
  show out0_3 _ _ _ ((cfg0.win 3).xinj (grid0.coords t) y) = _
  unfold out0_3
  rw [View.canon_unit_zero hz, pay, ld0, ld1, ld2]
  have x0 (r : Fin 1024) (k : Fin 2048) (h : t.val / 8 * 1024 + r.val < 2048) : (iblk m c 0 t : FVec Ideal S1024x2048 .bf16) (ix2 r k)
    = m ((c : Thread nD τ).loc main_arg0) (ix2 (⟨t.val / 8 * 1024 + r.val, h⟩ : Fin 2048) k) := by blk_ext [iblk, V, idx t]
  have x1 (j : Fin 1024) (k : Fin 2048) (hp : t.val % 8 / 2 < 4) (h : t.val % 2 * 1024 + j.val < 2048) : (iblk m c 1 t : FVec Ideal S1x1024x2048 .bf16) (ix3 0 j k)
    = m ((c : Thread nD τ).loc main_arg1) (ix3 (⟨t.val % 8 / 2, hp⟩ : Fin 4) (⟨t.val % 2 * 1024 + j.val, h⟩ : Fin 2048) k) := by blk_ext [iblk, V, idx t]
  have x2 (r j : Fin 1024) (h0 : t.val / 8 * 1024 + r.val < 2048) (h1 : t.val % 8 * 1024 + j.val < 8192) : (iblk m c 2 t : FVec Ideal S1024x1024 .f32) (ix2 r j)
    = m ((c : Thread nD τ).loc main_arg2) (ix2 (⟨t.val / 8 * 1024 + r.val, h0⟩ : Fin 2048) (⟨t.val % 8 * 1024 + j.val, h1⟩ : Fin 8192)) := by blk_ext [iblk, V, idx t]
  have ht : t.val < 16 := t.isLt
  have b0 : (((cfg0.win 3).blk t).view.emb y 0).val = t.val / 8 * 1024 + (y 0).val := by
    refine (show _ = win0_3.index t (0 : Fin 2) * 1024 + 1 * (y 0).val from rfl).trans ?_
    rw [e3]; show t.val / 8 * 1024 + 1 * (y 0).val = _; omega
  have b1 : (((cfg0.win 3).blk t).view.emb y 1).val = t.val % 8 * 1024 + (y 1).val := by
    refine (show _ = win0_3.index t (1 : Fin 2) * 1024 + 1 * (y 1).val from rfl).trans ?_
    rw [e3]; show t.val % 8 * 1024 + 1 * (y 1).val = _; omega
  have h0 : (y 0).val < 1024 := (y 0).isLt
  have h1 : (y 1).val < 1024 := (y 1).isLt
  have hp : t.val % 8 / 2 = (((cfg0.win 3).blk t).view.emb y 1).val / 2048 := by rw [b1]; omega
  have hj : t.val % 2 * 1024 + (y 1).val = (((cfg0.win 3).blk t).view.emb y 1).val % 2048 := by rw [b1]; omega
  refine Eq.trans ?_ (grad_at _ _ _ (((cfg0.win 3).blk t).view.emb y) ⟨t.val / 8 * 1024 + (y 0).val, by omega⟩
    ⟨t.val % 8 * 1024 + (y 1).val, by omega⟩ ⟨t.val % 8 / 2, by omega⟩ ⟨t.val % 2 * 1024 + (y 1).val, by omega⟩ b0.symm b1.symm hp hj).symm
  refine congrArg₂ (· * ·) (Finset.sum_congr rfl fun k _ => congrArg₂ (· * ·) (x0 ⟨(y 0).val, h0⟩ k _) (x1 ⟨(y 1).val, h1⟩ k _ _)) ?_
  exact congrArg (fun z : EReal => two * max z 0) (x2 ⟨(y 0).val, h0⟩ ⟨(y 1).val, h1⟩ _ _)

/-- Every element of the result lies in the block of some grid point. -/
theorem cover (i : S2048x8192.Idx) : ∃ t : Fin cfg0.N, (cfg0.win 3).flush t = true ∧ i ∈ ((cfg0.win 3).blk t).view.set := by
  have h0 : (i 0).val < 2048 := (i 0).isLt
  have h1 : (i 1).val < 8192 := (i 1).isLt
  have hN : cfg0.N = 16 := N_0
  let t : Fin cfg0.N := ⟨8 * ((i 0).val / 1024) + (i 1).val / 1024, by omega⟩
  have hv : t.val = 8 * ((i 0).val / 1024) + (i 1).val / 1024 := rfl
  refine ⟨t, flush0_3 t, ?_⟩
  show i ∈ ((View.whole main_v0).slice (win0_3.rect t)).set
  rw [View.set_slice_whole, Rect.mem_set_unit]
  intro a
  show win0_3.index t a * S1024x1024.size a ≤ (i a).val ∧ (i a).val < win0_3.index t a * S1024x1024.size a + S1024x1024.size a
  rw [(idx t).2.2.2]
  match a with
  | ⟨0, _⟩ => show t.val / 8 * 1024 ≤ (i 0).val ∧ (i 0).val < t.val / 8 * 1024 + 1024; omega
  | ⟨1, _⟩ => show t.val % 8 * 1024 ≤ (i 1).val ∧ (i 1).val < t.val % 8 * 1024 + 1024; omega

/-- The kernel's result array after its run. -/
theorem final : (dats m 0 c).arrAt 3 cfg0.N
    = grad (m ((c : Thread nD τ).loc main_arg0)) (m ((c : Thread nD τ).loc main_arg1)) (m ((c : Thread nD τ).loc main_arg2)) :=
  (dats m 0 c).arrAt_eq_of_cover 3 _ (fun t _ => flushed m c t) cover

/-- A choice by the sign of `x` is no choice where the first value is zero for every `x` that is not positive. -/
theorem drelu (s x : EReal) : Scalar.select (Ideal.cmp .ogt x 0) (s * (two * max x 0)) 0 = s * (two * max x 0) := by
  by_cases h : 0 < x
  · rw [show Ideal.cmp .ogt x 0 = 1#1 from congrArg BitVec.ofBool (decide_eq_true h)]; rfl
  · rw [max_eq_right (not_lt.mp h), mul_zero, mul_zero]
    unfold Scalar.select
    split <;> rfl

/-- The reference computes the same: it also puts zero where `u` is not positive, and there the product is zero. -/
theorem ref (dy : FVec Ideal S2048x2048 .bf16) (w : FVec Ideal S4x2048x2048 .bf16) (u : FVec Ideal S2048x8192 .f32) :
    Cert.Reference3Ideal.Read.val_main_v15 (F := Ideal) dy w u = grad dy w u := by
  funext i
  rw [Cert.Reference3Ideal.Read.val_main_v15_apply, Cert.Reference3Ideal.Read.val_main_v14_apply,
    Cert.Reference3Ideal.Read.val_main_v12_apply, Cert.Reference3Ideal.Read.val_main_v11_apply]
  simp only [Cert.Reference3Ideal.Read.val_main_v8_apply, Cert.Reference3Ideal.Read.val_main_v7_apply, Cert.Reference3Ideal.Read.val_main_v2_apply,
    Cert.Reference3Ideal.Read.val_main_v4_apply, Cert.Reference3Ideal.Read.val_main_v3_apply, Cert.Reference3Ideal.Read.val_main_v13_apply,
    Cert.Reference3Ideal.Read.val_main_cst_apply, Cert.Reference3Ideal.Read.val_main_cst_1_apply, Cert.Reference3Ideal.Read.val_main_cst_2_apply,
    Cert.Reference3Ideal.Read.val_main_call0_v0_apply, Cert.Reference3Ideal.Read.val_main_call0_cst_apply, Cert.Reference3Ideal.Read.val_main_v10_apply,
    Cert.Reference3Ideal.Read.val_main_v1_apply, Cert.Reference3Ideal.Read.val_main_v0_apply]
  have hs : ∀ k : Fin 2048, w (Cert.Reference3Ideal.Read.idx_main_v1 (Cert.Reference3Ideal.Read.ridx_main_v11 i k))
      = w (ix3 (⟨(i 1).val / 2048, by have h1 : (i 1).val < 8192 := (i 1).isLt; omega⟩ : Fin 4) (⟨(i 1).val % 2048, Nat.mod_lt _ (by decide)⟩ : Fin 2048) k) := by
    intro k
    have h1 : (i 1).val < 8192 := (i 1).isLt
    have hk := k.isLt
    refine congrArg w (funext fun b => Fin.ext ?_)
    match b with
    | ⟨0, _⟩ => show ((i 1).val * 2048 + k.val) / 4194304 = (i 1).val / 2048; omega
    | ⟨1, _⟩ => show ((i 1).val * 2048 + k.val) / 2048 % 2048 = (i 1).val % 2048; omega
    | ⟨2, _⟩ => show ((i 1).val * 2048 + k.val) % 2048 = k.val; omega
  refine Eq.trans ?_ (drelu (∑ k : Fin 2048, dy (ix2 (i 0) k) * w (ix3 (⟨(i 1).val / 2048, by have h1 : (i 1).val < 8192 := (i 1).isLt; omega⟩ : Fin 4)
    (⟨(i 1).val % 2048, Nat.mod_lt _ (by decide)⟩ : Fin 2048) k)) (u i))
  show Scalar.select (Ideal.cmp .ogt (u i) (Ideal.ofBits .f32 0x00000000#32))
    ((∑ k : Fin 2048, dy (Cert.Reference3Ideal.Read.lidx_main_v11 i k) * w (Cert.Reference3Ideal.Read.idx_main_v1 (Cert.Reference3Ideal.Read.ridx_main_v11 i k)))
      * (two * max (u i) (Ideal.ofBits .f32 0x00000000#32))) (Ideal.ofBits .f32 0x00000000#32) = _
  rw [Ideal.ofBits_zero_f32]
  refine congrArg (fun z : EReal => Scalar.select (Ideal.cmp .ogt (u i) 0) (z * (two * max (u i) 0)) (0 : EReal)) (Finset.sum_congr rfl fun k _ => ?_)
  rw [hs k]
  refine congrArg (· * _) (congrArg dy (funext fun b => Fin.ext ?_))
  match b with
  | ⟨0, _⟩ => rfl
  | ⟨1, _⟩ => rfl

end Cert.Proof.GradHidden
-- ==== Proof.GradIn.lean ====
/-
  The gradient of the MLP's first weight matrix: what the kernel leaves in its result array, and what the reference
  computes, are the same products of the two arguments summed over the rows.
-/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Proof.GradIn

open Cert.Kernel4Ideal Cert.Kernel4Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![0, t.val / 8] ∧ win0_1.index t = ![0, t.val % 8]
    ∧ win0_2.index t = ![t.val % 8 / 2, t.val / 8, t.val % 2] :=
  (by decide +kernel : ∀ t : Fin grid0.N, _)

/-- Element `(p, i, j)` of the gradient: row `i` of the weights, column `2048 p + j`. -/
def grad (h : FVec Ideal S2048x2048 .bf16) (du : FVec Ideal S2048x8192 .bf16) : FVec Ideal S4x2048x2048 .bf16 := fun i =>
  ∑ k : Fin 2048, h (ix2 k (i 1))
    * du (ix2 k (⟨2048 * (i 0).val + (i 2).val, by have h0 : (i 0).val < 4 := (i 0).isLt; have h2 : (i 2).val < 2048 := (i 2).isLt; omega⟩ : Fin 8192))

theorem grad_at (h : FVec Ideal S2048x2048 .bf16) (du : FVec Ideal S2048x8192 .bf16) (i : S4x2048x2048.Idx) (r : Fin 2048) (j : Fin 8192)
    (hr : r.val = (i 1).val) (hj : j.val = 2048 * (i 0).val + (i 2).val) : grad h du i = ∑ k : Fin 2048, h (ix2 k r) * du (ix2 k j) := by
  obtain rfl : r = i 1 := Fin.ext hr
  unfold grad
  exact Finset.sum_congr rfl fun k _ => congrArg (fun n : Fin 8192 => h (ix2 k (i 1)) * du (ix2 k n)) (Fin.ext hj.symm)

theorem pay (x : FVec Ideal S2048x1024 .bf16) (y : FVec Ideal S2048x1024 .bf16) (i : S1x1024x1024.Idx) :
    k0_pay1 x y i = ∑ k : Fin 2048, x (ix2 k (i 1)) * y (ix2 k (i 2)) := by
  pointwise [k0_pay1]

theorem hz : (![0, 0] : Fin 2 → Nat) = fun _ => 0 := funext fun a => by fin_cases a <;> rfl
theorem hz3 : (![0, 0, 0] : Fin 3 → Nat) = fun _ => 0 := funext fun a => by fin_cases a <;> rfl

theorem ld (x : Vec Ideal S2048x1024 .bf16) : View.ld x r0_0 = x := View.ld_unit_zero (S := S2048x1024) hz _ x

variable (m : (ℓ : Loc nD τ sig) → Buf (Elt Ideal) ℓ) (c : Dev nD)

theorem flushed (t : Fin cfg0.N) : (dats m 0 c).flushed 2 t
    = ((cfg0.win 2).blk t).view.read (Elt Ideal) (grad (m ((c : Thread nD τ).loc main_arg0)) (m ((c : Thread nD τ).loc main_arg1))) := by
  rw [Value.flushed2]
  funext y
  rw [View.read_apply]
  obtain ⟨e0, e1, e2⟩ := idx t
  show out0_2 _ _ ((cfg0.win 2).xinj (grid0.coords t) y) = _
  unfold out0_2
  rw [View.canon_unit_zero hz3, pay]
  rw [ld, ld]
  have x0 (k : Fin 2048) (j : Fin 1024) (h : t.val / 8 * 1024 + j.val < 2048) : (iblk m c 0 t : FVec Ideal S2048x1024 .bf16) (ix2 k j)
    = m ((c : Thread nD τ).loc main_arg0) (ix2 k (⟨t.val / 8 * 1024 + j.val, h⟩ : Fin 2048)) := by blk_ext [iblk, V, idx t]
  have x1 (k : Fin 2048) (j : Fin 1024) (h : t.val % 8 * 1024 + j.val < 8192) : (iblk m c 1 t : FVec Ideal S2048x1024 .bf16) (ix2 k j)
    = m ((c : Thread nD τ).loc main_arg1) (ix2 k (⟨t.val % 8 * 1024 + j.val, h⟩ : Fin 8192)) := by blk_ext [iblk, V, idx t]
  have ht : t.val < 16 := t.isLt
  have b0 : (((cfg0.win 2).blk t).view.emb y 0).val = t.val % 8 / 2 := by
    refine (show _ = win0_2.index t (0 : Fin 3) * 1 + 1 * (y 0).val from rfl).trans ?_
    have hy : (y 0).val < 1 := (y 0).isLt
    rw [e2]; show t.val % 8 / 2 * 1 + 1 * (y 0).val = _; omega
  have b1 : (((cfg0.win 2).blk t).view.emb y 1).val = t.val / 8 * 1024 + (y 1).val := by
    refine (show _ = win0_2.index t (1 : Fin 3) * 1024 + 1 * (y 1).val from rfl).trans ?_
    rw [e2]; show t.val / 8 * 1024 + 1 * (y 1).val = _; omega
  have b2 : (((cfg0.win 2).blk t).view.emb y 2).val = t.val % 2 * 1024 + (y 2).val := by
    refine (show _ = win0_2.index t (2 : Fin 3) * 1024 + 1 * (y 2).val from rfl).trans ?_
    rw [e2]; show t.val % 2 * 1024 + 1 * (y 2).val = _; omega
  have h1 : (y 1).val < 1024 := (y 1).isLt
  have h2 : (y 2).val < 1024 := (y 2).isLt
  have hj : t.val % 8 * 1024 + (y 2).val = 2048 * (((cfg0.win 2).blk t).view.emb y 0).val + (((cfg0.win 2).blk t).view.emb y 2).val := by
    rw [b0, b2]; omega
  refine Eq.trans ?_ (grad_at _ _ (((cfg0.win 2).blk t).view.emb y) ⟨t.val / 8 * 1024 + (y 1).val, by omega⟩
    ⟨t.val % 8 * 1024 + (y 2).val, by omega⟩ b1.symm hj).symm
  exact Finset.sum_congr rfl fun k _ => congrArg₂ (· * ·) (x0 k ⟨(y 1).val, h1⟩ _) (x1 k ⟨(y 2).val, h2⟩ _)

/-- Every element of the result lies in the block of some grid point. -/
theorem cover (i : S4x2048x2048.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2048 := (i 2).isLt
  have hN : cfg0.N = 16 := N_0
  let t : Fin cfg0.N := ⟨8 * ((i 1).val / 1024) + 2 * (i 0).val + (i 2).val / 1024, by omega⟩
  have hv : t.val = 8 * ((i 1).val / 1024) + 2 * (i 0).val + (i 2).val / 1024 := rfl
  refine ⟨t, flush0_2 t, ?_⟩
  show i ∈ ((View.whole main_v0).slice (win0_2.rect t)).set
  rw [View.set_slice_whole, Rect.mem_set_unit]
  intro a
  show win0_2.index t a * S1x1024x1024.size a ≤ (i a).val ∧ (i a).val < win0_2.index t a * S1x1024x1024.size a + S1x1024x1024.size a
  rw [(idx t).2.2]
  match a with
  | ⟨0, _⟩ => show t.val % 8 / 2 * 1 ≤ (i 0).val ∧ (i 0).val < t.val % 8 / 2 * 1 + 1; omega
  | ⟨1, _⟩ => show t.val / 8 * 1024 ≤ (i 1).val ∧ (i 1).val < t.val / 8 * 1024 + 1024; omega
  | ⟨2, _⟩ => show t.val % 2 * 1024 ≤ (i 2).val ∧ (i 2).val < t.val % 2 * 1024 + 1024; omega

/-- The kernel's result array after its run. -/
theorem final : (dats m 0 c).arrAt 2 cfg0.N = grad (m ((c : Thread nD τ).loc main_arg0)) (m ((c : Thread nD τ).loc main_arg1)) :=
  (dats m 0 c).arrAt_eq_of_cover 2 _ (fun t _ => flushed m c t) cover

/-- The reference computes the same. -/
theorem ref (h : FVec Ideal S2048x2048 .bf16) (du : FVec Ideal S2048x8192 .bf16) :
    Cert.Reference4Ideal.Read.val_main_v10 (F := Ideal) h du = grad h du := by
  funext i
  rw [Cert.Reference4Ideal.Read.val_main_v10_apply, Cert.Reference4Ideal.Read.val_main_v9_apply, Cert.Reference4Ideal.Read.val_main_v8_apply,
    Cert.Reference4Ideal.Read.val_main_v7_apply, Cert.Reference4Ideal.Read.val_main_v6_apply]
  unfold grad
  refine Finset.sum_congr rfl fun k _ => ?_
  rw [mul_comm]
  have h0 : (i 0).val < 4 := (i 0).isLt
  have h1 : (i 1).val < 2048 := (i 1).isLt
  have h2 : (i 2).val < 2048 := (i 2).isLt
  refine congrArg₂ (· * ·) (congrArg h (funext fun b => Fin.ext ?_)) (congrArg du (funext fun b => Fin.ext ?_))
  · match b with
    | ⟨0, _⟩ => rfl
    | ⟨1, _⟩ => show (((i 1).val * 4 + (i 0).val) * 2048 + (i 2).val) / 8192 = (i 1).val; omega
  · match b with
    | ⟨0, _⟩ => rfl
    | ⟨1, _⟩ => show (((i 1).val * 4 + (i 0).val) * 2048 + (i 2).val) % 8192 = 2048 * (i 0).val + (i 2).val; omega

end Cert.Proof.GradIn
-- ==== Proof.Back.lean ====
/-
  The gradient of the MLP's input: what the kernel leaves in its result array, adding up four blocks of the sum one grid
  point after another and then the residual's part, and what the reference computes are the same.
-/
module

public import proofs.«01_k».proof.Proof.Gen.Kernel5Ideal.Value
public import proofs.«01_k».proof.Proof.Gen.Reference5Ideal.Read
public import proofs.«01_k».proof.Proof.BlockSum
public import Idealize.ShloMosaic.Lib.Pipeline.ValueKit

@[expose] public section

set_option maxRecDepth 16384

noncomputable section

namespace Cert.Proof.Back

open Cert.Kernel5Ideal Cert.Kernel5Ideal.Gen
open Idealize.ShloMosaic Idealize.ShloMosaic.TcCoe Idealize.SL.Sem
open Idealize.ShloMosaic.Pipeline (Dat)
open Finset

/-! ## What one grid point leaves -/

theorem hz : (![0, 0] : Fin 2 → Nat) = fun _ => 0 := funext fun a => by fin_cases a <;> rfl
theorem hz3 : (![0, 0, 0] : Fin 3 → Nat) = fun _ => 0 := funext fun a => by fin_cases a <;> rfl

section Point

variable {F : FTy → Type} [FloatOps F]
variable (c : Dev nD) (i : grid0.Coords) (a3 : Memref sig .tc .vmem S1024x2048 .bf16) (h3 : a3.IsWhole) (a4 : Memref sig .tc .vmem S1x1024x2048 .bf16)
    (h4 : a4.IsWhole) (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole)
variable (x0 : Vec F S1024x2048 .bf16) (x1 : Vec F S1x1024x2048 .bf16) (x2 : Vec F S1024x1024 .f32) (s : Vec F S1024x1024 .f32)

/-- The first of four points starts the running sum. -/
theorem run_A (hc0 : cond0_0 i) (hc1 : ¬cond0_1 i) (hc2 : ¬cond0_2 i) : sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero hz]
  simp only [View.readAt_eq_ld, h3.read_unread, h4.read_unread, View.ld_unit_zero (S := S1024x2048) hz, View.ld_unit_zero (S := S1x1024x2048) hz3]

/-- The next ones add to it. -/
theorem run_B (hc0 : ¬cond0_0 i) (hc1 : cond0_1 i) (hc2 : ¬cond0_2 i) : sout0_B_0 c i a3 h3 a4 h4 a5 h5 a6 h6 a7 h7 hc0 hc1 hc2 x0 x1 x2 s = k0_pay2 s x0 x1 := by
  unfold sout0_B_0
  rw [View.read_writes_eq_canon _ _ _ (scover0_B_0 c i a3 h3 a4 h4 a5 h5 a6 h6 a7 h7 hc0 hc1 hc2 x0 x1 x2 s)]
  unfold kernelRun0_B
  dsimp only
  rw [View.canon_unit_zero hz]
  simp only [View.readAt_eq_ld, h3.read_unread, h4.read_unread, h7.read_unread, View.ld_unit_zero (S := S1024x2048) hz, View.ld_unit_zero (S := S1x1024x2048) hz3,
    View.ld_unit_zero (S := S1024x1024) hz]

/-- The last one adds to it, and writes it out with the residual's part. -/
theorem out_C (hc0 : ¬cond0_0 i) (hc1 : cond0_1 i) (hc2 : cond0_2 i) : out0_C_3 c i a3 h3 a4 h4 a5 h5 a6 h6 a7 h7 hc0 hc1 hc2 x0 x1 x2 s = k0_pay3 (k0_pay2 s x0 x1) x2 := by
  unfold out0_C_3
  rw [View.read_writes_eq_canon _ _ _ (cover0_C_3 c i a3 h3 a4 h4 a5 h5 a6 h6 a7 h7 hc0 hc1 hc2 x0 x1 x2 s)]
  unfold kernelRun0_C
  dsimp only
  sl_unfold_words
  rw [View.canon_unit_zero hz]
  simp only [View.readAt_eq_ld, h3.read_unread, h4.read_unread, h5.read_unread, h7.read_unread, View.ld_unit_zero (S := S1024x2048) hz, View.ld_unit_zero (S := S1x1024x2048) hz3,
    View.ld_unit_zero (S := S1024x1024) hz, View.readCov_unit_zero (S := S1024x1024) _ hz]

end Point

/-! ## The running sum along the grid -/

/-- The residual's factor, as the program writes it. -/
abbrev alpha : EReal := Ideal.ofBits .f32 0x3FD744FD#32

theorem pay1 (x : FVec Ideal S1024x2048 .bf16) (y : FVec Ideal S1x1024x2048 .bf16) (i : S1024x1024.Idx) :
    k0_pay1 (F := Ideal) x y i = ∑ k : Fin 2048, x (ix2 (i 0) k) * y (ix3 0 (i 1) k) := by
  pointwise [k0_pay1]

theorem pay2 (s : FVec Ideal S1024x1024 .f32) (x : FVec Ideal S1024x2048 .bf16) (y : FVec Ideal S1x1024x2048 .bf16) (i : S1024x1024.Idx) :
    k0_pay2 (F := Ideal) s x y i = s (ix2 (i 0) (i 1)) + ∑ k : Fin 2048, x (ix2 (i 0) k) * y (ix3 0 (i 1) k) := by
  pointwise [k0_pay2]

theorem pay3 (s z : FVec Ideal S1024x1024 .f32) (i : S1024x1024.Idx) : k0_pay3 (F := Ideal) s z i = s (ix2 (i 0) (i 1)) + alpha * z (ix2 (i 0) (i 1)) := by
  pointwise [k0_pay3]

/-- The blocks of a grid point. -/
theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- Term `k` of the sum for row `r` and column `j`; column `k` of the weights is column `k % 2048` of part `k / 2048`. -/
def term (a : FVec Ideal S2048x8192 .bf16) (w : FVec Ideal S4x2048x2048 .bf16) (r j : Fin 2048) (k : ℕ) : EReal :=
  if h : k < 8192 then a (ix2 r (⟨k, h⟩ : Fin 8192)) * w (ix3 (⟨k / 2048, by omega⟩ : Fin 4) j (⟨k % 2048, Nat.mod_lt _ (by decide)⟩ : Fin 2048)) else 0

/-- The gradient. -/
def grad (a : FVec Ideal S2048x8192 .bf16) (w : FVec Ideal S4x2048x2048 .bf16) (z : FVec Ideal S2048x2048 .f32) : FVec Ideal S2048x2048 .f32 := fun i =>
  ∑ k : Fin 8192, term a w (i 0) (i 1) k.val + alpha * z (ix2 (i 0) (i 1))

variable (m : (ℓ : Loc nD τ sig) → Buf (Elt Ideal) ℓ) (c : Dev nD)

/-- The blocks of the three arguments at a grid point. -/
def aAt (t : Fin cfg0.N) : FVec Ideal S1024x2048 .bf16 := iblk m c 0 t
def wAt (t : Fin cfg0.N) : FVec Ideal S1x1024x2048 .bf16 := iblk m c 1 t
def zAt (t : Fin cfg0.N) : FVec Ideal S1024x1024 .f32 := iblk m c 2 t

theorem aAt_read (t : Fin cfg0.N) (r : Fin 1024) (k : Fin 2048) (h : t.val / 8 * 1024 + r.val < 2048) (h' : t.val % 4 * 2048 + k.val < 8192) :
    aAt m c t (ix2 r k)
      = m ((c : Thread nD τ).loc main_arg0) (ix2 (⟨t.val / 8 * 1024 + r.val, h⟩ : Fin 2048) (⟨t.val % 4 * 2048 + k.val, h'⟩ : Fin 8192)) := by
  unfold aAt; blk_ext [iblk, V, idx t]

theorem wAt_read (t : Fin cfg0.N) (j : Fin 1024) (k : Fin 2048) (hp : t.val % 4 < 4) (h : t.val / 4 % 2 * 1024 + j.val < 2048) :
    wAt m c t (ix3 0 j k)
      = m ((c : Thread nD τ).loc main_arg1) (ix3 (⟨t.val % 4, hp⟩ : Fin 4) (⟨t.val / 4 % 2 * 1024 + j.val, h⟩ : Fin 2048) k) := by
  unfold wAt; blk_ext [iblk, V, idx t]

theorem zAt_read (t : Fin cfg0.N) (r j : Fin 1024) (h : t.val / 8 * 1024 + r.val < 2048) (h' : t.val / 4 % 2 * 1024 + j.val < 2048) :
    zAt m c t (ix2 r j)
      = m ((c : Thread nD τ).loc main_arg2) (ix2 (⟨t.val / 8 * 1024 + r.val, h⟩ : Fin 2048) (⟨t.val / 4 % 2 * 1024 + j.val, h'⟩ : Fin 2048)) := by
  unfold zAt; blk_ext [iblk, V, idx t]

theorem acc_A (t : Fin cfg0.N) (h0 : t.val % 4 = 0) (h1 : ¬1 ≤ t.val % 4) (h2 : ¬t.val % 4 = 3) :
    (outsAt0 m c t.val t.isLt).2 = k0_pay1 (F := Ideal) (aAt m c t) (wAt m c t) :=
  by rw [outsAt0_A m c t h0 h1 h2]; dsimp only; rw [run_A]; rfl

theorem acc_B (t : Fin cfg0.N) (h0 : ¬t.val % 4 = 0) (h1 : 1 ≤ t.val % 4) (h2 : ¬t.val % 4 = 3) :
    (outsAt0 m c t.val t.isLt).2 = k0_pay2 (F := Ideal) (outsAt0 m c (t.val - 1) (Nat.lt_of_le_of_lt (Nat.sub_le _ _) t.isLt)).2 (aAt m c t) (wAt m c t) :=
  by rw [outsAt0_B m c t h0 h1 h2]; dsimp only; rw [run_B]; rfl

theorem res_C (t : Fin cfg0.N) (h0 : ¬t.val % 4 = 0) (h1 : 1 ≤ t.val % 4) (h2 : t.val % 4 = 3) :
    (outsAt0 m c t.val t.isLt).1
      = k0_pay3 (F := Ideal) (k0_pay2 (F := Ideal) (outsAt0 m c (t.val - 1) (Nat.lt_of_le_of_lt (Nat.sub_le _ _) t.isLt)).2 (aAt m c t) (wAt m c t)) (zAt m c t) :=
  by rw [outsAt0_C m c t h0 h1 h2]; dsimp only; rw [out_C]; rfl

/-- The block product of a grid point, as terms of the sum. -/
theorem block (t : Fin cfg0.N) (y : S1024x1024.Idx) (r j : Fin 2048) (hr : r.val = t.val / 8 * 1024 + (y 0).val) (hj : j.val = t.val / 4 % 2 * 1024 + (y 1).val) :
    ∑ k : Fin 2048, aAt m c t (ix2 (y 0) k) * wAt m c t (ix3 0 (y 1) k)
      = ∑ k : Fin 2048, term (m ((c : Thread nD τ).loc main_arg0)) (m ((c : Thread nD τ).loc main_arg1)) r j (2048 * (t.val % 4) + k.val) := by
  have ht : t.val < 16 := t.isLt
  refine Finset.sum_congr rfl fun k _ => ?_
  have hk := k.isLt
  have y0 : (y 0).val < 1024 := (y 0).isLt
  have y1 : (y 1).val < 1024 := (y 1).isLt
  have hr' := r.isLt
  have hj' := j.isLt
  unfold term
  rw [dif_pos (show 2048 * (t.val % 4) + k.val < 8192 by omega), aAt_read m c t (y 0) k (by omega) (by omega), wAt_read m c t (y 1) k (by omega) (by omega)]
  rw [show (⟨t.val % 4, by omega⟩ : Fin 4) = ⟨(2048 * (t.val % 4) + k.val) / 2048, by omega⟩ from Fin.ext (by dsimp only; omega),
    show (⟨t.val / 4 % 2 * 1024 + (y 1).val, by omega⟩ : Fin 2048) = j from Fin.ext hj.symm,
    show (⟨t.val / 8 * 1024 + (y 0).val, by omega⟩ : Fin 2048) = r from Fin.ext hr.symm,
    show (⟨t.val % 4 * 2048 + k.val, by omega⟩ : Fin 8192) = ⟨2048 * (t.val % 4) + k.val, by omega⟩ from Fin.ext (by dsimp only; omega),
    show (⟨(2048 * (t.val % 4) + k.val) % 2048, Nat.mod_lt _ (by decide)⟩ : Fin 2048) = k from Fin.ext (by dsimp only; omega)]

/-- The running sum after a grid point that is not the last of its four. -/
theorem run_val (n : ℕ) : ∀ (hn : n < cfg0.N), n % 4 ≠ 3 → ∀ (y : S1024x1024.Idx) (r j : Fin 2048), r.val = n / 8 * 1024 + (y 0).val →
    j.val = n / 4 % 2 * 1024 + (y 1).val → (outsAt0 m c n hn).2 y
      = ∑ k ∈ range (2048 * (n % 4 + 1)), term (m ((c : Thread nD τ).loc main_arg0)) (m ((c : Thread nD τ).loc main_arg1)) r j k := by
  induction n using Nat.strong_induction_on with
  | _ n ih =>
    intro hn h3 y r j hr hj
    by_cases h0 : n % 4 = 0
    · refine (congrFun (acc_A m c ⟨n, hn⟩ h0 (by dsimp only; omega) h3) y).trans ?_
      rw [pay1, block m c ⟨n, hn⟩ y r j hr hj, show (⟨n, hn⟩ : Fin cfg0.N).val % 4 = 0 from h0]
      exact BlockSum.first 2048 _
    · refine (congrFun (acc_B m c ⟨n, hn⟩ h0 (by dsimp only; omega) h3) y).trans ?_
      rw [pay2, block m c ⟨n, hn⟩ y r j hr hj, ← eq_ix2 y]
      refine Eq.trans (congrArg (· + _) (ih (n - 1) (by omega) _ (by omega) y r j (by omega) (by omega))) ?_
      rw [show (n - 1) % 4 + 1 = n % 4 by omega]
      exact BlockSum.step 2048 _ _

/-- What the last of four grid points writes out. -/
theorem out_val (n : ℕ) (hn : n < cfg0.N) (h3 : n % 4 = 3) (y : S1024x1024.Idx) (r j : Fin 2048) (hr : r.val = n / 8 * 1024 + (y 0).val)
    (hj : j.val = n / 4 % 2 * 1024 + (y 1).val) : (outsAt0 m c n hn).1 y
      = ∑ k : Fin 8192, term (m ((c : Thread nD τ).loc main_arg0)) (m ((c : Thread nD τ).loc main_arg1)) r j k.val
        + alpha * (m ((c : Thread nD τ).loc main_arg2) : FVec Ideal S2048x2048 .f32) (ix2 r j) := by
  have y0 : (y 0).val < 1024 := (y 0).isLt
  have y1 : (y 1).val < 1024 := (y 1).isLt
  have hr' := r.isLt
  have hj' := j.isLt
  refine (congrFun (res_C m c ⟨n, hn⟩ (by dsimp only; omega) (by dsimp only; omega) h3) y).trans ?_
  rw [pay3, ← eq_ix2 y, pay2, block m c ⟨n, hn⟩ y r j hr hj, ← eq_ix2 y, ← BlockSum.whole 2048 8192 rfl, ← BlockSum.step 2048 _ 3, show (⟨n, hn⟩ : Fin cfg0.N).val % 4 = 3 from h3]
  refine congrArg₂ (· + ·) (congrArg (· + _) ((run_val m c (n - 1) _ (by omega) y r j (by omega) (by omega)).trans ?_)) (congrArg (alpha * ·) ?_)
  · rw [show (n - 1) % 4 + 1 = 3 by omega]
  · refine (congrArg _ (eq_ix2 y)).trans ((zAt_read m c ⟨n, hn⟩ (y 0) (y 1) (by dsimp only; omega) (by dsimp only; omega)).trans ?_)
    rw [show (⟨n / 8 * 1024 + (y 0).val, by omega⟩ : Fin 2048) = r from Fin.ext hr.symm,
      show (⟨n / 4 % 2 * 1024 + (y 1).val, by omega⟩ : Fin 2048) = j from Fin.ext hj.symm]

/-- The kernel's result array after its run. -/
theorem final : Value.G3 m c
    = grad (m ((c : Thread nD τ).loc main_arg0)) (m ((c : Thread nD τ).loc main_arg1)) (m ((c : Thread nD τ).loc main_arg2)) := by
  funext i
  have h0 : (i 0).val < 2048 := (i 0).isLt
  have h1 : (i 1).val < 2048 := (i 1).isLt
  have hN : cfg0.N = 16 := N_0
  have hp : Value.pt3Of i < cfg0.N := by dsimp only [Value.pt3Of, Value.run3Of]; omega
  unfold Value.G3
  rw [dif_pos hp, ← Value.outsAt0_sweep m c _ hp]
  unfold grad
  refine out_val m c _ hp ?_ _ (i 0) (i 1) ?_ ?_
  · dsimp only [Value.pt3Of, Value.run3Of]; omega
  · show (i 0).val = Value.pt3Of i / 8 * 1024 + (i 0).val % 1024
    dsimp only [Value.pt3Of, Value.run3Of]; omega
  · show (i 1).val = Value.pt3Of i / 4 % 2 * 1024 + (i 1).val % 1024
    dsimp only [Value.pt3Of, Value.run3Of]; omega

/-- The reference computes the same. -/
theorem ref (a : FVec Ideal S2048x8192 .bf16) (w : FVec Ideal S4x2048x2048 .bf16) (z : FVec Ideal S2048x2048 .f32) :
    Cert.Reference5Ideal.Read.val_main_v11 (F := Ideal) a w z = grad a w z := by
  funext i
  rw [Cert.Reference5Ideal.Read.val_main_v11_apply, Cert.Reference5Ideal.Read.val_main_v10_apply, Cert.Reference5Ideal.Read.val_main_v9_apply,
    Cert.Reference5Ideal.Read.val_main_cst_1_apply, Cert.Reference5Ideal.Read.val_main_v8_apply]
  unfold grad
  refine congrArg₂ (fun x y : EReal => x + y) (Finset.sum_congr rfl fun k _ => ?_) (congrArg (fun x : EReal => alpha * x) (congrArg z (eq_ix2 i)))
  have h1 : (i 1).val < 2048 := (i 1).isLt
  have hk := k.isLt
  rw [Cert.Reference5Ideal.Read.val_main_v2_apply, Cert.Reference5Ideal.Read.val_main_v1_apply, Cert.Reference5Ideal.Read.val_main_v0_apply]
  unfold term
  rw [dif_pos hk]
  refine congrArg₂ (· * ·) (congrArg a (funext fun b => Fin.ext ?_)) (congrArg w (funext fun b => Fin.ext ?_))
  · match b with
    | ⟨0, _⟩ => rfl
    | ⟨1, _⟩ => rfl
  · match b with
    | ⟨0, _⟩ => show ((i 1).val * 8192 + k.val) / 2048 % 4 = k.val / 2048; omega
    | ⟨1, _⟩ => show ((i 1).val * 8192 + k.val) / 8192 = (i 1).val; omega
    | ⟨2, _⟩ => show ((i 1).val * 8192 + k.val) % 2048 = k.val % 2048; omega

end Cert.Proof.Back
-- ==== Proof.Hidden.lean ====
/-
  The MLP's first layer: what the kernel leaves in its two result arrays, the product and the square of its positive
  part, and what the reference computes are the same.
-/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Proof.Hidden

open Cert.Kernel6Ideal Cert.Kernel6Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![t.val / 8, 0] ∧ win0_1.index t = ![t.val % 8 / 2, 0, t.val % 2]
    ∧ win0_2.index t = ![t.val / 8, t.val % 8] ∧ win0_3.index t = ![t.val / 8, t.val % 8] :=
  (by decide +kernel : ∀ t : Fin grid0.N, _)

/-- Element `(i, j)` of the product; column `j` of the weights is column `j % 2048` of part `j / 2048`. -/
def up (h : FVec Ideal S2048x2048 .bf16) (w : FVec Ideal S4x2048x2048 .bf16) : FVec Ideal S2048x8192 .f32 := fun i =>
  ∑ k : Fin 2048, h (ix2 (i 0) k) * w (ix3 (⟨(i 1).val / 2048, by have h1 : (i 1).val < 8192 := (i 1).isLt; omega⟩ : Fin 4) k
    (⟨(i 1).val % 2048, Nat.mod_lt _ (by decide)⟩ : Fin 2048))

/-- The square of the product's positive part. -/
def act (h : FVec Ideal S2048x2048 .bf16) (w : FVec Ideal S4x2048x2048 .bf16) : FVec Ideal S2048x8192 .bf16 := fun i =>
  max (up h w i) 0 * max (up h w i) 0

theorem up_at (h : FVec Ideal S2048x2048 .bf16) (w : FVec Ideal S4x2048x2048 .bf16) (i : S2048x8192.Idx)
    (r : Fin 2048) (p : Fin 4) (j : Fin 2048) (hr : r.val = (i 0).val) (hp : p.val = (i 1).val / 2048) (hj : j.val = (i 1).val % 2048) :
    up h w i = ∑ k : Fin 2048, h (ix2 r k) * w (ix3 p k j) := by
  obtain rfl : r = i 0 := Fin.ext hr
  have h1 : (i 1).val < 8192 := (i 1).isLt
  have ep : (⟨(i 1).val / 2048, by omega⟩ : Fin 4) = p := Fin.ext hp.symm
  have ej : (⟨(i 1).val % 2048, Nat.mod_lt _ (by decide)⟩ : Fin 2048) = j := Fin.ext hj.symm
  unfold up
  rw [ep, ej]

theorem pay1 (x : FVec Ideal S1024x2048 .bf16) (y : FVec Ideal S1x2048x1024 .bf16) (i : S1024x1024.Idx) :
    k0_pay1 (F := Ideal) x y i = ∑ k : Fin 2048, x (ix2 (i 0) k) * y (ix3 0 k (i 1)) := by
  pointwise [k0_pay1]

theorem pay2 (x : FVec Ideal S1024x2048 .bf16) (y : FVec Ideal S1x2048x1024 .bf16) (i : S1024x1024.Idx) :
    k0_pay2 (F := Ideal) x y i = max (k0_pay1 (F := Ideal) x y i) 0 * max (k0_pay1 (F := Ideal) x y i) 0 := by
  unfold k0_pay2
  generalize k0_pay1 (F := Ideal) x y = z
  pointwise

theorem hz : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S1024x2048 .bf16) : View.ld x r0_0 = x := View.ld_unit_zero (S := S1024x2048) hz _ x
theorem ld1 (x : Vec Ideal S1x2048x1024 .bf16) : View.ld x r0_1 = x := View.ld_unit_zero (S := S1x2048x1024) hz3 _ x

variable (m : (ℓ : Loc nD τ sig) → Buf (Elt Ideal) ℓ) (c : Dev nD)

/-- The block product of a grid point is the whole product at the block's place. -/
theorem block (t : Fin cfg0.N) (y : S1024x1024.Idx) (i : S2048x8192.Idx) (h0 : (i 0).val = t.val / 8 * 1024 + (y 0).val)
    (h1 : (i 1).val = t.val % 8 * 1024 + (y 1).val) :
    k0_pay1 (F := Ideal) (View.ld (iblk m c 0 t : Vec Ideal S1024x2048 .bf16) r0_0) (View.ld (iblk m c 1 t : Vec Ideal S1x2048x1024 .bf16) r0_1) y
      = up (m ((c : Thread nD τ).loc main_arg0)) (m ((c : Thread nD τ).loc main_arg1)) i := by
  obtain ⟨e0, e1, e2, e3⟩ := idx t
  rw [ld0, ld1, pay1]
  have x0 (r : Fin 1024) (k : Fin 2048) (h : t.val / 8 * 1024 + r.val < 2048) : (iblk m c 0 t : FVec Ideal S1024x2048 .bf16) (ix2 r k)
    = m ((c : Thread nD τ).loc main_arg0) (ix2 (⟨t.val / 8 * 1024 + r.val, h⟩ : Fin 2048) k) := by blk_ext [iblk, V, idx t]
  have x1 (j : Fin 1024) (k : Fin 2048) (hp : t.val % 8 / 2 < 4) (h : t.val % 2 * 1024 + j.val < 2048) : (iblk m c 1 t : FVec Ideal S1x2048x1024 .bf16) (ix3 0 k j)
    = m ((c : Thread nD τ).loc main_arg1) (ix3 (⟨t.val % 8 / 2, hp⟩ : Fin 4) k (⟨t.val % 2 * 1024 + j.val, h⟩ : Fin 2048)) := by blk_ext [iblk, V, idx t]
  have ht : t.val < 16 := t.isLt
  have y0 : (y 0).val < 1024 := (y 0).isLt
  have y1 : (y 1).val < 1024 := (y 1).isLt
  refine Eq.trans ?_ (up_at _ _ i ⟨t.val / 8 * 1024 + (y 0).val, by omega⟩
    ⟨t.val % 8 / 2, by omega⟩ ⟨t.val % 2 * 1024 + (y 1).val, by omega⟩ h0.symm (by dsimp only; omega) (by dsimp only; omega)).symm
  exact Finset.sum_congr rfl fun k _ => congrArg₂ (· * ·) (x0 (y 0) k _) (x1 (y 1) k _ _)

/-- Both results are written in the same blocks: element `y` of the block of point `t`. -/
theorem place2 (t : Fin cfg0.N) (y : ((cfg0.win 2).xblock (grid0.coords t)).Idx) :
    (((cfg0.win 2).blk t).view.emb y 0).val = t.val / 8 * 1024 + (y 0).val ∧ (((cfg0.win 2).blk t).view.emb y 1).val = t.val % 8 * 1024 + (y 1).val := by
  obtain ⟨-, -, e, -⟩ := idx t
  constructor
  · refine (show _ = win0_2.index t (0 : Fin 2) * 1024 + 1 * (y 0).val from rfl).trans ?_
    rw [e]; show t.val / 8 * 1024 + 1 * (y 0).val = _; omega
  · refine (show _ = win0_2.index t (1 : Fin 2) * 1024 + 1 * (y 1).val from rfl).trans ?_
    rw [e]; show t.val % 8 * 1024 + 1 * (y 1).val = _; omega

theorem place3 (t : Fin cfg0.N) (y : ((cfg0.win 3).xblock (grid0.coords t)).Idx) :
    (((cfg0.win 3).blk t).view.emb y 0).val = t.val / 8 * 1024 + (y 0).val ∧ (((cfg0.win 3).blk t).view.emb y 1).val = t.val % 8 * 1024 + (y 1).val := by
  obtain ⟨-, -, -, e⟩ := idx t
  constructor
  · refine (show _ = win0_3.index t (0 : Fin 2) * 1024 + 1 * (y 0).val from rfl).trans ?_
    rw [e]; show t.val / 8 * 1024 + 1 * (y 0).val = _; omega
  · refine (show _ = win0_3.index t (1 : Fin 2) * 1024 + 1 * (y 1).val from rfl).trans ?_
    rw [e]; show t.val % 8 * 1024 + 1 * (y 1).val = _; omega

theorem flushed2 (t : Fin cfg0.N) : (dats m 0 c).flushed 2 t
    = ((cfg0.win 2).blk t).view.read (Elt Ideal) (up (m ((c : Thread nD τ).loc main_arg0)) (m ((c : Thread nD τ).loc main_arg1))) := by
  rw [Value.flushed2]
  funext y
  rw [View.read_apply]
  show out0_2 _ _ ((cfg0.win 2).xinj (grid0.coords t) y) = _
  unfold out0_2
  rw [View.canon_unit_zero hz]
  exact block m c t _ _ (place2 t y).1 (place2 t y).2

theorem flushed3 (t : Fin cfg0.N) : (dats m 0 c).flushed 3 t
    = ((cfg0.win 3).blk t).view.read (Elt Ideal) (act (m ((c : Thread nD τ).loc main_arg0)) (m ((c : Thread nD τ).loc main_arg1))) := by
  rw [Value.flushed3]
  funext y
  rw [View.read_apply]
  show out0_3 _ _ ((cfg0.win 3).xinj (grid0.coords t) y) = _
  unfold out0_3
  rw [View.canon_unit_zero hz, pay2]
  exact congrArg (fun z : EReal => max z 0 * max z 0) (block m c t _ _ (place3 t y).1 (place3 t y).2)

/-- The grid point that writes an element of the results. -/
def pt (i : S2048x8192.Idx) : Fin cfg0.N := ⟨8 * ((i 0).val / 1024) + (i 1).val / 1024, by
  have h0 : (i 0).val < 2048 := (i 0).isLt
  have h1 : (i 1).val < 8192 := (i 1).isLt
  have hN : cfg0.N = 16 := N_0
  omega⟩

theorem in_block (i : S2048x8192.Idx) (a : Fin 2) : ![(pt i).val / 8, (pt i).val % 8] a * S1024x1024.size a ≤ (i a).val
    ∧ (i a).val < ![(pt i).val / 8, (pt i).val % 8] a * S1024x1024.size a + S1024x1024.size a := by
  have h0 : (i 0).val < 2048 := (i 0).isLt
  have h1 : (i 1).val < 8192 := (i 1).isLt
  have hv : (pt i).val = 8 * ((i 0).val / 1024) + (i 1).val / 1024 := rfl
  match a with
  | ⟨0, _⟩ => show (pt i).val / 8 * 1024 ≤ (i 0).val ∧ (i 0).val < (pt i).val / 8 * 1024 + 1024; omega
  | ⟨1, _⟩ => show (pt i).val % 8 * 1024 ≤ (i 1).val ∧ (i 1).val < (pt i).val % 8 * 1024 + 1024; omega

theorem cover2 (i : S2048x8192.Idx) : ∃ t : Fin cfg0.N, (cfg0.win 2).flush t = true ∧ i ∈ ((cfg0.win 2).blk t).view.set := by
  refine ⟨pt i, flush0_2 _, ?_⟩
  show i ∈ ((View.whole main_v0_0).slice (win0_2.rect (pt i))).set
  rw [View.set_slice_whole, Rect.mem_set_unit]
  intro a
  show win0_2.index (pt i) a * S1024x1024.size a ≤ (i a).val ∧ (i a).val < win0_2.index (pt i) a * S1024x1024.size a + S1024x1024.size a
  rw [(idx _).2.2.1]
  exact in_block i a

theorem cover3 (i : S2048x8192.Idx) : ∃ t : Fin cfg0.N, (cfg0.win 3).flush t = true ∧ i ∈ ((cfg0.win 3).blk t).view.set := by
  refine ⟨pt i, flush0_3 _, ?_⟩
  show i ∈ ((View.whole main_v0_1).slice (win0_3.rect (pt i))).set
  rw [View.set_slice_whole, Rect.mem_set_unit]
  intro a
  show win0_3.index (pt i) a * S1024x1024.size a ≤ (i a).val ∧ (i a).val < win0_3.index (pt i) a * S1024x1024.size a + S1024x1024.size a
  rw [(idx _).2.2.2]
  exact in_block i a

/-- The kernel's result arrays after its run. -/
theorem final2 : (dats m 0 c).arrAt 2 cfg0.N = up (m ((c : Thread nD τ).loc main_arg0)) (m ((c : Thread nD τ).loc main_arg1)) :=
  (dats m 0 c).arrAt_eq_of_cover 2 _ (fun t _ => flushed2 m c t) cover2
theorem final3 : (dats m 0 c).arrAt 3 cfg0.N = act (m ((c : Thread nD τ).loc main_arg0)) (m ((c : Thread nD τ).loc main_arg1)) :=
  (dats m 0 c).arrAt_eq_of_cover 3 _ (fun t _ => flushed3 m c t) cover3

/-- The reference computes the same. -/
theorem ref_up (h : FVec Ideal S2048x2048 .bf16) (w : FVec Ideal S4x2048x2048 .bf16) :
    Cert.Reference6Ideal.Read.val_main_v4 (F := Ideal) h w = up h w := by
  funext i
  rw [Cert.Reference6Ideal.Read.val_main_v4_apply]
  unfold up
  refine Finset.sum_congr rfl fun k _ => ?_
  rw [Cert.Reference6Ideal.Read.val_main_v3_apply, Cert.Reference6Ideal.Read.val_main_v2_apply, Cert.Reference6Ideal.Read.val_main_v1_apply]
  have h1 : (i 1).val < 8192 := (i 1).isLt
  have hk := k.isLt
  refine congrArg₂ (· * ·) (congrArg h (funext fun b => Fin.ext ?_)) (congrArg w (funext fun b => Fin.ext ?_))
  · match b with
    | ⟨0, _⟩ => rfl
    | ⟨1, _⟩ => rfl
  · match b with
    | ⟨0, _⟩ => show (k.val * 8192 + (i 1).val) / 2048 % 4 = (i 1).val / 2048; omega
    | ⟨1, _⟩ => show (k.val * 8192 + (i 1).val) / 8192 = k.val; omega
    | ⟨2, _⟩ => show (k.val * 8192 + (i 1).val) % 2048 = (i 1).val % 2048; omega

theorem ref_act (h : FVec Ideal S2048x2048 .bf16) (w : FVec Ideal S4x2048x2048 .bf16) :
    Cert.Reference6Ideal.Read.val_main_v7 (F := Ideal) h w = act h w := by
  funext i
  rw [Cert.Reference6Ideal.Read.val_main_v7_apply, Cert.Reference6Ideal.Read.val_main_v6_apply, Cert.Reference6Ideal.Read.val_main_v5_apply,
    Cert.Reference6Ideal.Read.val_main_call0_v0_apply, Cert.Reference6Ideal.Read.val_main_call0_cst_apply, ref_up]
  show max (up h w i) (Ideal.ofBits .f32 0x00000000#32) * max (up h w i) (Ideal.ofBits .f32 0x00000000#32) = _
  rw [Ideal.ofBits_zero_f32]
  rfl

end Cert.Proof.Hidden
-- ==== Proof.Down.lean ====
/-
  The MLP's second layer: what the kernel leaves in its result array, adding up four blocks of the sum one grid point
  after another, and what the reference computes are the same product.
-/
module

public import proofs.«01_k».proof.Proof.Gen.Kernel7Ideal.Value
public import proofs.«01_k».proof.Proof.Gen.Reference7Ideal.Read
public import proofs.«01_k».proof.Proof.BlockSum
public import Idealize.ShloMosaic.Lib.Pipeline.ValueKit

@[expose] public section

set_option maxRecDepth 16384

noncomputable section

namespace Cert.Proof.Down

open Cert.Kernel7Ideal Cert.Kernel7Ideal.Gen
open Idealize.ShloMosaic Idealize.ShloMosaic.TcCoe Idealize.SL.Sem
open Idealize.ShloMosaic.Pipeline (Dat)
open Finset

/-! ## What one grid point leaves -/

theorem hz : (![0, 0] : Fin 2 → Nat) = fun _ => 0 := funext fun a => by fin_cases a <;> rfl
theorem hz3 : (![0, 0, 0] : Fin 3 → Nat) = fun _ => 0 := funext fun a => by fin_cases a <;> rfl

section Point

variable {F : FTy → Type} [FloatOps F]
variable (c : Dev nD) (i : grid0.Coords) (a3 : Memref sig .tc .vmem S1024x2048 .bf16) (h3 : a3.IsWhole) (a4 : Memref sig .tc .vmem S1x2048x1024 .bf16)
    (h4 : a4.IsWhole) (a5 : Memref sig .tc .vmem S1024x1024 .f32) (h5 : a5.IsWhole) (a6 : Memref sig .tc .vmem S1024x1024 .f32) (h6 : a6.IsWhole)
variable (x0 : Vec F S1024x2048 .bf16) (x1 : Vec F S1x2048x1024 .bf16) (s : Vec F S1024x1024 .f32)

/-- The first of four points starts the running sum. -/
theorem run_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x2048) hz, View.ld_unit_zero (S := S1x2048x1024) hz3]

/-- The next ones add to it. -/
theorem run_B (hc0 : ¬cond0_0 i) (hc1 : cond0_1 i) (hc2 : ¬cond0_2 i) : sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  simp only [View.readAt_eq_ld, h3.read_unread, h4.read_unread, h6.read_unread, View.ld_unit_zero (S := S1024x2048) hz, View.ld_unit_zero (S := S1x2048x1024) hz3,
    View.ld_unit_zero (S := S1024x1024) hz]

/-- The last one adds to it and writes it out. -/
theorem out_C (hc0 : ¬cond0_0 i) (hc1 : cond0_1 i) (hc2 : cond0_2 i) : out0_C_2 c i a3 h3 a4 h4 a5 h5 a6 h6 hc0 hc1 hc2 x0 x1 s = k0_pay2 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x2048) hz, View.ld_unit_zero (S := S1x2048x1024) hz3,
    View.ld_unit_zero (S := S1024x1024) hz, View.readCov_unit_zero (S := S1024x1024) _ hz]

end Point

/-! ## The running sum along the grid -/

theorem pay1 (x : FVec Ideal S1024x2048 .bf16) (y : FVec Ideal S1x2048x1024 .bf16) (i : S1024x1024.Idx) :
    k0_pay1 (F := Ideal) x y i = ∑ k : Fin 2048, x (ix2 (i 0) k) * y (ix3 0 k (i 1)) := by
  pointwise [k0_pay1]

theorem pay2 (s : FVec Ideal S1024x1024 .f32) (x : FVec Ideal S1024x2048 .bf16) (y : FVec Ideal S1x2048x1024 .bf16) (i : S1024x1024.Idx) :
    k0_pay2 (F := Ideal) s x y i = s (ix2 (i 0) (i 1)) + ∑ k : Fin 2048, x (ix2 (i 0) k) * y (ix3 0 k (i 1)) := by
  pointwise [k0_pay2]

/-- The blocks of a grid point. -/
theorem idx : ∀ t : Fin cfg0.N, win0_0.index t = ![t.val / 8, t.val % 4] ∧ win0_1.index t = ![t.val % 4, 0, t.val / 4 % 2] :=
  (by decide +kernel : ∀ t : Fin grid0.N, _)

/-- Term `k` of the sum for row `r` and column `j`; row `k` of the weights is row `k % 2048` of part `k / 2048`. -/
def term (a : FVec Ideal S2048x8192 .bf16) (w : FVec Ideal S4x2048x2048 .bf16) (r j : Fin 2048) (k : ℕ) : EReal :=
  if h : k < 8192 then a (ix2 r (⟨k, h⟩ : Fin 8192)) * w (ix3 (⟨k / 2048, by omega⟩ : Fin 4) (⟨k % 2048, Nat.mod_lt _ (by decide)⟩ : Fin 2048) j) else 0

/-- The product. -/
def prod (a : FVec Ideal S2048x8192 .bf16) (w : FVec Ideal S4x2048x2048 .bf16) : FVec Ideal S2048x2048 .f32 := fun i =>
  ∑ k : Fin 8192, term a w (i 0) (i 1) k.val

variable (m : (ℓ : Loc nD τ sig) → Buf (Elt Ideal) ℓ) (c : Dev nD)

/-- The blocks of the two arguments at a grid point. -/
def aAt (t : Fin cfg0.N) : FVec Ideal S1024x2048 .bf16 := iblk m c 0 t
def wAt (t : Fin cfg0.N) : FVec Ideal S1x2048x1024 .bf16 := iblk m c 1 t

theorem aAt_read (t : Fin cfg0.N) (r : Fin 1024) (k : Fin 2048) (h : t.val / 8 * 1024 + r.val < 2048) (h' : t.val % 4 * 2048 + k.val < 8192) :
    aAt m c t (ix2 r k)
      = m ((c : Thread nD τ).loc main_arg0) (ix2 (⟨t.val / 8 * 1024 + r.val, h⟩ : Fin 2048) (⟨t.val % 4 * 2048 + k.val, h'⟩ : Fin 8192)) := by
  unfold aAt; blk_ext [iblk, V, idx t]

theorem wAt_read (t : Fin cfg0.N) (j : Fin 1024) (k : Fin 2048) (hp : t.val % 4 < 4) (h : t.val / 4 % 2 * 1024 + j.val < 2048) :
    wAt m c t (ix3 0 k j)
      = m ((c : Thread nD τ).loc main_arg1) (ix3 (⟨t.val % 4, hp⟩ : Fin 4) k (⟨t.val / 4 % 2 * 1024 + j.val, h⟩ : Fin 2048)) := by
  unfold wAt; blk_ext [iblk, V, idx t]

theorem acc_A (t : Fin cfg0.N) (h0 : t.val % 4 = 0) (h1 : ¬1 ≤ t.val % 4) (h2 : ¬t.val % 4 = 3) :
    (outsAt0 m c t.val t.isLt).2 = k0_pay1 (F := Ideal) (aAt m c t) (wAt m c t) :=
  by rw [outsAt0_A m c t h0 h1 h2]; dsimp only; rw [run_A]; rfl

theorem acc_B (t : Fin cfg0.N) (h0 : ¬t.val % 4 = 0) (h1 : 1 ≤ t.val % 4) (h2 : ¬t.val % 4 = 3) :
    (outsAt0 m c t.val t.isLt).2 = k0_pay2 (F := Ideal) (outsAt0 m c (t.val - 1) (Nat.lt_of_le_of_lt (Nat.sub_le _ _) t.isLt)).2 (aAt m c t) (wAt m c t) :=
  by rw [outsAt0_B m c t h0 h1 h2]; dsimp only; rw [run_B]; rfl

theorem res_C (t : Fin cfg0.N) (h0 : ¬t.val % 4 = 0) (h1 : 1 ≤ t.val % 4) (h2 : t.val % 4 = 3) :
    (outsAt0 m c t.val t.isLt).1 = k0_pay2 (F := Ideal) (outsAt0 m c (t.val - 1) (Nat.lt_of_le_of_lt (Nat.sub_le _ _) t.isLt)).2 (aAt m c t) (wAt m c t) :=
  by rw [outsAt0_C m c t h0 h1 h2]; dsimp only; rw [out_C]; rfl

/-- The block product of a grid point, as terms of the sum. -/
theorem block (t : Fin cfg0.N) (y : S1024x1024.Idx) (r j : Fin 2048) (hr : r.val = t.val / 8 * 1024 + (y 0).val) (hj : j.val = t.val / 4 % 2 * 1024 + (y 1).val) :
    ∑ k : Fin 2048, aAt m c t (ix2 (y 0) k) * wAt m c t (ix3 0 k (y 1))
      = ∑ k : Fin 2048, term (m ((c : Thread nD τ).loc main_arg0)) (m ((c : Thread nD τ).loc main_arg1)) r j (2048 * (t.val % 4) + k.val) := by
  have ht : t.val < 16 := t.isLt
  refine Finset.sum_congr rfl fun k _ => ?_
  have hk := k.isLt
  have y0 : (y 0).val < 1024 := (y 0).isLt
  have y1 : (y 1).val < 1024 := (y 1).isLt
  have hr' := r.isLt
  have hj' := j.isLt
  unfold term
  rw [dif_pos (show 2048 * (t.val % 4) + k.val < 8192 by omega), aAt_read m c t (y 0) k (by omega) (by omega), wAt_read m c t (y 1) k (by omega) (by omega)]
  rw [show (⟨t.val % 4, by omega⟩ : Fin 4) = ⟨(2048 * (t.val % 4) + k.val) / 2048, by omega⟩ from Fin.ext (by dsimp only; omega),
    show (⟨t.val / 4 % 2 * 1024 + (y 1).val, by omega⟩ : Fin 2048) = j from Fin.ext hj.symm,
    show (⟨t.val / 8 * 1024 + (y 0).val, by omega⟩ : Fin 2048) = r from Fin.ext hr.symm,
    show (⟨t.val % 4 * 2048 + k.val, by omega⟩ : Fin 8192) = ⟨2048 * (t.val % 4) + k.val, by omega⟩ from Fin.ext (by dsimp only; omega),
    show (⟨(2048 * (t.val % 4) + k.val) % 2048, Nat.mod_lt _ (by decide)⟩ : Fin 2048) = k from Fin.ext (by dsimp only; omega)]

/-- The running sum after a grid point that is not the last of its four. -/
theorem run_val (n : ℕ) : ∀ (hn : n < cfg0.N), n % 4 ≠ 3 → ∀ (y : S1024x1024.Idx) (r j : Fin 2048), r.val = n / 8 * 1024 + (y 0).val →
    j.val = n / 4 % 2 * 1024 + (y 1).val → (outsAt0 m c n hn).2 y
      = ∑ k ∈ range (2048 * (n % 4 + 1)), term (m ((c : Thread nD τ).loc main_arg0)) (m ((c : Thread nD τ).loc main_arg1)) r j k := by
  induction n using Nat.strong_induction_on with
  | _ n ih =>
    intro hn h3 y r j hr hj
    by_cases h0 : n % 4 = 0
    · refine (congrFun (acc_A m c ⟨n, hn⟩ h0 (by dsimp only; omega) h3) y).trans ?_
      rw [pay1, block m c ⟨n, hn⟩ y r j hr hj, show (⟨n, hn⟩ : Fin cfg0.N).val % 4 = 0 from h0]
      exact BlockSum.first 2048 _
    · refine (congrFun (acc_B m c ⟨n, hn⟩ h0 (by dsimp only; omega) h3) y).trans ?_
      rw [pay2, block m c ⟨n, hn⟩ y r j hr hj, ← eq_ix2 y]
      refine Eq.trans (congrArg (· + _) (ih (n - 1) (by omega) _ (by omega) y r j (by omega) (by omega))) ?_
      rw [show (n - 1) % 4 + 1 = n % 4 by omega]
      exact BlockSum.step 2048 _ _

/-- What the last of four grid points writes out. -/
theorem out_val (n : ℕ) (hn : n < cfg0.N) (h3 : n % 4 = 3) (y : S1024x1024.Idx) (r j : Fin 2048) (hr : r.val = n / 8 * 1024 + (y 0).val)
    (hj : j.val = n / 4 % 2 * 1024 + (y 1).val) : (outsAt0 m c n hn).1 y
      = ∑ k : Fin 8192, term (m ((c : Thread nD τ).loc main_arg0)) (m ((c : Thread nD τ).loc main_arg1)) r j k.val := by
  refine (congrFun (res_C m c ⟨n, hn⟩ (by dsimp only; omega) (by dsimp only; omega) h3) y).trans ?_
  rw [pay2, block m c ⟨n, hn⟩ y r j hr hj, ← eq_ix2 y, ← BlockSum.whole 2048 8192 rfl, ← BlockSum.step 2048 _ 3, show (⟨n, hn⟩ : Fin cfg0.N).val % 4 = 3 from h3]
  refine congrArg (· + _) ((run_val m c (n - 1) _ (by omega) y r j (by omega) (by omega)).trans ?_)
  rw [show (n - 1) % 4 + 1 = 3 by omega]

/-- The kernel's result array after its run. -/
theorem final : Value.G2 m c = prod (m ((c : Thread nD τ).loc main_arg0)) (m ((c : Thread nD τ).loc main_arg1)) := by
  funext i
  have h0 : (i 0).val < 2048 := (i 0).isLt
  have h1 : (i 1).val < 2048 := (i 1).isLt
  have hN : cfg0.N = 16 := N_0
  have hp : Value.pt2Of i < cfg0.N := by dsimp only [Value.pt2Of, Value.run2Of]; omega
  unfold Value.G2
  rw [dif_pos hp, ← Value.outsAt0_sweep m c _ hp]
  unfold prod
  refine out_val m c _ hp ?_ _ (i 0) (i 1) ?_ ?_
  · dsimp only [Value.pt2Of, Value.run2Of]; omega
  · show (i 0).val = Value.pt2Of i / 8 * 1024 + (i 0).val % 1024
    dsimp only [Value.pt2Of, Value.run2Of]; omega
  · show (i 1).val = Value.pt2Of i / 4 % 2 * 1024 + (i 1).val % 1024
    dsimp only [Value.pt2Of, Value.run2Of]; omega

/-- The reference computes the same. -/
theorem ref (a : FVec Ideal S2048x8192 .bf16) (w : FVec Ideal S4x2048x2048 .bf16) :
    Cert.Reference7Ideal.Read.val_main_v3 (F := Ideal) a w = prod a w := by
  funext i
  rw [Cert.Reference7Ideal.Read.val_main_v3_apply]
  unfold prod
  refine Finset.sum_congr rfl fun k _ => ?_
  have h1 : (i 1).val < 2048 := (i 1).isLt
  have hk := k.isLt
  rw [Cert.Reference7Ideal.Read.val_main_v2_apply, Cert.Reference7Ideal.Read.val_main_v1_apply]
  unfold term
  rw [dif_pos hk]
  refine congrArg₂ (· * ·) (congrArg a (funext fun b => Fin.ext ?_)) (congrArg w (funext fun b => Fin.ext ?_))
  · match b with
    | ⟨0, _⟩ => rfl
    | ⟨1, _⟩ => rfl
  · match b with
    | ⟨0, _⟩ => show (k.val * 2048 + (i 1).val) / 4194304 = k.val / 2048; omega
    | ⟨1, _⟩ => show (k.val * 2048 + (i 1).val) / 2048 % 2048 = k.val % 2048; omega
    | ⟨2, _⟩ => show (k.val * 2048 + (i 1).val) % 2048 = (i 1).val; omega

end Cert.Proof.Down
-- ==== Proof.GradMixOut.lean ====
/-
  The gradient of a mixer's output weight matrix: what the kernel leaves in its result array, and what the reference
  computes, are the same products of the two arguments summed over the rows.
-/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Proof.GradMixOut

open Cert.Kernel8Ideal Cert.Kernel8Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![0, t.val / 2] ∧ win0_1.index t = ![0, t.val % 2]
    ∧ win0_2.index t = ![t.val / 2, 0, t.val % 2] :=
  (by decide +kernel : ∀ t : Fin grid0.N, _)

/-- Element `(p, i, j)` of the gradient: row `512 p + i` of the weights, column `j`. -/
def grad (a : FVec Ideal S2048x2048 .bf16) (dy : FVec Ideal S2048x2048 .bf16) : FVec Ideal S4x512x2048 .bf16 := fun i =>
  ∑ k : Fin 2048, a (ix2 k (⟨512 * (i 0).val + (i 1).val, by have h0 : (i 0).val < 4 := (i 0).isLt; have h1 : (i 1).val < 512 := (i 1).isLt; omega⟩ : Fin 2048))
    * dy (ix2 k (i 2))

theorem grad_at (a : FVec Ideal S2048x2048 .bf16) (dy : FVec Ideal S2048x2048 .bf16) (i : S4x512x2048.Idx) (r : Fin 2048) (j : Fin 2048)
    (hr : r.val = 512 * (i 0).val + (i 1).val) (hj : j.val = (i 2).val) : grad a dy i = ∑ k : Fin 2048, a (ix2 k r) * dy (ix2 k j) := by
  obtain rfl : j = i 2 := Fin.ext hj
  unfold grad
  exact Finset.sum_congr rfl fun k _ => congrArg (fun n : Fin 2048 => a (ix2 k n) * dy (ix2 k (i 2))) (Fin.ext hr.symm)

theorem pay (x : FVec Ideal S2048x512 .bf16) (y : FVec Ideal S2048x1024 .bf16) (i : S1x512x1024.Idx) :
    k0_pay1 x y i = ∑ k : Fin 2048, x (ix2 k (i 1)) * y (ix2 k (i 2)) := by
  pointwise [k0_pay1]

theorem hz : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S2048x512 .bf16) : View.ld x r0_0 = x := View.ld_unit_zero (S := S2048x512) hz _ x
theorem ld1 (x : Vec Ideal S2048x1024 .bf16) : View.ld x r0_1 = x := View.ld_unit_zero (S := S2048x1024) hz _ x

variable (m : (ℓ : Loc nD τ sig) → Buf (Elt Ideal) ℓ) (c : Dev nD)

theorem flushed (t : Fin cfg0.N) : (dats m 0 c).flushed 2 t
    = ((cfg0.win 2).blk t).view.read (Elt Ideal) (grad (m ((c : Thread nD τ).loc main_arg0)) (m ((c : Thread nD τ).loc main_arg1))) := by
  rw [Value.flushed2]
  funext y
  rw [View.read_apply]
  obtain ⟨e0, e1, e2⟩ := idx t
  show out0_2 _ _ ((cfg0.win 2).xinj (grid0.coords t) y) = _
  unfold out0_2
  rw [View.canon_unit_zero hz3, pay]
  rw [ld0, ld1]
  have x0 (k : Fin 2048) (j : Fin 512) (h : t.val / 2 * 512 + j.val < 2048) : (iblk m c 0 t : FVec Ideal S2048x512 .bf16) (ix2 k j)
    = m ((c : Thread nD τ).loc main_arg0) (ix2 k (⟨t.val / 2 * 512 + j.val, h⟩ : Fin 2048)) := by blk_ext [iblk, V, idx t]
  have x1 (k : Fin 2048) (j : Fin 1024) (h : t.val % 2 * 1024 + j.val < 2048) : (iblk m c 1 t : FVec Ideal S2048x1024 .bf16) (ix2 k j)
    = m ((c : Thread nD τ).loc main_arg1) (ix2 k (⟨t.val % 2 * 1024 + j.val, h⟩ : Fin 2048)) := by blk_ext [iblk, V, idx t]
  have ht : t.val < 8 := t.isLt
  have b0 : (((cfg0.win 2).blk t).view.emb y 0).val = t.val / 2 := by
    refine (show _ = win0_2.index t (0 : Fin 3) * 1 + 1 * (y 0).val from rfl).trans ?_
    have hy : (y 0).val < 1 := (y 0).isLt
    rw [e2]; show t.val / 2 * 1 + 1 * (y 0).val = _; omega
  have b1 : (((cfg0.win 2).blk t).view.emb y 1).val = (y 1).val := by
    refine (show _ = win0_2.index t (1 : Fin 3) * 512 + 1 * (y 1).val from rfl).trans ?_
    rw [e2]; show 0 * 512 + 1 * (y 1).val = _; omega
  have b2 : (((cfg0.win 2).blk t).view.emb y 2).val = t.val % 2 * 1024 + (y 2).val := by
    refine (show _ = win0_2.index t (2 : Fin 3) * 1024 + 1 * (y 2).val from rfl).trans ?_
    rw [e2]; show t.val % 2 * 1024 + 1 * (y 2).val = _; omega
  have h1 : (y 1).val < 512 := (y 1).isLt
  have h2 : (y 2).val < 1024 := (y 2).isLt
  have hr : t.val / 2 * 512 + (y 1).val = 512 * (((cfg0.win 2).blk t).view.emb y 0).val + (((cfg0.win 2).blk t).view.emb y 1).val := by
    rw [b0, b1]; omega
  refine Eq.trans ?_ (grad_at _ _ (((cfg0.win 2).blk t).view.emb y) ⟨t.val / 2 * 512 + (y 1).val, by omega⟩
    ⟨t.val % 2 * 1024 + (y 2).val, by omega⟩ hr b2.symm).symm
  exact Finset.sum_congr rfl fun k _ => congrArg₂ (· * ·) (x0 k ⟨(y 1).val, h1⟩ _) (x1 k ⟨(y 2).val, h2⟩ _)

/-- Every element of the result lies in the block of some grid point. -/
theorem cover (i : S4x512x2048.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 2048 := (i 2).isLt
  have hN : cfg0.N = 8 := N_0
  let t : Fin cfg0.N := ⟨2 * (i 0).val + (i 2).val / 1024, by omega⟩
  have hv : t.val = 2 * (i 0).val + (i 2).val / 1024 := rfl
  refine ⟨t, flush0_2 t, ?_⟩
  show i ∈ ((View.whole main_v0).slice (win0_2.rect t)).set
  rw [View.set_slice_whole, Rect.mem_set_unit]
  intro a
  show win0_2.index t a * S1x512x1024.size a ≤ (i a).val ∧ (i a).val < win0_2.index t a * S1x512x1024.size a + S1x512x1024.size a
  rw [(idx t).2.2]
  match a with
  | ⟨0, _⟩ => show t.val / 2 * 1 ≤ (i 0).val ∧ (i 0).val < t.val / 2 * 1 + 1; omega
  | ⟨1, _⟩ => show 0 * 512 ≤ (i 1).val ∧ (i 1).val < 0 * 512 + 512; omega
  | ⟨2, _⟩ => show t.val % 2 * 1024 ≤ (i 2).val ∧ (i 2).val < t.val % 2 * 1024 + 1024; omega

/-- The kernel's result array after its run. -/
theorem final : (dats m 0 c).arrAt 2 cfg0.N = grad (m ((c : Thread nD τ).loc main_arg0)) (m ((c : Thread nD τ).loc main_arg1)) :=
  (dats m 0 c).arrAt_eq_of_cover 2 _ (fun t _ => flushed m c t) cover

/-- The reference computes the same. -/
theorem ref (a : FVec Ideal S2048x2048 .bf16) (dy : FVec Ideal S2048x2048 .bf16) :
    Cert.Reference8Ideal.Read.val_main_v8 (F := Ideal) a dy = grad a dy := by
  funext i
  rw [Cert.Reference8Ideal.Read.val_main_v8_apply, Cert.Reference8Ideal.Read.val_main_v7_apply,
    Cert.Reference8Ideal.Read.val_main_v6_apply, Cert.Reference8Ideal.Read.val_main_v5_apply]
  unfold grad
  refine Finset.sum_congr rfl fun k _ => ?_
  rw [mul_comm]
  have h1 : (i 1).val < 512 := (i 1).isLt
  have h2 : (i 2).val < 2048 := (i 2).isLt
  refine congrArg₂ (· * ·) (congrArg a (funext fun b => Fin.ext ?_)) (congrArg dy (funext fun b => Fin.ext ?_))
  · match b with
    | ⟨0, _⟩ => rfl
    | ⟨1, _⟩ => show (((i 0).val * 512 + (i 1).val) * 2048 + (i 2).val) / 2048 = 512 * (i 0).val + (i 1).val; omega
  · match b with
    | ⟨0, _⟩ => rfl
    | ⟨1, _⟩ => show (((i 0).val * 512 + (i 1).val) * 2048 + (i 2).val) % 2048 = (i 2).val; omega

end Cert.Proof.GradMixOut
-- ==== Proof.GradMix.lean ====
/-
  The gradient of a mixer's heads: what the kernel leaves in its result array, and what the reference computes, are the
  same products of the two arguments.
-/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.Proof.GradMix

open Cert.Kernel9Ideal Cert.Kernel9Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- Element `(i, j)` of the gradient; row `j` of the weights is row `j % 512` of part `j / 512`. -/
def grad (dy : FVec Ideal S2048x2048 .bf16) (w : FVec Ideal S4x512x2048 .bf16) : FVec Ideal S2048x2048 .f32 := fun i =>
  ∑ k : Fin 2048, dy (ix2 (i 0) k) * w (ix3 (⟨(i 1).val / 512, by have h1 : (i 1).val < 2048 := (i 1).isLt; omega⟩ : Fin 4)
    (⟨(i 1).val % 512, Nat.mod_lt _ (by decide)⟩ : Fin 512) k)

theorem grad_at (dy : FVec Ideal S2048x2048 .bf16) (w : FVec Ideal S4x512x2048 .bf16) (i : S2048x2048.Idx)
    (r : Fin 2048) (p : Fin 4) (j : Fin 512) (hr : r.val = (i 0).val) (hp : p.val = (i 1).val / 512) (hj : j.val = (i 1).val % 512) :
    grad dy w i = ∑ k : Fin 2048, dy (ix2 r k) * w (ix3 p j k) := by
  obtain rfl : r = i 0 := Fin.ext hr
  have h1 : (i 1).val < 2048 := (i 1).isLt
  have ep : (⟨(i 1).val / 512, by omega⟩ : Fin 4) = p := Fin.ext hp.symm
  have ej : (⟨(i 1).val % 512, Nat.mod_lt _ (by decide)⟩ : Fin 512) = j := Fin.ext hj.symm
  unfold grad
  rw [ep, ej]

theorem pay (x : FVec Ideal S1024x2048 .bf16) (y : FVec Ideal S1x512x2048 .bf16) (i : S1024x512.Idx) :
    k0_pay1 (F := Ideal) x y i = ∑ k : Fin 2048, x (ix2 (i 0) k) * y (ix3 0 (i 1) k) := by
  pointwise [k0_pay1]

theorem hz : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S1024x2048 .bf16) : View.ld x r0_0 = x := View.ld_unit_zero (S := S1024x2048) hz _ x
theorem ld1 (x : Vec Ideal S1x512x2048 .bf16) : View.ld x r0_1 = x := View.ld_unit_zero (S := S1x512x2048) hz3 _ x

variable (m : (ℓ : Loc nD τ sig) → Buf (Elt Ideal) ℓ) (c : Dev nD)

theorem flushed (t : Fin cfg0.N) : (dats m 0 c).flushed 2 t
    = ((cfg0.win 2).blk t).view.read (Elt Ideal) (grad (m ((c : Thread nD τ).loc main_arg0)) (m ((c : Thread nD τ).loc main_arg1))) := by
  rw [Value.flushed2]
  funext y
  rw [View.read_apply]
  obtain ⟨e0, e1, e2⟩ := idx t
  show out0_2 _ _ ((cfg0.win 2).xinj (grid0.coords t) y) = _
  unfold out0_2
  rw [View.canon_unit_zero hz, pay, ld0, ld1]
  have x0 (r : Fin 1024) (k : Fin 2048) (h : t.val / 4 * 1024 + r.val < 2048) : (iblk m c 0 t : FVec Ideal S1024x2048 .bf16) (ix2 r k)
    = m ((c : Thread nD τ).loc main_arg0) (ix2 (⟨t.val / 4 * 1024 + r.val, h⟩ : Fin 2048) k) := by blk_ext [iblk, V, idx t]
  have x1 (j : Fin 512) (k : Fin 2048) (hp : t.val % 4 < 4) : (iblk m c 1 t : FVec Ideal S1x512x2048 .bf16) (ix3 0 j k)
    = m ((c : Thread nD τ).loc main_arg1) (ix3 (⟨t.val % 4, hp⟩ : Fin 4) j k) := by blk_ext [iblk, V, idx t]
  have ht : t.val < 8 := t.isLt
  have b0 : (((cfg0.win 2).blk t).view.emb y 0).val = t.val / 4 * 1024 + (y 0).val := by
    refine (show _ = win0_2.index t (0 : Fin 2) * 1024 + 1 * (y 0).val from rfl).trans ?_
    rw [e2]; show t.val / 4 * 1024 + 1 * (y 0).val = _; omega
  have b1 : (((cfg0.win 2).blk t).view.emb y 1).val = t.val % 4 * 512 + (y 1).val := by
    refine (show _ = win0_2.index t (1 : Fin 2) * 512 + 1 * (y 1).val from rfl).trans ?_
    rw [e2]; show t.val % 4 * 512 + 1 * (y 1).val = _; omega
  have h0 : (y 0).val < 1024 := (y 0).isLt
  have h1 : (y 1).val < 512 := (y 1).isLt
  refine Eq.trans ?_ (grad_at _ _ (((cfg0.win 2).blk t).view.emb y) ⟨t.val / 4 * 1024 + (y 0).val, by omega⟩
    ⟨t.val % 4, by omega⟩ ⟨(y 1).val, h1⟩ b0.symm (by rw [b1]; dsimp only; omega) (by rw [b1]; dsimp only; omega)).symm
  exact Finset.sum_congr rfl fun k _ => congrArg₂ (· * ·) (x0 ⟨(y 0).val, h0⟩ k _) (x1 ⟨(y 1).val, h1⟩ k _)

/-- Every element of the result lies in the block of some grid point. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have hN : cfg0.N = 8 := N_0
  let t : Fin cfg0.N := ⟨4 * ((i 0).val / 1024) + (i 1).val / 512, by omega⟩
  have hv : t.val = 4 * ((i 0).val / 1024) + (i 1).val / 512 := rfl
  refine ⟨t, flush0_2 t, ?_⟩
  show i ∈ ((View.whole main_v0).slice (win0_2.rect t)).set
  rw [View.set_slice_whole, Rect.mem_set_unit]
  intro a
  show win0_2.index t a * S1024x512.size a ≤ (i a).val ∧ (i a).val < win0_2.index t a * S1024x512.size a + S1024x512.size a
  rw [(idx t).2.2]
  match a with
  | ⟨0, _⟩ => show t.val / 4 * 1024 ≤ (i 0).val ∧ (i 0).val < t.val / 4 * 1024 + 1024; omega
  | ⟨1, _⟩ => show t.val % 4 * 512 ≤ (i 1).val ∧ (i 1).val < t.val % 4 * 512 + 512; omega

/-- The kernel's result array after its run. -/
theorem final : (dats m 0 c).arrAt 2 cfg0.N = grad (m ((c : Thread nD τ).loc main_arg0)) (m ((c : Thread nD τ).loc main_arg1)) :=
  (dats m 0 c).arrAt_eq_of_cover 2 _ (fun t _ => flushed m c t) cover

/-- The reference computes the same. -/
theorem ref (dy : FVec Ideal S2048x2048 .bf16) (w : FVec Ideal S4x512x2048 .bf16) :
    Cert.Reference9Ideal.Read.val_main_v5 (F := Ideal) dy w = grad dy w := by
  funext i
  rw [Cert.Reference9Ideal.Read.val_main_v5_apply]
  unfold grad
  refine Finset.sum_congr rfl fun k _ => ?_
  rw [Cert.Reference9Ideal.Read.val_main_v4_apply, Cert.Reference9Ideal.Read.val_main_v1_apply, Cert.Reference9Ideal.Read.val_main_v0_apply]
  have h1 : (i 1).val < 2048 := (i 1).isLt
  have hk := k.isLt
  refine congrArg₂ (· * ·) (congrArg dy (funext fun b => Fin.ext ?_)) (congrArg w (funext fun b => Fin.ext ?_))
  · match b with
    | ⟨0, _⟩ => rfl
    | ⟨1, _⟩ => rfl
  · match b with
    | ⟨0, _⟩ => show ((i 1).val * 2048 + k.val) / 1048576 = (i 1).val / 512; omega
    | ⟨1, _⟩ => show ((i 1).val * 2048 + k.val) / 2048 % 512 = (i 1).val % 512; omega
    | ⟨2, _⟩ => show ((i 1).val * 2048 + k.val) % 2048 = k.val; omega

end Cert.Proof.GradMix
-- ==== Proof.GradMixIn.lean ====
/-
  The gradient of the weight matrix of the queries, keys and values: what the kernel leaves in its result array, and what the reference
  computes, are the same products of the two arguments summed over the rows.
-/
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.Proof.GradMixIn

open Cert.Kernel10Ideal Cert.Kernel10Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![0, t.val / 8] ∧ win0_1.index t = ![0, t.val % 8]
    ∧ win0_2.index t = ![t.val % 8 / 2, t.val / 8, t.val % 2] :=
  (by decide +kernel : ∀ t : Fin grid0.N, _)

/-- Element `(p, i, j)` of the gradient: row `i` of the weights, column `1536 p + j`. -/
def grad (h : FVec Ideal S2048x2048 .bf16) (du : FVec Ideal S2048x6144 .bf16) : FVec Ideal S4x2048x1536 .bf16 := fun i =>
  ∑ k : Fin 2048, h (ix2 k (i 1))
    * du (ix2 k (⟨1536 * (i 0).val + (i 2).val, by have h0 : (i 0).val < 4 := (i 0).isLt; have h2 : (i 2).val < 1536 := (i 2).isLt; omega⟩ : Fin 6144))

theorem grad_at (h : FVec Ideal S2048x2048 .bf16) (du : FVec Ideal S2048x6144 .bf16) (i : S4x2048x1536.Idx) (r : Fin 2048) (j : Fin 6144)
    (hr : r.val = (i 1).val) (hj : j.val = 1536 * (i 0).val + (i 2).val) : grad h du i = ∑ k : Fin 2048, h (ix2 k r) * du (ix2 k j) := by
  obtain rfl : r = i 1 := Fin.ext hr
  unfold grad
  exact Finset.sum_congr rfl fun k _ => congrArg (fun n : Fin 6144 => h (ix2 k (i 1)) * du (ix2 k n)) (Fin.ext hj.symm)

theorem pay (x : FVec Ideal S2048x1024 .bf16) (y : FVec Ideal S2048x768 .bf16) (i : S1x1024x768.Idx) :
    k0_pay1 x y i = ∑ k : Fin 2048, x (ix2 k (i 1)) * y (ix2 k (i 2)) := by
  pointwise [k0_pay1]

theorem hz : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S2048x1024 .bf16) : View.ld x r0_0 = x := View.ld_unit_zero (S := S2048x1024) hz _ x
theorem ld1 (x : Vec Ideal S2048x768 .bf16) : View.ld x r0_1 = x := View.ld_unit_zero (S := S2048x768) hz _ x

variable (m : (ℓ : Loc nD τ sig) → Buf (Elt Ideal) ℓ) (c : Dev nD)

theorem flushed (t : Fin cfg0.N) : (dats m 0 c).flushed 2 t
    = ((cfg0.win 2).blk t).view.read (Elt Ideal) (grad (m ((c : Thread nD τ).loc main_arg0)) (m ((c : Thread nD τ).loc main_arg1))) := by
  rw [Value.flushed2]
  funext y
  rw [View.read_apply]
  obtain ⟨e0, e1, e2⟩ := idx t
  show out0_2 _ _ ((cfg0.win 2).xinj (grid0.coords t) y) = _
  unfold out0_2
  rw [View.canon_unit_zero hz3, pay]
  rw [ld0, ld1]
  have x0 (k : Fin 2048) (j : Fin 1024) (h : t.val / 8 * 1024 + j.val < 2048) : (iblk m c 0 t : FVec Ideal S2048x1024 .bf16) (ix2 k j)
    = m ((c : Thread nD τ).loc main_arg0) (ix2 k (⟨t.val / 8 * 1024 + j.val, h⟩ : Fin 2048)) := by blk_ext [iblk, V, idx t]
  have x1 (k : Fin 2048) (j : Fin 768) (h : t.val % 8 * 768 + j.val < 6144) : (iblk m c 1 t : FVec Ideal S2048x768 .bf16) (ix2 k j)
    = m ((c : Thread nD τ).loc main_arg1) (ix2 k (⟨t.val % 8 * 768 + j.val, h⟩ : Fin 6144)) := by blk_ext [iblk, V, idx t]
  have ht : t.val < 16 := t.isLt
  have b0 : (((cfg0.win 2).blk t).view.emb y 0).val = t.val % 8 / 2 := by
    refine (show _ = win0_2.index t (0 : Fin 3) * 1 + 1 * (y 0).val from rfl).trans ?_
    have hy : (y 0).val < 1 := (y 0).isLt
    rw [e2]; show t.val % 8 / 2 * 1 + 1 * (y 0).val = _; omega
  have b1 : (((cfg0.win 2).blk t).view.emb y 1).val = t.val / 8 * 1024 + (y 1).val := by
    refine (show _ = win0_2.index t (1 : Fin 3) * 1024 + 1 * (y 1).val from rfl).trans ?_
    rw [e2]; show t.val / 8 * 1024 + 1 * (y 1).val = _; omega
  have b2 : (((cfg0.win 2).blk t).view.emb y 2).val = t.val % 2 * 768 + (y 2).val := by
    refine (show _ = win0_2.index t (2 : Fin 3) * 768 + 1 * (y 2).val from rfl).trans ?_
    rw [e2]; show t.val % 2 * 768 + 1 * (y 2).val = _; omega
  have h1 : (y 1).val < 1024 := (y 1).isLt
  have h2 : (y 2).val < 768 := (y 2).isLt
  have hj : t.val % 8 * 768 + (y 2).val = 1536 * (((cfg0.win 2).blk t).view.emb y 0).val + (((cfg0.win 2).blk t).view.emb y 2).val := by
    rw [b0, b2]; omega
  refine Eq.trans ?_ (grad_at _ _ (((cfg0.win 2).blk t).view.emb y) ⟨t.val / 8 * 1024 + (y 1).val, by omega⟩
    ⟨t.val % 8 * 768 + (y 2).val, by omega⟩ b1.symm hj).symm
  exact Finset.sum_congr rfl fun k _ => congrArg₂ (· * ·) (x0 k ⟨(y 1).val, h1⟩ _) (x1 k ⟨(y 2).val, h2⟩ _)

/-- Every element of the result lies in the block of some grid point. -/
theorem cover (i : S4x2048x1536.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1536 := (i 2).isLt
  have hN : cfg0.N = 16 := N_0
  let t : Fin cfg0.N := ⟨8 * ((i 1).val / 1024) + 2 * (i 0).val + (i 2).val / 768, by omega⟩
  have hv : t.val = 8 * ((i 1).val / 1024) + 2 * (i 0).val + (i 2).val / 768 := rfl
  refine ⟨t, flush0_2 t, ?_⟩
  show i ∈ ((View.whole main_v0).slice (win0_2.rect t)).set
  rw [View.set_slice_whole, Rect.mem_set_unit]
  intro a
  show win0_2.index t a * S1x1024x768.size a ≤ (i a).val ∧ (i a).val < win0_2.index t a * S1x1024x768.size a + S1x1024x768.size a
  rw [(idx t).2.2]
  match a with
  | ⟨0, _⟩ => show t.val % 8 / 2 * 1 ≤ (i 0).val ∧ (i 0).val < t.val % 8 / 2 * 1 + 1; omega
  | ⟨1, _⟩ => show t.val / 8 * 1024 ≤ (i 1).val ∧ (i 1).val < t.val / 8 * 1024 + 1024; omega
  | ⟨2, _⟩ => show t.val % 2 * 768 ≤ (i 2).val ∧ (i 2).val < t.val % 2 * 768 + 768; omega

/-- The kernel's result array after its run. -/
theorem final : (dats m 0 c).arrAt 2 cfg0.N = grad (m ((c : Thread nD τ).loc main_arg0)) (m ((c : Thread nD τ).loc main_arg1)) :=
  (dats m 0 c).arrAt_eq_of_cover 2 _ (fun t _ => flushed m c t) cover

/-- The reference computes the same. -/
theorem ref (h : FVec Ideal S2048x2048 .bf16) (du : FVec Ideal S2048x6144 .bf16) :
    Cert.Reference10Ideal.Read.val_main_v10 (F := Ideal) h du = grad h du := by
  funext i
  rw [Cert.Reference10Ideal.Read.val_main_v10_apply, Cert.Reference10Ideal.Read.val_main_v9_apply, Cert.Reference10Ideal.Read.val_main_v8_apply,
    Cert.Reference10Ideal.Read.val_main_v7_apply, Cert.Reference10Ideal.Read.val_main_v6_apply]
  unfold grad
  refine Finset.sum_congr rfl fun k _ => ?_
  rw [mul_comm]
  have h0 : (i 0).val < 4 := (i 0).isLt
  have h1 : (i 1).val < 2048 := (i 1).isLt
  have h2 : (i 2).val < 1536 := (i 2).isLt
  refine congrArg₂ (· * ·) (congrArg h (funext fun b => Fin.ext ?_)) (congrArg du (funext fun b => Fin.ext ?_))
  · match b with
    | ⟨0, _⟩ => rfl
    | ⟨1, _⟩ => show (((i 1).val * 4 + (i 0).val) * 1536 + (i 2).val) / 6144 = (i 1).val; omega
  · match b with
    | ⟨0, _⟩ => rfl
    | ⟨1, _⟩ => show (((i 1).val * 4 + (i 0).val) * 1536 + (i 2).val) % 6144 = 1536 * (i 0).val + (i 2).val; omega

end Cert.Proof.GradMixIn
-- ==== Proof.MixBack.lean ====
/-
  The gradient of a mixer's input: what the kernel leaves in its result array, adding up four blocks of the sum one grid
  point after another and then the residual's part, and what the reference computes are the same.
-/
module

public import proofs.«01_k».proof.Proof.Gen.Kernel11Ideal.Value
public import proofs.«01_k».proof.Proof.Gen.Reference11Ideal.Read
public import proofs.«01_k».proof.Proof.BlockSum
public import Idealize.ShloMosaic.Lib.Pipeline.ValueKit

@[expose] public section

set_option maxRecDepth 16384

noncomputable section

namespace Cert.Proof.MixBack

open Cert.Kernel11Ideal Cert.Kernel11Ideal.Gen
open Idealize.ShloMosaic Idealize.ShloMosaic.TcCoe Idealize.SL.Sem
open Idealize.ShloMosaic.Pipeline (Dat)
open Finset

/-! ## What one grid point leaves -/

theorem hz : (![0, 0] : Fin 2 → Nat) = fun _ => 0 := funext fun a => by fin_cases a <;> rfl
theorem hz3 : (![0, 0, 0] : Fin 3 → Nat) = fun _ => 0 := funext fun a => by fin_cases a <;> rfl

section Point

variable {F : FTy → Type} [FloatOps F]
variable (c : Dev nD) (i : grid0.Coords) (a3 : Memref sig .tc .vmem S1024x1536 .bf16) (h3 : a3.IsWhole) (a4 : Memref sig .tc .vmem S1x1024x1536 .bf16)
    (h4 : a4.IsWhole) (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole)
variable (x0 : Vec F S1024x1536 .bf16) (x1 : Vec F S1x1024x1536 .bf16) (x2 : Vec F S1024x1024 .f32) (s : Vec F S1024x1024 .f32)

/-- The first of four points starts the running sum. -/
theorem run_A (hc0 : cond0_0 i) (hc1 : ¬cond0_1 i) (hc2 : ¬cond0_2 i) : sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero hz]
  simp only [View.readAt_eq_ld, h3.read_unread, h4.read_unread, View.ld_unit_zero (S := S1024x1536) hz, View.ld_unit_zero (S := S1x1024x1536) hz3]

/-- The next ones add to it. -/
theorem run_B (hc0 : ¬cond0_0 i) (hc1 : cond0_1 i) (hc2 : ¬cond0_2 i) : sout0_B_0 c i a3 h3 a4 h4 a5 h5 a6 h6 a7 h7 hc0 hc1 hc2 x0 x1 x2 s = k0_pay2 s x0 x1 := by
  unfold sout0_B_0
  rw [View.read_writes_eq_canon _ _ _ (scover0_B_0 c i a3 h3 a4 h4 a5 h5 a6 h6 a7 h7 hc0 hc1 hc2 x0 x1 x2 s)]
  unfold kernelRun0_B
  dsimp only
  rw [View.canon_unit_zero hz]
  simp only [View.readAt_eq_ld, h3.read_unread, h4.read_unread, h7.read_unread, View.ld_unit_zero (S := S1024x1536) hz, View.ld_unit_zero (S := S1x1024x1536) hz3,
    View.ld_unit_zero (S := S1024x1024) hz]

/-- The last one adds to it, and writes it out with the residual's part. -/
theorem out_C (hc0 : ¬cond0_0 i) (hc1 : cond0_1 i) (hc2 : cond0_2 i) : out0_C_3 c i a3 h3 a4 h4 a5 h5 a6 h6 a7 h7 hc0 hc1 hc2 x0 x1 x2 s = k0_pay3 (k0_pay2 s x0 x1) x2 := by
  unfold out0_C_3
  rw [View.read_writes_eq_canon _ _ _ (cover0_C_3 c i a3 h3 a4 h4 a5 h5 a6 h6 a7 h7 hc0 hc1 hc2 x0 x1 x2 s)]
  unfold kernelRun0_C
  dsimp only
  sl_unfold_words
  rw [View.canon_unit_zero hz]
  simp only [View.readAt_eq_ld, h3.read_unread, h4.read_unread, h5.read_unread, h7.read_unread, View.ld_unit_zero (S := S1024x1536) hz, View.ld_unit_zero (S := S1x1024x1536) hz3,
    View.ld_unit_zero (S := S1024x1024) hz, View.readCov_unit_zero (S := S1024x1024) _ hz]

end Point

/-! ## The running sum along the grid -/

/-- The residual's factor, as the program writes it. -/
abbrev alpha : EReal := Ideal.ofBits .f32 0x3FD744FD#32

theorem pay1 (x : FVec Ideal S1024x1536 .bf16) (y : FVec Ideal S1x1024x1536 .bf16) (i : S1024x1024.Idx) :
    k0_pay1 (F := Ideal) x y i = ∑ k : Fin 1536, x (ix2 (i 0) k) * y (ix3 0 (i 1) k) := by
  pointwise [k0_pay1]

theorem pay2 (s : FVec Ideal S1024x1024 .f32) (x : FVec Ideal S1024x1536 .bf16) (y : FVec Ideal S1x1024x1536 .bf16) (i : S1024x1024.Idx) :
    k0_pay2 (F := Ideal) s x y i = s (ix2 (i 0) (i 1)) + ∑ k : Fin 1536, x (ix2 (i 0) k) * y (ix3 0 (i 1) k) := by
  pointwise [k0_pay2]

theorem pay3 (s z : FVec Ideal S1024x1024 .f32) (i : S1024x1024.Idx) : k0_pay3 (F := Ideal) s z i = s (ix2 (i 0) (i 1)) + alpha * z (ix2 (i 0) (i 1)) := by
  pointwise [k0_pay3]

/-- The blocks of a grid point. -/
theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- Term `k` of the sum for row `r` and column `j`; column `k` of the weights is column `k % 1536` of part `k / 1536`. -/
def term (a : FVec Ideal S2048x6144 .bf16) (w : FVec Ideal S4x2048x1536 .bf16) (r j : Fin 2048) (k : ℕ) : EReal :=
  if h : k < 6144 then a (ix2 r (⟨k, h⟩ : Fin 6144)) * w (ix3 (⟨k / 1536, by omega⟩ : Fin 4) j (⟨k % 1536, Nat.mod_lt _ (by decide)⟩ : Fin 1536)) else 0

/-- The gradient. -/
def grad (a : FVec Ideal S2048x6144 .bf16) (w : FVec Ideal S4x2048x1536 .bf16) (z : FVec Ideal S2048x2048 .f32) : FVec Ideal S2048x2048 .f32 := fun i =>
  ∑ k : Fin 6144, term a w (i 0) (i 1) k.val + alpha * z (ix2 (i 0) (i 1))

variable (m : (ℓ : Loc nD τ sig) → Buf (Elt Ideal) ℓ) (c : Dev nD)

/-- The blocks of the three arguments at a grid point. -/
def aAt (t : Fin cfg0.N) : FVec Ideal S1024x1536 .bf16 := iblk m c 0 t
def wAt (t : Fin cfg0.N) : FVec Ideal S1x1024x1536 .bf16 := iblk m c 1 t
def zAt (t : Fin cfg0.N) : FVec Ideal S1024x1024 .f32 := iblk m c 2 t

theorem aAt_read (t : Fin cfg0.N) (r : Fin 1024) (k : Fin 1536) (h : t.val / 8 * 1024 + r.val < 2048) (h' : t.val % 4 * 1536 + k.val < 6144) :
    aAt m c t (ix2 r k)
      = m ((c : Thread nD τ).loc main_arg0) (ix2 (⟨t.val / 8 * 1024 + r.val, h⟩ : Fin 2048) (⟨t.val % 4 * 1536 + k.val, h'⟩ : Fin 6144)) := by
  unfold aAt; blk_ext [iblk, V, idx t]

theorem wAt_read (t : Fin cfg0.N) (j : Fin 1024) (k : Fin 1536) (hp : t.val % 4 < 4) (h : t.val / 4 % 2 * 1024 + j.val < 2048) :
    wAt m c t (ix3 0 j k)
      = m ((c : Thread nD τ).loc main_arg1) (ix3 (⟨t.val % 4, hp⟩ : Fin 4) (⟨t.val / 4 % 2 * 1024 + j.val, h⟩ : Fin 2048) k) := by
  unfold wAt; blk_ext [iblk, V, idx t]

theorem zAt_read (t : Fin cfg0.N) (r j : Fin 1024) (h : t.val / 8 * 1024 + r.val < 2048) (h' : t.val / 4 % 2 * 1024 + j.val < 2048) :
    zAt m c t (ix2 r j)
      = m ((c : Thread nD τ).loc main_arg2) (ix2 (⟨t.val / 8 * 1024 + r.val, h⟩ : Fin 2048) (⟨t.val / 4 % 2 * 1024 + j.val, h'⟩ : Fin 2048)) := by
  unfold zAt; blk_ext [iblk, V, idx t]

theorem acc_A (t : Fin cfg0.N) (h0 : t.val % 4 = 0) (h1 : ¬1 ≤ t.val % 4) (h2 : ¬t.val % 4 = 3) :
    (outsAt0 m c t.val t.isLt).2 = k0_pay1 (F := Ideal) (aAt m c t) (wAt m c t) :=
  by rw [outsAt0_A m c t h0 h1 h2]; dsimp only; rw [run_A]; rfl

theorem acc_B (t : Fin cfg0.N) (h0 : ¬t.val % 4 = 0) (h1 : 1 ≤ t.val % 4) (h2 : ¬t.val % 4 = 3) :
    (outsAt0 m c t.val t.isLt).2 = k0_pay2 (F := Ideal) (outsAt0 m c (t.val - 1) (Nat.lt_of_le_of_lt (Nat.sub_le _ _) t.isLt)).2 (aAt m c t) (wAt m c t) :=
  by rw [outsAt0_B m c t h0 h1 h2]; dsimp only; rw [run_B]; rfl

theorem res_C (t : Fin cfg0.N) (h0 : ¬t.val % 4 = 0) (h1 : 1 ≤ t.val % 4) (h2 : t.val % 4 = 3) :
    (outsAt0 m c t.val t.isLt).1
      = k0_pay3 (F := Ideal) (k0_pay2 (F := Ideal) (outsAt0 m c (t.val - 1) (Nat.lt_of_le_of_lt (Nat.sub_le _ _) t.isLt)).2 (aAt m c t) (wAt m c t)) (zAt m c t) :=
  by rw [outsAt0_C m c t h0 h1 h2]; dsimp only; rw [out_C]; rfl

/-- The block product of a grid point, as terms of the sum. -/
theorem block (t : Fin cfg0.N) (y : S1024x1024.Idx) (r j : Fin 2048) (hr : r.val = t.val / 8 * 1024 + (y 0).val) (hj : j.val = t.val / 4 % 2 * 1024 + (y 1).val) :
    ∑ k : Fin 1536, aAt m c t (ix2 (y 0) k) * wAt m c t (ix3 0 (y 1) k)
      = ∑ k : Fin 1536, term (m ((c : Thread nD τ).loc main_arg0)) (m ((c : Thread nD τ).loc main_arg1)) r j (1536 * (t.val % 4) + k.val) := by
  have ht : t.val < 16 := t.isLt
  refine Finset.sum_congr rfl fun k _ => ?_
  have hk := k.isLt
  have y0 : (y 0).val < 1024 := (y 0).isLt
  have y1 : (y 1).val < 1024 := (y 1).isLt
  have hr' := r.isLt
  have hj' := j.isLt
  unfold term
  rw [dif_pos (show 1536 * (t.val % 4) + k.val < 6144 by omega), aAt_read m c t (y 0) k (by omega) (by omega), wAt_read m c t (y 1) k (by omega) (by omega)]
  rw [show (⟨t.val % 4, by omega⟩ : Fin 4) = ⟨(1536 * (t.val % 4) + k.val) / 1536, by omega⟩ from Fin.ext (by dsimp only; omega),
    show (⟨t.val / 4 % 2 * 1024 + (y 1).val, by omega⟩ : Fin 2048) = j from Fin.ext hj.symm,
    show (⟨t.val / 8 * 1024 + (y 0).val, by omega⟩ : Fin 2048) = r from Fin.ext hr.symm,
    show (⟨t.val % 4 * 1536 + k.val, by omega⟩ : Fin 6144) = ⟨1536 * (t.val % 4) + k.val, by omega⟩ from Fin.ext (by dsimp only; omega),
    show (⟨(1536 * (t.val % 4) + k.val) % 1536, Nat.mod_lt _ (by decide)⟩ : Fin 1536) = k from Fin.ext (by dsimp only; omega)]

/-- The running sum after a grid point that is not the last of its four. -/
theorem run_val (n : ℕ) : ∀ (hn : n < cfg0.N), n % 4 ≠ 3 → ∀ (y : S1024x1024.Idx) (r j : Fin 2048), r.val = n / 8 * 1024 + (y 0).val →
    j.val = n / 4 % 2 * 1024 + (y 1).val → (outsAt0 m c n hn).2 y
      = ∑ k ∈ range (1536 * (n % 4 + 1)), term (m ((c : Thread nD τ).loc main_arg0)) (m ((c : Thread nD τ).loc main_arg1)) r j k := by
  induction n using Nat.strong_induction_on with
  | _ n ih =>
    intro hn h3 y r j hr hj
    by_cases h0 : n % 4 = 0
    · refine (congrFun (acc_A m c ⟨n, hn⟩ h0 (by dsimp only; omega) h3) y).trans ?_
      rw [pay1, block m c ⟨n, hn⟩ y r j hr hj, show (⟨n, hn⟩ : Fin cfg0.N).val % 4 = 0 from h0]
      exact BlockSum.first 1536 _
    · refine (congrFun (acc_B m c ⟨n, hn⟩ h0 (by dsimp only; omega) h3) y).trans ?_
      rw [pay2, block m c ⟨n, hn⟩ y r j hr hj, ← eq_ix2 y]
      refine Eq.trans (congrArg (· + _) (ih (n - 1) (by omega) _ (by omega) y r j (by omega) (by omega))) ?_
      rw [show (n - 1) % 4 + 1 = n % 4 by omega]
      exact BlockSum.step 1536 _ _

/-- What the last of four grid points writes out. -/
theorem out_val (n : ℕ) (hn : n < cfg0.N) (h3 : n % 4 = 3) (y : S1024x1024.Idx) (r j : Fin 2048) (hr : r.val = n / 8 * 1024 + (y 0).val)
    (hj : j.val = n / 4 % 2 * 1024 + (y 1).val) : (outsAt0 m c n hn).1 y
      = ∑ k : Fin 6144, term (m ((c : Thread nD τ).loc main_arg0)) (m ((c : Thread nD τ).loc main_arg1)) r j k.val
        + alpha * (m ((c : Thread nD τ).loc main_arg2) : FVec Ideal S2048x2048 .f32) (ix2 r j) := by
  have y0 : (y 0).val < 1024 := (y 0).isLt
  have y1 : (y 1).val < 1024 := (y 1).isLt
  have hr' := r.isLt
  have hj' := j.isLt
  refine (congrFun (res_C m c ⟨n, hn⟩ (by dsimp only; omega) (by dsimp only; omega) h3) y).trans ?_
  rw [pay3, ← eq_ix2 y, pay2, block m c ⟨n, hn⟩ y r j hr hj, ← eq_ix2 y, ← BlockSum.whole 1536 6144 rfl, ← BlockSum.step 1536 _ 3, show (⟨n, hn⟩ : Fin cfg0.N).val % 4 = 3 from h3]
  refine congrArg₂ (· + ·) (congrArg (· + _) ((run_val m c (n - 1) _ (by omega) y r j (by omega) (by omega)).trans ?_)) (congrArg (alpha * ·) ?_)
  · rw [show (n - 1) % 4 + 1 = 3 by omega]
  · refine (congrArg _ (eq_ix2 y)).trans ((zAt_read m c ⟨n, hn⟩ (y 0) (y 1) (by dsimp only; omega) (by dsimp only; omega)).trans ?_)
    rw [show (⟨n / 8 * 1024 + (y 0).val, by omega⟩ : Fin 2048) = r from Fin.ext hr.symm,
      show (⟨n / 4 % 2 * 1024 + (y 1).val, by omega⟩ : Fin 2048) = j from Fin.ext hj.symm]

/-- The kernel's result array after its run. -/
theorem final : Value.G3 m c
    = grad (m ((c : Thread nD τ).loc main_arg0)) (m ((c : Thread nD τ).loc main_arg1)) (m ((c : Thread nD τ).loc main_arg2)) := by
  funext i
  have h0 : (i 0).val < 2048 := (i 0).isLt
  have h1 : (i 1).val < 2048 := (i 1).isLt
  have hN : cfg0.N = 16 := N_0
  have hp : Value.pt3Of i < cfg0.N := by dsimp only [Value.pt3Of, Value.run3Of]; omega
  unfold Value.G3
  rw [dif_pos hp, ← Value.outsAt0_sweep m c _ hp]
  unfold grad
  refine out_val m c _ hp ?_ _ (i 0) (i 1) ?_ ?_
  · dsimp only [Value.pt3Of, Value.run3Of]; omega
  · show (i 0).val = Value.pt3Of i / 8 * 1024 + (i 0).val % 1024
    dsimp only [Value.pt3Of, Value.run3Of]; omega
  · show (i 1).val = Value.pt3Of i / 4 % 2 * 1024 + (i 1).val % 1024
    dsimp only [Value.pt3Of, Value.run3Of]; omega

/-- The reference computes the same. -/
theorem ref (a : FVec Ideal S2048x6144 .bf16) (w : FVec Ideal S4x2048x1536 .bf16) (z : FVec Ideal S2048x2048 .f32) :
    Cert.Reference11Ideal.Read.val_main_v11 (F := Ideal) a w z = grad a w z := by
  funext i
  rw [Cert.Reference11Ideal.Read.val_main_v11_apply, Cert.Reference11Ideal.Read.val_main_v10_apply, Cert.Reference11Ideal.Read.val_main_v9_apply,
    Cert.Reference11Ideal.Read.val_main_cst_1_apply, Cert.Reference11Ideal.Read.val_main_v8_apply]
  unfold grad
  refine congrArg₂ (fun x y : EReal => x + y) (Finset.sum_congr rfl fun k _ => ?_) (congrArg (fun x : EReal => alpha * x) (congrArg z (eq_ix2 i)))
  have h1 : (i 1).val < 2048 := (i 1).isLt
  have hk := k.isLt
  rw [Cert.Reference11Ideal.Read.val_main_v2_apply, Cert.Reference11Ideal.Read.val_main_v1_apply, Cert.Reference11Ideal.Read.val_main_v0_apply]
  unfold term
  rw [dif_pos hk]
  refine congrArg₂ (· * ·) (congrArg a (funext fun b => Fin.ext ?_)) (congrArg w (funext fun b => Fin.ext ?_))
  · match b with
    | ⟨0, _⟩ => rfl
    | ⟨1, _⟩ => rfl
  · match b with
    | ⟨0, _⟩ => show ((i 1).val * 6144 + k.val) / 1536 % 4 = k.val / 1536; omega
    | ⟨1, _⟩ => show ((i 1).val * 6144 + k.val) / 6144 = (i 1).val; omega
    | ⟨2, _⟩ => show ((i 1).val * 6144 + k.val) % 1536 = k.val % 1536; omega

end Cert.Proof.MixBack
-- ==== Proof.MixIn.lean ====
/-
  The queries, keys and values: what the kernel leaves in its result array and what the reference computes are the same
  product of the two arguments.
-/
module

public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.Proof.MixIn

open Cert.Kernel12Ideal Cert.Kernel12Ideal.Gen
open Idealize.ShloMosaic Idealize.ShloMosaic.TcCoe Idealize.SL.Sem
open Idealize.ShloMosaic.Pipeline (Dat)

/-- The blocks of a grid point. -/
theorem idx : ∀ t : Fin cfg0.N, win0_0.index t = ![t.val / 8, 0] ∧ win0_1.index t = ![t.val % 8 / 2, 0, t.val % 2]
    ∧ win0_2.index t = ![t.val / 8, t.val % 8] :=
  (by decide +kernel : ∀ t : Fin grid0.N, _)

/-- Element `(i, j)` of the product; column `j` of the weights is column `j % 1536` of part `j / 1536`. -/
def prod (h : FVec Ideal S2048x2048 .bf16) (w : FVec Ideal S4x2048x1536 .bf16) : FVec Ideal S2048x6144 .bf16 := fun i =>
  ∑ k : Fin 2048, h (ix2 (i 0) k) * w (ix3 (⟨(i 1).val / 1536, by have h1 : (i 1).val < 6144 := (i 1).isLt; omega⟩ : Fin 4) k
    (⟨(i 1).val % 1536, Nat.mod_lt _ (by decide)⟩ : Fin 1536))

theorem prod_at (h : FVec Ideal S2048x2048 .bf16) (w : FVec Ideal S4x2048x1536 .bf16) (i : S2048x6144.Idx)
    (r : Fin 2048) (p : Fin 4) (j : Fin 1536) (hr : r.val = (i 0).val) (hp : p.val = (i 1).val / 1536) (hj : j.val = (i 1).val % 1536) :
    prod h w i = ∑ k : Fin 2048, h (ix2 r k) * w (ix3 p k j) := by
  obtain rfl : r = i 0 := Fin.ext hr
  have h1 : (i 1).val < 6144 := (i 1).isLt
  have ep : (⟨(i 1).val / 1536, by omega⟩ : Fin 4) = p := Fin.ext hp.symm
  have ej : (⟨(i 1).val % 1536, Nat.mod_lt _ (by decide)⟩ : Fin 1536) = j := Fin.ext hj.symm
  unfold prod
  rw [ep, ej]

theorem pay (x : FVec Ideal S1024x2048 .bf16) (y : FVec Ideal S1x2048x768 .bf16) (i : S1024x768.Idx) :
    k0_pay1 (F := Ideal) x y i = ∑ k : Fin 2048, x (ix2 (i 0) k) * y (ix3 0 k (i 1)) := by
  pointwise [k0_pay1]

theorem hz : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S1024x2048 .bf16) : View.ld x r0_0 = x := View.ld_unit_zero (S := S1024x2048) hz _ x
theorem ld1 (x : Vec Ideal S1x2048x768 .bf16) : View.ld x r0_1 = x := View.ld_unit_zero (S := S1x2048x768) hz3 _ x

variable (m : (ℓ : Loc nD τ sig) → Buf (Elt Ideal) ℓ) (c : Dev nD)

/-- The block product of a grid point is the whole product at the block's place. -/
theorem block (t : Fin cfg0.N) (y : S1024x768.Idx) (i : S2048x6144.Idx) (h0 : (i 0).val = t.val / 8 * 1024 + (y 0).val)
    (h1 : (i 1).val = t.val % 8 * 768 + (y 1).val) :
    k0_pay1 (F := Ideal) (View.ld (iblk m c 0 t : Vec Ideal S1024x2048 .bf16) r0_0) (View.ld (iblk m c 1 t : Vec Ideal S1x2048x768 .bf16) r0_1) y
      = prod (m ((c : Thread nD τ).loc main_arg0)) (m ((c : Thread nD τ).loc main_arg1)) i := by
  obtain ⟨e0, e1, e2⟩ := idx t
  rw [ld0, ld1, pay]
  have x0 (r : Fin 1024) (k : Fin 2048) (h : t.val / 8 * 1024 + r.val < 2048) : (iblk m c 0 t : FVec Ideal S1024x2048 .bf16) (ix2 r k)
    = m ((c : Thread nD τ).loc main_arg0) (ix2 (⟨t.val / 8 * 1024 + r.val, h⟩ : Fin 2048) k) := by blk_ext [iblk, V, idx t]
  have x1 (j : Fin 768) (k : Fin 2048) (hp : t.val % 8 / 2 < 4) (h : t.val % 2 * 768 + j.val < 1536) : (iblk m c 1 t : FVec Ideal S1x2048x768 .bf16) (ix3 0 k j)
    = m ((c : Thread nD τ).loc main_arg1) (ix3 (⟨t.val % 8 / 2, hp⟩ : Fin 4) k (⟨t.val % 2 * 768 + j.val, h⟩ : Fin 1536)) := by blk_ext [iblk, V, idx t]
  have ht : t.val < 16 := t.isLt
  have y0 : (y 0).val < 1024 := (y 0).isLt
  have y1 : (y 1).val < 768 := (y 1).isLt
  refine Eq.trans ?_ (prod_at _ _ i ⟨t.val / 8 * 1024 + (y 0).val, by omega⟩
    ⟨t.val % 8 / 2, by omega⟩ ⟨t.val % 2 * 768 + (y 1).val, by omega⟩ h0.symm (by dsimp only; omega) (by dsimp only; omega)).symm
  exact Finset.sum_congr rfl fun k _ => congrArg₂ (· * ·) (x0 (y 0) k _) (x1 (y 1) k _ _)

/-- The place of element `y` of the block of point `t`. -/
theorem place (t : Fin cfg0.N) (y : ((cfg0.win 2).xblock (grid0.coords t)).Idx) :
    (((cfg0.win 2).blk t).view.emb y 0).val = t.val / 8 * 1024 + (y 0).val ∧ (((cfg0.win 2).blk t).view.emb y 1).val = t.val % 8 * 768 + (y 1).val := by
  obtain ⟨-, -, e⟩ := idx t
  constructor
  · refine (show _ = win0_2.index t (0 : Fin 2) * 1024 + 1 * (y 0).val from rfl).trans ?_
    rw [e]; show t.val / 8 * 1024 + 1 * (y 0).val = _; omega
  · refine (show _ = win0_2.index t (1 : Fin 2) * 768 + 1 * (y 1).val from rfl).trans ?_
    rw [e]; show t.val % 8 * 768 + 1 * (y 1).val = _; omega

theorem flushed (t : Fin cfg0.N) : (dats m 0 c).flushed 2 t
    = ((cfg0.win 2).blk t).view.read (Elt Ideal) (prod (m ((c : Thread nD τ).loc main_arg0)) (m ((c : Thread nD τ).loc main_arg1))) := by
  rw [Value.flushed2]
  funext y
  rw [View.read_apply]
  show out0_2 _ _ ((cfg0.win 2).xinj (grid0.coords t) y) = _
  unfold out0_2
  rw [View.canon_unit_zero hz]
  exact block m c t _ _ (place t y).1 (place t y).2

/-- The grid point that writes an element of the result. -/
def pt (i : S2048x6144.Idx) : Fin cfg0.N := ⟨8 * ((i 0).val / 1024) + (i 1).val / 768, by
  have h0 : (i 0).val < 2048 := (i 0).isLt
  have h1 : (i 1).val < 6144 := (i 1).isLt
  have hN : cfg0.N = 16 := N_0
  omega⟩

theorem in_block (i : S2048x6144.Idx) (a : Fin 2) : ![(pt i).val / 8, (pt i).val % 8] a * S1024x768.size a ≤ (i a).val
    ∧ (i a).val < ![(pt i).val / 8, (pt i).val % 8] a * S1024x768.size a + S1024x768.size a := by
  have h0 : (i 0).val < 2048 := (i 0).isLt
  have h1 : (i 1).val < 6144 := (i 1).isLt
  have hv : (pt i).val = 8 * ((i 0).val / 1024) + (i 1).val / 768 := rfl
  match a with
  | ⟨0, _⟩ => show (pt i).val / 8 * 1024 ≤ (i 0).val ∧ (i 0).val < (pt i).val / 8 * 1024 + 1024; omega
  | ⟨1, _⟩ => show (pt i).val % 8 * 768 ≤ (i 1).val ∧ (i 1).val < (pt i).val % 8 * 768 + 768; omega

theorem cover (i : S2048x6144.Idx) : ∃ t : Fin cfg0.N, (cfg0.win 2).flush t = true ∧ i ∈ ((cfg0.win 2).blk t).view.set := by
  refine ⟨pt i, flush0_2 _, ?_⟩
  show i ∈ ((View.whole main_v0).slice (win0_2.rect (pt i))).set
  rw [View.set_slice_whole, Rect.mem_set_unit]
  intro a
  show win0_2.index (pt i) a * S1024x768.size a ≤ (i a).val ∧ (i a).val < win0_2.index (pt i) a * S1024x768.size a + S1024x768.size a
  rw [(idx _).2.2]
  exact in_block i a

/-- The kernel's result array after its run. -/
theorem final : (dats m 0 c).arrAt 2 cfg0.N = prod (m ((c : Thread nD τ).loc main_arg0)) (m ((c : Thread nD τ).loc main_arg1)) :=
  (dats m 0 c).arrAt_eq_of_cover 2 _ (fun t _ => flushed m c t) cover

/-- The reference computes the same. -/
theorem ref (h : FVec Ideal S2048x2048 .bf16) (w : FVec Ideal S4x2048x1536 .bf16) :
    Cert.Reference12Ideal.Read.val_main_v5 (F := Ideal) h w = prod h w := by
  funext i
  rw [Cert.Reference12Ideal.Read.val_main_v5_apply]
  show Cert.Reference12Ideal.Read.val_main_v4 (F := Ideal) h w i = _
  rw [Cert.Reference12Ideal.Read.val_main_v4_apply]
  unfold prod
  refine Finset.sum_congr rfl fun k _ => ?_
  rw [Cert.Reference12Ideal.Read.val_main_v3_apply, Cert.Reference12Ideal.Read.val_main_v2_apply, Cert.Reference12Ideal.Read.val_main_v1_apply]
  have h1 : (i 1).val < 6144 := (i 1).isLt
  have hk := k.isLt
  refine congrArg₂ (· * ·) (congrArg h (funext fun b => Fin.ext ?_)) (congrArg w (funext fun b => Fin.ext ?_))
  · match b with
    | ⟨0, _⟩ => rfl
    | ⟨1, _⟩ => rfl
  · match b with
    | ⟨0, _⟩ => show (k.val * 6144 + (i 1).val) / 1536 % 4 = (i 1).val / 1536; omega
    | ⟨1, _⟩ => show (k.val * 6144 + (i 1).val) / 6144 = k.val; omega
    | ⟨2, _⟩ => show (k.val * 6144 + (i 1).val) % 1536 = (i 1).val % 1536; omega

end Cert.Proof.MixIn
-- ==== Proof.MixOut.lean ====
/-
  A mixer's output: what the kernel leaves in its result array, adding up four blocks of the sum one grid point
  after another, and what the reference computes are the same product.
-/
module

public import proofs.«01_k».proof.Proof.Gen.Kernel13Ideal.Value
public import proofs.«01_k».proof.Proof.Gen.Reference13Ideal.Read
public import proofs.«01_k».proof.Proof.BlockSum
public import Idealize.ShloMosaic.Lib.Pipeline.ValueKit

@[expose] public section

set_option maxRecDepth 16384

noncomputable section

namespace Cert.Proof.MixOut

open Cert.Kernel13Ideal Cert.Kernel13Ideal.Gen
open Idealize.ShloMosaic Idealize.ShloMosaic.TcCoe Idealize.SL.Sem
open Idealize.ShloMosaic.Pipeline (Dat)
open Finset

/-! ## What one grid point leaves -/

theorem hz : (![0, 0] : Fin 2 → Nat) = fun _ => 0 := funext fun a => by fin_cases a <;> rfl
theorem hz3 : (![0, 0, 0] : Fin 3 → Nat) = fun _ => 0 := funext fun a => by fin_cases a <;> rfl

section Point

variable {F : FTy → Type} [FloatOps F]
variable (c : Dev nD) (i : grid0.Coords) (a3 : Memref sig .tc .vmem S1024x512 .bf16) (h3 : a3.IsWhole) (a4 : Memref sig .tc .vmem S1x512x1024 .bf16)
    (h4 : a4.IsWhole) (a5 : Memref sig .tc .vmem S1024x1024 .f32) (h5 : a5.IsWhole) (a6 : Memref sig .tc .vmem S1024x1024 .f32) (h6 : a6.IsWhole)
variable (x0 : Vec F S1024x512 .bf16) (x1 : Vec F S1x512x1024 .bf16) (s : Vec F S1024x1024 .f32)

/-- The first of four points starts the running sum. -/
theorem run_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x512) hz, View.ld_unit_zero (S := S1x512x1024) hz3]

/-- The next ones add to it. -/
theorem run_B (hc0 : ¬cond0_0 i) (hc1 : cond0_1 i) (hc2 : ¬cond0_2 i) : sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  simp only [View.readAt_eq_ld, h3.read_unread, h4.read_unread, h6.read_unread, View.ld_unit_zero (S := S1024x512) hz, View.ld_unit_zero (S := S1x512x1024) hz3,
    View.ld_unit_zero (S := S1024x1024) hz]

/-- The last one adds to it and writes it out. -/
theorem out_C (hc0 : ¬cond0_0 i) (hc1 : cond0_1 i) (hc2 : cond0_2 i) : out0_C_2 c i a3 h3 a4 h4 a5 h5 a6 h6 hc0 hc1 hc2 x0 x1 s = k0_pay2 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x512) hz, View.ld_unit_zero (S := S1x512x1024) hz3,
    View.ld_unit_zero (S := S1024x1024) hz, View.readCov_unit_zero (S := S1024x1024) _ hz]

end Point

/-! ## The running sum along the grid -/

theorem pay1 (x : FVec Ideal S1024x512 .bf16) (y : FVec Ideal S1x512x1024 .bf16) (i : S1024x1024.Idx) :
    k0_pay1 (F := Ideal) x y i = ∑ k : Fin 512, x (ix2 (i 0) k) * y (ix3 0 k (i 1)) := by
  pointwise [k0_pay1]

theorem pay2 (s : FVec Ideal S1024x1024 .f32) (x : FVec Ideal S1024x512 .bf16) (y : FVec Ideal S1x512x1024 .bf16) (i : S1024x1024.Idx) :
    k0_pay2 (F := Ideal) s x y i = s (ix2 (i 0) (i 1)) + ∑ k : Fin 512, x (ix2 (i 0) k) * y (ix3 0 k (i 1)) := by
  pointwise [k0_pay2]

/-- The blocks of a grid point. -/
theorem idx : ∀ t : Fin cfg0.N, win0_0.index t = ![t.val / 8, t.val % 4] ∧ win0_1.index t = ![t.val % 4, 0, t.val / 4 % 2] :=
  (by decide +kernel : ∀ t : Fin grid0.N, _)

/-- Term `k` of the sum for row `r` and column `j`; row `k` of the weights is row `k % 512` of part `k / 512`. -/
def term (a : FVec Ideal S2048x2048 .bf16) (w : FVec Ideal S4x512x2048 .bf16) (r j : Fin 2048) (k : ℕ) : EReal :=
  if h : k < 2048 then a (ix2 r (⟨k, h⟩ : Fin 2048)) * w (ix3 (⟨k / 512, by omega⟩ : Fin 4) (⟨k % 512, Nat.mod_lt _ (by decide)⟩ : Fin 512) j) else 0

/-- The product. -/
def prod (a : FVec Ideal S2048x2048 .bf16) (w : FVec Ideal S4x512x2048 .bf16) : FVec Ideal S2048x2048 .f32 := fun i =>
  ∑ k : Fin 2048, term a w (i 0) (i 1) k.val

variable (m : (ℓ : Loc nD τ sig) → Buf (Elt Ideal) ℓ) (c : Dev nD)

/-- The blocks of the two arguments at a grid point. -/
def aAt (t : Fin cfg0.N) : FVec Ideal S1024x512 .bf16 := iblk m c 0 t
def wAt (t : Fin cfg0.N) : FVec Ideal S1x512x1024 .bf16 := iblk m c 1 t

theorem aAt_read (t : Fin cfg0.N) (r : Fin 1024) (k : Fin 512) (h : t.val / 8 * 1024 + r.val < 2048) (h' : t.val % 4 * 512 + k.val < 2048) :
    aAt m c t (ix2 r k)
      = m ((c : Thread nD τ).loc main_arg0) (ix2 (⟨t.val / 8 * 1024 + r.val, h⟩ : Fin 2048) (⟨t.val % 4 * 512 + k.val, h'⟩ : Fin 2048)) := by
  unfold aAt; blk_ext [iblk, V, idx t]

theorem wAt_read (t : Fin cfg0.N) (j : Fin 1024) (k : Fin 512) (hp : t.val % 4 < 4) (h : t.val / 4 % 2 * 1024 + j.val < 2048) :
    wAt m c t (ix3 0 k j)
      = m ((c : Thread nD τ).loc main_arg1) (ix3 (⟨t.val % 4, hp⟩ : Fin 4) k (⟨t.val / 4 % 2 * 1024 + j.val, h⟩ : Fin 2048)) := by
  unfold wAt; blk_ext [iblk, V, idx t]

theorem acc_A (t : Fin cfg0.N) (h0 : t.val % 4 = 0) (h1 : ¬1 ≤ t.val % 4) (h2 : ¬t.val % 4 = 3) :
    (outsAt0 m c t.val t.isLt).2 = k0_pay1 (F := Ideal) (aAt m c t) (wAt m c t) :=
  by rw [outsAt0_A m c t h0 h1 h2]; dsimp only; rw [run_A]; rfl

theorem acc_B (t : Fin cfg0.N) (h0 : ¬t.val % 4 = 0) (h1 : 1 ≤ t.val % 4) (h2 : ¬t.val % 4 = 3) :
    (outsAt0 m c t.val t.isLt).2 = k0_pay2 (F := Ideal) (outsAt0 m c (t.val - 1) (Nat.lt_of_le_of_lt (Nat.sub_le _ _) t.isLt)).2 (aAt m c t) (wAt m c t) :=
  by rw [outsAt0_B m c t h0 h1 h2]; dsimp only; rw [run_B]; rfl

theorem res_C (t : Fin cfg0.N) (h0 : ¬t.val % 4 = 0) (h1 : 1 ≤ t.val % 4) (h2 : t.val % 4 = 3) :
    (outsAt0 m c t.val t.isLt).1 = k0_pay2 (F := Ideal) (outsAt0 m c (t.val - 1) (Nat.lt_of_le_of_lt (Nat.sub_le _ _) t.isLt)).2 (aAt m c t) (wAt m c t) :=
  by rw [outsAt0_C m c t h0 h1 h2]; dsimp only; rw [out_C]; rfl

/-- The block product of a grid point, as terms of the sum. -/
theorem block (t : Fin cfg0.N) (y : S1024x1024.Idx) (r j : Fin 2048) (hr : r.val = t.val / 8 * 1024 + (y 0).val) (hj : j.val = t.val / 4 % 2 * 1024 + (y 1).val) :
    ∑ k : Fin 512, aAt m c t (ix2 (y 0) k) * wAt m c t (ix3 0 k (y 1))
      = ∑ k : Fin 512, term (m ((c : Thread nD τ).loc main_arg0)) (m ((c : Thread nD τ).loc main_arg1)) r j (512 * (t.val % 4) + k.val) := by
  have ht : t.val < 16 := t.isLt
  refine Finset.sum_congr rfl fun k _ => ?_
  have hk := k.isLt
  have y0 : (y 0).val < 1024 := (y 0).isLt
  have y1 : (y 1).val < 1024 := (y 1).isLt
  have hr' := r.isLt
  have hj' := j.isLt
  unfold term
  rw [dif_pos (show 512 * (t.val % 4) + k.val < 2048 by omega), aAt_read m c t (y 0) k (by omega) (by omega), wAt_read m c t (y 1) k (by omega) (by omega)]
  rw [show (⟨t.val % 4, by omega⟩ : Fin 4) = ⟨(512 * (t.val % 4) + k.val) / 512, by omega⟩ from Fin.ext (by dsimp only; omega),
    show (⟨t.val / 4 % 2 * 1024 + (y 1).val, by omega⟩ : Fin 2048) = j from Fin.ext hj.symm,
    show (⟨t.val / 8 * 1024 + (y 0).val, by omega⟩ : Fin 2048) = r from Fin.ext hr.symm,
    show (⟨t.val % 4 * 512 + k.val, by omega⟩ : Fin 2048) = ⟨512 * (t.val % 4) + k.val, by omega⟩ from Fin.ext (by dsimp only; omega),
    show (⟨(512 * (t.val % 4) + k.val) % 512, Nat.mod_lt _ (by decide)⟩ : Fin 512) = k from Fin.ext (by dsimp only; omega)]

/-- The running sum after a grid point that is not the last of its four. -/
theorem run_val (n : ℕ) : ∀ (hn : n < cfg0.N), n % 4 ≠ 3 → ∀ (y : S1024x1024.Idx) (r j : Fin 2048), r.val = n / 8 * 1024 + (y 0).val →
    j.val = n / 4 % 2 * 1024 + (y 1).val → (outsAt0 m c n hn).2 y
      = ∑ k ∈ range (512 * (n % 4 + 1)), term (m ((c : Thread nD τ).loc main_arg0)) (m ((c : Thread nD τ).loc main_arg1)) r j k := by
  induction n using Nat.strong_induction_on with
  | _ n ih =>
    intro hn h3 y r j hr hj
    by_cases h0 : n % 4 = 0
    · refine (congrFun (acc_A m c ⟨n, hn⟩ h0 (by dsimp only; omega) h3) y).trans ?_
      rw [pay1, block m c ⟨n, hn⟩ y r j hr hj, show (⟨n, hn⟩ : Fin cfg0.N).val % 4 = 0 from h0]
      exact BlockSum.first 512 _
    · refine (congrFun (acc_B m c ⟨n, hn⟩ h0 (by dsimp only; omega) h3) y).trans ?_
      rw [pay2, block m c ⟨n, hn⟩ y r j hr hj, ← eq_ix2 y]
      refine Eq.trans (congrArg (· + _) (ih (n - 1) (by omega) _ (by omega) y r j (by omega) (by omega))) ?_
      rw [show (n - 1) % 4 + 1 = n % 4 by omega]
      exact BlockSum.step 512 _ _

/-- What the last of four grid points writes out. -/
theorem out_val (n : ℕ) (hn : n < cfg0.N) (h3 : n % 4 = 3) (y : S1024x1024.Idx) (r j : Fin 2048) (hr : r.val = n / 8 * 1024 + (y 0).val)
    (hj : j.val = n / 4 % 2 * 1024 + (y 1).val) : (outsAt0 m c n hn).1 y
      = ∑ k : Fin 2048, term (m ((c : Thread nD τ).loc main_arg0)) (m ((c : Thread nD τ).loc main_arg1)) r j k.val := by
  refine (congrFun (res_C m c ⟨n, hn⟩ (by dsimp only; omega) (by dsimp only; omega) h3) y).trans ?_
  rw [pay2, block m c ⟨n, hn⟩ y r j hr hj, ← eq_ix2 y, ← BlockSum.whole 512 2048 rfl, ← BlockSum.step 512 _ 3, show (⟨n, hn⟩ : Fin cfg0.N).val % 4 = 3 from h3]
  refine congrArg (· + _) ((run_val m c (n - 1) _ (by omega) y r j (by omega) (by omega)).trans ?_)
  rw [show (n - 1) % 4 + 1 = 3 by omega]

/-- The kernel's result array after its run. -/
theorem final : Value.G2 m c = prod (m ((c : Thread nD τ).loc main_arg0)) (m ((c : Thread nD τ).loc main_arg1)) := by
  funext i
  have h0 : (i 0).val < 2048 := (i 0).isLt
  have h1 : (i 1).val < 2048 := (i 1).isLt
  have hN : cfg0.N = 16 := N_0
  have hp : Value.pt2Of i < cfg0.N := by dsimp only [Value.pt2Of, Value.run2Of]; omega
  unfold Value.G2
  rw [dif_pos hp, ← Value.outsAt0_sweep m c _ hp]
  unfold prod
  refine out_val m c _ hp ?_ _ (i 0) (i 1) ?_ ?_
  · dsimp only [Value.pt2Of, Value.run2Of]; omega
  · show (i 0).val = Value.pt2Of i / 8 * 1024 + (i 0).val % 1024
    dsimp only [Value.pt2Of, Value.run2Of]; omega
  · show (i 1).val = Value.pt2Of i / 4 % 2 * 1024 + (i 1).val % 1024
    dsimp only [Value.pt2Of, Value.run2Of]; omega

/-- The reference computes the same. -/
theorem ref (a : FVec Ideal S2048x2048 .bf16) (w : FVec Ideal S4x512x2048 .bf16) :
    Cert.Reference13Ideal.Read.val_main_v3 (F := Ideal) a w = prod a w := by
  funext i
  rw [Cert.Reference13Ideal.Read.val_main_v3_apply]
  unfold prod
  refine Finset.sum_congr rfl fun k _ => ?_
  have h1 : (i 1).val < 2048 := (i 1).isLt
  have hk := k.isLt
  rw [Cert.Reference13Ideal.Read.val_main_v2_apply, Cert.Reference13Ideal.Read.val_main_v1_apply]
  unfold term
  rw [dif_pos hk]
  refine congrArg₂ (· * ·) (congrArg a (funext fun b => Fin.ext ?_)) (congrArg w (funext fun b => Fin.ext ?_))
  · match b with
    | ⟨0, _⟩ => rfl
    | ⟨1, _⟩ => rfl
  · match b with
    | ⟨0, _⟩ => show (k.val * 2048 + (i 1).val) / 1048576 = k.val / 512; omega
    | ⟨1, _⟩ => show (k.val * 2048 + (i 1).val) / 2048 % 512 = k.val % 512; omega
    | ⟨2, _⟩ => show (k.val * 2048 + (i 1).val) % 2048 = (i 1).val; omega

end Cert.Proof.MixOut
-- ==== Proof.lean ====
/- The claims of Defs.lean, for each program: the three frames, the idealization, and the agreement of the kernel with the reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Arrays
public import proofs.«01_k».proof.Proof.RefValue
public import proofs.«01_k».proof.Proof.Finite
public import proofs.«01_k».proof.Proof.FwdValue
public import proofs.«01_k».proof.Proof.FwdRef
public import proofs.«01_k».proof.Proof.LatentQuery
public import proofs.«01_k».proof.Proof.LatentKeyValue
public import proofs.«01_k».proof.Proof.LatentUpGrad
public import proofs.«01_k».proof.Proof.LatentUpBack
public import proofs.«01_k».proof.Proof.LatentDown
public import proofs.«01_k».proof.Proof.LatentDownGrad
public import proofs.«01_k».proof.Proof.LatentDownBack
public import proofs.«01_k».proof.Proof.Update
public import proofs.«01_k».proof.Proof.Norm
public import proofs.«01_k».proof.Proof.Loss
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Loops
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.GradOut
public import proofs.«01_k».proof.Proof.GradHidden
public import proofs.«01_k».proof.Proof.GradIn
public import proofs.«01_k».proof.Proof.Back
public import proofs.«01_k».proof.Proof.Hidden
public import proofs.«01_k».proof.Proof.Down
public import proofs.«01_k».proof.Proof.GradMixOut
public import proofs.«01_k».proof.Proof.GradMix
public import proofs.«01_k».proof.Proof.GradMixIn
public import proofs.«01_k».proof.Proof.MixBack
public import proofs.«01_k».proof.Proof.MixIn
public import proofs.«01_k».proof.Proof.MixOut
public import Idealize.ShloMosaic.Adequacy
public import Idealize.ShloMosaic.Init
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read

@[expose] public section

noncomputable section

namespace Cert.Proof

open Idealize.ShloMosaic Idealize.ShloMosaic.TcCoe

theorem frame_kernel : Cert.quiescent_Kernel := fun m ρ _ => by
  rw [defs_same]
  exact Attn.run_frame (F := Bits) m ρ

theorem frame_kernelIdeal : Cert.quiescent_KernelIdeal := fun m ρ _ => Attn.run_frame (F := Ideal) m ρ

/-- The reference's run leaves its arguments alone, and it declares no semaphore. -/
theorem frame_referenceIdeal : Cert.quiescent_ReferenceIdeal := fun m ρ _ =>
  (θ_run Cert.ReferenceIdeal.defs _ _).mono (fun r h => ⟨fun c => ⟨(h c).2.2.2.1, (h c).2.2.2.2⟩, sem_eq_zero_of_no_sems (by decide) r.2⟩)
    (Cert.ReferenceIdeal.Value.run (F := Ideal) m ρ)

/-- Over finite arguments the kernel and the reference end with the same three gradients. -/
theorem algebraic (hPre_finite : Cert.Pre_finite.Facts) : Cert.algebraic_KernelIdeal_ReferenceIdeal_pre_finite := fun m ρ m' ρ' hpre hargs => by
  have hreal := fun c : Dev Cert.KernelIdeal.nD => Finite.reals _ _ (hpre c)
  choose A B hX hY using hreal
  refine ⟨fun c => Attn.arr (Attn.dqAt (A c) (B c)), fun c => Attn.arr (Attn.dkAt (A c) (B c)), fun c => Attn.arr (Attn.dvAt (A c) (B c)), ?_, ?_⟩
  · refine (θ_run Cert.KernelIdeal.defs _ _).mono (fun _ h c => ?_) (Attn.run_main (F := Ideal) m ρ)
    have H : Attn.Finite (m ((c : Thread Cert.KernelIdeal.nD Cert.KernelIdeal.τ).loc Cert.KernelIdeal.main_arg0))
        (m ((c : Thread Cert.KernelIdeal.nD Cert.KernelIdeal.τ).loc Cert.KernelIdeal.main_arg1)) (A c) (B c) := ⟨hX c, hY c⟩
    exact ⟨((h.1 c).1 4).trans (Attn.dq_final H), ((h.1 c).1 5).trans (Attn.dk_final H), ((h.1 c).1 6).trans (Attn.dv_final H),
      ((h.1 c).1 2).trans (((Attn.dats m 0 c).arrAt_in 2 rfl _).trans (Attn.A_eq m c 2)),
      ((h.1 c).1 3).trans (((Attn.dats m 0 c).arrAt_in 3 rfl _).trans (Attn.A_eq m c 3))⟩
  · refine (θ_run Cert.ReferenceIdeal.defs _ _).mono (fun _ h c => ?_) (Cert.ReferenceIdeal.Value.run (F := Ideal) m' ρ')
    obtain ⟨e0, e1⟩ := hargs c
    obtain ⟨h0, h1, h2, h3, h4⟩ := h c
    have hx : ∀ (t : Fin 2048) (e : Fin 6144), m' ((c.tc : Thread Cert.ReferenceIdeal.nD Cert.ReferenceIdeal.τ).loc Cert.ReferenceIdeal.main_arg0) (ix2 t e)
        = (A c t.val e.val : EReal) := fun t e => (congrFun e0 (ix2 t e)).trans (hX c t e)
    have hy : ∀ t e : Fin 2048, m' ((c.tc : Thread Cert.ReferenceIdeal.nD Cert.ReferenceIdeal.τ).loc Cert.ReferenceIdeal.main_arg1) (ix2 t e)
        = (B c t.val e.val : EReal) := fun t e => (congrFun e1 (ix2 t e)).trans (hY c t e)
    exact ⟨(h0.trans (Cert.ReferenceIdeal.Read.val_main_v52_eq m' c)).trans (Ref.dq_ref _ _ _ _ hx hy),
      (h1.trans (Cert.ReferenceIdeal.Read.val_main_v53_eq m' c)).trans (Ref.dk_ref _ _ _ _ hx hy),
      (h2.trans (Cert.ReferenceIdeal.Read.val_main_v54_eq m' c)).trans (Ref.dv_ref _ _ _ _ hx hy), h3, h4⟩

/-! The six matrix calls of the MLP. The frames are those of the calls' runs; for the values, the kernel and the reference end at the same sums. -/

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The gradient of the MLP's second weight. -/
theorem algebraic2 : Cert.algebraic_Kernel2Ideal_Reference2Ideal := fun m ρ m' ρ' _ hargs =>
  ⟨fun c => GradOut.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun _ h c => ⟨(h c).1.trans (GradOut.final m c), (h c).2⟩) (Cert.Kernel2Ideal.Value.run_blocks (F := Ideal) m ρ),
    (θ_run Cert.Reference2Ideal.defs _ _).mono (fun _ h c =>
        ⟨(h c).1.trans ((Cert.Reference2Ideal.Read.val_main_v8_eq _ _).trans ((GradOut.ref _ _).trans (congrArg₂ GradOut.grad (hargs c).1 (hargs c).2))), (h c).2⟩)
      (Cert.Reference2Ideal.Value.run (F := Ideal) m' ρ')⟩

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The gradient of the MLP's hidden rows, through the activation. -/
theorem algebraic3 : Cert.algebraic_Kernel3Ideal_Reference3Ideal := fun m ρ m' ρ' _ hargs =>
  ⟨fun c => GradHidden.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    (θ_run Cert.Kernel3Ideal.defs _ _).mono (fun _ h c => ⟨(h c).1.trans (GradHidden.final m c), (h c).2⟩) (Cert.Kernel3Ideal.Value.run_blocks (F := Ideal) m ρ),
    (θ_run Cert.Reference3Ideal.defs _ _).mono (fun _ h c =>
        ⟨(h c).1.trans ((Cert.Reference3Ideal.Read.val_main_v15_eq _ _ _).trans ((GradHidden.ref _ _ _).trans (congr (congrArg₂ GradHidden.grad (hargs c).1 (hargs c).2.1) (hargs c).2.2))), (h c).2⟩)
      (Cert.Reference3Ideal.Value.run (F := Ideal) m' ρ')⟩

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gradient of the MLP's first weight. -/
theorem algebraic4 : Cert.algebraic_Kernel4Ideal_Reference4Ideal := fun m ρ m' ρ' _ hargs =>
  ⟨fun c => GradIn.grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun _ h c => ⟨(h c).1.trans (GradIn.final m c), (h c).2⟩) (Cert.Kernel4Ideal.Value.run_blocks (F := Ideal) m ρ),
    (θ_run Cert.Reference4Ideal.defs _ _).mono (fun _ h c =>
        ⟨(h c).1.trans ((Cert.Reference4Ideal.Read.val_main_v10_eq _ _).trans ((GradIn.ref _ _).trans (congrArg₂ GradIn.grad (hargs c).1 (hargs c).2))), (h c).2⟩)
      (Cert.Reference4Ideal.Value.run (F := Ideal) m' ρ')⟩

theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gradient of the MLP's input, with the residual's part. -/
theorem algebraic5 : Cert.algebraic_Kernel5Ideal_Reference5Ideal := fun m ρ m' ρ' _ hargs =>
  ⟨fun c => Back.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun _ h c => ⟨(h c).1.trans (Back.final m c), (h c).2⟩) (Cert.Kernel5Ideal.Value.run (F := Ideal) m ρ),
    (θ_run Cert.Reference5Ideal.defs _ _).mono (fun _ h c =>
        ⟨(h c).1.trans ((Cert.Reference5Ideal.Read.val_main_v11_eq _ _ _).trans ((Back.ref _ _ _).trans (congr (congrArg₂ Back.grad (hargs c).1 (hargs c).2.1) (hargs c).2.2))), (h c).2⟩)
      (Cert.Reference5Ideal.Value.run (F := Ideal) m' ρ')⟩

theorem frame_reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The product with the MLP's first weight, and the activation of it. -/
theorem algebraic6 : Cert.algebraic_Kernel6Ideal_Reference6Ideal := fun m ρ m' ρ' _ hargs =>
  ⟨fun c => Hidden.up (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => Hidden.act (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun _ h c => ⟨(h c).1.trans (Hidden.final2 m c), (h c).2.1.trans (Hidden.final3 m c), (h c).2.2⟩)
      (Cert.Kernel6Ideal.Value.run_blocks (F := Ideal) m ρ),
    (θ_run Cert.Reference6Ideal.defs _ _).mono (fun _ h c =>
        ⟨(h c).1.trans ((Cert.Reference6Ideal.Read.val_main_v4_eq _ _).trans ((Hidden.ref_up _ _).trans (congrArg₂ Hidden.up (hargs c).1 (hargs c).2))),
          (h c).2.1.trans ((Cert.Reference6Ideal.Read.val_main_v7_eq _ _).trans ((Hidden.ref_act _ _).trans (congrArg₂ Hidden.act (hargs c).1 (hargs c).2))), (h c).2.2⟩)
      (Cert.Reference6Ideal.Value.run (F := Ideal) m' ρ')⟩

theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The product with the MLP's second weight. -/
theorem algebraic7 : Cert.algebraic_Kernel7Ideal_Reference7Ideal := fun m ρ m' ρ' _ hargs =>
  ⟨fun c => Down.prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun _ h c => ⟨(h c).1.trans (Down.final m c), (h c).2⟩) (Cert.Kernel7Ideal.Value.run (F := Ideal) m ρ),
    (θ_run Cert.Reference7Ideal.defs _ _).mono (fun _ h c =>
        ⟨(h c).1.trans ((Cert.Reference7Ideal.Read.val_main_v3_eq _ _).trans ((Down.ref _ _).trans (congrArg₂ Down.prod (hargs c).1 (hargs c).2))), (h c).2⟩)
      (Cert.Reference7Ideal.Value.run (F := Ideal) m' ρ')⟩

/-! The six matrix calls of the mixers, in the same way. -/

theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The gradient of the weight of a mixer's output. -/
theorem algebraic8 : Cert.algebraic_Kernel8Ideal_Reference8Ideal := fun m ρ m' ρ' _ hargs =>
  ⟨fun c => GradMixOut.grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun _ h c => ⟨(h c).1.trans (GradMixOut.final m c), (h c).2⟩) (Cert.Kernel8Ideal.Value.run_blocks (F := Ideal) m ρ),
    (θ_run Cert.Reference8Ideal.defs _ _).mono (fun _ h c =>
        ⟨(h c).1.trans ((Cert.Reference8Ideal.Read.val_main_v8_eq _ _).trans ((GradMixOut.ref _ _).trans (congrArg₂ GradMixOut.grad (hargs c).1 (hargs c).2))), (h c).2⟩)
      (Cert.Reference8Ideal.Value.run (F := Ideal) m' ρ')⟩

theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The gradient of a mixer's heads. -/
theorem algebraic9 : Cert.algebraic_Kernel9Ideal_Reference9Ideal := fun m ρ m' ρ' _ hargs =>
  ⟨fun c => GradMix.grad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun _ h c => ⟨(h c).1.trans (GradMix.final m c), (h c).2⟩) (Cert.Kernel9Ideal.Value.run_blocks (F := Ideal) m ρ),
    (θ_run Cert.Reference9Ideal.defs _ _).mono (fun _ h c =>
        ⟨(h c).1.trans ((Cert.Reference9Ideal.Read.val_main_v5_eq _ _).trans ((GradMix.ref _ _).trans (congrArg₂ GradMix.grad (hargs c).1 (hargs c).2))), (h c).2⟩)
      (Cert.Reference9Ideal.Value.run (F := Ideal) m' ρ')⟩

theorem frame_reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The gradient of the weight of the queries, keys and values. -/
theorem algebraic10 : Cert.algebraic_Kernel10Ideal_Reference10Ideal := fun m ρ m' ρ' _ hargs =>
  ⟨fun c => GradMixIn.grad (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run Cert.Kernel10Ideal.defs _ _).mono (fun _ h c => ⟨(h c).1.trans (GradMixIn.final m c), (h c).2⟩) (Cert.Kernel10Ideal.Value.run_blocks (F := Ideal) m ρ),
    (θ_run Cert.Reference10Ideal.defs _ _).mono (fun _ h c =>
        ⟨(h c).1.trans ((Cert.Reference10Ideal.Read.val_main_v10_eq _ _).trans ((GradMixIn.ref _ _).trans (congrArg₂ GradMixIn.grad (hargs c).1 (hargs c).2))), (h c).2⟩)
      (Cert.Reference10Ideal.Value.run (F := Ideal) m' ρ')⟩

theorem frame_reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The gradient of a mixer's input, with the residual's part. -/
theorem algebraic11 : Cert.algebraic_Kernel11Ideal_Reference11Ideal := fun m ρ m' ρ' _ hargs =>
  ⟨fun c => MixBack.grad (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    (θ_run Cert.Kernel11Ideal.defs _ _).mono (fun _ h c => ⟨(h c).1.trans (MixBack.final m c), (h c).2⟩) (Cert.Kernel11Ideal.Value.run (F := Ideal) m ρ),
    (θ_run Cert.Reference11Ideal.defs _ _).mono (fun _ h c =>
        ⟨(h c).1.trans ((Cert.Reference11Ideal.Read.val_main_v11_eq _ _ _).trans ((MixBack.ref _ _ _).trans (congr (congrArg₂ MixBack.grad (hargs c).1 (hargs c).2.1) (hargs c).2.2))), (h c).2⟩)
      (Cert.Reference11Ideal.Value.run (F := Ideal) m' ρ')⟩

theorem frame_reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The product with the weight of the queries, keys and values. -/
theorem algebraic12 : Cert.algebraic_Kernel12Ideal_Reference12Ideal := fun m ρ m' ρ' _ hargs =>
  ⟨fun c => MixIn.prod (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun _ h c => ⟨(h c).1.trans (MixIn.final m c), (h c).2⟩) (Cert.Kernel12Ideal.Value.run_blocks (F := Ideal) m ρ),
    (θ_run Cert.Reference12Ideal.defs _ _).mono (fun _ h c =>
        ⟨(h c).1.trans ((Cert.Reference12Ideal.Read.val_main_v5_eq _ _).trans ((MixIn.ref _ _).trans (congrArg₂ MixIn.prod (hargs c).1 (hargs c).2))), (h c).2⟩)
      (Cert.Reference12Ideal.Value.run (F := Ideal) m' ρ')⟩

theorem frame_reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The product with the weight of a mixer's output. -/
theorem algebraic13 : Cert.algebraic_Kernel13Ideal_Reference13Ideal := fun m ρ m' ρ' _ hargs =>
  ⟨fun c => MixOut.prod (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run Cert.Kernel13Ideal.defs _ _).mono (fun _ h c => ⟨(h c).1.trans (MixOut.final m c), (h c).2⟩) (Cert.Kernel13Ideal.Value.run (F := Ideal) m ρ),
    (θ_run Cert.Reference13Ideal.defs _ _).mono (fun _ h c =>
        ⟨(h c).1.trans ((Cert.Reference13Ideal.Read.val_main_v3_eq _ _).trans ((MixOut.ref _ _).trans (congrArg₂ MixOut.prod (hargs c).1 (hargs c).2))), (h c).2⟩)
      (Cert.Reference13Ideal.Value.run (F := Ideal) m' ρ')⟩

theorem frame_reference14Ideal : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The attention's forward: both runs end with the heads of the same argument. -/
theorem algebraic14 (hPre_finite14 : Cert.Pre_finite14.Facts) : Cert.algebraic_Kernel14Ideal_Reference14Ideal_pre_finite14 := fun m ρ m' ρ' hpre hargs => by
  choose A hX using fun c : Dev Cert.Kernel14Ideal.nD => Finite14.reals _ (hpre c)
  refine ⟨fun c => Fwd.heads (m ((c.tc : Thread Cert.Kernel14Ideal.nD Cert.Kernel14Ideal.τ).loc Cert.Kernel14Ideal.main_arg0)) (A c), ?_, ?_⟩
  · exact (θ_run Cert.Kernel14Ideal.defs _ _).mono (fun _ h c => ⟨(h c).1.trans (Fwd.final m c (hX c)), (h c).2⟩) (Cert.Kernel14Ideal.Value.run_blocks (F := Ideal) m ρ)
  · refine (θ_run Cert.Reference14Ideal.defs _ _).mono (fun _ h c => ⟨?_, (h c).2⟩) (Cert.Reference14Ideal.Value.run (F := Ideal) m' ρ')
    have hx : ∀ (t : Fin 2048) (e : Fin 6144), e.val < 4096 →
        m' ((c.tc : Thread Cert.Reference14Ideal.nD Cert.Reference14Ideal.τ).loc Cert.Reference14Ideal.main_arg0) (ix2 t e) = (A c t.val e.val : EReal) :=
      fun t e he => (congrFun (hargs c) (ix2 t e)).trans (hX c t e he)
    exact (h c).1.trans ((Cert.Reference14Ideal.Read.val_main_v28_eq _ _).trans ((Fwd.ref _ _ hx).trans (congrArg (fun X => Fwd.heads X (A c)) (hargs c))))

/-! The products of latent attention with its three inner weights. -/

theorem frame_reference15Ideal : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The latent queries widened to the heads. -/
theorem algebraic15 : Cert.algebraic_Kernel15Ideal_Reference15Ideal := fun m ρ m' ρ' _ hargs =>
  ⟨fun c => Latent.up .f32 (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun _ h c => ⟨(h c).1.trans (LatentQuery.final m c), (h c).2⟩) (Cert.Kernel15Ideal.Value.run_blocks (F := Ideal) m ρ),
    (θ_run Cert.Reference15Ideal.defs _ _).mono (fun _ h c =>
        ⟨(h c).1.trans ((Cert.Reference15Ideal.Read.val_main_v4_eq _ _).trans ((LatentQuery.ref _ _).trans (congrArg₂ (Latent.up .f32) (hargs c).1 (hargs c).2))), (h c).2⟩)
      (Cert.Reference15Ideal.Value.run (F := Ideal) m' ρ')⟩

theorem frame_reference16Ideal : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The latent keys and values widened to the heads. -/
theorem algebraic16 : Cert.algebraic_Kernel16Ideal_Reference16Ideal := fun m ρ m' ρ' _ hargs =>
  ⟨fun c => Latent.up .bf16 (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run Cert.Kernel16Ideal.defs _ _).mono (fun _ h c => ⟨(h c).1.trans (LatentKeyValue.final m c), (h c).2⟩) (Cert.Kernel16Ideal.Value.run_blocks (F := Ideal) m ρ),
    (θ_run Cert.Reference16Ideal.defs _ _).mono (fun _ h c =>
        ⟨(h c).1.trans ((Cert.Reference16Ideal.Read.val_main_v5_eq _ _).trans ((LatentKeyValue.ref _ _).trans (congrArg₂ (Latent.up .bf16) (hargs c).1 (hargs c).2))), (h c).2⟩)
      (Cert.Reference16Ideal.Value.run (F := Ideal) m' ρ')⟩

theorem frame_reference17Ideal : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The gradient of the weight that widens a latent. -/
theorem algebraic17 : Cert.algebraic_Kernel17Ideal_Reference17Ideal := fun m ρ m' ρ' _ hargs =>
  ⟨fun c => LatentUpGrad.grad (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run Cert.Kernel17Ideal.defs _ _).mono (fun _ h c => ⟨(h c).1.trans (LatentUpGrad.final m c), (h c).2⟩) (Cert.Kernel17Ideal.Value.run_blocks (F := Ideal) m ρ),
    (θ_run Cert.Reference17Ideal.defs _ _).mono (fun _ h c =>
        ⟨(h c).1.trans ((Cert.Reference17Ideal.Read.val_main_v10_eq _ _).trans ((LatentUpGrad.ref _ _).trans (congrArg₂ LatentUpGrad.grad (hargs c).1 (hargs c).2))), (h c).2⟩)
      (Cert.Reference17Ideal.Value.run (F := Ideal) m' ρ')⟩

theorem frame_reference18Ideal : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The gradient of a latent. -/
theorem algebraic18 : Cert.algebraic_Kernel18Ideal_Reference18Ideal := fun m ρ m' ρ' _ hargs =>
  ⟨fun c => LatentUpBack.grad (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    (θ_run Cert.Kernel18Ideal.defs _ _).mono (fun _ h c => ⟨(h c).1.trans (LatentUpBack.final m c), (h c).2⟩) (Cert.Kernel18Ideal.Value.run (F := Ideal) m ρ),
    (θ_run Cert.Reference18Ideal.defs _ _).mono (fun _ h c =>
        ⟨(h c).1.trans ((Cert.Reference18Ideal.Read.val_main_v6_eq _ _).trans ((LatentUpBack.ref _ _).trans (congrArg₂ LatentUpBack.grad (hargs c).1 (hargs c).2))), (h c).2⟩)
      (Cert.Reference18Ideal.Value.run (F := Ideal) m' ρ')⟩

theorem frame_reference19Ideal : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The activations narrowed to the latents. -/
theorem algebraic19 : Cert.algebraic_Kernel19Ideal_Reference19Ideal := fun m ρ m' ρ' _ hargs =>
  ⟨fun c => LatentDown.prod (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    (θ_run Cert.Kernel19Ideal.defs _ _).mono (fun _ h c => ⟨(h c).1.trans (LatentDown.final m c), (h c).2⟩) (Cert.Kernel19Ideal.Value.run (F := Ideal) m ρ),
    (θ_run Cert.Reference19Ideal.defs _ _).mono (fun _ h c =>
        ⟨(h c).1.trans ((Cert.Reference19Ideal.Read.val_main_v3_eq _ _).trans ((LatentDown.ref _ _).trans (congrArg₂ LatentDown.prod (hargs c).1 (hargs c).2))), (h c).2⟩)
      (Cert.Reference19Ideal.Value.run (F := Ideal) m' ρ')⟩

theorem frame_reference20Ideal : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- The gradient of the weight that narrows the activations. -/
theorem algebraic20 : Cert.algebraic_Kernel20Ideal_Reference20Ideal := fun m ρ m' ρ' _ hargs =>
  ⟨fun c => LatentDownGrad.grad (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    (θ_run Cert.Kernel20Ideal.defs _ _).mono (fun _ h c => ⟨(h c).1.trans (LatentDownGrad.final m c), (h c).2⟩) (Cert.Kernel20Ideal.Value.run_blocks (F := Ideal) m ρ),
    (θ_run Cert.Reference20Ideal.defs _ _).mono (fun _ h c =>
        ⟨(h c).1.trans ((Cert.Reference20Ideal.Read.val_main_v8_eq _ _).trans ((LatentDownGrad.ref _ _).trans (congrArg₂ LatentDownGrad.grad (hargs c).1 (hargs c).2))), (h c).2⟩)
      (Cert.Reference20Ideal.Value.run (F := Ideal) m' ρ')⟩

theorem frame_reference21Ideal : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

/-- The gradient of a latent attention's input, with the residual's part. -/
theorem algebraic21 : Cert.algebraic_Kernel21Ideal_Reference21Ideal := fun m ρ m' ρ' _ hargs =>
  ⟨fun c => LatentDownBack.grad (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)),
    (θ_run Cert.Kernel21Ideal.defs _ _).mono (fun _ h c => ⟨(h c).1.trans (LatentDownBack.final m c), (h c).2⟩) (Cert.Kernel21Ideal.Value.run_blocks (F := Ideal) m ρ),
    (θ_run Cert.Reference21Ideal.defs _ _).mono (fun _ h c =>
        ⟨(h c).1.trans ((Cert.Reference21Ideal.Read.val_main_v10_eq _ _ _).trans ((LatentDownBack.ref _ _ _).trans (congr (congrArg₂ LatentDownBack.grad (hargs c).1 (hargs c).2.1) (hargs c).2.2))), (h c).2⟩)
      (Cert.Reference21Ideal.Value.run (F := Ideal) m' ρ')⟩

theorem frame_reference22Ideal : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- The step of the optimiser for the MLP's two weights. -/
theorem algebraic22 : Cert.algebraic_Kernel22Ideal_Reference22Ideal := fun m ρ m' ρ' _ hargs =>
  ⟨fun c => Update.step (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)),
    fun c => Update.avg (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)), fun c => Update.sqr (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg3)),
    Cert.Kernel22Ideal.Value.run (F := Ideal) m ρ, (θ_run Cert.Reference22Ideal.defs _ _).mono (fun _ h c => Update.agree (h c) (hargs c))
    (Cert.Reference22Ideal.Value.run (F := Ideal) m' ρ')⟩

theorem frame_reference23Ideal : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The norm over the rows of the stream and a mixer's result. -/
theorem algebraic23 : Cert.algebraic_Kernel23Ideal_Reference23Ideal := fun m ρ m' ρ' _ hargs =>
  ⟨fun c => Norm.normed .f32 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))
      (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)),
    fun c => Norm.normed .bf16 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))
      (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)),
    fun c => Norm.hat (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)),
    fun c => Norm.dev (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)),
    (θ_run Cert.Kernel23Ideal.defs _ _).mono (fun _ h c => ⟨(h c).1.trans (Norm.final4 m c), (h c).2.1.trans (Norm.final5 m c),
      (h c).2.2.1.trans (Norm.final6 m c), (h c).2.2.2.1.trans (Norm.final7 m c), (h c).2.2.2.2⟩) (Cert.Kernel23Ideal.Value.run_blocks (F := Ideal) m ρ),
    (θ_run Cert.Reference23Ideal.defs _ _).mono (fun _ h c => Norm.agree (h c) (hargs c)) (Cert.Reference23Ideal.Value.run (F := Ideal) m' ρ')⟩

theorem frame_reference24Ideal : Cert.quiescent_Reference24Ideal := fun m ρ _ =>
  (θ_run Cert.Reference24Ideal.defs _ _).mono (fun r h => ⟨fun c => (h c).2.2, sem_eq_zero_of_no_sems (by decide) r.2⟩)
    (Cert.Reference24Ideal.Value.run (F := Ideal) m ρ)

/-- The loss and its gradient. -/
theorem algebraic24 : Cert.algebraic_Kernel24Ideal_Reference24Ideal := fun m ρ m' ρ' _ hargs =>
  ⟨fun c => Loss.loss (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)),
    fun c => Loss.grad (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)),
    (θ_run Cert.Kernel24Ideal.defs _ _).mono (fun _ h c => ⟨(h c).1.trans (Loss.final2 m c), (h c).2.1.trans (Loss.final3 m c), (h c).2.2⟩)
      (Cert.Kernel24Ideal.Value.run_blocks (F := Ideal) m ρ),
    (θ_run Cert.Reference24Ideal.defs _ _).mono (fun _ h c =>
        ⟨(h c).1.trans ((Cert.Reference24Ideal.Read.val_main_v15_eq _ _).trans ((Loss.ref_loss _ _).trans (congrArg₂ Loss.loss (hargs c).1 (hargs c).2))),
          (h c).2.1.trans ((Cert.Reference24Ideal.Read.val_main_v14_eq _ _).trans ((Loss.ref_grad _ _).trans (congrArg₂ Loss.grad (hargs c).1 (hargs c).2))), (h c).2.2⟩)
      (Cert.Reference24Ideal.Value.run (F := Ideal) m' ρ')⟩

theorem frame_reference25Ideal : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- The same for the latent attention's narrowing weight. -/
theorem algebraic25 : Cert.algebraic_Kernel25Ideal_Reference25Ideal := fun m ρ m' ρ' _ hargs =>
  ⟨fun c => Update.step (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)),
    fun c => Update.avg (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)), fun c => Update.sqr (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg3)),
    Cert.Kernel25Ideal.Value.run (F := Ideal) m ρ, (θ_run Cert.Reference25Ideal.defs _ _).mono (fun _ h c => Update.agree (h c) (hargs c))
    (Cert.Reference25Ideal.Value.run (F := Ideal) m' ρ')⟩

theorem frame_reference26Ideal : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- The same for the weight of its queries. -/
theorem algebraic26 : Cert.algebraic_Kernel26Ideal_Reference26Ideal := fun m ρ m' ρ' _ hargs =>
  ⟨fun c => Update.step (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)),
    fun c => Update.avg (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)), fun c => Update.sqr (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3)),
    Cert.Kernel26Ideal.Value.run (F := Ideal) m ρ, (θ_run Cert.Reference26Ideal.defs _ _).mono (fun _ h c => Update.agree (h c) (hargs c))
    (Cert.Reference26Ideal.Value.run (F := Ideal) m' ρ')⟩

theorem frame_reference27Ideal : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

/-- The same for the weight of its keys and values. -/
theorem algebraic27 : Cert.algebraic_Kernel27Ideal_Reference27Ideal := fun m ρ m' ρ' _ hargs =>
  ⟨fun c => Update.step (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)),
    fun c => Update.avg (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)), fun c => Update.sqr (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg3)),
    Cert.Kernel27Ideal.Value.run (F := Ideal) m ρ, (θ_run Cert.Reference27Ideal.defs _ _).mono (fun _ h c => Update.agree (h c) (hargs c))
    (Cert.Reference27Ideal.Value.run (F := Ideal) m' ρ')⟩

theorem frame_reference28Ideal : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

/-- The same for its output's weight. -/
theorem algebraic28 : Cert.algebraic_Kernel28Ideal_Reference28Ideal := fun m ρ m' ρ' _ hargs =>
  ⟨fun c => Update.step (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    fun c => Update.avg (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)), fun c => Update.sqr (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg3)),
    Cert.Kernel28Ideal.Value.run (F := Ideal) m ρ, (θ_run Cert.Reference28Ideal.defs _ _).mono (fun _ h c => Update.agree (h c) (hargs c))
    (Cert.Reference28Ideal.Value.run (F := Ideal) m' ρ')⟩

theorem frame_reference29Ideal : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run (F := Ideal) m ρ)

/-- The same for the weights of the queries, keys and values of the other two attentions. -/
theorem algebraic29 : Cert.algebraic_Kernel29Ideal_Reference29Ideal := fun m ρ m' ρ' _ hargs =>
  ⟨fun c => Update.step (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)),
    fun c => Update.avg (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)), fun c => Update.sqr (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg3)),
    Cert.Kernel29Ideal.Value.run (F := Ideal) m ρ, (θ_run Cert.Reference29Ideal.defs _ _).mono (fun _ h c => Update.agree (h c) (hargs c))
    (Cert.Reference29Ideal.Value.run (F := Ideal) m' ρ')⟩

theorem frame_reference30Ideal : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run (F := Ideal) m ρ)

/-- The same for the weights of their outputs. -/
theorem algebraic30 : Cert.algebraic_Kernel30Ideal_Reference30Ideal := fun m ρ m' ρ' _ hargs =>
  ⟨fun c => Update.step (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)),
    fun c => Update.avg (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)), fun c => Update.sqr (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg3)),
    Cert.Kernel30Ideal.Value.run (F := Ideal) m ρ, (θ_run Cert.Reference30Ideal.defs _ _).mono (fun _ h c => Update.agree (h c) (hargs c))
    (Cert.Reference30Ideal.Value.run (F := Ideal) m' ρ')⟩

theorem frame_reference31Ideal : Cert.quiescent_Reference31Ideal := fun m ρ _ =>
  (θ_run Cert.Reference31Ideal.defs _ _).mono (fun r h => ⟨fun c => (h c).2.2.2, sem_eq_zero_of_no_sems (by decide) r.2⟩)
    (Cert.Reference31Ideal.Value.run (F := Ideal) m ρ)

/-- The same for the four gains and shifts of the norms. -/
theorem algebraic31 : Cert.algebraic_Kernel31Ideal_Reference31Ideal := fun m ρ m' ρ' _ hargs =>
  ⟨fun c => Update.step (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)),
    fun c => Update.avg (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)), fun c => Update.sqr (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg3)),
    Cert.Kernel31Ideal.Value.run (F := Ideal) m ρ, (θ_run Cert.Reference31Ideal.defs _ _).mono (fun _ h c => Update.agree (h c) (hargs c))
    (Cert.Reference31Ideal.Value.run (F := Ideal) m' ρ')⟩

theorem frame_reference32Ideal : Cert.quiescent_Reference32Ideal := fun m ρ _ =>
  (θ_run Cert.Reference32Ideal.defs _ _).mono (fun r h => ⟨fun c => (h c).2.2.2, sem_eq_zero_of_no_sems (by decide) r.2⟩)
    (Cert.Reference32Ideal.Value.run (F := Ideal) m ρ)

/-- The same for the gains of the latents' norms. -/
theorem algebraic32 : Cert.algebraic_Kernel32Ideal_Reference32Ideal := fun m ρ m' ρ' _ hargs =>
  ⟨fun c => Update.step (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)),
    fun c => Update.avg (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)), fun c => Update.sqr (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg3)),
    Cert.Kernel32Ideal.Value.run (F := Ideal) m ρ, (θ_run Cert.Reference32Ideal.defs _ _).mono (fun _ h c => Update.agree (h c) (hargs c))
    (Cert.Reference32Ideal.Value.run (F := Ideal) m' ρ')⟩

theorem frame_reference33Ideal : Cert.quiescent_Reference33Ideal := fun m ρ _ =>
  (θ_run Cert.Reference33Ideal.defs _ _).mono (fun r h => ⟨fun c => (h c).2.2.2, sem_eq_zero_of_no_sems (by decide) r.2⟩)
    (Cert.Reference33Ideal.Value.run (F := Ideal) m ρ)

/-- The same for the table of the chunked attention's positions. -/
theorem algebraic33 : Cert.algebraic_Kernel33Ideal_Reference33Ideal := fun m ρ m' ρ' _ hargs =>
  ⟨fun c => Update.step (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)),
    fun c => Update.avg (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)), fun c => Update.sqr (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg3)),
    Cert.Kernel33Ideal.Value.run (F := Ideal) m ρ, (θ_run Cert.Reference33Ideal.defs _ _).mono (fun _ h c => Update.agree (h c) (hargs c))
    (Cert.Reference33Ideal.Value.run (F := Ideal) m' ρ')⟩

end Cert.Proof

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Proof.Finite.facts, Cert.Proof.Finite14.facts,
    Cert.Proof.frame_kernel, Cert.Proof.frame_kernelIdeal, fun m ρ _ => Cert.Proof.frame_kernelIdeal m ρ trivial,
    Cert.Proof.frame_referenceIdeal, fun m ρ _ => Cert.Proof.frame_referenceIdeal m ρ trivial,
    fun m ρ _ => Cert.Kernel2.Gen.frame m ρ, fun m ρ _ => Cert.Kernel2Ideal.Gen.frame m ρ, Cert.Proof.frame_reference2Ideal,
    fun m ρ _ => Cert.Kernel3.Gen.frame m ρ, fun m ρ _ => Cert.Kernel3Ideal.Gen.frame m ρ, Cert.Proof.frame_reference3Ideal,
    fun m ρ _ => Cert.Kernel4.Gen.frame m ρ, fun m ρ _ => Cert.Kernel4Ideal.Gen.frame m ρ, Cert.Proof.frame_reference4Ideal,
    fun m ρ _ => Cert.Kernel5.Gen.frame m ρ, fun m ρ _ => Cert.Kernel5Ideal.Gen.frame m ρ, Cert.Proof.frame_reference5Ideal,
    fun m ρ _ => Cert.Kernel6.Gen.frame m ρ, fun m ρ _ => Cert.Kernel6Ideal.Gen.frame m ρ, Cert.Proof.frame_reference6Ideal,
    fun m ρ _ => Cert.Kernel7.Gen.frame m ρ, fun m ρ _ => Cert.Kernel7Ideal.Gen.frame m ρ, Cert.Proof.frame_reference7Ideal,
    fun m ρ _ => Cert.Kernel8.Gen.frame m ρ, fun m ρ _ => Cert.Kernel8Ideal.Gen.frame m ρ, Cert.Proof.frame_reference8Ideal,
    fun m ρ _ => Cert.Kernel9.Gen.frame m ρ, fun m ρ _ => Cert.Kernel9Ideal.Gen.frame m ρ, Cert.Proof.frame_reference9Ideal,
    fun m ρ _ => Cert.Kernel10.Gen.frame m ρ, fun m ρ _ => Cert.Kernel10Ideal.Gen.frame m ρ, Cert.Proof.frame_reference10Ideal,
    fun m ρ _ => Cert.Kernel11.Gen.frame m ρ, fun m ρ _ => Cert.Kernel11Ideal.Gen.frame m ρ, Cert.Proof.frame_reference11Ideal,
    fun m ρ _ => Cert.Kernel12.Gen.frame m ρ, fun m ρ _ => Cert.Kernel12Ideal.Gen.frame m ρ, Cert.Proof.frame_reference12Ideal,
    fun m ρ _ => Cert.Kernel13.Gen.frame m ρ, fun m ρ _ => Cert.Kernel13Ideal.Gen.frame m ρ, Cert.Proof.frame_reference13Ideal,
    fun m ρ _ => Cert.Kernel14.Gen.frame m ρ, fun m ρ _ => Cert.Kernel14Ideal.Gen.frame m ρ, fun m ρ _ => Cert.Kernel14Ideal.Gen.frame m ρ,
    Cert.Proof.frame_reference14Ideal, fun m ρ _ => Cert.Proof.frame_reference14Ideal m ρ trivial,
    fun m ρ _ => Cert.Kernel15.Gen.frame m ρ, fun m ρ _ => Cert.Kernel15Ideal.Gen.frame m ρ, Cert.Proof.frame_reference15Ideal,
    fun m ρ _ => Cert.Kernel16.Gen.frame m ρ, fun m ρ _ => Cert.Kernel16Ideal.Gen.frame m ρ, Cert.Proof.frame_reference16Ideal,
    fun m ρ _ => Cert.Kernel17.Gen.frame m ρ, fun m ρ _ => Cert.Kernel17Ideal.Gen.frame m ρ, Cert.Proof.frame_reference17Ideal,
    fun m ρ _ => Cert.Kernel18.Gen.frame m ρ, fun m ρ _ => Cert.Kernel18Ideal.Gen.frame m ρ, Cert.Proof.frame_reference18Ideal,
    fun m ρ _ => Cert.Kernel19.Gen.frame m ρ, fun m ρ _ => Cert.Kernel19Ideal.Gen.frame m ρ, Cert.Proof.frame_reference19Ideal,
    fun m ρ _ => Cert.Kernel20.Gen.frame m ρ, fun m ρ _ => Cert.Kernel20Ideal.Gen.frame m ρ, Cert.Proof.frame_reference20Ideal,
    fun m ρ _ => Cert.Kernel21.Gen.frame m ρ, fun m ρ _ => Cert.Kernel21Ideal.Gen.frame m ρ, Cert.Proof.frame_reference21Ideal,
    fun m ρ _ => Cert.Kernel22.Gen.frame m ρ, fun m ρ _ => Cert.Kernel22Ideal.Gen.frame m ρ, Cert.Proof.frame_reference22Ideal,
    fun m ρ _ => Cert.Kernel23.Gen.frame m ρ, fun m ρ _ => Cert.Kernel23Ideal.Gen.frame m ρ, Cert.Proof.frame_reference23Ideal,
    fun m ρ _ => Cert.Kernel24.Gen.frame m ρ, fun m ρ _ => Cert.Kernel24Ideal.Gen.frame m ρ, Cert.Proof.frame_reference24Ideal,
    fun m ρ _ => Cert.Kernel25.Gen.frame m ρ, fun m ρ _ => Cert.Kernel25Ideal.Gen.frame m ρ, Cert.Proof.frame_reference25Ideal,
    fun m ρ _ => Cert.Kernel26.Gen.frame m ρ, fun m ρ _ => Cert.Kernel26Ideal.Gen.frame m ρ, Cert.Proof.frame_reference26Ideal,
    fun m ρ _ => Cert.Kernel27.Gen.frame m ρ, fun m ρ _ => Cert.Kernel27Ideal.Gen.frame m ρ, Cert.Proof.frame_reference27Ideal,
    fun m ρ _ => Cert.Kernel28.Gen.frame m ρ, fun m ρ _ => Cert.Kernel28Ideal.Gen.frame m ρ, Cert.Proof.frame_reference28Ideal,
    fun m ρ _ => Cert.Kernel29.Gen.frame m ρ, fun m ρ _ => Cert.Kernel29Ideal.Gen.frame m ρ, Cert.Proof.frame_reference29Ideal,
    fun m ρ _ => Cert.Kernel30.Gen.frame m ρ, fun m ρ _ => Cert.Kernel30Ideal.Gen.frame m ρ, Cert.Proof.frame_reference30Ideal,
    fun m ρ _ => Cert.Kernel31.Gen.frame m ρ, fun m ρ _ => Cert.Kernel31Ideal.Gen.frame m ρ, Cert.Proof.frame_reference31Ideal,
    fun m ρ _ => Cert.Kernel32.Gen.frame m ρ, fun m ρ _ => Cert.Kernel32Ideal.Gen.frame m ρ, Cert.Proof.frame_reference32Ideal,
    fun m ρ _ => Cert.Kernel33.Gen.frame m ρ, fun m ρ _ => Cert.Kernel33Ideal.Gen.frame m ρ, Cert.Proof.frame_reference33Ideal,
    trivial, Cert.Proof.algebraic Cert.Proof.Finite.facts,
    trivial, Cert.Proof.algebraic2,
    trivial, Cert.Proof.algebraic3,
    trivial, Cert.Proof.algebraic4,
    trivial, Cert.Proof.algebraic5,
    trivial, Cert.Proof.algebraic6,
    trivial, Cert.Proof.algebraic7,
    trivial, Cert.Proof.algebraic8,
    trivial, Cert.Proof.algebraic9,
    trivial, Cert.Proof.algebraic10,
    trivial, Cert.Proof.algebraic11,
    trivial, Cert.Proof.algebraic12,
    trivial, Cert.Proof.algebraic13,
    trivial, Cert.Proof.algebraic14 Cert.Proof.Finite14.facts,
    trivial, Cert.Proof.algebraic15,
    trivial, Cert.Proof.algebraic16,
    trivial, Cert.Proof.algebraic17,
    trivial, Cert.Proof.algebraic18,
    trivial, Cert.Proof.algebraic19,
    trivial, Cert.Proof.algebraic20,
    trivial, Cert.Proof.algebraic21,
    trivial, Cert.Proof.algebraic22,
    trivial, Cert.Proof.algebraic23,
    trivial, Cert.Proof.algebraic24,
    trivial, Cert.Proof.algebraic25,
    trivial, Cert.Proof.algebraic26,
    trivial, Cert.Proof.algebraic27,
    trivial, Cert.Proof.algebraic28,
    trivial, Cert.Proof.algebraic29,
    trivial, Cert.Proof.algebraic30,
    trivial, Cert.Proof.algebraic31,
    trivial, Cert.Proof.algebraic32,
    trivial, Cert.Proof.algebraic33⟩

end
